-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_KernelIdeal_template [hPre_template : Cert.Pre_template.Facts] (m : (ℓ : Loc Cert.KernelIdeal.nD Cert.KernelIdeal.τ Cert.KernelIdeal.sig) → Buf (Elt Ideal) ℓ) : Prop :=
  ∀ c : Dev Cert.KernelIdeal.nD,
    (Cert.Pre_template.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_template.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_template.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_template [hPre_template : Cert.Pre_template.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_template.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_template.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_template.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_template [hKernelIdeal : Cert.KernelIdeal.Facts] [hPre_template : Cert.Pre_template.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_template m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_template [hReferenceIdeal : Cert.ReferenceIdeal.Facts] [hPre_template : Cert.Pre_template.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_template m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "neg_smooth" .f32 0xB651BA72#32 ((-1 / 319980 : ℝ) : EReal)
  ∧ IdealRules.named_const.Statement Cert.KernelIdeal.κ "smooth" .f32 0x3651BA72#32 ((1 / 319980 : ℝ) : EReal)
  ∧ IdealRules.named_const.Statement Cert.KernelIdeal.κ "c1" .f32 0xBFAE63F8#32 (((1 / 10) * (Real.log (129140163 / 106660000000000)) : ℝ) : EReal)
  ∧ IdealRules.named_const.Statement Cert.KernelIdeal.κ "delta" .f32 0xBF666632#32 ((-287981 / 319980 : ℝ) : EReal)

def algebraic_KernelIdeal_ReferenceIdeal_pre_template [hKernelIdeal : Cert.KernelIdeal.Facts] [hReferenceIdeal : Cert.ReferenceIdeal.Facts] [hPre_template : Cert.Pre_template.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_template m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts) (hPre_template : Cert.Pre_template.Facts),
    quiescent_Kernel (hKernel := hKernel) (hPre_in_range := hPre_in_range)
    ∧ quiescent_KernelIdeal (hKernelIdeal := hKernelIdeal) (hPre_in_range := hPre_in_range)
    ∧ quiescent_KernelIdeal_pre_template (hKernelIdeal := hKernelIdeal) (hPre_template := hPre_template)
    ∧ quiescent_ReferenceIdeal (hReferenceIdeal := hReferenceIdeal)
    ∧ quiescent_ReferenceIdeal_pre_template (hReferenceIdeal := hReferenceIdeal) (hPre_template := hPre_template)
    ∧ preserves_Kernel_KernelIdeal
    ∧ algebraic_KernelIdeal_ReferenceIdeal_pre_template (hKernelIdeal := hKernelIdeal) (hReferenceIdeal := hReferenceIdeal) (hPre_template := hPre_template)
-- ==== Pre_in_range.lean ====
abbrev S2x2048x32000 : Shape := ⟨3, ![2, 2048, 32000]⟩
abbrev S2x2048 : Shape := ⟨2, ![2, 2048]⟩
abbrev S1x32000 : Shape := ⟨2, ![1, 32000]⟩
abbrev S_ : Shape := ⟨0, ![]⟩

class Facts : Prop where
  bcast_S_S2x2048 : S_.BroadcastsInDim S2x2048 (![] : Fin 0 → Fin S2x2048.rank)

variable [Facts]

def fn {F : FTy → Type} [FloatOps F] (main_arg0 : FVec F S2x2048x32000 .f32) (main_arg1 : IVec S2x2048 32) (main_arg2 : FVec F S1x32000 .f32) : IVec S2x2048 1 :=
  let main_c : IVec S_ 32 := constantI S_ 32 0#32
  let main_v0 : IVec S2x2048 32 := broadcastInDim S2x2048 ![] bcast_S_S2x2048 main_c
  let main_v1 : IVec S2x2048 1 := cmpi .sge main_arg1 main_v0
  let main_c_0 : IVec S_ 32 := constantI S_ 32 32000#32
  let main_v2 : IVec S2x2048 32 := broadcastInDim S2x2048 ![] bcast_S_S2x2048 main_c_0
  let main_v3 : IVec S2x2048 1 := cmpi .slt main_arg1 main_v2
  let main_v4 : IVec S2x2048 1 := andi main_v1 main_v3
  main_v4
-- ==== Pre_template.lean ====
abbrev S2x2048x32000 : Shape := ⟨3, ![2, 2048, 32000]⟩
abbrev S2x2048 : Shape := ⟨2, ![2, 2048]⟩
abbrev S1x32000 : Shape := ⟨2, ![1, 32000]⟩
abbrev S_ : Shape := ⟨0, ![]⟩

class Facts : Prop where
  bcast_S_S1x32000 : S_.BroadcastsInDim S1x32000 (![] : Fin 0 → Fin S1x32000.rank)
  bcast_S_S2x2048 : S_.BroadcastsInDim S2x2048 (![] : Fin 0 → Fin S2x2048.rank)
  bcast_S_S2x2048x32000 : S_.BroadcastsInDim S2x2048x32000 (![] : Fin 0 → Fin S2x2048x32000.rank)

variable [Facts]

def fn_where {F : FTy → Type} [FloatOps F] (arg0 : IVec S1x32000 1) (arg1 : IVec S1x32000 1) (arg2 : IVec S1x32000 1) : IVec S1x32000 1 :=
  let v0 : IVec S1x32000 1 := select arg0 arg1 arg2
  v0

def fn_part1 {F : FTy → Type} [FloatOps F] (main_v2 : IVec S1x32000 1) (main_v7 : IVec S2x2048 1) (main_v10 : IVec S2x2048x32000 1) (main_v12 : IVec S1x32000 1) (main_v16 : IVec S1x32000 1) : IVec S2x2048 1 × IVec S2x2048x32000 1 × IVec S1x32000 1 :=
  let main_v17 : IVec S1x32000 1 := fn_where (F := F) main_v2 main_v12 main_v16
  (main_v7, main_v10, main_v17)

def fn {F : FTy → Type} [FloatOps F] (main_arg0 : FVec F S2x2048x32000 .f32) (main_arg1 : IVec S2x2048 32) (main_arg2 : FVec F S1x32000 .f32) : IVec S2x2048 1 × IVec S2x2048x32000 1 × IVec S1x32000 1 :=
  let main_v0 : IVec S1x32000 32 := iotaInDim S1x32000 32 1
  let main_c : IVec S_ 32 := constantI S_ 32 0#32
  let main_v1 : IVec S1x32000 32 := broadcastInDim S1x32000 ![] bcast_S_S1x32000 main_c
  let main_v2 : IVec S1x32000 1 := cmpi .eq main_v0 main_v1
  let main_c_0 : IVec S_ 32 := constantI S_ 32 0#32
  let main_v3 : IVec S2x2048 32 := broadcastInDim S2x2048 ![] bcast_S_S2x2048 main_c_0
  let main_v4 : IVec S2x2048 1 := cmpi .sge main_arg1 main_v3
  let main_c_1 : IVec S_ 32 := constantI S_ 32 32000#32
  let main_v5 : IVec S2x2048 32 := broadcastInDim S2x2048 ![] bcast_S_S2x2048 main_c_1
  let main_v6 : IVec S2x2048 1 := cmpi .slt main_arg1 main_v5
  let main_v7 : IVec S2x2048 1 := andi main_v4 main_v6
  let main_v8 : FVec F S2x2048x32000 .f32 := Host.absf main_arg0
  let main_cst : FVec F S_ .f32 := constant S_ .f32 0x7F800000#32
  let main_v9 : FVec F S2x2048x32000 .f32 := broadcastInDim S2x2048x32000 ![] bcast_S_S2x2048x32000 main_cst
  let main_v10 : IVec S2x2048x32000 1 := cmpf .olt main_v8 main_v9
  let main_cst_2 : FVec F S_ .f32 := constant S_ .f32 0x00000000#32
  let main_v11 : FVec F S1x32000 .f32 := broadcastInDim S1x32000 ![] bcast_S_S1x32000 main_cst_2
  let main_v12 : IVec S1x32000 1 := cmpf .oeq main_arg2 main_v11
  let main_cst_3 : FVec F S_ .f32 := constant S_ .f32 0x489C3D80#32
  let main_v13 : FVec F S1x32000 .f32 := broadcastInDim S1x32000 ![] bcast_S_S1x32000 main_cst_3
  let main_v14 : FVec F S1x32000 .f32 := mulf main_arg2 main_v13
  let main_cst_4 : FVec F S_ .f32 := constant S_ .f32 0x3F800000#32
  let main_v15 : FVec F S1x32000 .f32 := broadcastInDim S1x32000 ![] bcast_S_S1x32000 main_cst_4
  let main_v16 : IVec S1x32000 1 := cmpf .oeq main_v14 main_v15
  fn_part1 (F := F) main_v2 main_v7 main_v10 main_v12 main_v16
-- ==== Kernel.lean ====
abbrev S2x2048x32000 : Shape := ⟨3, ![2, 2048, 32000]⟩
abbrev S2x2048 : Shape := ⟨2, ![2, 2048]⟩
abbrev S1x32000 : Shape := ⟨2, ![1, 32000]⟩
abbrev S4096x32000 : Shape := ⟨2, ![4096, 32000]⟩
abbrev S4096 : Shape := ⟨1, ![4096]⟩
abbrev S4096x1 : Shape := ⟨2, ![4096, 1]⟩
abbrev S1x1 : Shape := ⟨2, ![1, 1]⟩
abbrev S128x1 : Shape := ⟨2, ![128, 1]⟩
abbrev S128x32000 : Shape := ⟨2, ![128, 32000]⟩
abbrev S128 : Shape := ⟨1, ![128]⟩
abbrev S1x128x1 : Shape := ⟨3, ![1, 128, 1]⟩
abbrev S1 : Shape := ⟨1, ![1]⟩
abbrev S1x1x1 : Shape := ⟨3, ![1, 1, 1]⟩
abbrev S32x16 : Shape := ⟨2, ![32, 16]⟩
abbrev S16x8x128 : Shape := ⟨3, ![16, 8, 128]⟩
abbrev S16 : Shape := ⟨1, ![16]⟩
abbrev S_ : Shape := ⟨0, ![]⟩
abbrev S1x8x128 : Shape := ⟨3, ![1, 8, 128]⟩
abbrev S8x128 : Shape := ⟨2, ![8, 128]⟩
abbrev S1x1x16 : Shape := ⟨3, ![1, 1, 16]⟩
abbrev S1x16 : Shape := ⟨2, ![1, 16]⟩

abbrev nBuf : Table → Nat
  | .hbm => 12
  | .local .tc .vmem => 4
  | .local .tc .smem => 1
  | .local .scVector .vmem => 3
  | _ => 0

abbrev bufTy : (tb : Table) → Fin (nBuf tb) → BufTy
  | .hbm, ⟨0, _⟩ => ⟨S2x2048x32000, .f32⟩
  | .hbm, ⟨1, _⟩ => ⟨S2x2048, .i32⟩
  | .hbm, ⟨2, _⟩ => ⟨S1x32000, .f32⟩
  | .hbm, ⟨3, _⟩ => ⟨S4096x32000, .f32⟩
  | .hbm, ⟨4, _⟩ => ⟨S4096, .i32⟩
  | .hbm, ⟨5, _⟩ => ⟨S4096x1, .i32⟩
  | .hbm, ⟨6, _⟩ => ⟨S1x1, .f32⟩
  | .hbm, ⟨7, _⟩ => ⟨S32x16, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local .tc .vmem, ⟨0, _⟩ => ⟨S128x1, .i32⟩
  | .local .tc .vmem, ⟨1, _⟩ => ⟨S128x1, .i32⟩
  | .local .tc .vmem, ⟨2, _⟩ => ⟨S128x32000, .f32⟩
  | .local .tc .vmem, ⟨3, _⟩ => ⟨S128x32000, .f32⟩
  | .local .tc .smem, ⟨0, _⟩ => ⟨S1x1, .f32⟩
  | .local .scVector .vmem, ⟨0, _⟩ => ⟨S128, .i32⟩
  | .local .scVector .vmem, ⟨1, _⟩ => ⟨S16x8x128, .f32⟩
  | .local .scVector .vmem, ⟨2, _⟩ => ⟨S16, .f32⟩
  | _, _ => ⟨S2x2048x32000, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v0_scv : Ref sig .scVector := ⟨.hbm, 3, rfl⟩
abbrev main_v1_scv : Ref sig .scVector := ⟨.hbm, 4, rfl⟩
abbrev main_v4_scv : Ref sig .scVector := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.smem, 0, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x32000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
def k1_off2 (i : grid1.Coords) (v14 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32 : BitVec 32 := 0#32
  let v12 : BitVec 32 := Scalar.addi v2 c0_i32
  let c128_i32_1 : BitVec 32 := 128#32
  let v15 : BitVec 32 := Scalar.muli v14 c128_i32_1
  ![v12.toNat, v15.toNat]

def k1_off3 (i : grid1.Coords) (v24 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_7 : BitVec 32 := 0#32
  let v22 : BitVec 32 := Scalar.addi v2 c0_i32_7
  let c128_i32_8 : BitVec 32 := 128#32
  let v25 : BitVec 32 := Scalar.muli v24 c128_i32_8
  ![v22.toNat, v25.toNat]

def k1_off4 (i : grid1.Coords) (v34 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_13 : BitVec 32 := 0#32
  let v32 : BitVec 32 := Scalar.addi v2 c0_i32_13
  let c128_i32_14 : BitVec 32 := 128#32
  let v35 : BitVec 32 := Scalar.muli v34 c128_i32_14
  ![v32.toNat, v35.toNat]

def k1_off5 (i : grid1.Coords) (v44 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_20 : BitVec 32 := 0#32
  let v42 : BitVec 32 := Scalar.addi v2 c0_i32_20
  let c128_i32_21 : BitVec 32 := 128#32
  let v45 : BitVec 32 := Scalar.muli v44 c128_i32_21
  ![v42.toNat, v45.toNat]

def k1_off6 (i : grid1.Coords) (v54 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_26 : BitVec 32 := 0#32
  let v52 : BitVec 32 := Scalar.addi v2 c0_i32_26
  let c128_i32_27 : BitVec 32 := 128#32
  let v55 : BitVec 32 := Scalar.muli v54 c128_i32_27
  ![v52.toNat, v55.toNat]

def k1_off7 (i : grid1.Coords) (v64 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_32 : BitVec 32 := 0#32
  let v62 : BitVec 32 := Scalar.addi v2 c0_i32_32
  let c128_i32_33 : BitVec 32 := 128#32
  let v65 : BitVec 32 := Scalar.muli v64 c128_i32_33
  ![v62.toNat, v65.toNat]

def k1_off8 (i : grid1.Coords) (v74 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_38 : BitVec 32 := 0#32
  let v72 : BitVec 32 := Scalar.addi v2 c0_i32_38
  let c128_i32_39 : BitVec 32 := 128#32
  let v75 : BitVec 32 := Scalar.muli v74 c128_i32_39
  ![v72.toNat, v75.toNat]

def k1_off9 (i : grid1.Coords) (v84 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_44 : BitVec 32 := 0#32
  let v82 : BitVec 32 := Scalar.addi v2 c0_i32_44
  let c128_i32_45 : BitVec 32 := 128#32
  let v85 : BitVec 32 := Scalar.muli v84 c128_i32_45
  ![v82.toNat, v85.toNat]

def k1_off10 (i : grid1.Coords) (v94 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c8_i32 : BitVec 32 := 8#32
  let v92 : BitVec 32 := Scalar.addi v2 c8_i32
  let c128_i32_51 : BitVec 32 := 128#32
  let v95 : BitVec 32 := Scalar.muli v94 c128_i32_51
  ![v92.toNat, v95.toNat]

def k1_off11 (i : grid1.Coords) (v104 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c8_i32_57 : BitVec 32 := 8#32
  let v102 : BitVec 32 := Scalar.addi v2 c8_i32_57
  let c128_i32_58 : BitVec 32 := 128#32
  let v105 : BitVec 32 := Scalar.muli v104 c128_i32_58
  ![v102.toNat, v105.toNat]

def k1_off12 (i : grid1.Coords) (v114 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c8_i32_63 : BitVec 32 := 8#32
  let v112 : BitVec 32 := Scalar.addi v2 c8_i32_63
  let c128_i32_64 : BitVec 32 := 128#32
  let v115 : BitVec 32 := Scalar.muli v114 c128_i32_64
  ![v112.toNat, v115.toNat]

def k1_off13 (i : grid1.Coords) (v124 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c8_i32_69 : BitVec 32 := 8#32
  let v122 : BitVec 32 := Scalar.addi v2 c8_i32_69
  let c128_i32_70 : BitVec 32 := 128#32
  let v125 : BitVec 32 := Scalar.muli v124 c128_i32_70
  ![v122.toNat, v125.toNat]

def k1_off14 (i : grid1.Coords) (v134 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c8_i32_75 : BitVec 32 := 8#32
  let v132 : BitVec 32 := Scalar.addi v2 c8_i32_75
  let c128_i32_76 : BitVec 32 := 128#32
  let v135 : BitVec 32 := Scalar.muli v134 c128_i32_76
  ![v132.toNat, v135.toNat]

def k1_off15 (i : grid1.Coords) (v144 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c8_i32_81 : BitVec 32 := 8#32
  let v142 : BitVec 32 := Scalar.addi v2 c8_i32_81
  let c128_i32_82 : BitVec 32 := 128#32
  let v145 : BitVec 32 := Scalar.muli v144 c128_i32_82
  ![v142.toNat, v145.toNat]

def k1_off16 (i : grid1.Coords) (v154 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c8_i32_87 : BitVec 32 := 8#32
  let v152 : BitVec 32 := Scalar.addi v2 c8_i32_87
  let c128_i32_88 : BitVec 32 := 128#32
  let v155 : BitVec 32 := Scalar.muli v154 c128_i32_88
  ![v152.toNat, v155.toNat]

def k1_off17 (i : grid1.Coords) (v164 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c8_i32_93 : BitVec 32 := 8#32
  let v162 : BitVec 32 := Scalar.addi v2 c8_i32_93
  let c128_i32_94 : BitVec 32 := 128#32
  let v165 : BitVec 32 := Scalar.muli v164 c128_i32_94
  ![v162.toNat, v165.toNat]

def k1_chk16 (i : grid1.Coords) (v164 : BitVec 32) : Prop :=
  (∀ a, (k1_off17 i v164) a + S8x128.size a ≤ S4096x32000.size a)
theorem k1_off17_inb : ∀ (i : grid1.Coords) (v164 : BitVec 32) (k1_hw16 : k1_chk16 i v164), ∀ a, (k1_off17 i v164) a + S8x128.size a ≤ S4096x32000.size a := fun i v164 k1_hw16 => k1_hw16

def k1_off18 (i : grid1.Coords) (v14 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32 : BitVec 32 := 0#32
  let v12 : BitVec 32 := Scalar.addi v2 c0_i32
  let c128_i32_1 : BitVec 32 := 128#32
  let v15 : BitVec 32 := Scalar.muli v14 c128_i32_1
  ![v12.toNat, v15.toNat]

def k1_chk1 (i : grid1.Coords) (v14 : BitVec 32) : Prop :=
  (∀ a, (k1_off2 i v14) a + S8x128.size a ≤ S4096x32000.size a) ∧
  (∀ a, (k1_off18 i v14) a + S8x128.size a ≤ S4096x32000.size a)
theorem k1_off2_inb : ∀ (i : grid1.Coords) (v14 : BitVec 32) (k1_hw1 : k1_chk1 i v14), ∀ a, (k1_off2 i v14) a + S8x128.size a ≤ S4096x32000.size a := fun i v14 k1_hw1 => k1_hw1.1
theorem k1_off18_inb : ∀ (i : grid1.Coords) (v14 : BitVec 32) (k1_hw1 : k1_chk1 i v14), ∀ a, (k1_off18 i v14) a + S8x128.size a ≤ S4096x32000.size a := fun i v14 k1_hw1 => k1_hw1.2

def k1_off19 (i : grid1.Coords) (v24 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_7 : BitVec 32 := 0#32
  let v22 : BitVec 32 := Scalar.addi v2 c0_i32_7
  let c128_i32_8 : BitVec 32 := 128#32
  let v25 : BitVec 32 := Scalar.muli v24 c128_i32_8
  ![v22.toNat, v25.toNat]

def k1_chk2 (i : grid1.Coords) (v24 : BitVec 32) : Prop :=
  (∀ a, (k1_off3 i v24) a + S8x128.size a ≤ S4096x32000.size a) ∧
  (∀ a, (k1_off19 i v24) a + S8x128.size a ≤ S4096x32000.size a)
theorem k1_off3_inb : ∀ (i : grid1.Coords) (v24 : BitVec 32) (k1_hw2 : k1_chk2 i v24), ∀ a, (k1_off3 i v24) a + S8x128.size a ≤ S4096x32000.size a := fun i v24 k1_hw2 => k1_hw2.1
theorem k1_off19_inb : ∀ (i : grid1.Coords) (v24 : BitVec 32) (k1_hw2 : k1_chk2 i v24), ∀ a, (k1_off19 i v24) a + S8x128.size a ≤ S4096x32000.size a := fun i v24 k1_hw2 => k1_hw2.2

def k1_off20 (i : grid1.Coords) (v34 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_13 : BitVec 32 := 0#32
  let v32 : BitVec 32 := Scalar.addi v2 c0_i32_13
  let c128_i32_14 : BitVec 32 := 128#32
  let v35 : BitVec 32 := Scalar.muli v34 c128_i32_14
  ![v32.toNat, v35.toNat]

def k1_chk3 (i : grid1.Coords) (v34 : BitVec 32) : Prop :=
  (∀ a, (k1_off4 i v34) a + S8x128.size a ≤ S4096x32000.size a) ∧
  (∀ a, (k1_off20 i v34) a + S8x128.size a ≤ S4096x32000.size a)
theorem k1_off4_inb : ∀ (i : grid1.Coords) (v34 : BitVec 32) (k1_hw3 : k1_chk3 i v34), ∀ a, (k1_off4 i v34) a + S8x128.size a ≤ S4096x32000.size a := fun i v34 k1_hw3 => k1_hw3.1
theorem k1_off20_inb : ∀ (i : grid1.Coords) (v34 : BitVec 32) (k1_hw3 : k1_chk3 i v34), ∀ a, (k1_off20 i v34) a + S8x128.size a ≤ S4096x32000.size a := fun i v34 k1_hw3 => k1_hw3.2

def k1_off21 (i : grid1.Coords) (v44 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_20 : BitVec 32 := 0#32
  let v42 : BitVec 32 := Scalar.addi v2 c0_i32_20
  let c128_i32_21 : BitVec 32 := 128#32
  let v45 : BitVec 32 := Scalar.muli v44 c128_i32_21
  ![v42.toNat, v45.toNat]

def k1_chk4 (i : grid1.Coords) (v44 : BitVec 32) : Prop :=
  (∀ a, (k1_off5 i v44) a + S8x128.size a ≤ S4096x32000.size a) ∧
  (∀ a, (k1_off21 i v44) a + S8x128.size a ≤ S4096x32000.size a)
theorem k1_off5_inb : ∀ (i : grid1.Coords) (v44 : BitVec 32) (k1_hw4 : k1_chk4 i v44), ∀ a, (k1_off5 i v44) a + S8x128.size a ≤ S4096x32000.size a := fun i v44 k1_hw4 => k1_hw4.1
theorem k1_off21_inb : ∀ (i : grid1.Coords) (v44 : BitVec 32) (k1_hw4 : k1_chk4 i v44), ∀ a, (k1_off21 i v44) a + S8x128.size a ≤ S4096x32000.size a := fun i v44 k1_hw4 => k1_hw4.2

def k1_off22 (i : grid1.Coords) (v54 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_26 : BitVec 32 := 0#32
  let v52 : BitVec 32 := Scalar.addi v2 c0_i32_26
  let c128_i32_27 : BitVec 32 := 128#32
  let v55 : BitVec 32 := Scalar.muli v54 c128_i32_27
  ![v52.toNat, v55.toNat]

def k1_chk5 (i : grid1.Coords) (v54 : BitVec 32) : Prop :=
  (∀ a, (k1_off6 i v54) a + S8x128.size a ≤ S4096x32000.size a) ∧
  (∀ a, (k1_off22 i v54) a + S8x128.size a ≤ S4096x32000.size a)
theorem k1_off6_inb : ∀ (i : grid1.Coords) (v54 : BitVec 32) (k1_hw5 : k1_chk5 i v54), ∀ a, (k1_off6 i v54) a + S8x128.size a ≤ S4096x32000.size a := fun i v54 k1_hw5 => k1_hw5.1
theorem k1_off22_inb : ∀ (i : grid1.Coords) (v54 : BitVec 32) (k1_hw5 : k1_chk5 i v54), ∀ a, (k1_off22 i v54) a + S8x128.size a ≤ S4096x32000.size a := fun i v54 k1_hw5 => k1_hw5.2

def k1_off23 (i : grid1.Coords) (v64 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_32 : BitVec 32 := 0#32
  let v62 : BitVec 32 := Scalar.addi v2 c0_i32_32
  let c128_i32_33 : BitVec 32 := 128#32
  let v65 : BitVec 32 := Scalar.muli v64 c128_i32_33
  ![v62.toNat, v65.toNat]

def k1_chk6 (i : grid1.Coords) (v64 : BitVec 32) : Prop :=
  (∀ a, (k1_off7 i v64) a + S8x128.size a ≤ S4096x32000.size a) ∧
  (∀ a, (k1_off23 i v64) a + S8x128.size a ≤ S4096x32000.size a)
theorem k1_off7_inb : ∀ (i : grid1.Coords) (v64 : BitVec 32) (k1_hw6 : k1_chk6 i v64), ∀ a, (k1_off7 i v64) a + S8x128.size a ≤ S4096x32000.size a := fun i v64 k1_hw6 => k1_hw6.1
theorem k1_off23_inb : ∀ (i : grid1.Coords) (v64 : BitVec 32) (k1_hw6 : k1_chk6 i v64), ∀ a, (k1_off23 i v64) a + S8x128.size a ≤ S4096x32000.size a := fun i v64 k1_hw6 => k1_hw6.2

def k1_off24 (i : grid1.Coords) (v74 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_38 : BitVec 32 := 0#32
  let v72 : BitVec 32 := Scalar.addi v2 c0_i32_38
  let c128_i32_39 : BitVec 32 := 128#32
  let v75 : BitVec 32 := Scalar.muli v74 c128_i32_39
  ![v72.toNat, v75.toNat]

def k1_chk7 (i : grid1.Coords) (v74 : BitVec 32) : Prop :=
  (∀ a, (k1_off8 i v74) a + S8x128.size a ≤ S4096x32000.size a) ∧
  (∀ a, (k1_off24 i v74) a + S8x128.size a ≤ S4096x32000.size a)
theorem k1_off8_inb : ∀ (i : grid1.Coords) (v74 : BitVec 32) (k1_hw7 : k1_chk7 i v74), ∀ a, (k1_off8 i v74) a + S8x128.size a ≤ S4096x32000.size a := fun i v74 k1_hw7 => k1_hw7.1
theorem k1_off24_inb : ∀ (i : grid1.Coords) (v74 : BitVec 32) (k1_hw7 : k1_chk7 i v74), ∀ a, (k1_off24 i v74) a + S8x128.size a ≤ S4096x32000.size a := fun i v74 k1_hw7 => k1_hw7.2

def k1_off25 (i : grid1.Coords) (v84 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_44 : BitVec 32 := 0#32
  let v82 : BitVec 32 := Scalar.addi v2 c0_i32_44
  let c128_i32_45 : BitVec 32 := 128#32
  let v85 : BitVec 32 := Scalar.muli v84 c128_i32_45
  ![v82.toNat, v85.toNat]

def k1_chk8 (i : grid1.Coords) (v84 : BitVec 32) : Prop :=
  (∀ a, (k1_off9 i v84) a + S8x128.size a ≤ S4096x32000.size a) ∧
  (∀ a, (k1_off25 i v84) a + S8x128.size a ≤ S4096x32000.size a)
theorem k1_off9_inb : ∀ (i : grid1.Coords) (v84 : BitVec 32) (k1_hw8 : k1_chk8 i v84), ∀ a, (k1_off9 i v84) a + S8x128.size a ≤ S4096x32000.size a := fun i v84 k1_hw8 => k1_hw8.1
theorem k1_off25_inb : ∀ (i : grid1.Coords) (v84 : BitVec 32) (k1_hw8 : k1_chk8 i v84), ∀ a, (k1_off25 i v84) a + S8x128.size a ≤ S4096x32000.size a := fun i v84 k1_hw8 => k1_hw8.2

def k1_off26 (i : grid1.Coords) (v94 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c8_i32 : BitVec 32 := 8#32
  let v92 : BitVec 32 := Scalar.addi v2 c8_i32
  let c128_i32_51 : BitVec 32 := 128#32
  let v95 : BitVec 32 := Scalar.muli v94 c128_i32_51
  ![v92.toNat, v95.toNat]

def k1_chk9 (i : grid1.Coords) (v94 : BitVec 32) : Prop :=
  (∀ a, (k1_off10 i v94) a + S8x128.size a ≤ S4096x32000.size a) ∧
  (∀ a, (k1_off26 i v94) a + S8x128.size a ≤ S4096x32000.size a)
theorem k1_off10_inb : ∀ (i : grid1.Coords) (v94 : BitVec 32) (k1_hw9 : k1_chk9 i v94), ∀ a, (k1_off10 i v94) a + S8x128.size a ≤ S4096x32000.size a := fun i v94 k1_hw9 => k1_hw9.1
theorem k1_off26_inb : ∀ (i : grid1.Coords) (v94 : BitVec 32) (k1_hw9 : k1_chk9 i v94), ∀ a, (k1_off26 i v94) a + S8x128.size a ≤ S4096x32000.size a := fun i v94 k1_hw9 => k1_hw9.2

def k1_off27 (i : grid1.Coords) (v104 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c8_i32_57 : BitVec 32 := 8#32
  let v102 : BitVec 32 := Scalar.addi v2 c8_i32_57
  let c128_i32_58 : BitVec 32 := 128#32
  let v105 : BitVec 32 := Scalar.muli v104 c128_i32_58
  ![v102.toNat, v105.toNat]

def k1_chk10 (i : grid1.Coords) (v104 : BitVec 32) : Prop :=
  (∀ a, (k1_off11 i v104) a + S8x128.size a ≤ S4096x32000.size a) ∧
  (∀ a, (k1_off27 i v104) a + S8x128.size a ≤ S4096x32000.size a)
theorem k1_off11_inb : ∀ (i : grid1.Coords) (v104 : BitVec 32) (k1_hw10 : k1_chk10 i v104), ∀ a, (k1_off11 i v104) a + S8x128.size a ≤ S4096x32000.size a := fun i v104 k1_hw10 => k1_hw10.1
theorem k1_off27_inb : ∀ (i : grid1.Coords) (v104 : BitVec 32) (k1_hw10 : k1_chk10 i v104), ∀ a, (k1_off27 i v104) a + S8x128.size a ≤ S4096x32000.size a := fun i v104 k1_hw10 => k1_hw10.2

def k1_off28 (i : grid1.Coords) (v114 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c8_i32_63 : BitVec 32 := 8#32
  let v112 : BitVec 32 := Scalar.addi v2 c8_i32_63
  let c128_i32_64 : BitVec 32 := 128#32
  let v115 : BitVec 32 := Scalar.muli v114 c128_i32_64
  ![v112.toNat, v115.toNat]

def k1_chk11 (i : grid1.Coords) (v114 : BitVec 32) : Prop :=
  (∀ a, (k1_off12 i v114) a + S8x128.size a ≤ S4096x32000.size a) ∧
  (∀ a, (k1_off28 i v114) a + S8x128.size a ≤ S4096x32000.size a)
theorem k1_off12_inb : ∀ (i : grid1.Coords) (v114 : BitVec 32) (k1_hw11 : k1_chk11 i v114), ∀ a, (k1_off12 i v114) a + S8x128.size a ≤ S4096x32000.size a := fun i v114 k1_hw11 => k1_hw11.1
theorem k1_off28_inb : ∀ (i : grid1.Coords) (v114 : BitVec 32) (k1_hw11 : k1_chk11 i v114), ∀ a, (k1_off28 i v114) a + S8x128.size a ≤ S4096x32000.size a := fun i v114 k1_hw11 => k1_hw11.2

def k1_off29 (i : grid1.Coords) (v124 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c8_i32_69 : BitVec 32 := 8#32
  let v122 : BitVec 32 := Scalar.addi v2 c8_i32_69
  let c128_i32_70 : BitVec 32 := 128#32
  let v125 : BitVec 32 := Scalar.muli v124 c128_i32_70
  ![v122.toNat, v125.toNat]

def k1_chk12 (i : grid1.Coords) (v124 : BitVec 32) : Prop :=
  (∀ a, (k1_off13 i v124) a + S8x128.size a ≤ S4096x32000.size a) ∧
  (∀ a, (k1_off29 i v124) a + S8x128.size a ≤ S4096x32000.size a)
theorem k1_off13_inb : ∀ (i : grid1.Coords) (v124 : BitVec 32) (k1_hw12 : k1_chk12 i v124), ∀ a, (k1_off13 i v124) a + S8x128.size a ≤ S4096x32000.size a := fun i v124 k1_hw12 => k1_hw12.1
theorem k1_off29_inb : ∀ (i : grid1.Coords) (v124 : BitVec 32) (k1_hw12 : k1_chk12 i v124), ∀ a, (k1_off29 i v124) a + S8x128.size a ≤ S4096x32000.size a := fun i v124 k1_hw12 => k1_hw12.2

def k1_off30 (i : grid1.Coords) (v134 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c8_i32_75 : BitVec 32 := 8#32
  let v132 : BitVec 32 := Scalar.addi v2 c8_i32_75
  let c128_i32_76 : BitVec 32 := 128#32
  let v135 : BitVec 32 := Scalar.muli v134 c128_i32_76
  ![v132.toNat, v135.toNat]

def k1_chk13 (i : grid1.Coords) (v134 : BitVec 32) : Prop :=
  (∀ a, (k1_off14 i v134) a + S8x128.size a ≤ S4096x32000.size a) ∧
  (∀ a, (k1_off30 i v134) a + S8x128.size a ≤ S4096x32000.size a)
theorem k1_off14_inb : ∀ (i : grid1.Coords) (v134 : BitVec 32) (k1_hw13 : k1_chk13 i v134), ∀ a, (k1_off14 i v134) a + S8x128.size a ≤ S4096x32000.size a := fun i v134 k1_hw13 => k1_hw13.1
theorem k1_off30_inb : ∀ (i : grid1.Coords) (v134 : BitVec 32) (k1_hw13 : k1_chk13 i v134), ∀ a, (k1_off30 i v134) a + S8x128.size a ≤ S4096x32000.size a := fun i v134 k1_hw13 => k1_hw13.2

def k1_off31 (i : grid1.Coords) (v144 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c8_i32_81 : BitVec 32 := 8#32
  let v142 : BitVec 32 := Scalar.addi v2 c8_i32_81
  let c128_i32_82 : BitVec 32 := 128#32
  let v145 : BitVec 32 := Scalar.muli v144 c128_i32_82
  ![v142.toNat, v145.toNat]

def k1_chk14 (i : grid1.Coords) (v144 : BitVec 32) : Prop :=
  (∀ a, (k1_off15 i v144) a + S8x128.size a ≤ S4096x32000.size a) ∧
  (∀ a, (k1_off31 i v144) a + S8x128.size a ≤ S4096x32000.size a)
theorem k1_off15_inb : ∀ (i : grid1.Coords) (v144 : BitVec 32) (k1_hw14 : k1_chk14 i v144), ∀ a, (k1_off15 i v144) a + S8x128.size a ≤ S4096x32000.size a := fun i v144 k1_hw14 => k1_hw14.1
theorem k1_off31_inb : ∀ (i : grid1.Coords) (v144 : BitVec 32) (k1_hw14 : k1_chk14 i v144), ∀ a, (k1_off31 i v144) a + S8x128.size a ≤ S4096x32000.size a := fun i v144 k1_hw14 => k1_hw14.2

def k1_off32 (i : grid1.Coords) (v154 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c8_i32_87 : BitVec 32 := 8#32
  let v152 : BitVec 32 := Scalar.addi v2 c8_i32_87
  let c128_i32_88 : BitVec 32 := 128#32
  let v155 : BitVec 32 := Scalar.muli v154 c128_i32_88
  ![v152.toNat, v155.toNat]

def k1_chk15 (i : grid1.Coords) (v154 : BitVec 32) : Prop :=
  (∀ a, (k1_off16 i v154) a + S8x128.size a ≤ S4096x32000.size a) ∧
  (∀ a, (k1_off32 i v154) a + S8x128.size a ≤ S4096x32000.size a)
theorem k1_off16_inb : ∀ (i : grid1.Coords) (v154 : BitVec 32) (k1_hw15 : k1_chk15 i v154), ∀ a, (k1_off16 i v154) a + S8x128.size a ≤ S4096x32000.size a := fun i v154 k1_hw15 => k1_hw15.1
theorem k1_off32_inb : ∀ (i : grid1.Coords) (v154 : BitVec 32) (k1_hw15 : k1_chk15 i v154), ∀ a, (k1_off32 i v154) a + S8x128.size a ≤ S4096x32000.size a := fun i v154 k1_hw15 => k1_hw15.2

def k1_off33 (v269 : BitVec 32) : Fin 3 → Nat :=
  let c0_i32_1778 : BitVec 32 := 0#32
  let v2738 : Index := Scalar.indexCast c0_i32_1778
  let c0_i32_1779 : BitVec 32 := 0#32
  let v2739 : Index := Scalar.indexCast c0_i32_1779
  let c4_i32_1775 : BitVec 32 := 4#32
  let v2735 : BitVec 32 := Scalar.shrsi v269 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![0, 0, v2740.toNat]
def k1_cond1 (v269 : BitVec 32) : BitVec 1 :=
  let c0_i32_179 : BitVec 32 := 0#32
  let v270 : BitVec 1 := Scalar.cmpi .ne v269 c0_i32_179
  let v271 : BitVec 32 := Scalar.extui v270
  let c0_i32_180 : BitVec 32 := 0#32
  let v272 : BitVec 1 := Scalar.cmpi .ne v271 c0_i32_180
  v272

def k1_chk17 (v269 : BitVec 32) : Prop :=
  (∀ (k1_h1 : k1_cond1 v269 = 1#1), ∀ a, (k1_off33 v269) a + S1x1x16.size a ≤ S16x8x128.size a)
theorem k1_off33_inb : ∀ (v269 : BitVec 32) (k1_hw17 : k1_chk17 v269), ∀ (k1_h1 : k1_cond1 v269 = 1#1), ∀ a, (k1_off33 v269) a + S1x1x16.size a ≤ S16x8x128.size a := fun v269 k1_hw17 k1_h1 => k1_hw17 k1_h1

def k1_off34 (v274 : BitVec 32) : Fin 3 → Nat :=
  let c1_i32_1778 : BitVec 32 := 1#32
  let v2738 : Index := Scalar.indexCast c1_i32_1778
  let c1_i32_1779 : BitVec 32 := 1#32
  let v2739 : Index := Scalar.indexCast c1_i32_1779
  let c4_i32_1775 : BitVec 32 := 4#32
  let v2735 : BitVec 32 := Scalar.shrsi v274 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![1, 1, v2740.toNat]
def k1_cond2 (v274 : BitVec 32) : BitVec 1 :=
  let c0_i32_181 : BitVec 32 := 0#32
  let v275 : BitVec 1 := Scalar.cmpi .ne v274 c0_i32_181
  let v276 : BitVec 32 := Scalar.extui v275
  let c0_i32_182 : BitVec 32 := 0#32
  let v277 : BitVec 1 := Scalar.cmpi .ne v276 c0_i32_182
  v277

def k1_chk18 (v274 : BitVec 32) : Prop :=
  (∀ (k1_h2 : k1_cond2 v274 = 1#1), ∀ a, (k1_off34 v274) a + S1x1x16.size a ≤ S16x8x128.size a)
theorem k1_off34_inb : ∀ (v274 : BitVec 32) (k1_hw18 : k1_chk18 v274), ∀ (k1_h2 : k1_cond2 v274 = 1#1), ∀ a, (k1_off34 v274) a + S1x1x16.size a ≤ S16x8x128.size a := fun v274 k1_hw18 k1_h2 => k1_hw18 k1_h2

def k1_off35 (v279 : BitVec 32) : Fin 3 → Nat :=
  let c2_i32_1778 : BitVec 32 := 2#32
  let v2738 : Index := Scalar.indexCast c2_i32_1778
  let c2_i32_1779 : BitVec 32 := 2#32
  let v2739 : Index := Scalar.indexCast c2_i32_1779
  let c4_i32_1775 : BitVec 32 := 4#32
  let v2735 : BitVec 32 := Scalar.shrsi v279 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![2, 2, v2740.toNat]
def k1_cond3 (v279 : BitVec 32) : BitVec 1 :=
  let c0_i32_183 : BitVec 32 := 0#32
  let v280 : BitVec 1 := Scalar.cmpi .ne v279 c0_i32_183
  let v281 : BitVec 32 := Scalar.extui v280
  let c0_i32_184 : BitVec 32 := 0#32
  let v282 : BitVec 1 := Scalar.cmpi .ne v281 c0_i32_184
  v282

def k1_chk19 (v279 : BitVec 32) : Prop :=
  (∀ (k1_h3 : k1_cond3 v279 = 1#1), ∀ a, (k1_off35 v279) a + S1x1x16.size a ≤ S16x8x128.size a)
theorem k1_off35_inb : ∀ (v279 : BitVec 32) (k1_hw19 : k1_chk19 v279), ∀ (k1_h3 : k1_cond3 v279 = 1#1), ∀ a, (k1_off35 v279) a + S1x1x16.size a ≤ S16x8x128.size a := fun v279 k1_hw19 k1_h3 => k1_hw19 k1_h3

def k1_off36 (v284 : BitVec 32) : Fin 3 → Nat :=
  let c3_i32_1778 : BitVec 32 := 3#32
  let v2738 : Index := Scalar.indexCast c3_i32_1778
  let c3_i32_1779 : BitVec 32 := 3#32
  let v2739 : Index := Scalar.indexCast c3_i32_1779
  let c4_i32_1775 : BitVec 32 := 4#32
  let v2735 : BitVec 32 := Scalar.shrsi v284 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![3, 3, v2740.toNat]
def k1_cond4 (v284 : BitVec 32) : BitVec 1 :=
  let c0_i32_185 : BitVec 32 := 0#32
  let v285 : BitVec 1 := Scalar.cmpi .ne v284 c0_i32_185
  let v286 : BitVec 32 := Scalar.extui v285
  let c0_i32_186 : BitVec 32 := 0#32
  let v287 : BitVec 1 := Scalar.cmpi .ne v286 c0_i32_186
  v287

def k1_chk20 (v284 : BitVec 32) : Prop :=
  (∀ (k1_h4 : k1_cond4 v284 = 1#1), ∀ a, (k1_off36 v284) a + S1x1x16.size a ≤ S16x8x128.size a)
theorem k1_off36_inb : ∀ (v284 : BitVec 32) (k1_hw20 : k1_chk20 v284), ∀ (k1_h4 : k1_cond4 v284 = 1#1), ∀ a, (k1_off36 v284) a + S1x1x16.size a ≤ S16x8x128.size a := fun v284 k1_hw20 k1_h4 => k1_hw20 k1_h4

def k1_off37 (v289 : BitVec 32) : Fin 3 → Nat :=
  let c4_i32_1778 : BitVec 32 := 4#32
  let v2738 : Index := Scalar.indexCast c4_i32_1778
  let c4_i32_1779 : BitVec 32 := 4#32
  let v2739 : Index := Scalar.indexCast c4_i32_1779
  let c4_i32_1775 : BitVec 32 := 4#32
  let v2735 : BitVec 32 := Scalar.shrsi v289 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![4, 4, v2740.toNat]
def k1_cond5 (v289 : BitVec 32) : BitVec 1 :=
  let c0_i32_187 : BitVec 32 := 0#32
  let v290 : BitVec 1 := Scalar.cmpi .ne v289 c0_i32_187
  let v291 : BitVec 32 := Scalar.extui v290
  let c0_i32_188 : BitVec 32 := 0#32
  let v292 : BitVec 1 := Scalar.cmpi .ne v291 c0_i32_188
  v292

def k1_chk21 (v289 : BitVec 32) : Prop :=
  (∀ (k1_h5 : k1_cond5 v289 = 1#1), ∀ a, (k1_off37 v289) a + S1x1x16.size a ≤ S16x8x128.size a)
theorem k1_off37_inb : ∀ (v289 : BitVec 32) (k1_hw21 : k1_chk21 v289), ∀ (k1_h5 : k1_cond5 v289 = 1#1), ∀ a, (k1_off37 v289) a + S1x1x16.size a ≤ S16x8x128.size a := fun v289 k1_hw21 k1_h5 => k1_hw21 k1_h5

def k1_off38 (v294 : BitVec 32) : Fin 3 → Nat :=
  let c5_i32_1778 : BitVec 32 := 5#32
  let v2738 : Index := Scalar.indexCast c5_i32_1778
  let c5_i32_1779 : BitVec 32 := 5#32
  let v2739 : Index := Scalar.indexCast c5_i32_1779
  let c4_i32_1775 : BitVec 32 := 4#32
  let v2735 : BitVec 32 := Scalar.shrsi v294 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![5, 5, v2740.toNat]
def k1_cond6 (v294 : BitVec 32) : BitVec 1 :=
  let c0_i32_189 : BitVec 32 := 0#32
  let v295 : BitVec 1 := Scalar.cmpi .ne v294 c0_i32_189
  let v296 : BitVec 32 := Scalar.extui v295
  let c0_i32_190 : BitVec 32 := 0#32
  let v297 : BitVec 1 := Scalar.cmpi .ne v296 c0_i32_190
  v297

def k1_chk22 (v294 : BitVec 32) : Prop :=
  (∀ (k1_h6 : k1_cond6 v294 = 1#1), ∀ a, (k1_off38 v294) a + S1x1x16.size a ≤ S16x8x128.size a)
theorem k1_off38_inb : ∀ (v294 : BitVec 32) (k1_hw22 : k1_chk22 v294), ∀ (k1_h6 : k1_cond6 v294 = 1#1), ∀ a, (k1_off38 v294) a + S1x1x16.size a ≤ S16x8x128.size a := fun v294 k1_hw22 k1_h6 => k1_hw22 k1_h6

def k1_off39 (v299 : BitVec 32) : Fin 3 → Nat :=
  let c6_i32_1778 : BitVec 32 := 6#32
  let v2738 : Index := Scalar.indexCast c6_i32_1778
  let c6_i32_1779 : BitVec 32 := 6#32
  let v2739 : Index := Scalar.indexCast c6_i32_1779
  let c4_i32_1775 : BitVec 32 := 4#32
  let v2735 : BitVec 32 := Scalar.shrsi v299 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![6, 6, v2740.toNat]
def k1_cond7 (v299 : BitVec 32) : BitVec 1 :=
  let c0_i32_191 : BitVec 32 := 0#32
  let v300 : BitVec 1 := Scalar.cmpi .ne v299 c0_i32_191
  let v301 : BitVec 32 := Scalar.extui v300
  let c0_i32_192 : BitVec 32 := 0#32
  let v302 : BitVec 1 := Scalar.cmpi .ne v301 c0_i32_192
  v302

def k1_chk23 (v299 : BitVec 32) : Prop :=
  (∀ (k1_h7 : k1_cond7 v299 = 1#1), ∀ a, (k1_off39 v299) a + S1x1x16.size a ≤ S16x8x128.size a)
theorem k1_off39_inb : ∀ (v299 : BitVec 32) (k1_hw23 : k1_chk23 v299), ∀ (k1_h7 : k1_cond7 v299 = 1#1), ∀ a, (k1_off39 v299) a + S1x1x16.size a ≤ S16x8x128.size a := fun v299 k1_hw23 k1_h7 => k1_hw23 k1_h7

def k1_off40 (v304 : BitVec 32) : Fin 3 → Nat :=
  let c7_i32_1778 : BitVec 32 := 7#32
  let v2738 : Index := Scalar.indexCast c7_i32_1778
  let c7_i32_1779 : BitVec 32 := 7#32
  let v2739 : Index := Scalar.indexCast c7_i32_1779
  let c4_i32_1775 : BitVec 32 := 4#32
  let v2735 : BitVec 32 := Scalar.shrsi v304 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![7, 7, v2740.toNat]
def k1_cond8 (v304 : BitVec 32) : BitVec 1 :=
  let c0_i32_193 : BitVec 32 := 0#32
  let v305 : BitVec 1 := Scalar.cmpi .ne v304 c0_i32_193
  let v306 : BitVec 32 := Scalar.extui v305
  let c0_i32_194 : BitVec 32 := 0#32
  let v307 : BitVec 1 := Scalar.cmpi .ne v306 c0_i32_194
  v307

def k1_chk24 (v304 : BitVec 32) : Prop :=
  (∀ (k1_h8 : k1_cond8 v304 = 1#1), ∀ a, (k1_off40 v304) a + S1x1x16.size a ≤ S16x8x128.size a)
theorem k1_off40_inb : ∀ (v304 : BitVec 32) (k1_hw24 : k1_chk24 v304), ∀ (k1_h8 : k1_cond8 v304 = 1#1), ∀ a, (k1_off40 v304) a + S1x1x16.size a ≤ S16x8x128.size a := fun v304 k1_hw24 k1_h8 => k1_hw24 k1_h8

def k1_off41 (v309 : BitVec 32) : Fin 3 → Nat :=
  let c8_i32_1778 : BitVec 32 := 8#32
  let v2738 : Index := Scalar.indexCast c8_i32_1778
  let c0_i32_1779 : BitVec 32 := 0#32
  let v2739 : Index := Scalar.indexCast c0_i32_1779
  let c4_i32_1775 : BitVec 32 := 4#32
  let v2735 : BitVec 32 := Scalar.shrsi v309 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![8, 0, v2740.toNat]
def k1_cond9 (v309 : BitVec 32) : BitVec 1 :=
  let c0_i32_195 : BitVec 32 := 0#32
  let v310 : BitVec 1 := Scalar.cmpi .ne v309 c0_i32_195
  let v311 : BitVec 32 := Scalar.extui v310
  let c0_i32_196 : BitVec 32 := 0#32
  let v312 : BitVec 1 := Scalar.cmpi .ne v311 c0_i32_196
  v312

def k1_chk25 (v309 : BitVec 32) : Prop :=
  (∀ (k1_h9 : k1_cond9 v309 = 1#1), ∀ a, (k1_off41 v309) a + S1x1x16.size a ≤ S16x8x128.size a)
theorem k1_off41_inb : ∀ (v309 : BitVec 32) (k1_hw25 : k1_chk25 v309), ∀ (k1_h9 : k1_cond9 v309 = 1#1), ∀ a, (k1_off41 v309) a + S1x1x16.size a ≤ S16x8x128.size a := fun v309 k1_hw25 k1_h9 => k1_hw25 k1_h9

def k1_off42 (v314 : BitVec 32) : Fin 3 → Nat :=
  let c9_i32_1778 : BitVec 32 := 9#32
  let v2738 : Index := Scalar.indexCast c9_i32_1778
  let c1_i32_1779 : BitVec 32 := 1#32
  let v2739 : Index := Scalar.indexCast c1_i32_1779
  let c4_i32_1775 : BitVec 32 := 4#32
  let v2735 : BitVec 32 := Scalar.shrsi v314 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![9, 1, v2740.toNat]
def k1_cond10 (v314 : BitVec 32) : BitVec 1 :=
  let c0_i32_197 : BitVec 32 := 0#32
  let v315 : BitVec 1 := Scalar.cmpi .ne v314 c0_i32_197
  let v316 : BitVec 32 := Scalar.extui v315
  let c0_i32_198 : BitVec 32 := 0#32
  let v317 : BitVec 1 := Scalar.cmpi .ne v316 c0_i32_198
  v317

def k1_chk26 (v314 : BitVec 32) : Prop :=
  (∀ (k1_h10 : k1_cond10 v314 = 1#1), ∀ a, (k1_off42 v314) a + S1x1x16.size a ≤ S16x8x128.size a)
theorem k1_off42_inb : ∀ (v314 : BitVec 32) (k1_hw26 : k1_chk26 v314), ∀ (k1_h10 : k1_cond10 v314 = 1#1), ∀ a, (k1_off42 v314) a + S1x1x16.size a ≤ S16x8x128.size a := fun v314 k1_hw26 k1_h10 => k1_hw26 k1_h10

def k1_off43 (v319 : BitVec 32) : Fin 3 → Nat :=
  let c10_i32_1778 : BitVec 32 := 10#32
  let v2738 : Index := Scalar.indexCast c10_i32_1778
  let c2_i32_1779 : BitVec 32 := 2#32
  let v2739 : Index := Scalar.indexCast c2_i32_1779
  let c4_i32_1775 : BitVec 32 := 4#32
  let v2735 : BitVec 32 := Scalar.shrsi v319 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![10, 2, v2740.toNat]
def k1_cond11 (v319 : BitVec 32) : BitVec 1 :=
  let c0_i32_199 : BitVec 32 := 0#32
  let v320 : BitVec 1 := Scalar.cmpi .ne v319 c0_i32_199
  let v321 : BitVec 32 := Scalar.extui v320
  let c0_i32_200 : BitVec 32 := 0#32
  let v322 : BitVec 1 := Scalar.cmpi .ne v321 c0_i32_200
  v322

def k1_chk27 (v319 : BitVec 32) : Prop :=
  (∀ (k1_h11 : k1_cond11 v319 = 1#1), ∀ a, (k1_off43 v319) a + S1x1x16.size a ≤ S16x8x128.size a)
theorem k1_off43_inb : ∀ (v319 : BitVec 32) (k1_hw27 : k1_chk27 v319), ∀ (k1_h11 : k1_cond11 v319 = 1#1), ∀ a, (k1_off43 v319) a + S1x1x16.size a ≤ S16x8x128.size a := fun v319 k1_hw27 k1_h11 => k1_hw27 k1_h11

def k1_off44 (v324 : BitVec 32) : Fin 3 → Nat :=
  let c11_i32_1778 : BitVec 32 := 11#32
  let v2738 : Index := Scalar.indexCast c11_i32_1778
  let c3_i32_1779 : BitVec 32 := 3#32
  let v2739 : Index := Scalar.indexCast c3_i32_1779
  let c4_i32_1775 : BitVec 32 := 4#32
  let v2735 : BitVec 32 := Scalar.shrsi v324 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![11, 3, v2740.toNat]
def k1_cond12 (v324 : BitVec 32) : BitVec 1 :=
  let c0_i32_201 : BitVec 32 := 0#32
  let v325 : BitVec 1 := Scalar.cmpi .ne v324 c0_i32_201
  let v326 : BitVec 32 := Scalar.extui v325
  let c0_i32_202 : BitVec 32 := 0#32
  let v327 : BitVec 1 := Scalar.cmpi .ne v326 c0_i32_202
  v327

def k1_chk28 (v324 : BitVec 32) : Prop :=
  (∀ (k1_h12 : k1_cond12 v324 = 1#1), ∀ a, (k1_off44 v324) a + S1x1x16.size a ≤ S16x8x128.size a)
theorem k1_off44_inb : ∀ (v324 : BitVec 32) (k1_hw28 : k1_chk28 v324), ∀ (k1_h12 : k1_cond12 v324 = 1#1), ∀ a, (k1_off44 v324) a + S1x1x16.size a ≤ S16x8x128.size a := fun v324 k1_hw28 k1_h12 => k1_hw28 k1_h12

def k1_off45 (v329 : BitVec 32) : Fin 3 → Nat :=
  let c12_i32_1778 : BitVec 32 := 12#32
  let v2738 : Index := Scalar.indexCast c12_i32_1778
  let c4_i32_1779 : BitVec 32 := 4#32
  let v2739 : Index := Scalar.indexCast c4_i32_1779
  let c4_i32_1775 : BitVec 32 := 4#32
  let v2735 : BitVec 32 := Scalar.shrsi v329 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![12, 4, v2740.toNat]
def k1_cond13 (v329 : BitVec 32) : BitVec 1 :=
  let c0_i32_203 : BitVec 32 := 0#32
  let v330 : BitVec 1 := Scalar.cmpi .ne v329 c0_i32_203
  let v331 : BitVec 32 := Scalar.extui v330
  let c0_i32_204 : BitVec 32 := 0#32
  let v332 : BitVec 1 := Scalar.cmpi .ne v331 c0_i32_204
  v332

def k1_chk29 (v329 : BitVec 32) : Prop :=
  (∀ (k1_h13 : k1_cond13 v329 = 1#1), ∀ a, (k1_off45 v329) a + S1x1x16.size a ≤ S16x8x128.size a)
theorem k1_off45_inb : ∀ (v329 : BitVec 32) (k1_hw29 : k1_chk29 v329), ∀ (k1_h13 : k1_cond13 v329 = 1#1), ∀ a, (k1_off45 v329) a + S1x1x16.size a ≤ S16x8x128.size a := fun v329 k1_hw29 k1_h13 => k1_hw29 k1_h13

def k1_off46 (v334 : BitVec 32) : Fin 3 → Nat :=
  let c13_i32_1778 : BitVec 32 := 13#32
  let v2738 : Index := Scalar.indexCast c13_i32_1778
  let c5_i32_1779 : BitVec 32 := 5#32
  let v2739 : Index := Scalar.indexCast c5_i32_1779
  let c4_i32_1775 : BitVec 32 := 4#32
  let v2735 : BitVec 32 := Scalar.shrsi v334 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![13, 5, v2740.toNat]
def k1_cond14 (v334 : BitVec 32) : BitVec 1 :=
  let c0_i32_205 : BitVec 32 := 0#32
  let v335 : BitVec 1 := Scalar.cmpi .ne v334 c0_i32_205
  let v336 : BitVec 32 := Scalar.extui v335
  let c0_i32_206 : BitVec 32 := 0#32
  let v337 : BitVec 1 := Scalar.cmpi .ne v336 c0_i32_206
  v337

def k1_chk30 (v334 : BitVec 32) : Prop :=
  (∀ (k1_h14 : k1_cond14 v334 = 1#1), ∀ a, (k1_off46 v334) a + S1x1x16.size a ≤ S16x8x128.size a)
theorem k1_off46_inb : ∀ (v334 : BitVec 32) (k1_hw30 : k1_chk30 v334), ∀ (k1_h14 : k1_cond14 v334 = 1#1), ∀ a, (k1_off46 v334) a + S1x1x16.size a ≤ S16x8x128.size a := fun v334 k1_hw30 k1_h14 => k1_hw30 k1_h14

def k1_off47 (v339 : BitVec 32) : Fin 3 → Nat :=
  let c14_i32_1778 : BitVec 32 := 14#32
  let v2738 : Index := Scalar.indexCast c14_i32_1778
  let c6_i32_1779 : BitVec 32 := 6#32
  let v2739 : Index := Scalar.indexCast c6_i32_1779
  let c4_i32_1775 : BitVec 32 := 4#32
  let v2735 : BitVec 32 := Scalar.shrsi v339 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![14, 6, v2740.toNat]
def k1_cond15 (v339 : BitVec 32) : BitVec 1 :=
  let c0_i32_207 : BitVec 32 := 0#32
  let v340 : BitVec 1 := Scalar.cmpi .ne v339 c0_i32_207
  let v341 : BitVec 32 := Scalar.extui v340
  let c0_i32_208 : BitVec 32 := 0#32
  let v342 : BitVec 1 := Scalar.cmpi .ne v341 c0_i32_208
  v342

def k1_chk31 (v339 : BitVec 32) : Prop :=
  (∀ (k1_h15 : k1_cond15 v339 = 1#1), ∀ a, (k1_off47 v339) a + S1x1x16.size a ≤ S16x8x128.size a)
theorem k1_off47_inb : ∀ (v339 : BitVec 32) (k1_hw31 : k1_chk31 v339), ∀ (k1_h15 : k1_cond15 v339 = 1#1), ∀ a, (k1_off47 v339) a + S1x1x16.size a ≤ S16x8x128.size a := fun v339 k1_hw31 k1_h15 => k1_hw31 k1_h15

def k1_off48 (v344 : BitVec 32) : Fin 3 → Nat :=
  let c15_i32_1778 : BitVec 32 := 15#32
  let v2738 : Index := Scalar.indexCast c15_i32_1778
  let c7_i32_1779 : BitVec 32 := 7#32
  let v2739 : Index := Scalar.indexCast c7_i32_1779
  let c4_i32_1775 : BitVec 32 := 4#32
  let v2735 : BitVec 32 := Scalar.shrsi v344 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![15, 7, v2740.toNat]
def k1_cond16 (v344 : BitVec 32) : BitVec 1 :=
  let c0_i32_209 : BitVec 32 := 0#32
  let v345 : BitVec 1 := Scalar.cmpi .ne v344 c0_i32_209
  let v346 : BitVec 32 := Scalar.extui v345
  let c0_i32_210 : BitVec 32 := 0#32
  let v347 : BitVec 1 := Scalar.cmpi .ne v346 c0_i32_210
  v347

def k1_chk32 (v344 : BitVec 32) : Prop :=
  (∀ (k1_h16 : k1_cond16 v344 = 1#1), ∀ a, (k1_off48 v344) a + S1x1x16.size a ≤ S16x8x128.size a)
theorem k1_off48_inb : ∀ (v344 : BitVec 32) (k1_hw32 : k1_chk32 v344), ∀ (k1_h16 : k1_cond16 v344 = 1#1), ∀ a, (k1_off48 v344) a + S1x1x16.size a ≤ S16x8x128.size a := fun v344 k1_hw32 k1_h16 => k1_hw32 k1_h16

def k1_off49 (i : grid1.Coords) (v354 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c16_i32 : BitVec 32 := 16#32
  let v352 : BitVec 32 := Scalar.addi v2 c16_i32
  let c128_i32_212 : BitVec 32 := 128#32
  let v355 : BitVec 32 := Scalar.muli v354 c128_i32_212
  ![v352.toNat, v355.toNat]

def k1_off50 (i : grid1.Coords) (v364 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c16_i32_218 : BitVec 32 := 16#32
  let v362 : BitVec 32 := Scalar.addi v2 c16_i32_218
  let c128_i32_219 : BitVec 32 := 128#32
  let v365 : BitVec 32 := Scalar.muli v364 c128_i32_219
  ![v362.toNat, v365.toNat]

def k1_off51 (i : grid1.Coords) (v374 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c16_i32_225 : BitVec 32 := 16#32
  let v372 : BitVec 32 := Scalar.addi v2 c16_i32_225
  let c128_i32_226 : BitVec 32 := 128#32
  let v375 : BitVec 32 := Scalar.muli v374 c128_i32_226
  ![v372.toNat, v375.toNat]

def k1_off52 (i : grid1.Coords) (v384 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c16_i32_232 : BitVec 32 := 16#32
  let v382 : BitVec 32 := Scalar.addi v2 c16_i32_232
  let c128_i32_233 : BitVec 32 := 128#32
  let v385 : BitVec 32 := Scalar.muli v384 c128_i32_233
  ![v382.toNat, v385.toNat]

def k1_off53 (i : grid1.Coords) (v394 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c16_i32_239 : BitVec 32 := 16#32
  let v392 : BitVec 32 := Scalar.addi v2 c16_i32_239
  let c128_i32_240 : BitVec 32 := 128#32
  let v395 : BitVec 32 := Scalar.muli v394 c128_i32_240
  ![v392.toNat, v395.toNat]

def k1_off54 (i : grid1.Coords) (v404 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c16_i32_246 : BitVec 32 := 16#32
  let v402 : BitVec 32 := Scalar.addi v2 c16_i32_246
  let c128_i32_247 : BitVec 32 := 128#32
  let v405 : BitVec 32 := Scalar.muli v404 c128_i32_247
  ![v402.toNat, v405.toNat]

def k1_off55 (i : grid1.Coords) (v414 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c16_i32_253 : BitVec 32 := 16#32
  let v412 : BitVec 32 := Scalar.addi v2 c16_i32_253
  let c128_i32_254 : BitVec 32 := 128#32
  let v415 : BitVec 32 := Scalar.muli v414 c128_i32_254
  ![v412.toNat, v415.toNat]

def k1_off56 (i : grid1.Coords) (v424 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c16_i32_260 : BitVec 32 := 16#32
  let v422 : BitVec 32 := Scalar.addi v2 c16_i32_260
  let c128_i32_261 : BitVec 32 := 128#32
  let v425 : BitVec 32 := Scalar.muli v424 c128_i32_261
  ![v422.toNat, v425.toNat]

def k1_off57 (i : grid1.Coords) (v434 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c24_i32 : BitVec 32 := 24#32
  let v432 : BitVec 32 := Scalar.addi v2 c24_i32
  let c128_i32_267 : BitVec 32 := 128#32
  let v435 : BitVec 32 := Scalar.muli v434 c128_i32_267
  ![v432.toNat, v435.toNat]

def k1_off58 (i : grid1.Coords) (v444 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c24_i32_273 : BitVec 32 := 24#32
  let v442 : BitVec 32 := Scalar.addi v2 c24_i32_273
  let c128_i32_274 : BitVec 32 := 128#32
  let v445 : BitVec 32 := Scalar.muli v444 c128_i32_274
  ![v442.toNat, v445.toNat]

def k1_off59 (i : grid1.Coords) (v454 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c24_i32_280 : BitVec 32 := 24#32
  let v452 : BitVec 32 := Scalar.addi v2 c24_i32_280
  let c128_i32_281 : BitVec 32 := 128#32
  let v455 : BitVec 32 := Scalar.muli v454 c128_i32_281
  ![v452.toNat, v455.toNat]

def k1_off60 (i : grid1.Coords) (v464 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c24_i32_287 : BitVec 32 := 24#32
  let v462 : BitVec 32 := Scalar.addi v2 c24_i32_287
  let c128_i32_288 : BitVec 32 := 128#32
  let v465 : BitVec 32 := Scalar.muli v464 c128_i32_288
  ![v462.toNat, v465.toNat]

def k1_off61 (i : grid1.Coords) (v474 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c24_i32_294 : BitVec 32 := 24#32
  let v472 : BitVec 32 := Scalar.addi v2 c24_i32_294
  let c128_i32_295 : BitVec 32 := 128#32
  let v475 : BitVec 32 := Scalar.muli v474 c128_i32_295
  ![v472.toNat, v475.toNat]

def k1_off62 (i : grid1.Coords) (v484 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c24_i32_301 : BitVec 32 := 24#32
  let v482 : BitVec 32 := Scalar.addi v2 c24_i32_301
  let c128_i32_302 : BitVec 32 := 128#32
  let v485 : BitVec 32 := Scalar.muli v484 c128_i32_302
  ![v482.toNat, v485.toNat]

def k1_off63 (i : grid1.Coords) (v494 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c24_i32_308 : BitVec 32 := 24#32
  let v492 : BitVec 32 := Scalar.addi v2 c24_i32_308
  let c128_i32_309 : BitVec 32 := 128#32
  let v495 : BitVec 32 := Scalar.muli v494 c128_i32_309
  ![v492.toNat, v495.toNat]

def k1_off64 (i : grid1.Coords) (v504 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c24_i32_315 : BitVec 32 := 24#32
  let v502 : BitVec 32 := Scalar.addi v2 c24_i32_315
  let c128_i32_316 : BitVec 32 := 128#32
  let v505 : BitVec 32 := Scalar.muli v504 c128_i32_316
  ![v502.toNat, v505.toNat]

def k1_chk48 (i : grid1.Coords) (v504 : BitVec 32) : Prop :=
  (∀ a, (k1_off64 i v504) a + S8x128.size a ≤ S4096x32000.size a)
theorem k1_off64_inb : ∀ (i : grid1.Coords) (v504 : BitVec 32) (k1_hw48 : k1_chk48 i v504), ∀ a, (k1_off64 i v504) a + S8x128.size a ≤ S4096x32000.size a := fun i v504 k1_hw48 => k1_hw48

def k1_off65 (i : grid1.Coords) (v354 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c16_i32 : BitVec 32 := 16#32
  let v352 : BitVec 32 := Scalar.addi v2 c16_i32
  let c128_i32_212 : BitVec 32 := 128#32
  let v355 : BitVec 32 := Scalar.muli v354 c128_i32_212
  ![v352.toNat, v355.toNat]

def k1_chk33 (i : grid1.Coords) (v354 : BitVec 32) : Prop :=
  (∀ a, (k1_off49 i v354) a + S8x128.size a ≤ S4096x32000.size a) ∧
  (∀ a, (k1_off65 i v354) a + S8x128.size a ≤ S4096x32000.size a)
theorem k1_off49_inb : ∀ (i : grid1.Coords) (v354 : BitVec 32) (k1_hw33 : k1_chk33 i v354), ∀ a, (k1_off49 i v354) a + S8x128.size a ≤ S4096x32000.size a := fun i v354 k1_hw33 => k1_hw33.1
theorem k1_off65_inb : ∀ (i : grid1.Coords) (v354 : BitVec 32) (k1_hw33 : k1_chk33 i v354), ∀ a, (k1_off65 i v354) a + S8x128.size a ≤ S4096x32000.size a := fun i v354 k1_hw33 => k1_hw33.2

def k1_off66 (i : grid1.Coords) (v364 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c16_i32_218 : BitVec 32 := 16#32
  let v362 : BitVec 32 := Scalar.addi v2 c16_i32_218
  let c128_i32_219 : BitVec 32 := 128#32
  let v365 : BitVec 32 := Scalar.muli v364 c128_i32_219
  ![v362.toNat, v365.toNat]

def k1_chk34 (i : grid1.Coords) (v364 : BitVec 32) : Prop :=
  (∀ a, (k1_off50 i v364) a + S8x128.size a ≤ S4096x32000.size a) ∧
  (∀ a, (k1_off66 i v364) a + S8x128.size a ≤ S4096x32000.size a)
theorem k1_off50_inb : ∀ (i : grid1.Coords) (v364 : BitVec 32) (k1_hw34 : k1_chk34 i v364), ∀ a, (k1_off50 i v364) a + S8x128.size a ≤ S4096x32000.size a := fun i v364 k1_hw34 => k1_hw34.1
theorem k1_off66_inb : ∀ (i : grid1.Coords) (v364 : BitVec 32) (k1_hw34 : k1_chk34 i v364), ∀ a, (k1_off66 i v364) a + S8x128.size a ≤ S4096x32000.size a := fun i v364 k1_hw34 => k1_hw34.2

def k1_off67 (i : grid1.Coords) (v374 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c16_i32_225 : BitVec 32 := 16#32
  let v372 : BitVec 32 := Scalar.addi v2 c16_i32_225
  let c128_i32_226 : BitVec 32 := 128#32
  let v375 : BitVec 32 := Scalar.muli v374 c128_i32_226
  ![v372.toNat, v375.toNat]

def k1_chk35 (i : grid1.Coords) (v374 : BitVec 32) : Prop :=
  (∀ a, (k1_off51 i v374) a + S8x128.size a ≤ S4096x32000.size a) ∧
  (∀ a, (k1_off67 i v374) a + S8x128.size a ≤ S4096x32000.size a)
theorem k1_off51_inb : ∀ (i : grid1.Coords) (v374 : BitVec 32) (k1_hw35 : k1_chk35 i v374), ∀ a, (k1_off51 i v374) a + S8x128.size a ≤ S4096x32000.size a := fun i v374 k1_hw35 => k1_hw35.1
theorem k1_off67_inb : ∀ (i : grid1.Coords) (v374 : BitVec 32) (k1_hw35 : k1_chk35 i v374), ∀ a, (k1_off67 i v374) a + S8x128.size a ≤ S4096x32000.size a := fun i v374 k1_hw35 => k1_hw35.2

def k1_off68 (i : grid1.Coords) (v384 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c16_i32_232 : BitVec 32 := 16#32
  let v382 : BitVec 32 := Scalar.addi v2 c16_i32_232
  let c128_i32_233 : BitVec 32 := 128#32
  let v385 : BitVec 32 := Scalar.muli v384 c128_i32_233
  ![v382.toNat, v385.toNat]

def k1_chk36 (i : grid1.Coords) (v384 : BitVec 32) : Prop :=
  (∀ a, (k1_off52 i v384) a + S8x128.size a ≤ S4096x32000.size a) ∧
  (∀ a, (k1_off68 i v384) a + S8x128.size a ≤ S4096x32000.size a)
theorem k1_off52_inb : ∀ (i : grid1.Coords) (v384 : BitVec 32) (k1_hw36 : k1_chk36 i v384), ∀ a, (k1_off52 i v384) a + S8x128.size a ≤ S4096x32000.size a := fun i v384 k1_hw36 => k1_hw36.1
theorem k1_off68_inb : ∀ (i : grid1.Coords) (v384 : BitVec 32) (k1_hw36 : k1_chk36 i v384), ∀ a, (k1_off68 i v384) a + S8x128.size a ≤ S4096x32000.size a := fun i v384 k1_hw36 => k1_hw36.2

def k1_off69 (i : grid1.Coords) (v394 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c16_i32_239 : BitVec 32 := 16#32
  let v392 : BitVec 32 := Scalar.addi v2 c16_i32_239
  let c128_i32_240 : BitVec 32 := 128#32
  let v395 : BitVec 32 := Scalar.muli v394 c128_i32_240
  ![v392.toNat, v395.toNat]

def k1_chk37 (i : grid1.Coords) (v394 : BitVec 32) : Prop :=
  (∀ a, (k1_off53 i v394) a + S8x128.size a ≤ S4096x32000.size a) ∧
  (∀ a, (k1_off69 i v394) a + S8x128.size a ≤ S4096x32000.size a)
theorem k1_off53_inb : ∀ (i : grid1.Coords) (v394 : BitVec 32) (k1_hw37 : k1_chk37 i v394), ∀ a, (k1_off53 i v394) a + S8x128.size a ≤ S4096x32000.size a := fun i v394 k1_hw37 => k1_hw37.1
theorem k1_off69_inb : ∀ (i : grid1.Coords) (v394 : BitVec 32) (k1_hw37 : k1_chk37 i v394), ∀ a, (k1_off69 i v394) a + S8x128.size a ≤ S4096x32000.size a := fun i v394 k1_hw37 => k1_hw37.2

def k1_off70 (i : grid1.Coords) (v404 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c16_i32_246 : BitVec 32 := 16#32
  let v402 : BitVec 32 := Scalar.addi v2 c16_i32_246
  let c128_i32_247 : BitVec 32 := 128#32
  let v405 : BitVec 32 := Scalar.muli v404 c128_i32_247
  ![v402.toNat, v405.toNat]

def k1_chk38 (i : grid1.Coords) (v404 : BitVec 32) : Prop :=
  (∀ a, (k1_off54 i v404) a + S8x128.size a ≤ S4096x32000.size a) ∧
  (∀ a, (k1_off70 i v404) a + S8x128.size a ≤ S4096x32000.size a)
theorem k1_off54_inb : ∀ (i : grid1.Coords) (v404 : BitVec 32) (k1_hw38 : k1_chk38 i v404), ∀ a, (k1_off54 i v404) a + S8x128.size a ≤ S4096x32000.size a := fun i v404 k1_hw38 => k1_hw38.1
theorem k1_off70_inb : ∀ (i : grid1.Coords) (v404 : BitVec 32) (k1_hw38 : k1_chk38 i v404), ∀ a, (k1_off70 i v404) a + S8x128.size a ≤ S4096x32000.size a := fun i v404 k1_hw38 => k1_hw38.2

def k1_off71 (i : grid1.Coords) (v414 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c16_i32_253 : BitVec 32 := 16#32
  let v412 : BitVec 32 := Scalar.addi v2 c16_i32_253
  let c128_i32_254 : BitVec 32 := 128#32
  let v415 : BitVec 32 := Scalar.muli v414 c128_i32_254
  ![v412.toNat, v415.toNat]

def k1_chk39 (i : grid1.Coords) (v414 : BitVec 32) : Prop :=
  (∀ a, (k1_off55 i v414) a + S8x128.size a ≤ S4096x32000.size a) ∧
  (∀ a, (k1_off71 i v414) a + S8x128.size a ≤ S4096x32000.size a)
theorem k1_off55_inb : ∀ (i : grid1.Coords) (v414 : BitVec 32) (k1_hw39 : k1_chk39 i v414), ∀ a, (k1_off55 i v414) a + S8x128.size a ≤ S4096x32000.size a := fun i v414 k1_hw39 => k1_hw39.1
theorem k1_off71_inb : ∀ (i : grid1.Coords) (v414 : BitVec 32) (k1_hw39 : k1_chk39 i v414), ∀ a, (k1_off71 i v414) a + S8x128.size a ≤ S4096x32000.size a := fun i v414 k1_hw39 => k1_hw39.2

def k1_off72 (i : grid1.Coords) (v424 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c16_i32_260 : BitVec 32 := 16#32
  let v422 : BitVec 32 := Scalar.addi v2 c16_i32_260
  let c128_i32_261 : BitVec 32 := 128#32
  let v425 : BitVec 32 := Scalar.muli v424 c128_i32_261
  ![v422.toNat, v425.toNat]

def k1_chk40 (i : grid1.Coords) (v424 : BitVec 32) : Prop :=
  (∀ a, (k1_off56 i v424) a + S8x128.size a ≤ S4096x32000.size a) ∧
  (∀ a, (k1_off72 i v424) a + S8x128.size a ≤ S4096x32000.size a)
theorem k1_off56_inb : ∀ (i : grid1.Coords) (v424 : BitVec 32) (k1_hw40 : k1_chk40 i v424), ∀ a, (k1_off56 i v424) a + S8x128.size a ≤ S4096x32000.size a := fun i v424 k1_hw40 => k1_hw40.1
theorem k1_off72_inb : ∀ (i : grid1.Coords) (v424 : BitVec 32) (k1_hw40 : k1_chk40 i v424), ∀ a, (k1_off72 i v424) a + S8x128.size a ≤ S4096x32000.size a := fun i v424 k1_hw40 => k1_hw40.2

def k1_off73 (i : grid1.Coords) (v434 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c24_i32 : BitVec 32 := 24#32
  let v432 : BitVec 32 := Scalar.addi v2 c24_i32
  let c128_i32_267 : BitVec 32 := 128#32
  let v435 : BitVec 32 := Scalar.muli v434 c128_i32_267
  ![v432.toNat, v435.toNat]

def k1_chk41 (i : grid1.Coords) (v434 : BitVec 32) : Prop :=
  (∀ a, (k1_off57 i v434) a + S8x128.size a ≤ S4096x32000.size a) ∧
  (∀ a, (k1_off73 i v434) a + S8x128.size a ≤ S4096x32000.size a)
theorem k1_off57_inb : ∀ (i : grid1.Coords) (v434 : BitVec 32) (k1_hw41 : k1_chk41 i v434), ∀ a, (k1_off57 i v434) a + S8x128.size a ≤ S4096x32000.size a := fun i v434 k1_hw41 => k1_hw41.1
theorem k1_off73_inb : ∀ (i : grid1.Coords) (v434 : BitVec 32) (k1_hw41 : k1_chk41 i v434), ∀ a, (k1_off73 i v434) a + S8x128.size a ≤ S4096x32000.size a := fun i v434 k1_hw41 => k1_hw41.2

def k1_off74 (i : grid1.Coords) (v444 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c24_i32_273 : BitVec 32 := 24#32
  let v442 : BitVec 32 := Scalar.addi v2 c24_i32_273
  let c128_i32_274 : BitVec 32 := 128#32
  let v445 : BitVec 32 := Scalar.muli v444 c128_i32_274
  ![v442.toNat, v445.toNat]

def k1_chk42 (i : grid1.Coords) (v444 : BitVec 32) : Prop :=
  (∀ a, (k1_off58 i v444) a + S8x128.size a ≤ S4096x32000.size a) ∧
  (∀ a, (k1_off74 i v444) a + S8x128.size a ≤ S4096x32000.size a)
theorem k1_off58_inb : ∀ (i : grid1.Coords) (v444 : BitVec 32) (k1_hw42 : k1_chk42 i v444), ∀ a, (k1_off58 i v444) a + S8x128.size a ≤ S4096x32000.size a := fun i v444 k1_hw42 => k1_hw42.1
theorem k1_off74_inb : ∀ (i : grid1.Coords) (v444 : BitVec 32) (k1_hw42 : k1_chk42 i v444), ∀ a, (k1_off74 i v444) a + S8x128.size a ≤ S4096x32000.size a := fun i v444 k1_hw42 => k1_hw42.2

def k1_off75 (i : grid1.Coords) (v454 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c24_i32_280 : BitVec 32 := 24#32
  let v452 : BitVec 32 := Scalar.addi v2 c24_i32_280
  let c128_i32_281 : BitVec 32 := 128#32
  let v455 : BitVec 32 := Scalar.muli v454 c128_i32_281
  ![v452.toNat, v455.toNat]

def k1_chk43 (i : grid1.Coords) (v454 : BitVec 32) : Prop :=
  (∀ a, (k1_off59 i v454) a + S8x128.size a ≤ S4096x32000.size a) ∧
  (∀ a, (k1_off75 i v454) a + S8x128.size a ≤ S4096x32000.size a)
theorem k1_off59_inb : ∀ (i : grid1.Coords) (v454 : BitVec 32) (k1_hw43 : k1_chk43 i v454), ∀ a, (k1_off59 i v454) a + S8x128.size a ≤ S4096x32000.size a := fun i v454 k1_hw43 => k1_hw43.1
theorem k1_off75_inb : ∀ (i : grid1.Coords) (v454 : BitVec 32) (k1_hw43 : k1_chk43 i v454), ∀ a, (k1_off75 i v454) a + S8x128.size a ≤ S4096x32000.size a := fun i v454 k1_hw43 => k1_hw43.2

def k1_off76 (i : grid1.Coords) (v464 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c24_i32_287 : BitVec 32 := 24#32
  let v462 : BitVec 32 := Scalar.addi v2 c24_i32_287
  let c128_i32_288 : BitVec 32 := 128#32
  let v465 : BitVec 32 := Scalar.muli v464 c128_i32_288
  ![v462.toNat, v465.toNat]

def k1_chk44 (i : grid1.Coords) (v464 : BitVec 32) : Prop :=
  (∀ a, (k1_off60 i v464) a + S8x128.size a ≤ S4096x32000.size a) ∧
  (∀ a, (k1_off76 i v464) a + S8x128.size a ≤ S4096x32000.size a)
theorem k1_off60_inb : ∀ (i : grid1.Coords) (v464 : BitVec 32) (k1_hw44 : k1_chk44 i v464), ∀ a, (k1_off60 i v464) a + S8x128.size a ≤ S4096x32000.size a := fun i v464 k1_hw44 => k1_hw44.1
theorem k1_off76_inb : ∀ (i : grid1.Coords) (v464 : BitVec 32) (k1_hw44 : k1_chk44 i v464), ∀ a, (k1_off76 i v464) a + S8x128.size a ≤ S4096x32000.size a := fun i v464 k1_hw44 => k1_hw44.2

def k1_off77 (i : grid1.Coords) (v474 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c24_i32_294 : BitVec 32 := 24#32
  let v472 : BitVec 32 := Scalar.addi v2 c24_i32_294
  let c128_i32_295 : BitVec 32 := 128#32
  let v475 : BitVec 32 := Scalar.muli v474 c128_i32_295
  ![v472.toNat, v475.toNat]

def k1_chk45 (i : grid1.Coords) (v474 : BitVec 32) : Prop :=
  (∀ a, (k1_off61 i v474) a + S8x128.size a ≤ S4096x32000.size a) ∧
  (∀ a, (k1_off77 i v474) a + S8x128.size a ≤ S4096x32000.size a)
theorem k1_off61_inb : ∀ (i : grid1.Coords) (v474 : BitVec 32) (k1_hw45 : k1_chk45 i v474), ∀ a, (k1_off61 i v474) a + S8x128.size a ≤ S4096x32000.size a := fun i v474 k1_hw45 => k1_hw45.1
theorem k1_off77_inb : ∀ (i : grid1.Coords) (v474 : BitVec 32) (k1_hw45 : k1_chk45 i v474), ∀ a, (k1_off77 i v474) a + S8x128.size a ≤ S4096x32000.size a := fun i v474 k1_hw45 => k1_hw45.2

def k1_off78 (i : grid1.Coords) (v484 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c24_i32_301 : BitVec 32 := 24#32
  let v482 : BitVec 32 := Scalar.addi v2 c24_i32_301
  let c128_i32_302 : BitVec 32 := 128#32
  let v485 : BitVec 32 := Scalar.muli v484 c128_i32_302
  ![v482.toNat, v485.toNat]

def k1_chk46 (i : grid1.Coords) (v484 : BitVec 32) : Prop :=
  (∀ a, (k1_off62 i v484) a + S8x128.size a ≤ S4096x32000.size a) ∧
  (∀ a, (k1_off78 i v484) a + S8x128.size a ≤ S4096x32000.size a)
theorem k1_off62_inb : ∀ (i : grid1.Coords) (v484 : BitVec 32) (k1_hw46 : k1_chk46 i v484), ∀ a, (k1_off62 i v484) a + S8x128.size a ≤ S4096x32000.size a := fun i v484 k1_hw46 => k1_hw46.1
theorem k1_off78_inb : ∀ (i : grid1.Coords) (v484 : BitVec 32) (k1_hw46 : k1_chk46 i v484), ∀ a, (k1_off78 i v484) a + S8x128.size a ≤ S4096x32000.size a := fun i v484 k1_hw46 => k1_hw46.2

def k1_off79 (i : grid1.Coords) (v494 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c24_i32_308 : BitVec 32 := 24#32
  let v492 : BitVec 32 := Scalar.addi v2 c24_i32_308
  let c128_i32_309 : BitVec 32 := 128#32
  let v495 : BitVec 32 := Scalar.muli v494 c128_i32_309
  ![v492.toNat, v495.toNat]

def k1_chk47 (i : grid1.Coords) (v494 : BitVec 32) : Prop :=
  (∀ a, (k1_off63 i v494) a + S8x128.size a ≤ S4096x32000.size a) ∧
  (∀ a, (k1_off79 i v494) a + S8x128.size a ≤ S4096x32000.size a)
theorem k1_off63_inb : ∀ (i : grid1.Coords) (v494 : BitVec 32) (k1_hw47 : k1_chk47 i v494), ∀ a, (k1_off63 i v494) a + S8x128.size a ≤ S4096x32000.size a := fun i v494 k1_hw47 => k1_hw47.1
theorem k1_off79_inb : ∀ (i : grid1.Coords) (v494 : BitVec 32) (k1_hw47 : k1_chk47 i v494), ∀ a, (k1_off79 i v494) a + S8x128.size a ≤ S4096x32000.size a := fun i v494 k1_hw47 => k1_hw47.2

def k1_off80 (v609 : BitVec 32) : Fin 3 → Nat :=
  let c0_i32_1778 : BitVec 32 := 0#32
  let v2738 : Index := Scalar.indexCast c0_i32_1778
  let c0_i32_1779 : BitVec 32 := 0#32
  let v2739 : Index := Scalar.indexCast c0_i32_1779
  let c4_i32_1775 : BitVec 32 := 4#32
  let v2735 : BitVec 32 := Scalar.shrsi v609 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![0, 0, v2740.toNat]
def k1_cond17 (v609 : BitVec 32) : BitVec 1 :=
  let c0_i32_402 : BitVec 32 := 0#32
  let v610 : BitVec 1 := Scalar.cmpi .ne v609 c0_i32_402
  let v611 : BitVec 32 := Scalar.extui v610
  let c0_i32_403 : BitVec 32 := 0#32
  let v612 : BitVec 1 := Scalar.cmpi .ne v611 c0_i32_403
  v612

def k1_chk49 (v609 : BitVec 32) : Prop :=
  (∀ (k1_h17 : k1_cond17 v609 = 1#1), ∀ a, (k1_off80 v609) a + S1x1x16.size a ≤ S16x8x128.size a)
theorem k1_off80_inb : ∀ (v609 : BitVec 32) (k1_hw49 : k1_chk49 v609), ∀ (k1_h17 : k1_cond17 v609 = 1#1), ∀ a, (k1_off80 v609) a + S1x1x16.size a ≤ S16x8x128.size a := fun v609 k1_hw49 k1_h17 => k1_hw49 k1_h17

def k1_off81 (v614 : BitVec 32) : Fin 3 → Nat :=
  let c1_i32_1778 : BitVec 32 := 1#32
  let v2738 : Index := Scalar.indexCast c1_i32_1778
  let c1_i32_1779 : BitVec 32 := 1#32
  let v2739 : Index := Scalar.indexCast c1_i32_1779
  let c4_i32_1775 : BitVec 32 := 4#32
  let v2735 : BitVec 32 := Scalar.shrsi v614 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![1, 1, v2740.toNat]
def k1_cond18 (v614 : BitVec 32) : BitVec 1 :=
  let c0_i32_404 : BitVec 32 := 0#32
  let v615 : BitVec 1 := Scalar.cmpi .ne v614 c0_i32_404
  let v616 : BitVec 32 := Scalar.extui v615
  let c0_i32_405 : BitVec 32 := 0#32
  let v617 : BitVec 1 := Scalar.cmpi .ne v616 c0_i32_405
  v617

def k1_chk50 (v614 : BitVec 32) : Prop :=
  (∀ (k1_h18 : k1_cond18 v614 = 1#1), ∀ a, (k1_off81 v614) a + S1x1x16.size a ≤ S16x8x128.size a)
theorem k1_off81_inb : ∀ (v614 : BitVec 32) (k1_hw50 : k1_chk50 v614), ∀ (k1_h18 : k1_cond18 v614 = 1#1), ∀ a, (k1_off81 v614) a + S1x1x16.size a ≤ S16x8x128.size a := fun v614 k1_hw50 k1_h18 => k1_hw50 k1_h18

def k1_off82 (v619 : BitVec 32) : Fin 3 → Nat :=
  let c2_i32_1778 : BitVec 32 := 2#32
  let v2738 : Index := Scalar.indexCast c2_i32_1778
  let c2_i32_1779 : BitVec 32 := 2#32
  let v2739 : Index := Scalar.indexCast c2_i32_1779
  let c4_i32_1775 : BitVec 32 := 4#32
  let v2735 : BitVec 32 := Scalar.shrsi v619 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![2, 2, v2740.toNat]
def k1_cond19 (v619 : BitVec 32) : BitVec 1 :=
  let c0_i32_406 : BitVec 32 := 0#32
  let v620 : BitVec 1 := Scalar.cmpi .ne v619 c0_i32_406
  let v621 : BitVec 32 := Scalar.extui v620
  let c0_i32_407 : BitVec 32 := 0#32
  let v622 : BitVec 1 := Scalar.cmpi .ne v621 c0_i32_407
  v622

def k1_chk51 (v619 : BitVec 32) : Prop :=
  (∀ (k1_h19 : k1_cond19 v619 = 1#1), ∀ a, (k1_off82 v619) a + S1x1x16.size a ≤ S16x8x128.size a)
theorem k1_off82_inb : ∀ (v619 : BitVec 32) (k1_hw51 : k1_chk51 v619), ∀ (k1_h19 : k1_cond19 v619 = 1#1), ∀ a, (k1_off82 v619) a + S1x1x16.size a ≤ S16x8x128.size a := fun v619 k1_hw51 k1_h19 => k1_hw51 k1_h19

def k1_off83 (v624 : BitVec 32) : Fin 3 → Nat :=
  let c3_i32_1778 : BitVec 32 := 3#32
  let v2738 : Index := Scalar.indexCast c3_i32_1778
  let c3_i32_1779 : BitVec 32 := 3#32
  let v2739 : Index := Scalar.indexCast c3_i32_1779
  let c4_i32_1775 : BitVec 32 := 4#32
  let v2735 : BitVec 32 := Scalar.shrsi v624 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![3, 3, v2740.toNat]
def k1_cond20 (v624 : BitVec 32) : BitVec 1 :=
  let c0_i32_408 : BitVec 32 := 0#32
  let v625 : BitVec 1 := Scalar.cmpi .ne v624 c0_i32_408
  let v626 : BitVec 32 := Scalar.extui v625
  let c0_i32_409 : BitVec 32 := 0#32
  let v627 : BitVec 1 := Scalar.cmpi .ne v626 c0_i32_409
  v627

def k1_chk52 (v624 : BitVec 32) : Prop :=
  (∀ (k1_h20 : k1_cond20 v624 = 1#1), ∀ a, (k1_off83 v624) a + S1x1x16.size a ≤ S16x8x128.size a)
theorem k1_off83_inb : ∀ (v624 : BitVec 32) (k1_hw52 : k1_chk52 v624), ∀ (k1_h20 : k1_cond20 v624 = 1#1), ∀ a, (k1_off83 v624) a + S1x1x16.size a ≤ S16x8x128.size a := fun v624 k1_hw52 k1_h20 => k1_hw52 k1_h20

def k1_off84 (v629 : BitVec 32) : Fin 3 → Nat :=
  let c4_i32_1778 : BitVec 32 := 4#32
  let v2738 : Index := Scalar.indexCast c4_i32_1778
  let c4_i32_1779 : BitVec 32 := 4#32
  let v2739 : Index := Scalar.indexCast c4_i32_1779
  let c4_i32_1775 : BitVec 32 := 4#32
  let v2735 : BitVec 32 := Scalar.shrsi v629 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![4, 4, v2740.toNat]
def k1_cond21 (v629 : BitVec 32) : BitVec 1 :=
  let c0_i32_410 : BitVec 32 := 0#32
  let v630 : BitVec 1 := Scalar.cmpi .ne v629 c0_i32_410
  let v631 : BitVec 32 := Scalar.extui v630
  let c0_i32_411 : BitVec 32 := 0#32
  let v632 : BitVec 1 := Scalar.cmpi .ne v631 c0_i32_411
  v632

def k1_chk53 (v629 : BitVec 32) : Prop :=
  (∀ (k1_h21 : k1_cond21 v629 = 1#1), ∀ a, (k1_off84 v629) a + S1x1x16.size a ≤ S16x8x128.size a)
theorem k1_off84_inb : ∀ (v629 : BitVec 32) (k1_hw53 : k1_chk53 v629), ∀ (k1_h21 : k1_cond21 v629 = 1#1), ∀ a, (k1_off84 v629) a + S1x1x16.size a ≤ S16x8x128.size a := fun v629 k1_hw53 k1_h21 => k1_hw53 k1_h21

def k1_off85 (v634 : BitVec 32) : Fin 3 → Nat :=
  let c5_i32_1778 : BitVec 32 := 5#32
  let v2738 : Index := Scalar.indexCast c5_i32_1778
  let c5_i32_1779 : BitVec 32 := 5#32
  let v2739 : Index := Scalar.indexCast c5_i32_1779
  let c4_i32_1775 : BitVec 32 := 4#32
  let v2735 : BitVec 32 := Scalar.shrsi v634 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![5, 5, v2740.toNat]
def k1_cond22 (v634 : BitVec 32) : BitVec 1 :=
  let c0_i32_412 : BitVec 32 := 0#32
  let v635 : BitVec 1 := Scalar.cmpi .ne v634 c0_i32_412
  let v636 : BitVec 32 := Scalar.extui v635
  let c0_i32_413 : BitVec 32 := 0#32
  let v637 : BitVec 1 := Scalar.cmpi .ne v636 c0_i32_413
  v637

def k1_chk54 (v634 : BitVec 32) : Prop :=
  (∀ (k1_h22 : k1_cond22 v634 = 1#1), ∀ a, (k1_off85 v634) a + S1x1x16.size a ≤ S16x8x128.size a)
theorem k1_off85_inb : ∀ (v634 : BitVec 32) (k1_hw54 : k1_chk54 v634), ∀ (k1_h22 : k1_cond22 v634 = 1#1), ∀ a, (k1_off85 v634) a + S1x1x16.size a ≤ S16x8x128.size a := fun v634 k1_hw54 k1_h22 => k1_hw54 k1_h22

def k1_off86 (v639 : BitVec 32) : Fin 3 → Nat :=
  let c6_i32_1778 : BitVec 32 := 6#32
  let v2738 : Index := Scalar.indexCast c6_i32_1778
  let c6_i32_1779 : BitVec 32 := 6#32
  let v2739 : Index := Scalar.indexCast c6_i32_1779
  let c4_i32_1775 : BitVec 32 := 4#32
  let v2735 : BitVec 32 := Scalar.shrsi v639 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![6, 6, v2740.toNat]
def k1_cond23 (v639 : BitVec 32) : BitVec 1 :=
  let c0_i32_414 : BitVec 32 := 0#32
  let v640 : BitVec 1 := Scalar.cmpi .ne v639 c0_i32_414
  let v641 : BitVec 32 := Scalar.extui v640
  let c0_i32_415 : BitVec 32 := 0#32
  let v642 : BitVec 1 := Scalar.cmpi .ne v641 c0_i32_415
  v642

def k1_chk55 (v639 : BitVec 32) : Prop :=
  (∀ (k1_h23 : k1_cond23 v639 = 1#1), ∀ a, (k1_off86 v639) a + S1x1x16.size a ≤ S16x8x128.size a)
theorem k1_off86_inb : ∀ (v639 : BitVec 32) (k1_hw55 : k1_chk55 v639), ∀ (k1_h23 : k1_cond23 v639 = 1#1), ∀ a, (k1_off86 v639) a + S1x1x16.size a ≤ S16x8x128.size a := fun v639 k1_hw55 k1_h23 => k1_hw55 k1_h23

def k1_off87 (v644 : BitVec 32) : Fin 3 → Nat :=
  let c7_i32_1778 : BitVec 32 := 7#32
  let v2738 : Index := Scalar.indexCast c7_i32_1778
  let c7_i32_1779 : BitVec 32 := 7#32
  let v2739 : Index := Scalar.indexCast c7_i32_1779
  let c4_i32_1775 : BitVec 32 := 4#32
  let v2735 : BitVec 32 := Scalar.shrsi v644 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![7, 7, v2740.toNat]
def k1_cond24 (v644 : BitVec 32) : BitVec 1 :=
  let c0_i32_416 : BitVec 32 := 0#32
  let v645 : BitVec 1 := Scalar.cmpi .ne v644 c0_i32_416
  let v646 : BitVec 32 := Scalar.extui v645
  let c0_i32_417 : BitVec 32 := 0#32
  let v647 : BitVec 1 := Scalar.cmpi .ne v646 c0_i32_417
  v647

def k1_chk56 (v644 : BitVec 32) : Prop :=
  (∀ (k1_h24 : k1_cond24 v644 = 1#1), ∀ a, (k1_off87 v644) a + S1x1x16.size a ≤ S16x8x128.size a)
theorem k1_off87_inb : ∀ (v644 : BitVec 32) (k1_hw56 : k1_chk56 v644), ∀ (k1_h24 : k1_cond24 v644 = 1#1), ∀ a, (k1_off87 v644) a + S1x1x16.size a ≤ S16x8x128.size a := fun v644 k1_hw56 k1_h24 => k1_hw56 k1_h24

def k1_off88 (v649 : BitVec 32) : Fin 3 → Nat :=
  let c8_i32_1778 : BitVec 32 := 8#32
  let v2738 : Index := Scalar.indexCast c8_i32_1778
  let c0_i32_1779 : BitVec 32 := 0#32
  let v2739 : Index := Scalar.indexCast c0_i32_1779
  let c4_i32_1775 : BitVec 32 := 4#32
  let v2735 : BitVec 32 := Scalar.shrsi v649 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![8, 0, v2740.toNat]
def k1_cond25 (v649 : BitVec 32) : BitVec 1 :=
  let c0_i32_418 : BitVec 32 := 0#32
  let v650 : BitVec 1 := Scalar.cmpi .ne v649 c0_i32_418
  let v651 : BitVec 32 := Scalar.extui v650
  let c0_i32_419 : BitVec 32 := 0#32
  let v652 : BitVec 1 := Scalar.cmpi .ne v651 c0_i32_419
  v652

def k1_chk57 (v649 : BitVec 32) : Prop :=
  (∀ (k1_h25 : k1_cond25 v649 = 1#1), ∀ a, (k1_off88 v649) a + S1x1x16.size a ≤ S16x8x128.size a)
theorem k1_off88_inb : ∀ (v649 : BitVec 32) (k1_hw57 : k1_chk57 v649), ∀ (k1_h25 : k1_cond25 v649 = 1#1), ∀ a, (k1_off88 v649) a + S1x1x16.size a ≤ S16x8x128.size a := fun v649 k1_hw57 k1_h25 => k1_hw57 k1_h25

def k1_off89 (v654 : BitVec 32) : Fin 3 → Nat :=
  let c9_i32_1778 : BitVec 32 := 9#32
  let v2738 : Index := Scalar.indexCast c9_i32_1778
  let c1_i32_1779 : BitVec 32 := 1#32
  let v2739 : Index := Scalar.indexCast c1_i32_1779
  let c4_i32_1775 : BitVec 32 := 4#32
  let v2735 : BitVec 32 := Scalar.shrsi v654 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![9, 1, v2740.toNat]
def k1_cond26 (v654 : BitVec 32) : BitVec 1 :=
  let c0_i32_420 : BitVec 32 := 0#32
  let v655 : BitVec 1 := Scalar.cmpi .ne v654 c0_i32_420
  let v656 : BitVec 32 := Scalar.extui v655
  let c0_i32_421 : BitVec 32 := 0#32
  let v657 : BitVec 1 := Scalar.cmpi .ne v656 c0_i32_421
  v657

def k1_chk58 (v654 : BitVec 32) : Prop :=
  (∀ (k1_h26 : k1_cond26 v654 = 1#1), ∀ a, (k1_off89 v654) a + S1x1x16.size a ≤ S16x8x128.size a)
theorem k1_off89_inb : ∀ (v654 : BitVec 32) (k1_hw58 : k1_chk58 v654), ∀ (k1_h26 : k1_cond26 v654 = 1#1), ∀ a, (k1_off89 v654) a + S1x1x16.size a ≤ S16x8x128.size a := fun v654 k1_hw58 k1_h26 => k1_hw58 k1_h26

def k1_off90 (v659 : BitVec 32) : Fin 3 → Nat :=
  let c10_i32_1778 : BitVec 32 := 10#32
  let v2738 : Index := Scalar.indexCast c10_i32_1778
  let c2_i32_1779 : BitVec 32 := 2#32
  let v2739 : Index := Scalar.indexCast c2_i32_1779
  let c4_i32_1775 : BitVec 32 := 4#32
  let v2735 : BitVec 32 := Scalar.shrsi v659 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![10, 2, v2740.toNat]
def k1_cond27 (v659 : BitVec 32) : BitVec 1 :=
  let c0_i32_422 : BitVec 32 := 0#32
  let v660 : BitVec 1 := Scalar.cmpi .ne v659 c0_i32_422
  let v661 : BitVec 32 := Scalar.extui v660
  let c0_i32_423 : BitVec 32 := 0#32
  let v662 : BitVec 1 := Scalar.cmpi .ne v661 c0_i32_423
  v662

def k1_chk59 (v659 : BitVec 32) : Prop :=
  (∀ (k1_h27 : k1_cond27 v659 = 1#1), ∀ a, (k1_off90 v659) a + S1x1x16.size a ≤ S16x8x128.size a)
theorem k1_off90_inb : ∀ (v659 : BitVec 32) (k1_hw59 : k1_chk59 v659), ∀ (k1_h27 : k1_cond27 v659 = 1#1), ∀ a, (k1_off90 v659) a + S1x1x16.size a ≤ S16x8x128.size a := fun v659 k1_hw59 k1_h27 => k1_hw59 k1_h27

def k1_off91 (v664 : BitVec 32) : Fin 3 → Nat :=
  let c11_i32_1778 : BitVec 32 := 11#32
  let v2738 : Index := Scalar.indexCast c11_i32_1778
  let c3_i32_1779 : BitVec 32 := 3#32
  let v2739 : Index := Scalar.indexCast c3_i32_1779
  let c4_i32_1775 : BitVec 32 := 4#32
  let v2735 : BitVec 32 := Scalar.shrsi v664 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![11, 3, v2740.toNat]
def k1_cond28 (v664 : BitVec 32) : BitVec 1 :=
  let c0_i32_424 : BitVec 32 := 0#32
  let v665 : BitVec 1 := Scalar.cmpi .ne v664 c0_i32_424
  let v666 : BitVec 32 := Scalar.extui v665
  let c0_i32_425 : BitVec 32 := 0#32
  let v667 : BitVec 1 := Scalar.cmpi .ne v666 c0_i32_425
  v667

def k1_chk60 (v664 : BitVec 32) : Prop :=
  (∀ (k1_h28 : k1_cond28 v664 = 1#1), ∀ a, (k1_off91 v664) a + S1x1x16.size a ≤ S16x8x128.size a)
theorem k1_off91_inb : ∀ (v664 : BitVec 32) (k1_hw60 : k1_chk60 v664), ∀ (k1_h28 : k1_cond28 v664 = 1#1), ∀ a, (k1_off91 v664) a + S1x1x16.size a ≤ S16x8x128.size a := fun v664 k1_hw60 k1_h28 => k1_hw60 k1_h28

def k1_off92 (v669 : BitVec 32) : Fin 3 → Nat :=
  let c12_i32_1778 : BitVec 32 := 12#32
  let v2738 : Index := Scalar.indexCast c12_i32_1778
  let c4_i32_1779 : BitVec 32 := 4#32
  let v2739 : Index := Scalar.indexCast c4_i32_1779
  let c4_i32_1775 : BitVec 32 := 4#32
  let v2735 : BitVec 32 := Scalar.shrsi v669 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![12, 4, v2740.toNat]
def k1_cond29 (v669 : BitVec 32) : BitVec 1 :=
  let c0_i32_426 : BitVec 32 := 0#32
  let v670 : BitVec 1 := Scalar.cmpi .ne v669 c0_i32_426
  let v671 : BitVec 32 := Scalar.extui v670
  let c0_i32_427 : BitVec 32 := 0#32
  let v672 : BitVec 1 := Scalar.cmpi .ne v671 c0_i32_427
  v672

def k1_chk61 (v669 : BitVec 32) : Prop :=
  (∀ (k1_h29 : k1_cond29 v669 = 1#1), ∀ a, (k1_off92 v669) a + S1x1x16.size a ≤ S16x8x128.size a)
theorem k1_off92_inb : ∀ (v669 : BitVec 32) (k1_hw61 : k1_chk61 v669), ∀ (k1_h29 : k1_cond29 v669 = 1#1), ∀ a, (k1_off92 v669) a + S1x1x16.size a ≤ S16x8x128.size a := fun v669 k1_hw61 k1_h29 => k1_hw61 k1_h29

def k1_off93 (v674 : BitVec 32) : Fin 3 → Nat :=
  let c13_i32_1778 : BitVec 32 := 13#32
  let v2738 : Index := Scalar.indexCast c13_i32_1778
  let c5_i32_1779 : BitVec 32 := 5#32
  let v2739 : Index := Scalar.indexCast c5_i32_1779
  let c4_i32_1775 : BitVec 32 := 4#32
  let v2735 : BitVec 32 := Scalar.shrsi v674 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![13, 5, v2740.toNat]
def k1_cond30 (v674 : BitVec 32) : BitVec 1 :=
  let c0_i32_428 : BitVec 32 := 0#32
  let v675 : BitVec 1 := Scalar.cmpi .ne v674 c0_i32_428
  let v676 : BitVec 32 := Scalar.extui v675
  let c0_i32_429 : BitVec 32 := 0#32
  let v677 : BitVec 1 := Scalar.cmpi .ne v676 c0_i32_429
  v677

def k1_chk62 (v674 : BitVec 32) : Prop :=
  (∀ (k1_h30 : k1_cond30 v674 = 1#1), ∀ a, (k1_off93 v674) a + S1x1x16.size a ≤ S16x8x128.size a)
theorem k1_off93_inb : ∀ (v674 : BitVec 32) (k1_hw62 : k1_chk62 v674), ∀ (k1_h30 : k1_cond30 v674 = 1#1), ∀ a, (k1_off93 v674) a + S1x1x16.size a ≤ S16x8x128.size a := fun v674 k1_hw62 k1_h30 => k1_hw62 k1_h30

def k1_off94 (v679 : BitVec 32) : Fin 3 → Nat :=
  let c14_i32_1778 : BitVec 32 := 14#32
  let v2738 : Index := Scalar.indexCast c14_i32_1778
  let c6_i32_1779 : BitVec 32 := 6#32
  let v2739 : Index := Scalar.indexCast c6_i32_1779
  let c4_i32_1775 : BitVec 32 := 4#32
  let v2735 : BitVec 32 := Scalar.shrsi v679 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![14, 6, v2740.toNat]
def k1_cond31 (v679 : BitVec 32) : BitVec 1 :=
  let c0_i32_430 : BitVec 32 := 0#32
  let v680 : BitVec 1 := Scalar.cmpi .ne v679 c0_i32_430
  let v681 : BitVec 32 := Scalar.extui v680
  let c0_i32_431 : BitVec 32 := 0#32
  let v682 : BitVec 1 := Scalar.cmpi .ne v681 c0_i32_431
  v682

def k1_chk63 (v679 : BitVec 32) : Prop :=
  (∀ (k1_h31 : k1_cond31 v679 = 1#1), ∀ a, (k1_off94 v679) a + S1x1x16.size a ≤ S16x8x128.size a)
theorem k1_off94_inb : ∀ (v679 : BitVec 32) (k1_hw63 : k1_chk63 v679), ∀ (k1_h31 : k1_cond31 v679 = 1#1), ∀ a, (k1_off94 v679) a + S1x1x16.size a ≤ S16x8x128.size a := fun v679 k1_hw63 k1_h31 => k1_hw63 k1_h31

def k1_off95 (v684 : BitVec 32) : Fin 3 → Nat :=
  let c15_i32_1778 : BitVec 32 := 15#32
  let v2738 : Index := Scalar.indexCast c15_i32_1778
  let c7_i32_1779 : BitVec 32 := 7#32
  let v2739 : Index := Scalar.indexCast c7_i32_1779
  let c4_i32_1775 : BitVec 32 := 4#32
  let v2735 : BitVec 32 := Scalar.shrsi v684 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![15, 7, v2740.toNat]
def k1_cond32 (v684 : BitVec 32) : BitVec 1 :=
  let c0_i32_432 : BitVec 32 := 0#32
  let v685 : BitVec 1 := Scalar.cmpi .ne v684 c0_i32_432
  let v686 : BitVec 32 := Scalar.extui v685
  let c0_i32_433 : BitVec 32 := 0#32
  let v687 : BitVec 1 := Scalar.cmpi .ne v686 c0_i32_433
  v687

def k1_chk64 (v684 : BitVec 32) : Prop :=
  (∀ (k1_h32 : k1_cond32 v684 = 1#1), ∀ a, (k1_off95 v684) a + S1x1x16.size a ≤ S16x8x128.size a)
theorem k1_off95_inb : ∀ (v684 : BitVec 32) (k1_hw64 : k1_chk64 v684), ∀ (k1_h32 : k1_cond32 v684 = 1#1), ∀ a, (k1_off95 v684) a + S1x1x16.size a ≤ S16x8x128.size a := fun v684 k1_hw64 k1_h32 => k1_hw64 k1_h32

def k1_off96 (i : grid1.Coords) (v694 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32 : BitVec 32 := 32#32
  let v692 : BitVec 32 := Scalar.addi v2 c32_i32
  let c128_i32_435 : BitVec 32 := 128#32
  let v695 : BitVec 32 := Scalar.muli v694 c128_i32_435
  ![v692.toNat, v695.toNat]

def k1_off97 (i : grid1.Coords) (v704 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32_441 : BitVec 32 := 32#32
  let v702 : BitVec 32 := Scalar.addi v2 c32_i32_441
  let c128_i32_442 : BitVec 32 := 128#32
  let v705 : BitVec 32 := Scalar.muli v704 c128_i32_442
  ![v702.toNat, v705.toNat]

def k1_off98 (i : grid1.Coords) (v714 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32_448 : BitVec 32 := 32#32
  let v712 : BitVec 32 := Scalar.addi v2 c32_i32_448
  let c128_i32_449 : BitVec 32 := 128#32
  let v715 : BitVec 32 := Scalar.muli v714 c128_i32_449
  ![v712.toNat, v715.toNat]

def k1_off99 (i : grid1.Coords) (v724 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32_455 : BitVec 32 := 32#32
  let v722 : BitVec 32 := Scalar.addi v2 c32_i32_455
  let c128_i32_456 : BitVec 32 := 128#32
  let v725 : BitVec 32 := Scalar.muli v724 c128_i32_456
  ![v722.toNat, v725.toNat]

def k1_off100 (i : grid1.Coords) (v734 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32_462 : BitVec 32 := 32#32
  let v732 : BitVec 32 := Scalar.addi v2 c32_i32_462
  let c128_i32_463 : BitVec 32 := 128#32
  let v735 : BitVec 32 := Scalar.muli v734 c128_i32_463
  ![v732.toNat, v735.toNat]

def k1_off101 (i : grid1.Coords) (v744 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32_469 : BitVec 32 := 32#32
  let v742 : BitVec 32 := Scalar.addi v2 c32_i32_469
  let c128_i32_470 : BitVec 32 := 128#32
  let v745 : BitVec 32 := Scalar.muli v744 c128_i32_470
  ![v742.toNat, v745.toNat]

def k1_off102 (i : grid1.Coords) (v754 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32_476 : BitVec 32 := 32#32
  let v752 : BitVec 32 := Scalar.addi v2 c32_i32_476
  let c128_i32_477 : BitVec 32 := 128#32
  let v755 : BitVec 32 := Scalar.muli v754 c128_i32_477
  ![v752.toNat, v755.toNat]

def k1_off103 (i : grid1.Coords) (v764 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32_483 : BitVec 32 := 32#32
  let v762 : BitVec 32 := Scalar.addi v2 c32_i32_483
  let c128_i32_484 : BitVec 32 := 128#32
  let v765 : BitVec 32 := Scalar.muli v764 c128_i32_484
  ![v762.toNat, v765.toNat]

def k1_off104 (i : grid1.Coords) (v774 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c40_i32 : BitVec 32 := 40#32
  let v772 : BitVec 32 := Scalar.addi v2 c40_i32
  let c128_i32_490 : BitVec 32 := 128#32
  let v775 : BitVec 32 := Scalar.muli v774 c128_i32_490
  ![v772.toNat, v775.toNat]

def k1_off105 (i : grid1.Coords) (v784 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c40_i32_496 : BitVec 32 := 40#32
  let v782 : BitVec 32 := Scalar.addi v2 c40_i32_496
  let c128_i32_497 : BitVec 32 := 128#32
  let v785 : BitVec 32 := Scalar.muli v784 c128_i32_497
  ![v782.toNat, v785.toNat]

def k1_off106 (i : grid1.Coords) (v794 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c40_i32_503 : BitVec 32 := 40#32
  let v792 : BitVec 32 := Scalar.addi v2 c40_i32_503
  let c128_i32_504 : BitVec 32 := 128#32
  let v795 : BitVec 32 := Scalar.muli v794 c128_i32_504
  ![v792.toNat, v795.toNat]

def k1_off107 (i : grid1.Coords) (v804 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c40_i32_510 : BitVec 32 := 40#32
  let v802 : BitVec 32 := Scalar.addi v2 c40_i32_510
  let c128_i32_511 : BitVec 32 := 128#32
  let v805 : BitVec 32 := Scalar.muli v804 c128_i32_511
  ![v802.toNat, v805.toNat]

def k1_off108 (i : grid1.Coords) (v814 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c40_i32_517 : BitVec 32 := 40#32
  let v812 : BitVec 32 := Scalar.addi v2 c40_i32_517
  let c128_i32_518 : BitVec 32 := 128#32
  let v815 : BitVec 32 := Scalar.muli v814 c128_i32_518
  ![v812.toNat, v815.toNat]

def k1_off109 (i : grid1.Coords) (v824 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c40_i32_524 : BitVec 32 := 40#32
  let v822 : BitVec 32 := Scalar.addi v2 c40_i32_524
  let c128_i32_525 : BitVec 32 := 128#32
  let v825 : BitVec 32 := Scalar.muli v824 c128_i32_525
  ![v822.toNat, v825.toNat]

def k1_off110 (i : grid1.Coords) (v834 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c40_i32_531 : BitVec 32 := 40#32
  let v832 : BitVec 32 := Scalar.addi v2 c40_i32_531
  let c128_i32_532 : BitVec 32 := 128#32
  let v835 : BitVec 32 := Scalar.muli v834 c128_i32_532
  ![v832.toNat, v835.toNat]

def k1_off111 (i : grid1.Coords) (v844 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c40_i32_538 : BitVec 32 := 40#32
  let v842 : BitVec 32 := Scalar.addi v2 c40_i32_538
  let c128_i32_539 : BitVec 32 := 128#32
  let v845 : BitVec 32 := Scalar.muli v844 c128_i32_539
  ![v842.toNat, v845.toNat]

def k1_chk80 (i : grid1.Coords) (v844 : BitVec 32) : Prop :=
  (∀ a, (k1_off111 i v844) a + S8x128.size a ≤ S4096x32000.size a)
theorem k1_off111_inb : ∀ (i : grid1.Coords) (v844 : BitVec 32) (k1_hw80 : k1_chk80 i v844), ∀ a, (k1_off111 i v844) a + S8x128.size a ≤ S4096x32000.size a := fun i v844 k1_hw80 => k1_hw80

def k1_off112 (i : grid1.Coords) (v694 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32 : BitVec 32 := 32#32
  let v692 : BitVec 32 := Scalar.addi v2 c32_i32
  let c128_i32_435 : BitVec 32 := 128#32
  let v695 : BitVec 32 := Scalar.muli v694 c128_i32_435
  ![v692.toNat, v695.toNat]

def k1_chk65 (i : grid1.Coords) (v694 : BitVec 32) : Prop :=
  (∀ a, (k1_off96 i v694) a + S8x128.size a ≤ S4096x32000.size a) ∧
  (∀ a, (k1_off112 i v694) a + S8x128.size a ≤ S4096x32000.size a)
theorem k1_off96_inb : ∀ (i : grid1.Coords) (v694 : BitVec 32) (k1_hw65 : k1_chk65 i v694), ∀ a, (k1_off96 i v694) a + S8x128.size a ≤ S4096x32000.size a := fun i v694 k1_hw65 => k1_hw65.1
theorem k1_off112_inb : ∀ (i : grid1.Coords) (v694 : BitVec 32) (k1_hw65 : k1_chk65 i v694), ∀ a, (k1_off112 i v694) a + S8x128.size a ≤ S4096x32000.size a := fun i v694 k1_hw65 => k1_hw65.2

def k1_off113 (i : grid1.Coords) (v704 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32_441 : BitVec 32 := 32#32
  let v702 : BitVec 32 := Scalar.addi v2 c32_i32_441
  let c128_i32_442 : BitVec 32 := 128#32
  let v705 : BitVec 32 := Scalar.muli v704 c128_i32_442
  ![v702.toNat, v705.toNat]

def k1_chk66 (i : grid1.Coords) (v704 : BitVec 32) : Prop :=
  (∀ a, (k1_off97 i v704) a + S8x128.size a ≤ S4096x32000.size a) ∧
  (∀ a, (k1_off113 i v704) a + S8x128.size a ≤ S4096x32000.size a)
theorem k1_off97_inb : ∀ (i : grid1.Coords) (v704 : BitVec 32) (k1_hw66 : k1_chk66 i v704), ∀ a, (k1_off97 i v704) a + S8x128.size a ≤ S4096x32000.size a := fun i v704 k1_hw66 => k1_hw66.1
theorem k1_off113_inb : ∀ (i : grid1.Coords) (v704 : BitVec 32) (k1_hw66 : k1_chk66 i v704), ∀ a, (k1_off113 i v704) a + S8x128.size a ≤ S4096x32000.size a := fun i v704 k1_hw66 => k1_hw66.2

def k1_off114 (i : grid1.Coords) (v714 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32_448 : BitVec 32 := 32#32
  let v712 : BitVec 32 := Scalar.addi v2 c32_i32_448
  let c128_i32_449 : BitVec 32 := 128#32
  let v715 : BitVec 32 := Scalar.muli v714 c128_i32_449
  ![v712.toNat, v715.toNat]

def k1_chk67 (i : grid1.Coords) (v714 : BitVec 32) : Prop :=
  (∀ a, (k1_off98 i v714) a + S8x128.size a ≤ S4096x32000.size a) ∧
  (∀ a, (k1_off114 i v714) a + S8x128.size a ≤ S4096x32000.size a)
theorem k1_off98_inb : ∀ (i : grid1.Coords) (v714 : BitVec 32) (k1_hw67 : k1_chk67 i v714), ∀ a, (k1_off98 i v714) a + S8x128.size a ≤ S4096x32000.size a := fun i v714 k1_hw67 => k1_hw67.1
theorem k1_off114_inb : ∀ (i : grid1.Coords) (v714 : BitVec 32) (k1_hw67 : k1_chk67 i v714), ∀ a, (k1_off114 i v714) a + S8x128.size a ≤ S4096x32000.size a := fun i v714 k1_hw67 => k1_hw67.2

def k1_off115 (i : grid1.Coords) (v724 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32_455 : BitVec 32 := 32#32
  let v722 : BitVec 32 := Scalar.addi v2 c32_i32_455
  let c128_i32_456 : BitVec 32 := 128#32
  let v725 : BitVec 32 := Scalar.muli v724 c128_i32_456
  ![v722.toNat, v725.toNat]

def k1_chk68 (i : grid1.Coords) (v724 : BitVec 32) : Prop :=
  (∀ a, (k1_off99 i v724) a + S8x128.size a ≤ S4096x32000.size a) ∧
  (∀ a, (k1_off115 i v724) a + S8x128.size a ≤ S4096x32000.size a)
theorem k1_off99_inb : ∀ (i : grid1.Coords) (v724 : BitVec 32) (k1_hw68 : k1_chk68 i v724), ∀ a, (k1_off99 i v724) a + S8x128.size a ≤ S4096x32000.size a := fun i v724 k1_hw68 => k1_hw68.1
theorem k1_off115_inb : ∀ (i : grid1.Coords) (v724 : BitVec 32) (k1_hw68 : k1_chk68 i v724), ∀ a, (k1_off115 i v724) a + S8x128.size a ≤ S4096x32000.size a := fun i v724 k1_hw68 => k1_hw68.2

def k1_off116 (i : grid1.Coords) (v734 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32_462 : BitVec 32 := 32#32
  let v732 : BitVec 32 := Scalar.addi v2 c32_i32_462
  let c128_i32_463 : BitVec 32 := 128#32
  let v735 : BitVec 32 := Scalar.muli v734 c128_i32_463
  ![v732.toNat, v735.toNat]

def k1_chk69 (i : grid1.Coords) (v734 : BitVec 32) : Prop :=
  (∀ a, (k1_off100 i v734) a + S8x128.size a ≤ S4096x32000.size a) ∧
  (∀ a, (k1_off116 i v734) a + S8x128.size a ≤ S4096x32000.size a)
theorem k1_off100_inb : ∀ (i : grid1.Coords) (v734 : BitVec 32) (k1_hw69 : k1_chk69 i v734), ∀ a, (k1_off100 i v734) a + S8x128.size a ≤ S4096x32000.size a := fun i v734 k1_hw69 => k1_hw69.1
theorem k1_off116_inb : ∀ (i : grid1.Coords) (v734 : BitVec 32) (k1_hw69 : k1_chk69 i v734), ∀ a, (k1_off116 i v734) a + S8x128.size a ≤ S4096x32000.size a := fun i v734 k1_hw69 => k1_hw69.2

def k1_off117 (i : grid1.Coords) (v744 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32_469 : BitVec 32 := 32#32
  let v742 : BitVec 32 := Scalar.addi v2 c32_i32_469
  let c128_i32_470 : BitVec 32 := 128#32
  let v745 : BitVec 32 := Scalar.muli v744 c128_i32_470
  ![v742.toNat, v745.toNat]

def k1_chk70 (i : grid1.Coords) (v744 : BitVec 32) : Prop :=
  (∀ a, (k1_off101 i v744) a + S8x128.size a ≤ S4096x32000.size a) ∧
  (∀ a, (k1_off117 i v744) a + S8x128.size a ≤ S4096x32000.size a)
theorem k1_off101_inb : ∀ (i : grid1.Coords) (v744 : BitVec 32) (k1_hw70 : k1_chk70 i v744), ∀ a, (k1_off101 i v744) a + S8x128.size a ≤ S4096x32000.size a := fun i v744 k1_hw70 => k1_hw70.1
theorem k1_off117_inb : ∀ (i : grid1.Coords) (v744 : BitVec 32) (k1_hw70 : k1_chk70 i v744), ∀ a, (k1_off117 i v744) a + S8x128.size a ≤ S4096x32000.size a := fun i v744 k1_hw70 => k1_hw70.2

def k1_off118 (i : grid1.Coords) (v754 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32_476 : BitVec 32 := 32#32
  let v752 : BitVec 32 := Scalar.addi v2 c32_i32_476
  let c128_i32_477 : BitVec 32 := 128#32
  let v755 : BitVec 32 := Scalar.muli v754 c128_i32_477
  ![v752.toNat, v755.toNat]

def k1_chk71 (i : grid1.Coords) (v754 : BitVec 32) : Prop :=
  (∀ a, (k1_off102 i v754) a + S8x128.size a ≤ S4096x32000.size a) ∧
  (∀ a, (k1_off118 i v754) a + S8x128.size a ≤ S4096x32000.size a)
theorem k1_off102_inb : ∀ (i : grid1.Coords) (v754 : BitVec 32) (k1_hw71 : k1_chk71 i v754), ∀ a, (k1_off102 i v754) a + S8x128.size a ≤ S4096x32000.size a := fun i v754 k1_hw71 => k1_hw71.1
theorem k1_off118_inb : ∀ (i : grid1.Coords) (v754 : BitVec 32) (k1_hw71 : k1_chk71 i v754), ∀ a, (k1_off118 i v754) a + S8x128.size a ≤ S4096x32000.size a := fun i v754 k1_hw71 => k1_hw71.2

def k1_off119 (i : grid1.Coords) (v764 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32_483 : BitVec 32 := 32#32
  let v762 : BitVec 32 := Scalar.addi v2 c32_i32_483
  let c128_i32_484 : BitVec 32 := 128#32
  let v765 : BitVec 32 := Scalar.muli v764 c128_i32_484
  ![v762.toNat, v765.toNat]

def k1_chk72 (i : grid1.Coords) (v764 : BitVec 32) : Prop :=
  (∀ a, (k1_off103 i v764) a + S8x128.size a ≤ S4096x32000.size a) ∧
  (∀ a, (k1_off119 i v764) a + S8x128.size a ≤ S4096x32000.size a)
theorem k1_off103_inb : ∀ (i : grid1.Coords) (v764 : BitVec 32) (k1_hw72 : k1_chk72 i v764), ∀ a, (k1_off103 i v764) a + S8x128.size a ≤ S4096x32000.size a := fun i v764 k1_hw72 => k1_hw72.1
theorem k1_off119_inb : ∀ (i : grid1.Coords) (v764 : BitVec 32) (k1_hw72 : k1_chk72 i v764), ∀ a, (k1_off119 i v764) a + S8x128.size a ≤ S4096x32000.size a := fun i v764 k1_hw72 => k1_hw72.2

def k1_off120 (i : grid1.Coords) (v774 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c40_i32 : BitVec 32 := 40#32
  let v772 : BitVec 32 := Scalar.addi v2 c40_i32
  let c128_i32_490 : BitVec 32 := 128#32
  let v775 : BitVec 32 := Scalar.muli v774 c128_i32_490
  ![v772.toNat, v775.toNat]

def k1_chk73 (i : grid1.Coords) (v774 : BitVec 32) : Prop :=
  (∀ a, (k1_off104 i v774) a + S8x128.size a ≤ S4096x32000.size a) ∧
  (∀ a, (k1_off120 i v774) a + S8x128.size a ≤ S4096x32000.size a)
theorem k1_off104_inb : ∀ (i : grid1.Coords) (v774 : BitVec 32) (k1_hw73 : k1_chk73 i v774), ∀ a, (k1_off104 i v774) a + S8x128.size a ≤ S4096x32000.size a := fun i v774 k1_hw73 => k1_hw73.1
theorem k1_off120_inb : ∀ (i : grid1.Coords) (v774 : BitVec 32) (k1_hw73 : k1_chk73 i v774), ∀ a, (k1_off120 i v774) a + S8x128.size a ≤ S4096x32000.size a := fun i v774 k1_hw73 => k1_hw73.2

def k1_off121 (i : grid1.Coords) (v784 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c40_i32_496 : BitVec 32 := 40#32
  let v782 : BitVec 32 := Scalar.addi v2 c40_i32_496
  let c128_i32_497 : BitVec 32 := 128#32
  let v785 : BitVec 32 := Scalar.muli v784 c128_i32_497
  ![v782.toNat, v785.toNat]

def k1_chk74 (i : grid1.Coords) (v784 : BitVec 32) : Prop :=
  (∀ a, (k1_off105 i v784) a + S8x128.size a ≤ S4096x32000.size a) ∧
  (∀ a, (k1_off121 i v784) a + S8x128.size a ≤ S4096x32000.size a)
theorem k1_off105_inb : ∀ (i : grid1.Coords) (v784 : BitVec 32) (k1_hw74 : k1_chk74 i v784), ∀ a, (k1_off105 i v784) a + S8x128.size a ≤ S4096x32000.size a := fun i v784 k1_hw74 => k1_hw74.1
theorem k1_off121_inb : ∀ (i : grid1.Coords) (v784 : BitVec 32) (k1_hw74 : k1_chk74 i v784), ∀ a, (k1_off121 i v784) a + S8x128.size a ≤ S4096x32000.size a := fun i v784 k1_hw74 => k1_hw74.2

def k1_off122 (i : grid1.Coords) (v794 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c40_i32_503 : BitVec 32 := 40#32
  let v792 : BitVec 32 := Scalar.addi v2 c40_i32_503
  let c128_i32_504 : BitVec 32 := 128#32
  let v795 : BitVec 32 := Scalar.muli v794 c128_i32_504
  ![v792.toNat, v795.toNat]

def k1_chk75 (i : grid1.Coords) (v794 : BitVec 32) : Prop :=
  (∀ a, (k1_off106 i v794) a + S8x128.size a ≤ S4096x32000.size a) ∧
  (∀ a, (k1_off122 i v794) a + S8x128.size a ≤ S4096x32000.size a)
theorem k1_off106_inb : ∀ (i : grid1.Coords) (v794 : BitVec 32) (k1_hw75 : k1_chk75 i v794), ∀ a, (k1_off106 i v794) a + S8x128.size a ≤ S4096x32000.size a := fun i v794 k1_hw75 => k1_hw75.1
theorem k1_off122_inb : ∀ (i : grid1.Coords) (v794 : BitVec 32) (k1_hw75 : k1_chk75 i v794), ∀ a, (k1_off122 i v794) a + S8x128.size a ≤ S4096x32000.size a := fun i v794 k1_hw75 => k1_hw75.2

def k1_off123 (i : grid1.Coords) (v804 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c40_i32_510 : BitVec 32 := 40#32
  let v802 : BitVec 32 := Scalar.addi v2 c40_i32_510
  let c128_i32_511 : BitVec 32 := 128#32
  let v805 : BitVec 32 := Scalar.muli v804 c128_i32_511
  ![v802.toNat, v805.toNat]

def k1_chk76 (i : grid1.Coords) (v804 : BitVec 32) : Prop :=
  (∀ a, (k1_off107 i v804) a + S8x128.size a ≤ S4096x32000.size a) ∧
  (∀ a, (k1_off123 i v804) a + S8x128.size a ≤ S4096x32000.size a)
theorem k1_off107_inb : ∀ (i : grid1.Coords) (v804 : BitVec 32) (k1_hw76 : k1_chk76 i v804), ∀ a, (k1_off107 i v804) a + S8x128.size a ≤ S4096x32000.size a := fun i v804 k1_hw76 => k1_hw76.1
theorem k1_off123_inb : ∀ (i : grid1.Coords) (v804 : BitVec 32) (k1_hw76 : k1_chk76 i v804), ∀ a, (k1_off123 i v804) a + S8x128.size a ≤ S4096x32000.size a := fun i v804 k1_hw76 => k1_hw76.2

def k1_off124 (i : grid1.Coords) (v814 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c40_i32_517 : BitVec 32 := 40#32
  let v812 : BitVec 32 := Scalar.addi v2 c40_i32_517
  let c128_i32_518 : BitVec 32 := 128#32
  let v815 : BitVec 32 := Scalar.muli v814 c128_i32_518
  ![v812.toNat, v815.toNat]

def k1_chk77 (i : grid1.Coords) (v814 : BitVec 32) : Prop :=
  (∀ a, (k1_off108 i v814) a + S8x128.size a ≤ S4096x32000.size a) ∧
  (∀ a, (k1_off124 i v814) a + S8x128.size a ≤ S4096x32000.size a)
theorem k1_off108_inb : ∀ (i : grid1.Coords) (v814 : BitVec 32) (k1_hw77 : k1_chk77 i v814), ∀ a, (k1_off108 i v814) a + S8x128.size a ≤ S4096x32000.size a := fun i v814 k1_hw77 => k1_hw77.1
theorem k1_off124_inb : ∀ (i : grid1.Coords) (v814 : BitVec 32) (k1_hw77 : k1_chk77 i v814), ∀ a, (k1_off124 i v814) a + S8x128.size a ≤ S4096x32000.size a := fun i v814 k1_hw77 => k1_hw77.2

def k1_off125 (i : grid1.Coords) (v824 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c40_i32_524 : BitVec 32 := 40#32
  let v822 : BitVec 32 := Scalar.addi v2 c40_i32_524
  let c128_i32_525 : BitVec 32 := 128#32
  let v825 : BitVec 32 := Scalar.muli v824 c128_i32_525
  ![v822.toNat, v825.toNat]

def k1_chk78 (i : grid1.Coords) (v824 : BitVec 32) : Prop :=
  (∀ a, (k1_off109 i v824) a + S8x128.size a ≤ S4096x32000.size a) ∧
  (∀ a, (k1_off125 i v824) a + S8x128.size a ≤ S4096x32000.size a)
theorem k1_off109_inb : ∀ (i : grid1.Coords) (v824 : BitVec 32) (k1_hw78 : k1_chk78 i v824), ∀ a, (k1_off109 i v824) a + S8x128.size a ≤ S4096x32000.size a := fun i v824 k1_hw78 => k1_hw78.1
theorem k1_off125_inb : ∀ (i : grid1.Coords) (v824 : BitVec 32) (k1_hw78 : k1_chk78 i v824), ∀ a, (k1_off125 i v824) a + S8x128.size a ≤ S4096x32000.size a := fun i v824 k1_hw78 => k1_hw78.2

def k1_off126 (i : grid1.Coords) (v834 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c40_i32_531 : BitVec 32 := 40#32
  let v832 : BitVec 32 := Scalar.addi v2 c40_i32_531
  let c128_i32_532 : BitVec 32 := 128#32
  let v835 : BitVec 32 := Scalar.muli v834 c128_i32_532
  ![v832.toNat, v835.toNat]

def k1_chk79 (i : grid1.Coords) (v834 : BitVec 32) : Prop :=
  (∀ a, (k1_off110 i v834) a + S8x128.size a ≤ S4096x32000.size a) ∧
  (∀ a, (k1_off126 i v834) a + S8x128.size a ≤ S4096x32000.size a)
theorem k1_off110_inb : ∀ (i : grid1.Coords) (v834 : BitVec 32) (k1_hw79 : k1_chk79 i v834), ∀ a, (k1_off110 i v834) a + S8x128.size a ≤ S4096x32000.size a := fun i v834 k1_hw79 => k1_hw79.1
theorem k1_off126_inb : ∀ (i : grid1.Coords) (v834 : BitVec 32) (k1_hw79 : k1_chk79 i v834), ∀ a, (k1_off126 i v834) a + S8x128.size a ≤ S4096x32000.size a := fun i v834 k1_hw79 => k1_hw79.2

def k1_off127 (v949 : BitVec 32) : Fin 3 → Nat :=
  let c0_i32_1778 : BitVec 32 := 0#32
  let v2738 : Index := Scalar.indexCast c0_i32_1778
  let c0_i32_1779 : BitVec 32 := 0#32
  let v2739 : Index := Scalar.indexCast c0_i32_1779
  let c4_i32_1775 : BitVec 32 := 4#32
  let v2735 : BitVec 32 := Scalar.shrsi v949 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![0, 0, v2740.toNat]
def k1_cond33 (v949 : BitVec 32) : BitVec 1 :=
  let c0_i32_625 : BitVec 32 := 0#32
  let v950 : BitVec 1 := Scalar.cmpi .ne v949 c0_i32_625
  let v951 : BitVec 32 := Scalar.extui v950
  let c0_i32_626 : BitVec 32 := 0#32
  let v952 : BitVec 1 := Scalar.cmpi .ne v951 c0_i32_626
  v952

def k1_chk81 (v949 : BitVec 32) : Prop :=
  (∀ (k1_h33 : k1_cond33 v949 = 1#1), ∀ a, (k1_off127 v949) a + S1x1x16.size a ≤ S16x8x128.size a)
theorem k1_off127_inb : ∀ (v949 : BitVec 32) (k1_hw81 : k1_chk81 v949), ∀ (k1_h33 : k1_cond33 v949 = 1#1), ∀ a, (k1_off127 v949) a + S1x1x16.size a ≤ S16x8x128.size a := fun v949 k1_hw81 k1_h33 => k1_hw81 k1_h33

def k1_off128 (v954 : BitVec 32) : Fin 3 → Nat :=
  let c1_i32_1778 : BitVec 32 := 1#32
  let v2738 : Index := Scalar.indexCast c1_i32_1778
  let c1_i32_1779 : BitVec 32 := 1#32
  let v2739 : Index := Scalar.indexCast c1_i32_1779
  let c4_i32_1775 : BitVec 32 := 4#32
  let v2735 : BitVec 32 := Scalar.shrsi v954 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![1, 1, v2740.toNat]
def k1_cond34 (v954 : BitVec 32) : BitVec 1 :=
  let c0_i32_627 : BitVec 32 := 0#32
  let v955 : BitVec 1 := Scalar.cmpi .ne v954 c0_i32_627
  let v956 : BitVec 32 := Scalar.extui v955
  let c0_i32_628 : BitVec 32 := 0#32
  let v957 : BitVec 1 := Scalar.cmpi .ne v956 c0_i32_628
  v957

def k1_chk82 (v954 : BitVec 32) : Prop :=
  (∀ (k1_h34 : k1_cond34 v954 = 1#1), ∀ a, (k1_off128 v954) a + S1x1x16.size a ≤ S16x8x128.size a)
theorem k1_off128_inb : ∀ (v954 : BitVec 32) (k1_hw82 : k1_chk82 v954), ∀ (k1_h34 : k1_cond34 v954 = 1#1), ∀ a, (k1_off128 v954) a + S1x1x16.size a ≤ S16x8x128.size a := fun v954 k1_hw82 k1_h34 => k1_hw82 k1_h34

def k1_off129 (v959 : BitVec 32) : Fin 3 → Nat :=
  let c2_i32_1778 : BitVec 32 := 2#32
  let v2738 : Index := Scalar.indexCast c2_i32_1778
  let c2_i32_1779 : BitVec 32 := 2#32
  let v2739 : Index := Scalar.indexCast c2_i32_1779
  let c4_i32_1775 : BitVec 32 := 4#32
  let v2735 : BitVec 32 := Scalar.shrsi v959 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![2, 2, v2740.toNat]
def k1_cond35 (v959 : BitVec 32) : BitVec 1 :=
  let c0_i32_629 : BitVec 32 := 0#32
  let v960 : BitVec 1 := Scalar.cmpi .ne v959 c0_i32_629
  let v961 : BitVec 32 := Scalar.extui v960
  let c0_i32_630 : BitVec 32 := 0#32
  let v962 : BitVec 1 := Scalar.cmpi .ne v961 c0_i32_630
  v962

def k1_chk83 (v959 : BitVec 32) : Prop :=
  (∀ (k1_h35 : k1_cond35 v959 = 1#1), ∀ a, (k1_off129 v959) a + S1x1x16.size a ≤ S16x8x128.size a)
theorem k1_off129_inb : ∀ (v959 : BitVec 32) (k1_hw83 : k1_chk83 v959), ∀ (k1_h35 : k1_cond35 v959 = 1#1), ∀ a, (k1_off129 v959) a + S1x1x16.size a ≤ S16x8x128.size a := fun v959 k1_hw83 k1_h35 => k1_hw83 k1_h35

def k1_off130 (v964 : BitVec 32) : Fin 3 → Nat :=
  let c3_i32_1778 : BitVec 32 := 3#32
  let v2738 : Index := Scalar.indexCast c3_i32_1778
  let c3_i32_1779 : BitVec 32 := 3#32
  let v2739 : Index := Scalar.indexCast c3_i32_1779
  let c4_i32_1775 : BitVec 32 := 4#32
  let v2735 : BitVec 32 := Scalar.shrsi v964 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![3, 3, v2740.toNat]
def k1_cond36 (v964 : BitVec 32) : BitVec 1 :=
  let c0_i32_631 : BitVec 32 := 0#32
  let v965 : BitVec 1 := Scalar.cmpi .ne v964 c0_i32_631
  let v966 : BitVec 32 := Scalar.extui v965
  let c0_i32_632 : BitVec 32 := 0#32
  let v967 : BitVec 1 := Scalar.cmpi .ne v966 c0_i32_632
  v967

def k1_chk84 (v964 : BitVec 32) : Prop :=
  (∀ (k1_h36 : k1_cond36 v964 = 1#1), ∀ a, (k1_off130 v964) a + S1x1x16.size a ≤ S16x8x128.size a)
theorem k1_off130_inb : ∀ (v964 : BitVec 32) (k1_hw84 : k1_chk84 v964), ∀ (k1_h36 : k1_cond36 v964 = 1#1), ∀ a, (k1_off130 v964) a + S1x1x16.size a ≤ S16x8x128.size a := fun v964 k1_hw84 k1_h36 => k1_hw84 k1_h36

def k1_off131 (v969 : BitVec 32) : Fin 3 → Nat :=
  let c4_i32_1778 : BitVec 32 := 4#32
  let v2738 : Index := Scalar.indexCast c4_i32_1778
  let c4_i32_1779 : BitVec 32 := 4#32
  let v2739 : Index := Scalar.indexCast c4_i32_1779
  let c4_i32_1775 : BitVec 32 := 4#32
  let v2735 : BitVec 32 := Scalar.shrsi v969 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![4, 4, v2740.toNat]
def k1_cond37 (v969 : BitVec 32) : BitVec 1 :=
  let c0_i32_633 : BitVec 32 := 0#32
  let v970 : BitVec 1 := Scalar.cmpi .ne v969 c0_i32_633
  let v971 : BitVec 32 := Scalar.extui v970
  let c0_i32_634 : BitVec 32 := 0#32
  let v972 : BitVec 1 := Scalar.cmpi .ne v971 c0_i32_634
  v972

def k1_chk85 (v969 : BitVec 32) : Prop :=
  (∀ (k1_h37 : k1_cond37 v969 = 1#1), ∀ a, (k1_off131 v969) a + S1x1x16.size a ≤ S16x8x128.size a)
theorem k1_off131_inb : ∀ (v969 : BitVec 32) (k1_hw85 : k1_chk85 v969), ∀ (k1_h37 : k1_cond37 v969 = 1#1), ∀ a, (k1_off131 v969) a + S1x1x16.size a ≤ S16x8x128.size a := fun v969 k1_hw85 k1_h37 => k1_hw85 k1_h37

def k1_off132 (v974 : BitVec 32) : Fin 3 → Nat :=
  let c5_i32_1778 : BitVec 32 := 5#32
  let v2738 : Index := Scalar.indexCast c5_i32_1778
  let c5_i32_1779 : BitVec 32 := 5#32
  let v2739 : Index := Scalar.indexCast c5_i32_1779
  let c4_i32_1775 : BitVec 32 := 4#32
  let v2735 : BitVec 32 := Scalar.shrsi v974 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![5, 5, v2740.toNat]
def k1_cond38 (v974 : BitVec 32) : BitVec 1 :=
  let c0_i32_635 : BitVec 32 := 0#32
  let v975 : BitVec 1 := Scalar.cmpi .ne v974 c0_i32_635
  let v976 : BitVec 32 := Scalar.extui v975
  let c0_i32_636 : BitVec 32 := 0#32
  let v977 : BitVec 1 := Scalar.cmpi .ne v976 c0_i32_636
  v977

def k1_chk86 (v974 : BitVec 32) : Prop :=
  (∀ (k1_h38 : k1_cond38 v974 = 1#1), ∀ a, (k1_off132 v974) a + S1x1x16.size a ≤ S16x8x128.size a)
theorem k1_off132_inb : ∀ (v974 : BitVec 32) (k1_hw86 : k1_chk86 v974), ∀ (k1_h38 : k1_cond38 v974 = 1#1), ∀ a, (k1_off132 v974) a + S1x1x16.size a ≤ S16x8x128.size a := fun v974 k1_hw86 k1_h38 => k1_hw86 k1_h38

def k1_off133 (v979 : BitVec 32) : Fin 3 → Nat :=
  let c6_i32_1778 : BitVec 32 := 6#32
  let v2738 : Index := Scalar.indexCast c6_i32_1778
  let c6_i32_1779 : BitVec 32 := 6#32
  let v2739 : Index := Scalar.indexCast c6_i32_1779
  let c4_i32_1775 : BitVec 32 := 4#32
  let v2735 : BitVec 32 := Scalar.shrsi v979 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![6, 6, v2740.toNat]
def k1_cond39 (v979 : BitVec 32) : BitVec 1 :=
  let c0_i32_637 : BitVec 32 := 0#32
  let v980 : BitVec 1 := Scalar.cmpi .ne v979 c0_i32_637
  let v981 : BitVec 32 := Scalar.extui v980
  let c0_i32_638 : BitVec 32 := 0#32
  let v982 : BitVec 1 := Scalar.cmpi .ne v981 c0_i32_638
  v982

def k1_chk87 (v979 : BitVec 32) : Prop :=
  (∀ (k1_h39 : k1_cond39 v979 = 1#1), ∀ a, (k1_off133 v979) a + S1x1x16.size a ≤ S16x8x128.size a)
theorem k1_off133_inb : ∀ (v979 : BitVec 32) (k1_hw87 : k1_chk87 v979), ∀ (k1_h39 : k1_cond39 v979 = 1#1), ∀ a, (k1_off133 v979) a + S1x1x16.size a ≤ S16x8x128.size a := fun v979 k1_hw87 k1_h39 => k1_hw87 k1_h39

def k1_off134 (v984 : BitVec 32) : Fin 3 → Nat :=
  let c7_i32_1778 : BitVec 32 := 7#32
  let v2738 : Index := Scalar.indexCast c7_i32_1778
  let c7_i32_1779 : BitVec 32 := 7#32
  let v2739 : Index := Scalar.indexCast c7_i32_1779
  let c4_i32_1775 : BitVec 32 := 4#32
  let v2735 : BitVec 32 := Scalar.shrsi v984 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![7, 7, v2740.toNat]
def k1_cond40 (v984 : BitVec 32) : BitVec 1 :=
  let c0_i32_639 : BitVec 32 := 0#32
  let v985 : BitVec 1 := Scalar.cmpi .ne v984 c0_i32_639
  let v986 : BitVec 32 := Scalar.extui v985
  let c0_i32_640 : BitVec 32 := 0#32
  let v987 : BitVec 1 := Scalar.cmpi .ne v986 c0_i32_640
  v987

def k1_chk88 (v984 : BitVec 32) : Prop :=
  (∀ (k1_h40 : k1_cond40 v984 = 1#1), ∀ a, (k1_off134 v984) a + S1x1x16.size a ≤ S16x8x128.size a)
theorem k1_off134_inb : ∀ (v984 : BitVec 32) (k1_hw88 : k1_chk88 v984), ∀ (k1_h40 : k1_cond40 v984 = 1#1), ∀ a, (k1_off134 v984) a + S1x1x16.size a ≤ S16x8x128.size a := fun v984 k1_hw88 k1_h40 => k1_hw88 k1_h40

def k1_off135 (v989 : BitVec 32) : Fin 3 → Nat :=
  let c8_i32_1778 : BitVec 32 := 8#32
  let v2738 : Index := Scalar.indexCast c8_i32_1778
  let c0_i32_1779 : BitVec 32 := 0#32
  let v2739 : Index := Scalar.indexCast c0_i32_1779
  let c4_i32_1775 : BitVec 32 := 4#32
  let v2735 : BitVec 32 := Scalar.shrsi v989 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![8, 0, v2740.toNat]
def k1_cond41 (v989 : BitVec 32) : BitVec 1 :=
  let c0_i32_641 : BitVec 32 := 0#32
  let v990 : BitVec 1 := Scalar.cmpi .ne v989 c0_i32_641
  let v991 : BitVec 32 := Scalar.extui v990
  let c0_i32_642 : BitVec 32 := 0#32
  let v992 : BitVec 1 := Scalar.cmpi .ne v991 c0_i32_642
  v992

def k1_chk89 (v989 : BitVec 32) : Prop :=
  (∀ (k1_h41 : k1_cond41 v989 = 1#1), ∀ a, (k1_off135 v989) a + S1x1x16.size a ≤ S16x8x128.size a)
theorem k1_off135_inb : ∀ (v989 : BitVec 32) (k1_hw89 : k1_chk89 v989), ∀ (k1_h41 : k1_cond41 v989 = 1#1), ∀ a, (k1_off135 v989) a + S1x1x16.size a ≤ S16x8x128.size a := fun v989 k1_hw89 k1_h41 => k1_hw89 k1_h41

def k1_off136 (v994 : BitVec 32) : Fin 3 → Nat :=
  let c9_i32_1778 : BitVec 32 := 9#32
  let v2738 : Index := Scalar.indexCast c9_i32_1778
  let c1_i32_1779 : BitVec 32 := 1#32
  let v2739 : Index := Scalar.indexCast c1_i32_1779
  let c4_i32_1775 : BitVec 32 := 4#32
  let v2735 : BitVec 32 := Scalar.shrsi v994 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![9, 1, v2740.toNat]
def k1_cond42 (v994 : BitVec 32) : BitVec 1 :=
  let c0_i32_643 : BitVec 32 := 0#32
  let v995 : BitVec 1 := Scalar.cmpi .ne v994 c0_i32_643
  let v996 : BitVec 32 := Scalar.extui v995
  let c0_i32_644 : BitVec 32 := 0#32
  let v997 : BitVec 1 := Scalar.cmpi .ne v996 c0_i32_644
  v997

def k1_chk90 (v994 : BitVec 32) : Prop :=
  (∀ (k1_h42 : k1_cond42 v994 = 1#1), ∀ a, (k1_off136 v994) a + S1x1x16.size a ≤ S16x8x128.size a)
theorem k1_off136_inb : ∀ (v994 : BitVec 32) (k1_hw90 : k1_chk90 v994), ∀ (k1_h42 : k1_cond42 v994 = 1#1), ∀ a, (k1_off136 v994) a + S1x1x16.size a ≤ S16x8x128.size a := fun v994 k1_hw90 k1_h42 => k1_hw90 k1_h42

def k1_off137 (v999 : BitVec 32) : Fin 3 → Nat :=
  let c10_i32_1778 : BitVec 32 := 10#32
  let v2738 : Index := Scalar.indexCast c10_i32_1778
  let c2_i32_1779 : BitVec 32 := 2#32
  let v2739 : Index := Scalar.indexCast c2_i32_1779
  let c4_i32_1775 : BitVec 32 := 4#32
  let v2735 : BitVec 32 := Scalar.shrsi v999 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![10, 2, v2740.toNat]
def k1_cond43 (v999 : BitVec 32) : BitVec 1 :=
  let c0_i32_645 : BitVec 32 := 0#32
  let v1000 : BitVec 1 := Scalar.cmpi .ne v999 c0_i32_645
  let v1001 : BitVec 32 := Scalar.extui v1000
  let c0_i32_646 : BitVec 32 := 0#32
  let v1002 : BitVec 1 := Scalar.cmpi .ne v1001 c0_i32_646
  v1002

def k1_chk91 (v999 : BitVec 32) : Prop :=
  (∀ (k1_h43 : k1_cond43 v999 = 1#1), ∀ a, (k1_off137 v999) a + S1x1x16.size a ≤ S16x8x128.size a)
theorem k1_off137_inb : ∀ (v999 : BitVec 32) (k1_hw91 : k1_chk91 v999), ∀ (k1_h43 : k1_cond43 v999 = 1#1), ∀ a, (k1_off137 v999) a + S1x1x16.size a ≤ S16x8x128.size a := fun v999 k1_hw91 k1_h43 => k1_hw91 k1_h43

def k1_off138 (v1004 : BitVec 32) : Fin 3 → Nat :=
  let c11_i32_1778 : BitVec 32 := 11#32
  let v2738 : Index := Scalar.indexCast c11_i32_1778
  let c3_i32_1779 : BitVec 32 := 3#32
  let v2739 : Index := Scalar.indexCast c3_i32_1779
  let c4_i32_1775 : BitVec 32 := 4#32
  let v2735 : BitVec 32 := Scalar.shrsi v1004 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![11, 3, v2740.toNat]
def k1_cond44 (v1004 : BitVec 32) : BitVec 1 :=
  let c0_i32_647 : BitVec 32 := 0#32
  let v1005 : BitVec 1 := Scalar.cmpi .ne v1004 c0_i32_647
  let v1006 : BitVec 32 := Scalar.extui v1005
  let c0_i32_648 : BitVec 32 := 0#32
  let v1007 : BitVec 1 := Scalar.cmpi .ne v1006 c0_i32_648
  v1007

def k1_chk92 (v1004 : BitVec 32) : Prop :=
  (∀ (k1_h44 : k1_cond44 v1004 = 1#1), ∀ a, (k1_off138 v1004) a + S1x1x16.size a ≤ S16x8x128.size a)
theorem k1_off138_inb : ∀ (v1004 : BitVec 32) (k1_hw92 : k1_chk92 v1004), ∀ (k1_h44 : k1_cond44 v1004 = 1#1), ∀ a, (k1_off138 v1004) a + S1x1x16.size a ≤ S16x8x128.size a := fun v1004 k1_hw92 k1_h44 => k1_hw92 k1_h44

def k1_off139 (v1009 : BitVec 32) : Fin 3 → Nat :=
  let c12_i32_1778 : BitVec 32 := 12#32
  let v2738 : Index := Scalar.indexCast c12_i32_1778
  let c4_i32_1779 : BitVec 32 := 4#32
  let v2739 : Index := Scalar.indexCast c4_i32_1779
  let c4_i32_1775 : BitVec 32 := 4#32
  let v2735 : BitVec 32 := Scalar.shrsi v1009 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![12, 4, v2740.toNat]
def k1_cond45 (v1009 : BitVec 32) : BitVec 1 :=
  let c0_i32_649 : BitVec 32 := 0#32
  let v1010 : BitVec 1 := Scalar.cmpi .ne v1009 c0_i32_649
  let v1011 : BitVec 32 := Scalar.extui v1010
  let c0_i32_650 : BitVec 32 := 0#32
  let v1012 : BitVec 1 := Scalar.cmpi .ne v1011 c0_i32_650
  v1012

def k1_chk93 (v1009 : BitVec 32) : Prop :=
  (∀ (k1_h45 : k1_cond45 v1009 = 1#1), ∀ a, (k1_off139 v1009) a + S1x1x16.size a ≤ S16x8x128.size a)
theorem k1_off139_inb : ∀ (v1009 : BitVec 32) (k1_hw93 : k1_chk93 v1009), ∀ (k1_h45 : k1_cond45 v1009 = 1#1), ∀ a, (k1_off139 v1009) a + S1x1x16.size a ≤ S16x8x128.size a := fun v1009 k1_hw93 k1_h45 => k1_hw93 k1_h45

def k1_off140 (v1014 : BitVec 32) : Fin 3 → Nat :=
  let c13_i32_1778 : BitVec 32 := 13#32
  let v2738 : Index := Scalar.indexCast c13_i32_1778
  let c5_i32_1779 : BitVec 32 := 5#32
  let v2739 : Index := Scalar.indexCast c5_i32_1779
  let c4_i32_1775 : BitVec 32 := 4#32
  let v2735 : BitVec 32 := Scalar.shrsi v1014 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![13, 5, v2740.toNat]
def k1_cond46 (v1014 : BitVec 32) : BitVec 1 :=
  let c0_i32_651 : BitVec 32 := 0#32
  let v1015 : BitVec 1 := Scalar.cmpi .ne v1014 c0_i32_651
  let v1016 : BitVec 32 := Scalar.extui v1015
  let c0_i32_652 : BitVec 32 := 0#32
  let v1017 : BitVec 1 := Scalar.cmpi .ne v1016 c0_i32_652
  v1017

def k1_chk94 (v1014 : BitVec 32) : Prop :=
  (∀ (k1_h46 : k1_cond46 v1014 = 1#1), ∀ a, (k1_off140 v1014) a + S1x1x16.size a ≤ S16x8x128.size a)
theorem k1_off140_inb : ∀ (v1014 : BitVec 32) (k1_hw94 : k1_chk94 v1014), ∀ (k1_h46 : k1_cond46 v1014 = 1#1), ∀ a, (k1_off140 v1014) a + S1x1x16.size a ≤ S16x8x128.size a := fun v1014 k1_hw94 k1_h46 => k1_hw94 k1_h46

def k1_off141 (v1019 : BitVec 32) : Fin 3 → Nat :=
  let c14_i32_1778 : BitVec 32 := 14#32
  let v2738 : Index := Scalar.indexCast c14_i32_1778
  let c6_i32_1779 : BitVec 32 := 6#32
  let v2739 : Index := Scalar.indexCast c6_i32_1779
  let c4_i32_1775 : BitVec 32 := 4#32
  let v2735 : BitVec 32 := Scalar.shrsi v1019 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![14, 6, v2740.toNat]
def k1_cond47 (v1019 : BitVec 32) : BitVec 1 :=
  let c0_i32_653 : BitVec 32 := 0#32
  let v1020 : BitVec 1 := Scalar.cmpi .ne v1019 c0_i32_653
  let v1021 : BitVec 32 := Scalar.extui v1020
  let c0_i32_654 : BitVec 32 := 0#32
  let v1022 : BitVec 1 := Scalar.cmpi .ne v1021 c0_i32_654
  v1022

def k1_chk95 (v1019 : BitVec 32) : Prop :=
  (∀ (k1_h47 : k1_cond47 v1019 = 1#1), ∀ a, (k1_off141 v1019) a + S1x1x16.size a ≤ S16x8x128.size a)
theorem k1_off141_inb : ∀ (v1019 : BitVec 32) (k1_hw95 : k1_chk95 v1019), ∀ (k1_h47 : k1_cond47 v1019 = 1#1), ∀ a, (k1_off141 v1019) a + S1x1x16.size a ≤ S16x8x128.size a := fun v1019 k1_hw95 k1_h47 => k1_hw95 k1_h47

def k1_off142 (v1024 : BitVec 32) : Fin 3 → Nat :=
  let c15_i32_1778 : BitVec 32 := 15#32
  let v2738 : Index := Scalar.indexCast c15_i32_1778
  let c7_i32_1779 : BitVec 32 := 7#32
  let v2739 : Index := Scalar.indexCast c7_i32_1779
  let c4_i32_1775 : BitVec 32 := 4#32
  let v2735 : BitVec 32 := Scalar.shrsi v1024 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![15, 7, v2740.toNat]
def k1_cond48 (v1024 : BitVec 32) : BitVec 1 :=
  let c0_i32_655 : BitVec 32 := 0#32
  let v1025 : BitVec 1 := Scalar.cmpi .ne v1024 c0_i32_655
  let v1026 : BitVec 32 := Scalar.extui v1025
  let c0_i32_656 : BitVec 32 := 0#32
  let v1027 : BitVec 1 := Scalar.cmpi .ne v1026 c0_i32_656
  v1027

def k1_chk96 (v1024 : BitVec 32) : Prop :=
  (∀ (k1_h48 : k1_cond48 v1024 = 1#1), ∀ a, (k1_off142 v1024) a + S1x1x16.size a ≤ S16x8x128.size a)
theorem k1_off142_inb : ∀ (v1024 : BitVec 32) (k1_hw96 : k1_chk96 v1024), ∀ (k1_h48 : k1_cond48 v1024 = 1#1), ∀ a, (k1_off142 v1024) a + S1x1x16.size a ≤ S16x8x128.size a := fun v1024 k1_hw96 k1_h48 => k1_hw96 k1_h48

def k1_off143 (i : grid1.Coords) (v1034 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c48_i32 : BitVec 32 := 48#32
  let v1032 : BitVec 32 := Scalar.addi v2 c48_i32
  let c128_i32_658 : BitVec 32 := 128#32
  let v1035 : BitVec 32 := Scalar.muli v1034 c128_i32_658
  ![v1032.toNat, v1035.toNat]

def k1_off144 (i : grid1.Coords) (v1044 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c48_i32_664 : BitVec 32 := 48#32
  let v1042 : BitVec 32 := Scalar.addi v2 c48_i32_664
  let c128_i32_665 : BitVec 32 := 128#32
  let v1045 : BitVec 32 := Scalar.muli v1044 c128_i32_665
  ![v1042.toNat, v1045.toNat]

def k1_off145 (i : grid1.Coords) (v1054 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c48_i32_671 : BitVec 32 := 48#32
  let v1052 : BitVec 32 := Scalar.addi v2 c48_i32_671
  let c128_i32_672 : BitVec 32 := 128#32
  let v1055 : BitVec 32 := Scalar.muli v1054 c128_i32_672
  ![v1052.toNat, v1055.toNat]

def k1_off146 (i : grid1.Coords) (v1064 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c48_i32_678 : BitVec 32 := 48#32
  let v1062 : BitVec 32 := Scalar.addi v2 c48_i32_678
  let c128_i32_679 : BitVec 32 := 128#32
  let v1065 : BitVec 32 := Scalar.muli v1064 c128_i32_679
  ![v1062.toNat, v1065.toNat]

def k1_off147 (i : grid1.Coords) (v1074 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c48_i32_685 : BitVec 32 := 48#32
  let v1072 : BitVec 32 := Scalar.addi v2 c48_i32_685
  let c128_i32_686 : BitVec 32 := 128#32
  let v1075 : BitVec 32 := Scalar.muli v1074 c128_i32_686
  ![v1072.toNat, v1075.toNat]

def k1_off148 (i : grid1.Coords) (v1084 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c48_i32_692 : BitVec 32 := 48#32
  let v1082 : BitVec 32 := Scalar.addi v2 c48_i32_692
  let c128_i32_693 : BitVec 32 := 128#32
  let v1085 : BitVec 32 := Scalar.muli v1084 c128_i32_693
  ![v1082.toNat, v1085.toNat]

def k1_off149 (i : grid1.Coords) (v1094 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c48_i32_699 : BitVec 32 := 48#32
  let v1092 : BitVec 32 := Scalar.addi v2 c48_i32_699
  let c128_i32_700 : BitVec 32 := 128#32
  let v1095 : BitVec 32 := Scalar.muli v1094 c128_i32_700
  ![v1092.toNat, v1095.toNat]

def k1_off150 (i : grid1.Coords) (v1104 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c48_i32_706 : BitVec 32 := 48#32
  let v1102 : BitVec 32 := Scalar.addi v2 c48_i32_706
  let c128_i32_707 : BitVec 32 := 128#32
  let v1105 : BitVec 32 := Scalar.muli v1104 c128_i32_707
  ![v1102.toNat, v1105.toNat]

def k1_off151 (i : grid1.Coords) (v1114 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c56_i32 : BitVec 32 := 56#32
  let v1112 : BitVec 32 := Scalar.addi v2 c56_i32
  let c128_i32_713 : BitVec 32 := 128#32
  let v1115 : BitVec 32 := Scalar.muli v1114 c128_i32_713
  ![v1112.toNat, v1115.toNat]

def k1_off152 (i : grid1.Coords) (v1124 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c56_i32_719 : BitVec 32 := 56#32
  let v1122 : BitVec 32 := Scalar.addi v2 c56_i32_719
  let c128_i32_720 : BitVec 32 := 128#32
  let v1125 : BitVec 32 := Scalar.muli v1124 c128_i32_720
  ![v1122.toNat, v1125.toNat]

def k1_off153 (i : grid1.Coords) (v1134 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c56_i32_726 : BitVec 32 := 56#32
  let v1132 : BitVec 32 := Scalar.addi v2 c56_i32_726
  let c128_i32_727 : BitVec 32 := 128#32
  let v1135 : BitVec 32 := Scalar.muli v1134 c128_i32_727
  ![v1132.toNat, v1135.toNat]

def k1_off154 (i : grid1.Coords) (v1144 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c56_i32_733 : BitVec 32 := 56#32
  let v1142 : BitVec 32 := Scalar.addi v2 c56_i32_733
  let c128_i32_734 : BitVec 32 := 128#32
  let v1145 : BitVec 32 := Scalar.muli v1144 c128_i32_734
  ![v1142.toNat, v1145.toNat]

def k1_off155 (i : grid1.Coords) (v1154 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c56_i32_740 : BitVec 32 := 56#32
  let v1152 : BitVec 32 := Scalar.addi v2 c56_i32_740
  let c128_i32_741 : BitVec 32 := 128#32
  let v1155 : BitVec 32 := Scalar.muli v1154 c128_i32_741
  ![v1152.toNat, v1155.toNat]

def k1_off156 (i : grid1.Coords) (v1164 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c56_i32_747 : BitVec 32 := 56#32
  let v1162 : BitVec 32 := Scalar.addi v2 c56_i32_747
  let c128_i32_748 : BitVec 32 := 128#32
  let v1165 : BitVec 32 := Scalar.muli v1164 c128_i32_748
  ![v1162.toNat, v1165.toNat]

def k1_off157 (i : grid1.Coords) (v1174 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c56_i32_754 : BitVec 32 := 56#32
  let v1172 : BitVec 32 := Scalar.addi v2 c56_i32_754
  let c128_i32_755 : BitVec 32 := 128#32
  let v1175 : BitVec 32 := Scalar.muli v1174 c128_i32_755
  ![v1172.toNat, v1175.toNat]

def k1_off158 (i : grid1.Coords) (v1184 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c56_i32_761 : BitVec 32 := 56#32
  let v1182 : BitVec 32 := Scalar.addi v2 c56_i32_761
  let c128_i32_762 : BitVec 32 := 128#32
  let v1185 : BitVec 32 := Scalar.muli v1184 c128_i32_762
  ![v1182.toNat, v1185.toNat]

def k1_chk112 (i : grid1.Coords) (v1184 : BitVec 32) : Prop :=
  (∀ a, (k1_off158 i v1184) a + S8x128.size a ≤ S4096x32000.size a)
theorem k1_off158_inb : ∀ (i : grid1.Coords) (v1184 : BitVec 32) (k1_hw112 : k1_chk112 i v1184), ∀ a, (k1_off158 i v1184) a + S8x128.size a ≤ S4096x32000.size a := fun i v1184 k1_hw112 => k1_hw112

def k1_off159 (i : grid1.Coords) (v1034 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c48_i32 : BitVec 32 := 48#32
  let v1032 : BitVec 32 := Scalar.addi v2 c48_i32
  let c128_i32_658 : BitVec 32 := 128#32
  let v1035 : BitVec 32 := Scalar.muli v1034 c128_i32_658
  ![v1032.toNat, v1035.toNat]

def k1_chk97 (i : grid1.Coords) (v1034 : BitVec 32) : Prop :=
  (∀ a, (k1_off143 i v1034) a + S8x128.size a ≤ S4096x32000.size a) ∧
  (∀ a, (k1_off159 i v1034) a + S8x128.size a ≤ S4096x32000.size a)
theorem k1_off143_inb : ∀ (i : grid1.Coords) (v1034 : BitVec 32) (k1_hw97 : k1_chk97 i v1034), ∀ a, (k1_off143 i v1034) a + S8x128.size a ≤ S4096x32000.size a := fun i v1034 k1_hw97 => k1_hw97.1
theorem k1_off159_inb : ∀ (i : grid1.Coords) (v1034 : BitVec 32) (k1_hw97 : k1_chk97 i v1034), ∀ a, (k1_off159 i v1034) a + S8x128.size a ≤ S4096x32000.size a := fun i v1034 k1_hw97 => k1_hw97.2

def k1_off160 (i : grid1.Coords) (v1044 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c48_i32_664 : BitVec 32 := 48#32
  let v1042 : BitVec 32 := Scalar.addi v2 c48_i32_664
  let c128_i32_665 : BitVec 32 := 128#32
  let v1045 : BitVec 32 := Scalar.muli v1044 c128_i32_665
  ![v1042.toNat, v1045.toNat]

def k1_chk98 (i : grid1.Coords) (v1044 : BitVec 32) : Prop :=
  (∀ a, (k1_off144 i v1044) a + S8x128.size a ≤ S4096x32000.size a) ∧
  (∀ a, (k1_off160 i v1044) a + S8x128.size a ≤ S4096x32000.size a)
theorem k1_off144_inb : ∀ (i : grid1.Coords) (v1044 : BitVec 32) (k1_hw98 : k1_chk98 i v1044), ∀ a, (k1_off144 i v1044) a + S8x128.size a ≤ S4096x32000.size a := fun i v1044 k1_hw98 => k1_hw98.1
theorem k1_off160_inb : ∀ (i : grid1.Coords) (v1044 : BitVec 32) (k1_hw98 : k1_chk98 i v1044), ∀ a, (k1_off160 i v1044) a + S8x128.size a ≤ S4096x32000.size a := fun i v1044 k1_hw98 => k1_hw98.2

def k1_off161 (i : grid1.Coords) (v1054 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c48_i32_671 : BitVec 32 := 48#32
  let v1052 : BitVec 32 := Scalar.addi v2 c48_i32_671
  let c128_i32_672 : BitVec 32 := 128#32
  let v1055 : BitVec 32 := Scalar.muli v1054 c128_i32_672
  ![v1052.toNat, v1055.toNat]

def k1_chk99 (i : grid1.Coords) (v1054 : BitVec 32) : Prop :=
  (∀ a, (k1_off145 i v1054) a + S8x128.size a ≤ S4096x32000.size a) ∧
  (∀ a, (k1_off161 i v1054) a + S8x128.size a ≤ S4096x32000.size a)
theorem k1_off145_inb : ∀ (i : grid1.Coords) (v1054 : BitVec 32) (k1_hw99 : k1_chk99 i v1054), ∀ a, (k1_off145 i v1054) a + S8x128.size a ≤ S4096x32000.size a := fun i v1054 k1_hw99 => k1_hw99.1
theorem k1_off161_inb : ∀ (i : grid1.Coords) (v1054 : BitVec 32) (k1_hw99 : k1_chk99 i v1054), ∀ a, (k1_off161 i v1054) a + S8x128.size a ≤ S4096x32000.size a := fun i v1054 k1_hw99 => k1_hw99.2

def k1_off162 (i : grid1.Coords) (v1064 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c48_i32_678 : BitVec 32 := 48#32
  let v1062 : BitVec 32 := Scalar.addi v2 c48_i32_678
  let c128_i32_679 : BitVec 32 := 128#32
  let v1065 : BitVec 32 := Scalar.muli v1064 c128_i32_679
  ![v1062.toNat, v1065.toNat]

def k1_chk100 (i : grid1.Coords) (v1064 : BitVec 32) : Prop :=
  (∀ a, (k1_off146 i v1064) a + S8x128.size a ≤ S4096x32000.size a) ∧
  (∀ a, (k1_off162 i v1064) a + S8x128.size a ≤ S4096x32000.size a)
theorem k1_off146_inb : ∀ (i : grid1.Coords) (v1064 : BitVec 32) (k1_hw100 : k1_chk100 i v1064), ∀ a, (k1_off146 i v1064) a + S8x128.size a ≤ S4096x32000.size a := fun i v1064 k1_hw100 => k1_hw100.1
theorem k1_off162_inb : ∀ (i : grid1.Coords) (v1064 : BitVec 32) (k1_hw100 : k1_chk100 i v1064), ∀ a, (k1_off162 i v1064) a + S8x128.size a ≤ S4096x32000.size a := fun i v1064 k1_hw100 => k1_hw100.2

def k1_off163 (i : grid1.Coords) (v1074 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c48_i32_685 : BitVec 32 := 48#32
  let v1072 : BitVec 32 := Scalar.addi v2 c48_i32_685
  let c128_i32_686 : BitVec 32 := 128#32
  let v1075 : BitVec 32 := Scalar.muli v1074 c128_i32_686
  ![v1072.toNat, v1075.toNat]

def k1_chk101 (i : grid1.Coords) (v1074 : BitVec 32) : Prop :=
  (∀ a, (k1_off147 i v1074) a + S8x128.size a ≤ S4096x32000.size a) ∧
  (∀ a, (k1_off163 i v1074) a + S8x128.size a ≤ S4096x32000.size a)
theorem k1_off147_inb : ∀ (i : grid1.Coords) (v1074 : BitVec 32) (k1_hw101 : k1_chk101 i v1074), ∀ a, (k1_off147 i v1074) a + S8x128.size a ≤ S4096x32000.size a := fun i v1074 k1_hw101 => k1_hw101.1
theorem k1_off163_inb : ∀ (i : grid1.Coords) (v1074 : BitVec 32) (k1_hw101 : k1_chk101 i v1074), ∀ a, (k1_off163 i v1074) a + S8x128.size a ≤ S4096x32000.size a := fun i v1074 k1_hw101 => k1_hw101.2

def k1_off164 (i : grid1.Coords) (v1084 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c48_i32_692 : BitVec 32 := 48#32
  let v1082 : BitVec 32 := Scalar.addi v2 c48_i32_692
  let c128_i32_693 : BitVec 32 := 128#32
  let v1085 : BitVec 32 := Scalar.muli v1084 c128_i32_693
  ![v1082.toNat, v1085.toNat]

def k1_chk102 (i : grid1.Coords) (v1084 : BitVec 32) : Prop :=
  (∀ a, (k1_off148 i v1084) a + S8x128.size a ≤ S4096x32000.size a) ∧
  (∀ a, (k1_off164 i v1084) a + S8x128.size a ≤ S4096x32000.size a)
theorem k1_off148_inb : ∀ (i : grid1.Coords) (v1084 : BitVec 32) (k1_hw102 : k1_chk102 i v1084), ∀ a, (k1_off148 i v1084) a + S8x128.size a ≤ S4096x32000.size a := fun i v1084 k1_hw102 => k1_hw102.1
theorem k1_off164_inb : ∀ (i : grid1.Coords) (v1084 : BitVec 32) (k1_hw102 : k1_chk102 i v1084), ∀ a, (k1_off164 i v1084) a + S8x128.size a ≤ S4096x32000.size a := fun i v1084 k1_hw102 => k1_hw102.2

def k1_off165 (i : grid1.Coords) (v1094 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c48_i32_699 : BitVec 32 := 48#32
  let v1092 : BitVec 32 := Scalar.addi v2 c48_i32_699
  let c128_i32_700 : BitVec 32 := 128#32
  let v1095 : BitVec 32 := Scalar.muli v1094 c128_i32_700
  ![v1092.toNat, v1095.toNat]

def k1_chk103 (i : grid1.Coords) (v1094 : BitVec 32) : Prop :=
  (∀ a, (k1_off149 i v1094) a + S8x128.size a ≤ S4096x32000.size a) ∧
  (∀ a, (k1_off165 i v1094) a + S8x128.size a ≤ S4096x32000.size a)
theorem k1_off149_inb : ∀ (i : grid1.Coords) (v1094 : BitVec 32) (k1_hw103 : k1_chk103 i v1094), ∀ a, (k1_off149 i v1094) a + S8x128.size a ≤ S4096x32000.size a := fun i v1094 k1_hw103 => k1_hw103.1
theorem k1_off165_inb : ∀ (i : grid1.Coords) (v1094 : BitVec 32) (k1_hw103 : k1_chk103 i v1094), ∀ a, (k1_off165 i v1094) a + S8x128.size a ≤ S4096x32000.size a := fun i v1094 k1_hw103 => k1_hw103.2

def k1_off166 (i : grid1.Coords) (v1104 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c48_i32_706 : BitVec 32 := 48#32
  let v1102 : BitVec 32 := Scalar.addi v2 c48_i32_706
  let c128_i32_707 : BitVec 32 := 128#32
  let v1105 : BitVec 32 := Scalar.muli v1104 c128_i32_707
  ![v1102.toNat, v1105.toNat]

def k1_chk104 (i : grid1.Coords) (v1104 : BitVec 32) : Prop :=
  (∀ a, (k1_off150 i v1104) a + S8x128.size a ≤ S4096x32000.size a) ∧
  (∀ a, (k1_off166 i v1104) a + S8x128.size a ≤ S4096x32000.size a)
theorem k1_off150_inb : ∀ (i : grid1.Coords) (v1104 : BitVec 32) (k1_hw104 : k1_chk104 i v1104), ∀ a, (k1_off150 i v1104) a + S8x128.size a ≤ S4096x32000.size a := fun i v1104 k1_hw104 => k1_hw104.1
theorem k1_off166_inb : ∀ (i : grid1.Coords) (v1104 : BitVec 32) (k1_hw104 : k1_chk104 i v1104), ∀ a, (k1_off166 i v1104) a + S8x128.size a ≤ S4096x32000.size a := fun i v1104 k1_hw104 => k1_hw104.2

def k1_off167 (i : grid1.Coords) (v1114 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c56_i32 : BitVec 32 := 56#32
  let v1112 : BitVec 32 := Scalar.addi v2 c56_i32
  let c128_i32_713 : BitVec 32 := 128#32
  let v1115 : BitVec 32 := Scalar.muli v1114 c128_i32_713
  ![v1112.toNat, v1115.toNat]

def k1_chk105 (i : grid1.Coords) (v1114 : BitVec 32) : Prop :=
  (∀ a, (k1_off151 i v1114) a + S8x128.size a ≤ S4096x32000.size a) ∧
  (∀ a, (k1_off167 i v1114) a + S8x128.size a ≤ S4096x32000.size a)
theorem k1_off151_inb : ∀ (i : grid1.Coords) (v1114 : BitVec 32) (k1_hw105 : k1_chk105 i v1114), ∀ a, (k1_off151 i v1114) a + S8x128.size a ≤ S4096x32000.size a := fun i v1114 k1_hw105 => k1_hw105.1
theorem k1_off167_inb : ∀ (i : grid1.Coords) (v1114 : BitVec 32) (k1_hw105 : k1_chk105 i v1114), ∀ a, (k1_off167 i v1114) a + S8x128.size a ≤ S4096x32000.size a := fun i v1114 k1_hw105 => k1_hw105.2

def k1_off168 (i : grid1.Coords) (v1124 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c56_i32_719 : BitVec 32 := 56#32
  let v1122 : BitVec 32 := Scalar.addi v2 c56_i32_719
  let c128_i32_720 : BitVec 32 := 128#32
  let v1125 : BitVec 32 := Scalar.muli v1124 c128_i32_720
  ![v1122.toNat, v1125.toNat]

def k1_chk106 (i : grid1.Coords) (v1124 : BitVec 32) : Prop :=
  (∀ a, (k1_off152 i v1124) a + S8x128.size a ≤ S4096x32000.size a) ∧
  (∀ a, (k1_off168 i v1124) a + S8x128.size a ≤ S4096x32000.size a)
theorem k1_off152_inb : ∀ (i : grid1.Coords) (v1124 : BitVec 32) (k1_hw106 : k1_chk106 i v1124), ∀ a, (k1_off152 i v1124) a + S8x128.size a ≤ S4096x32000.size a := fun i v1124 k1_hw106 => k1_hw106.1
theorem k1_off168_inb : ∀ (i : grid1.Coords) (v1124 : BitVec 32) (k1_hw106 : k1_chk106 i v1124), ∀ a, (k1_off168 i v1124) a + S8x128.size a ≤ S4096x32000.size a := fun i v1124 k1_hw106 => k1_hw106.2

def k1_off169 (i : grid1.Coords) (v1134 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c56_i32_726 : BitVec 32 := 56#32
  let v1132 : BitVec 32 := Scalar.addi v2 c56_i32_726
  let c128_i32_727 : BitVec 32 := 128#32
  let v1135 : BitVec 32 := Scalar.muli v1134 c128_i32_727
  ![v1132.toNat, v1135.toNat]

def k1_chk107 (i : grid1.Coords) (v1134 : BitVec 32) : Prop :=
  (∀ a, (k1_off153 i v1134) a + S8x128.size a ≤ S4096x32000.size a) ∧
  (∀ a, (k1_off169 i v1134) a + S8x128.size a ≤ S4096x32000.size a)
theorem k1_off153_inb : ∀ (i : grid1.Coords) (v1134 : BitVec 32) (k1_hw107 : k1_chk107 i v1134), ∀ a, (k1_off153 i v1134) a + S8x128.size a ≤ S4096x32000.size a := fun i v1134 k1_hw107 => k1_hw107.1
theorem k1_off169_inb : ∀ (i : grid1.Coords) (v1134 : BitVec 32) (k1_hw107 : k1_chk107 i v1134), ∀ a, (k1_off169 i v1134) a + S8x128.size a ≤ S4096x32000.size a := fun i v1134 k1_hw107 => k1_hw107.2

def k1_off170 (i : grid1.Coords) (v1144 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c56_i32_733 : BitVec 32 := 56#32
  let v1142 : BitVec 32 := Scalar.addi v2 c56_i32_733
  let c128_i32_734 : BitVec 32 := 128#32
  let v1145 : BitVec 32 := Scalar.muli v1144 c128_i32_734
  ![v1142.toNat, v1145.toNat]

def k1_chk108 (i : grid1.Coords) (v1144 : BitVec 32) : Prop :=
  (∀ a, (k1_off154 i v1144) a + S8x128.size a ≤ S4096x32000.size a) ∧
  (∀ a, (k1_off170 i v1144) a + S8x128.size a ≤ S4096x32000.size a)
theorem k1_off154_inb : ∀ (i : grid1.Coords) (v1144 : BitVec 32) (k1_hw108 : k1_chk108 i v1144), ∀ a, (k1_off154 i v1144) a + S8x128.size a ≤ S4096x32000.size a := fun i v1144 k1_hw108 => k1_hw108.1
theorem k1_off170_inb : ∀ (i : grid1.Coords) (v1144 : BitVec 32) (k1_hw108 : k1_chk108 i v1144), ∀ a, (k1_off170 i v1144) a + S8x128.size a ≤ S4096x32000.size a := fun i v1144 k1_hw108 => k1_hw108.2

def k1_off171 (i : grid1.Coords) (v1154 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c56_i32_740 : BitVec 32 := 56#32
  let v1152 : BitVec 32 := Scalar.addi v2 c56_i32_740
  let c128_i32_741 : BitVec 32 := 128#32
  let v1155 : BitVec 32 := Scalar.muli v1154 c128_i32_741
  ![v1152.toNat, v1155.toNat]

def k1_chk109 (i : grid1.Coords) (v1154 : BitVec 32) : Prop :=
  (∀ a, (k1_off155 i v1154) a + S8x128.size a ≤ S4096x32000.size a) ∧
  (∀ a, (k1_off171 i v1154) a + S8x128.size a ≤ S4096x32000.size a)
theorem k1_off155_inb : ∀ (i : grid1.Coords) (v1154 : BitVec 32) (k1_hw109 : k1_chk109 i v1154), ∀ a, (k1_off155 i v1154) a + S8x128.size a ≤ S4096x32000.size a := fun i v1154 k1_hw109 => k1_hw109.1
theorem k1_off171_inb : ∀ (i : grid1.Coords) (v1154 : BitVec 32) (k1_hw109 : k1_chk109 i v1154), ∀ a, (k1_off171 i v1154) a + S8x128.size a ≤ S4096x32000.size a := fun i v1154 k1_hw109 => k1_hw109.2

def k1_off172 (i : grid1.Coords) (v1164 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c56_i32_747 : BitVec 32 := 56#32
  let v1162 : BitVec 32 := Scalar.addi v2 c56_i32_747
  let c128_i32_748 : BitVec 32 := 128#32
  let v1165 : BitVec 32 := Scalar.muli v1164 c128_i32_748
  ![v1162.toNat, v1165.toNat]

def k1_chk110 (i : grid1.Coords) (v1164 : BitVec 32) : Prop :=
  (∀ a, (k1_off156 i v1164) a + S8x128.size a ≤ S4096x32000.size a) ∧
  (∀ a, (k1_off172 i v1164) a + S8x128.size a ≤ S4096x32000.size a)
theorem k1_off156_inb : ∀ (i : grid1.Coords) (v1164 : BitVec 32) (k1_hw110 : k1_chk110 i v1164), ∀ a, (k1_off156 i v1164) a + S8x128.size a ≤ S4096x32000.size a := fun i v1164 k1_hw110 => k1_hw110.1
theorem k1_off172_inb : ∀ (i : grid1.Coords) (v1164 : BitVec 32) (k1_hw110 : k1_chk110 i v1164), ∀ a, (k1_off172 i v1164) a + S8x128.size a ≤ S4096x32000.size a := fun i v1164 k1_hw110 => k1_hw110.2

def k1_off173 (i : grid1.Coords) (v1174 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c56_i32_754 : BitVec 32 := 56#32
  let v1172 : BitVec 32 := Scalar.addi v2 c56_i32_754
  let c128_i32_755 : BitVec 32 := 128#32
  let v1175 : BitVec 32 := Scalar.muli v1174 c128_i32_755
  ![v1172.toNat, v1175.toNat]

def k1_chk111 (i : grid1.Coords) (v1174 : BitVec 32) : Prop :=
  (∀ a, (k1_off157 i v1174) a + S8x128.size a ≤ S4096x32000.size a) ∧
  (∀ a, (k1_off173 i v1174) a + S8x128.size a ≤ S4096x32000.size a)
theorem k1_off157_inb : ∀ (i : grid1.Coords) (v1174 : BitVec 32) (k1_hw111 : k1_chk111 i v1174), ∀ a, (k1_off157 i v1174) a + S8x128.size a ≤ S4096x32000.size a := fun i v1174 k1_hw111 => k1_hw111.1
theorem k1_off173_inb : ∀ (i : grid1.Coords) (v1174 : BitVec 32) (k1_hw111 : k1_chk111 i v1174), ∀ a, (k1_off173 i v1174) a + S8x128.size a ≤ S4096x32000.size a := fun i v1174 k1_hw111 => k1_hw111.2

def k1_off174 (v1289 : BitVec 32) : Fin 3 → Nat :=
  let c0_i32_1778 : BitVec 32 := 0#32
  let v2738 : Index := Scalar.indexCast c0_i32_1778
  let c0_i32_1779 : BitVec 32 := 0#32
  let v2739 : Index := Scalar.indexCast c0_i32_1779
  let c4_i32_1775 : BitVec 32 := 4#32
  let v2735 : BitVec 32 := Scalar.shrsi v1289 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![0, 0, v2740.toNat]
def k1_cond49 (v1289 : BitVec 32) : BitVec 1 :=
  let c0_i32_848 : BitVec 32 := 0#32
  let v1290 : BitVec 1 := Scalar.cmpi .ne v1289 c0_i32_848
  let v1291 : BitVec 32 := Scalar.extui v1290
  let c0_i32_849 : BitVec 32 := 0#32
  let v1292 : BitVec 1 := Scalar.cmpi .ne v1291 c0_i32_849
  v1292

def k1_chk113 (v1289 : BitVec 32) : Prop :=
  (∀ (k1_h49 : k1_cond49 v1289 = 1#1), ∀ a, (k1_off174 v1289) a + S1x1x16.size a ≤ S16x8x128.size a)
theorem k1_off174_inb : ∀ (v1289 : BitVec 32) (k1_hw113 : k1_chk113 v1289), ∀ (k1_h49 : k1_cond49 v1289 = 1#1), ∀ a, (k1_off174 v1289) a + S1x1x16.size a ≤ S16x8x128.size a := fun v1289 k1_hw113 k1_h49 => k1_hw113 k1_h49

def k1_off175 (v1294 : BitVec 32) : Fin 3 → Nat :=
  let c1_i32_1778 : BitVec 32 := 1#32
  let v2738 : Index := Scalar.indexCast c1_i32_1778
  let c1_i32_1779 : BitVec 32 := 1#32
  let v2739 : Index := Scalar.indexCast c1_i32_1779
  let c4_i32_1775 : BitVec 32 := 4#32
  let v2735 : BitVec 32 := Scalar.shrsi v1294 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![1, 1, v2740.toNat]
def k1_cond50 (v1294 : BitVec 32) : BitVec 1 :=
  let c0_i32_850 : BitVec 32 := 0#32
  let v1295 : BitVec 1 := Scalar.cmpi .ne v1294 c0_i32_850
  let v1296 : BitVec 32 := Scalar.extui v1295
  let c0_i32_851 : BitVec 32 := 0#32
  let v1297 : BitVec 1 := Scalar.cmpi .ne v1296 c0_i32_851
  v1297

def k1_chk114 (v1294 : BitVec 32) : Prop :=
  (∀ (k1_h50 : k1_cond50 v1294 = 1#1), ∀ a, (k1_off175 v1294) a + S1x1x16.size a ≤ S16x8x128.size a)
theorem k1_off175_inb : ∀ (v1294 : BitVec 32) (k1_hw114 : k1_chk114 v1294), ∀ (k1_h50 : k1_cond50 v1294 = 1#1), ∀ a, (k1_off175 v1294) a + S1x1x16.size a ≤ S16x8x128.size a := fun v1294 k1_hw114 k1_h50 => k1_hw114 k1_h50

def k1_off176 (v1299 : BitVec 32) : Fin 3 → Nat :=
  let c2_i32_1778 : BitVec 32 := 2#32
  let v2738 : Index := Scalar.indexCast c2_i32_1778
  let c2_i32_1779 : BitVec 32 := 2#32
  let v2739 : Index := Scalar.indexCast c2_i32_1779
  let c4_i32_1775 : BitVec 32 := 4#32
  let v2735 : BitVec 32 := Scalar.shrsi v1299 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![2, 2, v2740.toNat]
def k1_cond51 (v1299 : BitVec 32) : BitVec 1 :=
  let c0_i32_852 : BitVec 32 := 0#32
  let v1300 : BitVec 1 := Scalar.cmpi .ne v1299 c0_i32_852
  let v1301 : BitVec 32 := Scalar.extui v1300
  let c0_i32_853 : BitVec 32 := 0#32
  let v1302 : BitVec 1 := Scalar.cmpi .ne v1301 c0_i32_853
  v1302

def k1_chk115 (v1299 : BitVec 32) : Prop :=
  (∀ (k1_h51 : k1_cond51 v1299 = 1#1), ∀ a, (k1_off176 v1299) a + S1x1x16.size a ≤ S16x8x128.size a)
theorem k1_off176_inb : ∀ (v1299 : BitVec 32) (k1_hw115 : k1_chk115 v1299), ∀ (k1_h51 : k1_cond51 v1299 = 1#1), ∀ a, (k1_off176 v1299) a + S1x1x16.size a ≤ S16x8x128.size a := fun v1299 k1_hw115 k1_h51 => k1_hw115 k1_h51

def k1_off177 (v1304 : BitVec 32) : Fin 3 → Nat :=
  let c3_i32_1778 : BitVec 32 := 3#32
  let v2738 : Index := Scalar.indexCast c3_i32_1778
  let c3_i32_1779 : BitVec 32 := 3#32
  let v2739 : Index := Scalar.indexCast c3_i32_1779
  let c4_i32_1775 : BitVec 32 := 4#32
  let v2735 : BitVec 32 := Scalar.shrsi v1304 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![3, 3, v2740.toNat]
def k1_cond52 (v1304 : BitVec 32) : BitVec 1 :=
  let c0_i32_854 : BitVec 32 := 0#32
  let v1305 : BitVec 1 := Scalar.cmpi .ne v1304 c0_i32_854
  let v1306 : BitVec 32 := Scalar.extui v1305
  let c0_i32_855 : BitVec 32 := 0#32
  let v1307 : BitVec 1 := Scalar.cmpi .ne v1306 c0_i32_855
  v1307

def k1_chk116 (v1304 : BitVec 32) : Prop :=
  (∀ (k1_h52 : k1_cond52 v1304 = 1#1), ∀ a, (k1_off177 v1304) a + S1x1x16.size a ≤ S16x8x128.size a)
theorem k1_off177_inb : ∀ (v1304 : BitVec 32) (k1_hw116 : k1_chk116 v1304), ∀ (k1_h52 : k1_cond52 v1304 = 1#1), ∀ a, (k1_off177 v1304) a + S1x1x16.size a ≤ S16x8x128.size a := fun v1304 k1_hw116 k1_h52 => k1_hw116 k1_h52

def k1_off178 (v1309 : BitVec 32) : Fin 3 → Nat :=
  let c4_i32_1778 : BitVec 32 := 4#32
  let v2738 : Index := Scalar.indexCast c4_i32_1778
  let c4_i32_1779 : BitVec 32 := 4#32
  let v2739 : Index := Scalar.indexCast c4_i32_1779
  let c4_i32_1775 : BitVec 32 := 4#32
  let v2735 : BitVec 32 := Scalar.shrsi v1309 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![4, 4, v2740.toNat]
def k1_cond53 (v1309 : BitVec 32) : BitVec 1 :=
  let c0_i32_856 : BitVec 32 := 0#32
  let v1310 : BitVec 1 := Scalar.cmpi .ne v1309 c0_i32_856
  let v1311 : BitVec 32 := Scalar.extui v1310
  let c0_i32_857 : BitVec 32 := 0#32
  let v1312 : BitVec 1 := Scalar.cmpi .ne v1311 c0_i32_857
  v1312

def k1_chk117 (v1309 : BitVec 32) : Prop :=
  (∀ (k1_h53 : k1_cond53 v1309 = 1#1), ∀ a, (k1_off178 v1309) a + S1x1x16.size a ≤ S16x8x128.size a)
theorem k1_off178_inb : ∀ (v1309 : BitVec 32) (k1_hw117 : k1_chk117 v1309), ∀ (k1_h53 : k1_cond53 v1309 = 1#1), ∀ a, (k1_off178 v1309) a + S1x1x16.size a ≤ S16x8x128.size a := fun v1309 k1_hw117 k1_h53 => k1_hw117 k1_h53

def k1_off179 (v1314 : BitVec 32) : Fin 3 → Nat :=
  let c5_i32_1778 : BitVec 32 := 5#32
  let v2738 : Index := Scalar.indexCast c5_i32_1778
  let c5_i32_1779 : BitVec 32 := 5#32
  let v2739 : Index := Scalar.indexCast c5_i32_1779
  let c4_i32_1775 : BitVec 32 := 4#32
  let v2735 : BitVec 32 := Scalar.shrsi v1314 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![5, 5, v2740.toNat]
def k1_cond54 (v1314 : BitVec 32) : BitVec 1 :=
  let c0_i32_858 : BitVec 32 := 0#32
  let v1315 : BitVec 1 := Scalar.cmpi .ne v1314 c0_i32_858
  let v1316 : BitVec 32 := Scalar.extui v1315
  let c0_i32_859 : BitVec 32 := 0#32
  let v1317 : BitVec 1 := Scalar.cmpi .ne v1316 c0_i32_859
  v1317

def k1_chk118 (v1314 : BitVec 32) : Prop :=
  (∀ (k1_h54 : k1_cond54 v1314 = 1#1), ∀ a, (k1_off179 v1314) a + S1x1x16.size a ≤ S16x8x128.size a)
theorem k1_off179_inb : ∀ (v1314 : BitVec 32) (k1_hw118 : k1_chk118 v1314), ∀ (k1_h54 : k1_cond54 v1314 = 1#1), ∀ a, (k1_off179 v1314) a + S1x1x16.size a ≤ S16x8x128.size a := fun v1314 k1_hw118 k1_h54 => k1_hw118 k1_h54

def k1_off180 (v1319 : BitVec 32) : Fin 3 → Nat :=
  let c6_i32_1778 : BitVec 32 := 6#32
  let v2738 : Index := Scalar.indexCast c6_i32_1778
  let c6_i32_1779 : BitVec 32 := 6#32
  let v2739 : Index := Scalar.indexCast c6_i32_1779
  let c4_i32_1775 : BitVec 32 := 4#32
  let v2735 : BitVec 32 := Scalar.shrsi v1319 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![6, 6, v2740.toNat]
def k1_cond55 (v1319 : BitVec 32) : BitVec 1 :=
  let c0_i32_860 : BitVec 32 := 0#32
  let v1320 : BitVec 1 := Scalar.cmpi .ne v1319 c0_i32_860
  let v1321 : BitVec 32 := Scalar.extui v1320
  let c0_i32_861 : BitVec 32 := 0#32
  let v1322 : BitVec 1 := Scalar.cmpi .ne v1321 c0_i32_861
  v1322

def k1_chk119 (v1319 : BitVec 32) : Prop :=
  (∀ (k1_h55 : k1_cond55 v1319 = 1#1), ∀ a, (k1_off180 v1319) a + S1x1x16.size a ≤ S16x8x128.size a)
theorem k1_off180_inb : ∀ (v1319 : BitVec 32) (k1_hw119 : k1_chk119 v1319), ∀ (k1_h55 : k1_cond55 v1319 = 1#1), ∀ a, (k1_off180 v1319) a + S1x1x16.size a ≤ S16x8x128.size a := fun v1319 k1_hw119 k1_h55 => k1_hw119 k1_h55

def k1_off181 (v1324 : BitVec 32) : Fin 3 → Nat :=
  let c7_i32_1778 : BitVec 32 := 7#32
  let v2738 : Index := Scalar.indexCast c7_i32_1778
  let c7_i32_1779 : BitVec 32 := 7#32
  let v2739 : Index := Scalar.indexCast c7_i32_1779
  let c4_i32_1775 : BitVec 32 := 4#32
  let v2735 : BitVec 32 := Scalar.shrsi v1324 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![7, 7, v2740.toNat]
def k1_cond56 (v1324 : BitVec 32) : BitVec 1 :=
  let c0_i32_862 : BitVec 32 := 0#32
  let v1325 : BitVec 1 := Scalar.cmpi .ne v1324 c0_i32_862
  let v1326 : BitVec 32 := Scalar.extui v1325
  let c0_i32_863 : BitVec 32 := 0#32
  let v1327 : BitVec 1 := Scalar.cmpi .ne v1326 c0_i32_863
  v1327

def k1_chk120 (v1324 : BitVec 32) : Prop :=
  (∀ (k1_h56 : k1_cond56 v1324 = 1#1), ∀ a, (k1_off181 v1324) a + S1x1x16.size a ≤ S16x8x128.size a)
theorem k1_off181_inb : ∀ (v1324 : BitVec 32) (k1_hw120 : k1_chk120 v1324), ∀ (k1_h56 : k1_cond56 v1324 = 1#1), ∀ a, (k1_off181 v1324) a + S1x1x16.size a ≤ S16x8x128.size a := fun v1324 k1_hw120 k1_h56 => k1_hw120 k1_h56

def k1_off182 (v1329 : BitVec 32) : Fin 3 → Nat :=
  let c8_i32_1778 : BitVec 32 := 8#32
  let v2738 : Index := Scalar.indexCast c8_i32_1778
  let c0_i32_1779 : BitVec 32 := 0#32
  let v2739 : Index := Scalar.indexCast c0_i32_1779
  let c4_i32_1775 : BitVec 32 := 4#32
  let v2735 : BitVec 32 := Scalar.shrsi v1329 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![8, 0, v2740.toNat]
def k1_cond57 (v1329 : BitVec 32) : BitVec 1 :=
  let c0_i32_864 : BitVec 32 := 0#32
  let v1330 : BitVec 1 := Scalar.cmpi .ne v1329 c0_i32_864
  let v1331 : BitVec 32 := Scalar.extui v1330
  let c0_i32_865 : BitVec 32 := 0#32
  let v1332 : BitVec 1 := Scalar.cmpi .ne v1331 c0_i32_865
  v1332

def k1_chk121 (v1329 : BitVec 32) : Prop :=
  (∀ (k1_h57 : k1_cond57 v1329 = 1#1), ∀ a, (k1_off182 v1329) a + S1x1x16.size a ≤ S16x8x128.size a)
theorem k1_off182_inb : ∀ (v1329 : BitVec 32) (k1_hw121 : k1_chk121 v1329), ∀ (k1_h57 : k1_cond57 v1329 = 1#1), ∀ a, (k1_off182 v1329) a + S1x1x16.size a ≤ S16x8x128.size a := fun v1329 k1_hw121 k1_h57 => k1_hw121 k1_h57

def k1_off183 (v1334 : BitVec 32) : Fin 3 → Nat :=
  let c9_i32_1778 : BitVec 32 := 9#32
  let v2738 : Index := Scalar.indexCast c9_i32_1778
  let c1_i32_1779 : BitVec 32 := 1#32
  let v2739 : Index := Scalar.indexCast c1_i32_1779
  let c4_i32_1775 : BitVec 32 := 4#32
  let v2735 : BitVec 32 := Scalar.shrsi v1334 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![9, 1, v2740.toNat]
def k1_cond58 (v1334 : BitVec 32) : BitVec 1 :=
  let c0_i32_866 : BitVec 32 := 0#32
  let v1335 : BitVec 1 := Scalar.cmpi .ne v1334 c0_i32_866
  let v1336 : BitVec 32 := Scalar.extui v1335
  let c0_i32_867 : BitVec 32 := 0#32
  let v1337 : BitVec 1 := Scalar.cmpi .ne v1336 c0_i32_867
  v1337

def k1_chk122 (v1334 : BitVec 32) : Prop :=
  (∀ (k1_h58 : k1_cond58 v1334 = 1#1), ∀ a, (k1_off183 v1334) a + S1x1x16.size a ≤ S16x8x128.size a)
theorem k1_off183_inb : ∀ (v1334 : BitVec 32) (k1_hw122 : k1_chk122 v1334), ∀ (k1_h58 : k1_cond58 v1334 = 1#1), ∀ a, (k1_off183 v1334) a + S1x1x16.size a ≤ S16x8x128.size a := fun v1334 k1_hw122 k1_h58 => k1_hw122 k1_h58

def k1_off184 (v1339 : BitVec 32) : Fin 3 → Nat :=
  let c10_i32_1778 : BitVec 32 := 10#32
  let v2738 : Index := Scalar.indexCast c10_i32_1778
  let c2_i32_1779 : BitVec 32 := 2#32
  let v2739 : Index := Scalar.indexCast c2_i32_1779
  let c4_i32_1775 : BitVec 32 := 4#32
  let v2735 : BitVec 32 := Scalar.shrsi v1339 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![10, 2, v2740.toNat]
def k1_cond59 (v1339 : BitVec 32) : BitVec 1 :=
  let c0_i32_868 : BitVec 32 := 0#32
  let v1340 : BitVec 1 := Scalar.cmpi .ne v1339 c0_i32_868
  let v1341 : BitVec 32 := Scalar.extui v1340
  let c0_i32_869 : BitVec 32 := 0#32
  let v1342 : BitVec 1 := Scalar.cmpi .ne v1341 c0_i32_869
  v1342

def k1_chk123 (v1339 : BitVec 32) : Prop :=
  (∀ (k1_h59 : k1_cond59 v1339 = 1#1), ∀ a, (k1_off184 v1339) a + S1x1x16.size a ≤ S16x8x128.size a)
theorem k1_off184_inb : ∀ (v1339 : BitVec 32) (k1_hw123 : k1_chk123 v1339), ∀ (k1_h59 : k1_cond59 v1339 = 1#1), ∀ a, (k1_off184 v1339) a + S1x1x16.size a ≤ S16x8x128.size a := fun v1339 k1_hw123 k1_h59 => k1_hw123 k1_h59

def k1_off185 (v1344 : BitVec 32) : Fin 3 → Nat :=
  let c11_i32_1778 : BitVec 32 := 11#32
  let v2738 : Index := Scalar.indexCast c11_i32_1778
  let c3_i32_1779 : BitVec 32 := 3#32
  let v2739 : Index := Scalar.indexCast c3_i32_1779
  let c4_i32_1775 : BitVec 32 := 4#32
  let v2735 : BitVec 32 := Scalar.shrsi v1344 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![11, 3, v2740.toNat]
def k1_cond60 (v1344 : BitVec 32) : BitVec 1 :=
  let c0_i32_870 : BitVec 32 := 0#32
  let v1345 : BitVec 1 := Scalar.cmpi .ne v1344 c0_i32_870
  let v1346 : BitVec 32 := Scalar.extui v1345
  let c0_i32_871 : BitVec 32 := 0#32
  let v1347 : BitVec 1 := Scalar.cmpi .ne v1346 c0_i32_871
  v1347

def k1_chk124 (v1344 : BitVec 32) : Prop :=
  (∀ (k1_h60 : k1_cond60 v1344 = 1#1), ∀ a, (k1_off185 v1344) a + S1x1x16.size a ≤ S16x8x128.size a)
theorem k1_off185_inb : ∀ (v1344 : BitVec 32) (k1_hw124 : k1_chk124 v1344), ∀ (k1_h60 : k1_cond60 v1344 = 1#1), ∀ a, (k1_off185 v1344) a + S1x1x16.size a ≤ S16x8x128.size a := fun v1344 k1_hw124 k1_h60 => k1_hw124 k1_h60

def k1_off186 (v1349 : BitVec 32) : Fin 3 → Nat :=
  let c12_i32_1778 : BitVec 32 := 12#32
  let v2738 : Index := Scalar.indexCast c12_i32_1778
  let c4_i32_1779 : BitVec 32 := 4#32
  let v2739 : Index := Scalar.indexCast c4_i32_1779
  let c4_i32_1775 : BitVec 32 := 4#32
  let v2735 : BitVec 32 := Scalar.shrsi v1349 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![12, 4, v2740.toNat]
def k1_cond61 (v1349 : BitVec 32) : BitVec 1 :=
  let c0_i32_872 : BitVec 32 := 0#32
  let v1350 : BitVec 1 := Scalar.cmpi .ne v1349 c0_i32_872
  let v1351 : BitVec 32 := Scalar.extui v1350
  let c0_i32_873 : BitVec 32 := 0#32
  let v1352 : BitVec 1 := Scalar.cmpi .ne v1351 c0_i32_873
  v1352

def k1_chk125 (v1349 : BitVec 32) : Prop :=
  (∀ (k1_h61 : k1_cond61 v1349 = 1#1), ∀ a, (k1_off186 v1349) a + S1x1x16.size a ≤ S16x8x128.size a)
theorem k1_off186_inb : ∀ (v1349 : BitVec 32) (k1_hw125 : k1_chk125 v1349), ∀ (k1_h61 : k1_cond61 v1349 = 1#1), ∀ a, (k1_off186 v1349) a + S1x1x16.size a ≤ S16x8x128.size a := fun v1349 k1_hw125 k1_h61 => k1_hw125 k1_h61

def k1_off187 (v1354 : BitVec 32) : Fin 3 → Nat :=
  let c13_i32_1778 : BitVec 32 := 13#32
  let v2738 : Index := Scalar.indexCast c13_i32_1778
  let c5_i32_1779 : BitVec 32 := 5#32
  let v2739 : Index := Scalar.indexCast c5_i32_1779
  let c4_i32_1775 : BitVec 32 := 4#32
  let v2735 : BitVec 32 := Scalar.shrsi v1354 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![13, 5, v2740.toNat]
def k1_cond62 (v1354 : BitVec 32) : BitVec 1 :=
  let c0_i32_874 : BitVec 32 := 0#32
  let v1355 : BitVec 1 := Scalar.cmpi .ne v1354 c0_i32_874
  let v1356 : BitVec 32 := Scalar.extui v1355
  let c0_i32_875 : BitVec 32 := 0#32
  let v1357 : BitVec 1 := Scalar.cmpi .ne v1356 c0_i32_875
  v1357

def k1_chk126 (v1354 : BitVec 32) : Prop :=
  (∀ (k1_h62 : k1_cond62 v1354 = 1#1), ∀ a, (k1_off187 v1354) a + S1x1x16.size a ≤ S16x8x128.size a)
theorem k1_off187_inb : ∀ (v1354 : BitVec 32) (k1_hw126 : k1_chk126 v1354), ∀ (k1_h62 : k1_cond62 v1354 = 1#1), ∀ a, (k1_off187 v1354) a + S1x1x16.size a ≤ S16x8x128.size a := fun v1354 k1_hw126 k1_h62 => k1_hw126 k1_h62

def k1_off188 (v1359 : BitVec 32) : Fin 3 → Nat :=
  let c14_i32_1778 : BitVec 32 := 14#32
  let v2738 : Index := Scalar.indexCast c14_i32_1778
  let c6_i32_1779 : BitVec 32 := 6#32
  let v2739 : Index := Scalar.indexCast c6_i32_1779
  let c4_i32_1775 : BitVec 32 := 4#32
  let v2735 : BitVec 32 := Scalar.shrsi v1359 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![14, 6, v2740.toNat]
def k1_cond63 (v1359 : BitVec 32) : BitVec 1 :=
  let c0_i32_876 : BitVec 32 := 0#32
  let v1360 : BitVec 1 := Scalar.cmpi .ne v1359 c0_i32_876
  let v1361 : BitVec 32 := Scalar.extui v1360
  let c0_i32_877 : BitVec 32 := 0#32
  let v1362 : BitVec 1 := Scalar.cmpi .ne v1361 c0_i32_877
  v1362

def k1_chk127 (v1359 : BitVec 32) : Prop :=
  (∀ (k1_h63 : k1_cond63 v1359 = 1#1), ∀ a, (k1_off188 v1359) a + S1x1x16.size a ≤ S16x8x128.size a)
theorem k1_off188_inb : ∀ (v1359 : BitVec 32) (k1_hw127 : k1_chk127 v1359), ∀ (k1_h63 : k1_cond63 v1359 = 1#1), ∀ a, (k1_off188 v1359) a + S1x1x16.size a ≤ S16x8x128.size a := fun v1359 k1_hw127 k1_h63 => k1_hw127 k1_h63

def k1_off189 (v1364 : BitVec 32) : Fin 3 → Nat :=
  let c15_i32_1778 : BitVec 32 := 15#32
  let v2738 : Index := Scalar.indexCast c15_i32_1778
  let c7_i32_1779 : BitVec 32 := 7#32
  let v2739 : Index := Scalar.indexCast c7_i32_1779
  let c4_i32_1775 : BitVec 32 := 4#32
  let v2735 : BitVec 32 := Scalar.shrsi v1364 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![15, 7, v2740.toNat]
def k1_cond64 (v1364 : BitVec 32) : BitVec 1 :=
  let c0_i32_878 : BitVec 32 := 0#32
  let v1365 : BitVec 1 := Scalar.cmpi .ne v1364 c0_i32_878
  let v1366 : BitVec 32 := Scalar.extui v1365
  let c0_i32_879 : BitVec 32 := 0#32
  let v1367 : BitVec 1 := Scalar.cmpi .ne v1366 c0_i32_879
  v1367

def k1_chk128 (v1364 : BitVec 32) : Prop :=
  (∀ (k1_h64 : k1_cond64 v1364 = 1#1), ∀ a, (k1_off189 v1364) a + S1x1x16.size a ≤ S16x8x128.size a)
theorem k1_off189_inb : ∀ (v1364 : BitVec 32) (k1_hw128 : k1_chk128 v1364), ∀ (k1_h64 : k1_cond64 v1364 = 1#1), ∀ a, (k1_off189 v1364) a + S1x1x16.size a ≤ S16x8x128.size a := fun v1364 k1_hw128 k1_h64 => k1_hw128 k1_h64

def k1_off190 (i : grid1.Coords) (v1374 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32 : BitVec 32 := 64#32
  let v1372 : BitVec 32 := Scalar.addi v2 c64_i32
  let c128_i32_881 : BitVec 32 := 128#32
  let v1375 : BitVec 32 := Scalar.muli v1374 c128_i32_881
  ![v1372.toNat, v1375.toNat]

def k1_off191 (i : grid1.Coords) (v1384 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32_887 : BitVec 32 := 64#32
  let v1382 : BitVec 32 := Scalar.addi v2 c64_i32_887
  let c128_i32_888 : BitVec 32 := 128#32
  let v1385 : BitVec 32 := Scalar.muli v1384 c128_i32_888
  ![v1382.toNat, v1385.toNat]

def k1_off192 (i : grid1.Coords) (v1394 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32_894 : BitVec 32 := 64#32
  let v1392 : BitVec 32 := Scalar.addi v2 c64_i32_894
  let c128_i32_895 : BitVec 32 := 128#32
  let v1395 : BitVec 32 := Scalar.muli v1394 c128_i32_895
  ![v1392.toNat, v1395.toNat]

def k1_off193 (i : grid1.Coords) (v1404 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32_901 : BitVec 32 := 64#32
  let v1402 : BitVec 32 := Scalar.addi v2 c64_i32_901
  let c128_i32_902 : BitVec 32 := 128#32
  let v1405 : BitVec 32 := Scalar.muli v1404 c128_i32_902
  ![v1402.toNat, v1405.toNat]

def k1_off194 (i : grid1.Coords) (v1414 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32_908 : BitVec 32 := 64#32
  let v1412 : BitVec 32 := Scalar.addi v2 c64_i32_908
  let c128_i32_909 : BitVec 32 := 128#32
  let v1415 : BitVec 32 := Scalar.muli v1414 c128_i32_909
  ![v1412.toNat, v1415.toNat]

def k1_off195 (i : grid1.Coords) (v1424 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32_915 : BitVec 32 := 64#32
  let v1422 : BitVec 32 := Scalar.addi v2 c64_i32_915
  let c128_i32_916 : BitVec 32 := 128#32
  let v1425 : BitVec 32 := Scalar.muli v1424 c128_i32_916
  ![v1422.toNat, v1425.toNat]

def k1_off196 (i : grid1.Coords) (v1434 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32_922 : BitVec 32 := 64#32
  let v1432 : BitVec 32 := Scalar.addi v2 c64_i32_922
  let c128_i32_923 : BitVec 32 := 128#32
  let v1435 : BitVec 32 := Scalar.muli v1434 c128_i32_923
  ![v1432.toNat, v1435.toNat]

def k1_off197 (i : grid1.Coords) (v1444 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32_929 : BitVec 32 := 64#32
  let v1442 : BitVec 32 := Scalar.addi v2 c64_i32_929
  let c128_i32_930 : BitVec 32 := 128#32
  let v1445 : BitVec 32 := Scalar.muli v1444 c128_i32_930
  ![v1442.toNat, v1445.toNat]

def k1_off198 (i : grid1.Coords) (v1454 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c72_i32 : BitVec 32 := 72#32
  let v1452 : BitVec 32 := Scalar.addi v2 c72_i32
  let c128_i32_936 : BitVec 32 := 128#32
  let v1455 : BitVec 32 := Scalar.muli v1454 c128_i32_936
  ![v1452.toNat, v1455.toNat]

def k1_off199 (i : grid1.Coords) (v1464 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c72_i32_942 : BitVec 32 := 72#32
  let v1462 : BitVec 32 := Scalar.addi v2 c72_i32_942
  let c128_i32_943 : BitVec 32 := 128#32
  let v1465 : BitVec 32 := Scalar.muli v1464 c128_i32_943
  ![v1462.toNat, v1465.toNat]

def k1_off200 (i : grid1.Coords) (v1474 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c72_i32_949 : BitVec 32 := 72#32
  let v1472 : BitVec 32 := Scalar.addi v2 c72_i32_949
  let c128_i32_950 : BitVec 32 := 128#32
  let v1475 : BitVec 32 := Scalar.muli v1474 c128_i32_950
  ![v1472.toNat, v1475.toNat]

def k1_off201 (i : grid1.Coords) (v1484 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c72_i32_956 : BitVec 32 := 72#32
  let v1482 : BitVec 32 := Scalar.addi v2 c72_i32_956
  let c128_i32_957 : BitVec 32 := 128#32
  let v1485 : BitVec 32 := Scalar.muli v1484 c128_i32_957
  ![v1482.toNat, v1485.toNat]

def k1_off202 (i : grid1.Coords) (v1494 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c72_i32_963 : BitVec 32 := 72#32
  let v1492 : BitVec 32 := Scalar.addi v2 c72_i32_963
  let c128_i32_964 : BitVec 32 := 128#32
  let v1495 : BitVec 32 := Scalar.muli v1494 c128_i32_964
  ![v1492.toNat, v1495.toNat]

def k1_off203 (i : grid1.Coords) (v1504 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c72_i32_970 : BitVec 32 := 72#32
  let v1502 : BitVec 32 := Scalar.addi v2 c72_i32_970
  let c128_i32_971 : BitVec 32 := 128#32
  let v1505 : BitVec 32 := Scalar.muli v1504 c128_i32_971
  ![v1502.toNat, v1505.toNat]

def k1_off204 (i : grid1.Coords) (v1514 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c72_i32_977 : BitVec 32 := 72#32
  let v1512 : BitVec 32 := Scalar.addi v2 c72_i32_977
  let c128_i32_978 : BitVec 32 := 128#32
  let v1515 : BitVec 32 := Scalar.muli v1514 c128_i32_978
  ![v1512.toNat, v1515.toNat]

def k1_off205 (i : grid1.Coords) (v1524 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c72_i32_984 : BitVec 32 := 72#32
  let v1522 : BitVec 32 := Scalar.addi v2 c72_i32_984
  let c128_i32_985 : BitVec 32 := 128#32
  let v1525 : BitVec 32 := Scalar.muli v1524 c128_i32_985
  ![v1522.toNat, v1525.toNat]

def k1_chk144 (i : grid1.Coords) (v1524 : BitVec 32) : Prop :=
  (∀ a, (k1_off205 i v1524) a + S8x128.size a ≤ S4096x32000.size a)
theorem k1_off205_inb : ∀ (i : grid1.Coords) (v1524 : BitVec 32) (k1_hw144 : k1_chk144 i v1524), ∀ a, (k1_off205 i v1524) a + S8x128.size a ≤ S4096x32000.size a := fun i v1524 k1_hw144 => k1_hw144

def k1_off206 (i : grid1.Coords) (v1374 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32 : BitVec 32 := 64#32
  let v1372 : BitVec 32 := Scalar.addi v2 c64_i32
  let c128_i32_881 : BitVec 32 := 128#32
  let v1375 : BitVec 32 := Scalar.muli v1374 c128_i32_881
  ![v1372.toNat, v1375.toNat]

def k1_chk129 (i : grid1.Coords) (v1374 : BitVec 32) : Prop :=
  (∀ a, (k1_off190 i v1374) a + S8x128.size a ≤ S4096x32000.size a) ∧
  (∀ a, (k1_off206 i v1374) a + S8x128.size a ≤ S4096x32000.size a)
theorem k1_off190_inb : ∀ (i : grid1.Coords) (v1374 : BitVec 32) (k1_hw129 : k1_chk129 i v1374), ∀ a, (k1_off190 i v1374) a + S8x128.size a ≤ S4096x32000.size a := fun i v1374 k1_hw129 => k1_hw129.1
theorem k1_off206_inb : ∀ (i : grid1.Coords) (v1374 : BitVec 32) (k1_hw129 : k1_chk129 i v1374), ∀ a, (k1_off206 i v1374) a + S8x128.size a ≤ S4096x32000.size a := fun i v1374 k1_hw129 => k1_hw129.2

def k1_off207 (i : grid1.Coords) (v1384 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32_887 : BitVec 32 := 64#32
  let v1382 : BitVec 32 := Scalar.addi v2 c64_i32_887
  let c128_i32_888 : BitVec 32 := 128#32
  let v1385 : BitVec 32 := Scalar.muli v1384 c128_i32_888
  ![v1382.toNat, v1385.toNat]

def k1_chk130 (i : grid1.Coords) (v1384 : BitVec 32) : Prop :=
  (∀ a, (k1_off191 i v1384) a + S8x128.size a ≤ S4096x32000.size a) ∧
  (∀ a, (k1_off207 i v1384) a + S8x128.size a ≤ S4096x32000.size a)
theorem k1_off191_inb : ∀ (i : grid1.Coords) (v1384 : BitVec 32) (k1_hw130 : k1_chk130 i v1384), ∀ a, (k1_off191 i v1384) a + S8x128.size a ≤ S4096x32000.size a := fun i v1384 k1_hw130 => k1_hw130.1
theorem k1_off207_inb : ∀ (i : grid1.Coords) (v1384 : BitVec 32) (k1_hw130 : k1_chk130 i v1384), ∀ a, (k1_off207 i v1384) a + S8x128.size a ≤ S4096x32000.size a := fun i v1384 k1_hw130 => k1_hw130.2

def k1_off208 (i : grid1.Coords) (v1394 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32_894 : BitVec 32 := 64#32
  let v1392 : BitVec 32 := Scalar.addi v2 c64_i32_894
  let c128_i32_895 : BitVec 32 := 128#32
  let v1395 : BitVec 32 := Scalar.muli v1394 c128_i32_895
  ![v1392.toNat, v1395.toNat]

def k1_chk131 (i : grid1.Coords) (v1394 : BitVec 32) : Prop :=
  (∀ a, (k1_off192 i v1394) a + S8x128.size a ≤ S4096x32000.size a) ∧
  (∀ a, (k1_off208 i v1394) a + S8x128.size a ≤ S4096x32000.size a)
theorem k1_off192_inb : ∀ (i : grid1.Coords) (v1394 : BitVec 32) (k1_hw131 : k1_chk131 i v1394), ∀ a, (k1_off192 i v1394) a + S8x128.size a ≤ S4096x32000.size a := fun i v1394 k1_hw131 => k1_hw131.1
theorem k1_off208_inb : ∀ (i : grid1.Coords) (v1394 : BitVec 32) (k1_hw131 : k1_chk131 i v1394), ∀ a, (k1_off208 i v1394) a + S8x128.size a ≤ S4096x32000.size a := fun i v1394 k1_hw131 => k1_hw131.2

def k1_off209 (i : grid1.Coords) (v1404 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32_901 : BitVec 32 := 64#32
  let v1402 : BitVec 32 := Scalar.addi v2 c64_i32_901
  let c128_i32_902 : BitVec 32 := 128#32
  let v1405 : BitVec 32 := Scalar.muli v1404 c128_i32_902
  ![v1402.toNat, v1405.toNat]

def k1_chk132 (i : grid1.Coords) (v1404 : BitVec 32) : Prop :=
  (∀ a, (k1_off193 i v1404) a + S8x128.size a ≤ S4096x32000.size a) ∧
  (∀ a, (k1_off209 i v1404) a + S8x128.size a ≤ S4096x32000.size a)
theorem k1_off193_inb : ∀ (i : grid1.Coords) (v1404 : BitVec 32) (k1_hw132 : k1_chk132 i v1404), ∀ a, (k1_off193 i v1404) a + S8x128.size a ≤ S4096x32000.size a := fun i v1404 k1_hw132 => k1_hw132.1
theorem k1_off209_inb : ∀ (i : grid1.Coords) (v1404 : BitVec 32) (k1_hw132 : k1_chk132 i v1404), ∀ a, (k1_off209 i v1404) a + S8x128.size a ≤ S4096x32000.size a := fun i v1404 k1_hw132 => k1_hw132.2

def k1_off210 (i : grid1.Coords) (v1414 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32_908 : BitVec 32 := 64#32
  let v1412 : BitVec 32 := Scalar.addi v2 c64_i32_908
  let c128_i32_909 : BitVec 32 := 128#32
  let v1415 : BitVec 32 := Scalar.muli v1414 c128_i32_909
  ![v1412.toNat, v1415.toNat]

def k1_chk133 (i : grid1.Coords) (v1414 : BitVec 32) : Prop :=
  (∀ a, (k1_off194 i v1414) a + S8x128.size a ≤ S4096x32000.size a) ∧
  (∀ a, (k1_off210 i v1414) a + S8x128.size a ≤ S4096x32000.size a)
theorem k1_off194_inb : ∀ (i : grid1.Coords) (v1414 : BitVec 32) (k1_hw133 : k1_chk133 i v1414), ∀ a, (k1_off194 i v1414) a + S8x128.size a ≤ S4096x32000.size a := fun i v1414 k1_hw133 => k1_hw133.1
theorem k1_off210_inb : ∀ (i : grid1.Coords) (v1414 : BitVec 32) (k1_hw133 : k1_chk133 i v1414), ∀ a, (k1_off210 i v1414) a + S8x128.size a ≤ S4096x32000.size a := fun i v1414 k1_hw133 => k1_hw133.2

def k1_off211 (i : grid1.Coords) (v1424 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32_915 : BitVec 32 := 64#32
  let v1422 : BitVec 32 := Scalar.addi v2 c64_i32_915
  let c128_i32_916 : BitVec 32 := 128#32
  let v1425 : BitVec 32 := Scalar.muli v1424 c128_i32_916
  ![v1422.toNat, v1425.toNat]

def k1_chk134 (i : grid1.Coords) (v1424 : BitVec 32) : Prop :=
  (∀ a, (k1_off195 i v1424) a + S8x128.size a ≤ S4096x32000.size a) ∧
  (∀ a, (k1_off211 i v1424) a + S8x128.size a ≤ S4096x32000.size a)
theorem k1_off195_inb : ∀ (i : grid1.Coords) (v1424 : BitVec 32) (k1_hw134 : k1_chk134 i v1424), ∀ a, (k1_off195 i v1424) a + S8x128.size a ≤ S4096x32000.size a := fun i v1424 k1_hw134 => k1_hw134.1
theorem k1_off211_inb : ∀ (i : grid1.Coords) (v1424 : BitVec 32) (k1_hw134 : k1_chk134 i v1424), ∀ a, (k1_off211 i v1424) a + S8x128.size a ≤ S4096x32000.size a := fun i v1424 k1_hw134 => k1_hw134.2

def k1_off212 (i : grid1.Coords) (v1434 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32_922 : BitVec 32 := 64#32
  let v1432 : BitVec 32 := Scalar.addi v2 c64_i32_922
  let c128_i32_923 : BitVec 32 := 128#32
  let v1435 : BitVec 32 := Scalar.muli v1434 c128_i32_923
  ![v1432.toNat, v1435.toNat]

def k1_chk135 (i : grid1.Coords) (v1434 : BitVec 32) : Prop :=
  (∀ a, (k1_off196 i v1434) a + S8x128.size a ≤ S4096x32000.size a) ∧
  (∀ a, (k1_off212 i v1434) a + S8x128.size a ≤ S4096x32000.size a)
theorem k1_off196_inb : ∀ (i : grid1.Coords) (v1434 : BitVec 32) (k1_hw135 : k1_chk135 i v1434), ∀ a, (k1_off196 i v1434) a + S8x128.size a ≤ S4096x32000.size a := fun i v1434 k1_hw135 => k1_hw135.1
theorem k1_off212_inb : ∀ (i : grid1.Coords) (v1434 : BitVec 32) (k1_hw135 : k1_chk135 i v1434), ∀ a, (k1_off212 i v1434) a + S8x128.size a ≤ S4096x32000.size a := fun i v1434 k1_hw135 => k1_hw135.2

def k1_off213 (i : grid1.Coords) (v1444 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32_929 : BitVec 32 := 64#32
  let v1442 : BitVec 32 := Scalar.addi v2 c64_i32_929
  let c128_i32_930 : BitVec 32 := 128#32
  let v1445 : BitVec 32 := Scalar.muli v1444 c128_i32_930
  ![v1442.toNat, v1445.toNat]

def k1_chk136 (i : grid1.Coords) (v1444 : BitVec 32) : Prop :=
  (∀ a, (k1_off197 i v1444) a + S8x128.size a ≤ S4096x32000.size a) ∧
  (∀ a, (k1_off213 i v1444) a + S8x128.size a ≤ S4096x32000.size a)
theorem k1_off197_inb : ∀ (i : grid1.Coords) (v1444 : BitVec 32) (k1_hw136 : k1_chk136 i v1444), ∀ a, (k1_off197 i v1444) a + S8x128.size a ≤ S4096x32000.size a := fun i v1444 k1_hw136 => k1_hw136.1
theorem k1_off213_inb : ∀ (i : grid1.Coords) (v1444 : BitVec 32) (k1_hw136 : k1_chk136 i v1444), ∀ a, (k1_off213 i v1444) a + S8x128.size a ≤ S4096x32000.size a := fun i v1444 k1_hw136 => k1_hw136.2

def k1_off214 (i : grid1.Coords) (v1454 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c72_i32 : BitVec 32 := 72#32
  let v1452 : BitVec 32 := Scalar.addi v2 c72_i32
  let c128_i32_936 : BitVec 32 := 128#32
  let v1455 : BitVec 32 := Scalar.muli v1454 c128_i32_936
  ![v1452.toNat, v1455.toNat]

def k1_chk137 (i : grid1.Coords) (v1454 : BitVec 32) : Prop :=
  (∀ a, (k1_off198 i v1454) a + S8x128.size a ≤ S4096x32000.size a) ∧
  (∀ a, (k1_off214 i v1454) a + S8x128.size a ≤ S4096x32000.size a)
theorem k1_off198_inb : ∀ (i : grid1.Coords) (v1454 : BitVec 32) (k1_hw137 : k1_chk137 i v1454), ∀ a, (k1_off198 i v1454) a + S8x128.size a ≤ S4096x32000.size a := fun i v1454 k1_hw137 => k1_hw137.1
theorem k1_off214_inb : ∀ (i : grid1.Coords) (v1454 : BitVec 32) (k1_hw137 : k1_chk137 i v1454), ∀ a, (k1_off214 i v1454) a + S8x128.size a ≤ S4096x32000.size a := fun i v1454 k1_hw137 => k1_hw137.2

def k1_off215 (i : grid1.Coords) (v1464 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c72_i32_942 : BitVec 32 := 72#32
  let v1462 : BitVec 32 := Scalar.addi v2 c72_i32_942
  let c128_i32_943 : BitVec 32 := 128#32
  let v1465 : BitVec 32 := Scalar.muli v1464 c128_i32_943
  ![v1462.toNat, v1465.toNat]

def k1_chk138 (i : grid1.Coords) (v1464 : BitVec 32) : Prop :=
  (∀ a, (k1_off199 i v1464) a + S8x128.size a ≤ S4096x32000.size a) ∧
  (∀ a, (k1_off215 i v1464) a + S8x128.size a ≤ S4096x32000.size a)
theorem k1_off199_inb : ∀ (i : grid1.Coords) (v1464 : BitVec 32) (k1_hw138 : k1_chk138 i v1464), ∀ a, (k1_off199 i v1464) a + S8x128.size a ≤ S4096x32000.size a := fun i v1464 k1_hw138 => k1_hw138.1
theorem k1_off215_inb : ∀ (i : grid1.Coords) (v1464 : BitVec 32) (k1_hw138 : k1_chk138 i v1464), ∀ a, (k1_off215 i v1464) a + S8x128.size a ≤ S4096x32000.size a := fun i v1464 k1_hw138 => k1_hw138.2

def k1_off216 (i : grid1.Coords) (v1474 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c72_i32_949 : BitVec 32 := 72#32
  let v1472 : BitVec 32 := Scalar.addi v2 c72_i32_949
  let c128_i32_950 : BitVec 32 := 128#32
  let v1475 : BitVec 32 := Scalar.muli v1474 c128_i32_950
  ![v1472.toNat, v1475.toNat]

def k1_chk139 (i : grid1.Coords) (v1474 : BitVec 32) : Prop :=
  (∀ a, (k1_off200 i v1474) a + S8x128.size a ≤ S4096x32000.size a) ∧
  (∀ a, (k1_off216 i v1474) a + S8x128.size a ≤ S4096x32000.size a)
theorem k1_off200_inb : ∀ (i : grid1.Coords) (v1474 : BitVec 32) (k1_hw139 : k1_chk139 i v1474), ∀ a, (k1_off200 i v1474) a + S8x128.size a ≤ S4096x32000.size a := fun i v1474 k1_hw139 => k1_hw139.1
theorem k1_off216_inb : ∀ (i : grid1.Coords) (v1474 : BitVec 32) (k1_hw139 : k1_chk139 i v1474), ∀ a, (k1_off216 i v1474) a + S8x128.size a ≤ S4096x32000.size a := fun i v1474 k1_hw139 => k1_hw139.2

def k1_off217 (i : grid1.Coords) (v1484 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c72_i32_956 : BitVec 32 := 72#32
  let v1482 : BitVec 32 := Scalar.addi v2 c72_i32_956
  let c128_i32_957 : BitVec 32 := 128#32
  let v1485 : BitVec 32 := Scalar.muli v1484 c128_i32_957
  ![v1482.toNat, v1485.toNat]

def k1_chk140 (i : grid1.Coords) (v1484 : BitVec 32) : Prop :=
  (∀ a, (k1_off201 i v1484) a + S8x128.size a ≤ S4096x32000.size a) ∧
  (∀ a, (k1_off217 i v1484) a + S8x128.size a ≤ S4096x32000.size a)
theorem k1_off201_inb : ∀ (i : grid1.Coords) (v1484 : BitVec 32) (k1_hw140 : k1_chk140 i v1484), ∀ a, (k1_off201 i v1484) a + S8x128.size a ≤ S4096x32000.size a := fun i v1484 k1_hw140 => k1_hw140.1
theorem k1_off217_inb : ∀ (i : grid1.Coords) (v1484 : BitVec 32) (k1_hw140 : k1_chk140 i v1484), ∀ a, (k1_off217 i v1484) a + S8x128.size a ≤ S4096x32000.size a := fun i v1484 k1_hw140 => k1_hw140.2

def k1_off218 (i : grid1.Coords) (v1494 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c72_i32_963 : BitVec 32 := 72#32
  let v1492 : BitVec 32 := Scalar.addi v2 c72_i32_963
  let c128_i32_964 : BitVec 32 := 128#32
  let v1495 : BitVec 32 := Scalar.muli v1494 c128_i32_964
  ![v1492.toNat, v1495.toNat]

def k1_chk141 (i : grid1.Coords) (v1494 : BitVec 32) : Prop :=
  (∀ a, (k1_off202 i v1494) a + S8x128.size a ≤ S4096x32000.size a) ∧
  (∀ a, (k1_off218 i v1494) a + S8x128.size a ≤ S4096x32000.size a)
theorem k1_off202_inb : ∀ (i : grid1.Coords) (v1494 : BitVec 32) (k1_hw141 : k1_chk141 i v1494), ∀ a, (k1_off202 i v1494) a + S8x128.size a ≤ S4096x32000.size a := fun i v1494 k1_hw141 => k1_hw141.1
theorem k1_off218_inb : ∀ (i : grid1.Coords) (v1494 : BitVec 32) (k1_hw141 : k1_chk141 i v1494), ∀ a, (k1_off218 i v1494) a + S8x128.size a ≤ S4096x32000.size a := fun i v1494 k1_hw141 => k1_hw141.2

def k1_off219 (i : grid1.Coords) (v1504 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c72_i32_970 : BitVec 32 := 72#32
  let v1502 : BitVec 32 := Scalar.addi v2 c72_i32_970
  let c128_i32_971 : BitVec 32 := 128#32
  let v1505 : BitVec 32 := Scalar.muli v1504 c128_i32_971
  ![v1502.toNat, v1505.toNat]

def k1_chk142 (i : grid1.Coords) (v1504 : BitVec 32) : Prop :=
  (∀ a, (k1_off203 i v1504) a + S8x128.size a ≤ S4096x32000.size a) ∧
  (∀ a, (k1_off219 i v1504) a + S8x128.size a ≤ S4096x32000.size a)
theorem k1_off203_inb : ∀ (i : grid1.Coords) (v1504 : BitVec 32) (k1_hw142 : k1_chk142 i v1504), ∀ a, (k1_off203 i v1504) a + S8x128.size a ≤ S4096x32000.size a := fun i v1504 k1_hw142 => k1_hw142.1
theorem k1_off219_inb : ∀ (i : grid1.Coords) (v1504 : BitVec 32) (k1_hw142 : k1_chk142 i v1504), ∀ a, (k1_off219 i v1504) a + S8x128.size a ≤ S4096x32000.size a := fun i v1504 k1_hw142 => k1_hw142.2

def k1_off220 (i : grid1.Coords) (v1514 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c72_i32_977 : BitVec 32 := 72#32
  let v1512 : BitVec 32 := Scalar.addi v2 c72_i32_977
  let c128_i32_978 : BitVec 32 := 128#32
  let v1515 : BitVec 32 := Scalar.muli v1514 c128_i32_978
  ![v1512.toNat, v1515.toNat]

def k1_chk143 (i : grid1.Coords) (v1514 : BitVec 32) : Prop :=
  (∀ a, (k1_off204 i v1514) a + S8x128.size a ≤ S4096x32000.size a) ∧
  (∀ a, (k1_off220 i v1514) a + S8x128.size a ≤ S4096x32000.size a)
theorem k1_off204_inb : ∀ (i : grid1.Coords) (v1514 : BitVec 32) (k1_hw143 : k1_chk143 i v1514), ∀ a, (k1_off204 i v1514) a + S8x128.size a ≤ S4096x32000.size a := fun i v1514 k1_hw143 => k1_hw143.1
theorem k1_off220_inb : ∀ (i : grid1.Coords) (v1514 : BitVec 32) (k1_hw143 : k1_chk143 i v1514), ∀ a, (k1_off220 i v1514) a + S8x128.size a ≤ S4096x32000.size a := fun i v1514 k1_hw143 => k1_hw143.2

def k1_off221 (v1629 : BitVec 32) : Fin 3 → Nat :=
  let c0_i32_1778 : BitVec 32 := 0#32
  let v2738 : Index := Scalar.indexCast c0_i32_1778
  let c0_i32_1779 : BitVec 32 := 0#32
  let v2739 : Index := Scalar.indexCast c0_i32_1779
  let c4_i32_1775 : BitVec 32 := 4#32
  let v2735 : BitVec 32 := Scalar.shrsi v1629 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![0, 0, v2740.toNat]
def k1_cond65 (v1629 : BitVec 32) : BitVec 1 :=
  let c0_i32_1071 : BitVec 32 := 0#32
  let v1630 : BitVec 1 := Scalar.cmpi .ne v1629 c0_i32_1071
  let v1631 : BitVec 32 := Scalar.extui v1630
  let c0_i32_1072 : BitVec 32 := 0#32
  let v1632 : BitVec 1 := Scalar.cmpi .ne v1631 c0_i32_1072
  v1632

def k1_chk145 (v1629 : BitVec 32) : Prop :=
  (∀ (k1_h65 : k1_cond65 v1629 = 1#1), ∀ a, (k1_off221 v1629) a + S1x1x16.size a ≤ S16x8x128.size a)
theorem k1_off221_inb : ∀ (v1629 : BitVec 32) (k1_hw145 : k1_chk145 v1629), ∀ (k1_h65 : k1_cond65 v1629 = 1#1), ∀ a, (k1_off221 v1629) a + S1x1x16.size a ≤ S16x8x128.size a := fun v1629 k1_hw145 k1_h65 => k1_hw145 k1_h65

def k1_off222 (v1634 : BitVec 32) : Fin 3 → Nat :=
  let c1_i32_1778 : BitVec 32 := 1#32
  let v2738 : Index := Scalar.indexCast c1_i32_1778
  let c1_i32_1779 : BitVec 32 := 1#32
  let v2739 : Index := Scalar.indexCast c1_i32_1779
  let c4_i32_1775 : BitVec 32 := 4#32
  let v2735 : BitVec 32 := Scalar.shrsi v1634 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![1, 1, v2740.toNat]
def k1_cond66 (v1634 : BitVec 32) : BitVec 1 :=
  let c0_i32_1073 : BitVec 32 := 0#32
  let v1635 : BitVec 1 := Scalar.cmpi .ne v1634 c0_i32_1073
  let v1636 : BitVec 32 := Scalar.extui v1635
  let c0_i32_1074 : BitVec 32 := 0#32
  let v1637 : BitVec 1 := Scalar.cmpi .ne v1636 c0_i32_1074
  v1637

def k1_chk146 (v1634 : BitVec 32) : Prop :=
  (∀ (k1_h66 : k1_cond66 v1634 = 1#1), ∀ a, (k1_off222 v1634) a + S1x1x16.size a ≤ S16x8x128.size a)
theorem k1_off222_inb : ∀ (v1634 : BitVec 32) (k1_hw146 : k1_chk146 v1634), ∀ (k1_h66 : k1_cond66 v1634 = 1#1), ∀ a, (k1_off222 v1634) a + S1x1x16.size a ≤ S16x8x128.size a := fun v1634 k1_hw146 k1_h66 => k1_hw146 k1_h66

def k1_off223 (v1639 : BitVec 32) : Fin 3 → Nat :=
  let c2_i32_1778 : BitVec 32 := 2#32
  let v2738 : Index := Scalar.indexCast c2_i32_1778
  let c2_i32_1779 : BitVec 32 := 2#32
  let v2739 : Index := Scalar.indexCast c2_i32_1779
  let c4_i32_1775 : BitVec 32 := 4#32
  let v2735 : BitVec 32 := Scalar.shrsi v1639 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![2, 2, v2740.toNat]
def k1_cond67 (v1639 : BitVec 32) : BitVec 1 :=
  let c0_i32_1075 : BitVec 32 := 0#32
  let v1640 : BitVec 1 := Scalar.cmpi .ne v1639 c0_i32_1075
  let v1641 : BitVec 32 := Scalar.extui v1640
  let c0_i32_1076 : BitVec 32 := 0#32
  let v1642 : BitVec 1 := Scalar.cmpi .ne v1641 c0_i32_1076
  v1642

def k1_chk147 (v1639 : BitVec 32) : Prop :=
  (∀ (k1_h67 : k1_cond67 v1639 = 1#1), ∀ a, (k1_off223 v1639) a + S1x1x16.size a ≤ S16x8x128.size a)
theorem k1_off223_inb : ∀ (v1639 : BitVec 32) (k1_hw147 : k1_chk147 v1639), ∀ (k1_h67 : k1_cond67 v1639 = 1#1), ∀ a, (k1_off223 v1639) a + S1x1x16.size a ≤ S16x8x128.size a := fun v1639 k1_hw147 k1_h67 => k1_hw147 k1_h67

def k1_off224 (v1644 : BitVec 32) : Fin 3 → Nat :=
  let c3_i32_1778 : BitVec 32 := 3#32
  let v2738 : Index := Scalar.indexCast c3_i32_1778
  let c3_i32_1779 : BitVec 32 := 3#32
  let v2739 : Index := Scalar.indexCast c3_i32_1779
  let c4_i32_1775 : BitVec 32 := 4#32
  let v2735 : BitVec 32 := Scalar.shrsi v1644 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![3, 3, v2740.toNat]
def k1_cond68 (v1644 : BitVec 32) : BitVec 1 :=
  let c0_i32_1077 : BitVec 32 := 0#32
  let v1645 : BitVec 1 := Scalar.cmpi .ne v1644 c0_i32_1077
  let v1646 : BitVec 32 := Scalar.extui v1645
  let c0_i32_1078 : BitVec 32 := 0#32
  let v1647 : BitVec 1 := Scalar.cmpi .ne v1646 c0_i32_1078
  v1647

def k1_chk148 (v1644 : BitVec 32) : Prop :=
  (∀ (k1_h68 : k1_cond68 v1644 = 1#1), ∀ a, (k1_off224 v1644) a + S1x1x16.size a ≤ S16x8x128.size a)
theorem k1_off224_inb : ∀ (v1644 : BitVec 32) (k1_hw148 : k1_chk148 v1644), ∀ (k1_h68 : k1_cond68 v1644 = 1#1), ∀ a, (k1_off224 v1644) a + S1x1x16.size a ≤ S16x8x128.size a := fun v1644 k1_hw148 k1_h68 => k1_hw148 k1_h68

def k1_off225 (v1649 : BitVec 32) : Fin 3 → Nat :=
  let c4_i32_1778 : BitVec 32 := 4#32
  let v2738 : Index := Scalar.indexCast c4_i32_1778
  let c4_i32_1779 : BitVec 32 := 4#32
  let v2739 : Index := Scalar.indexCast c4_i32_1779
  let c4_i32_1775 : BitVec 32 := 4#32
  let v2735 : BitVec 32 := Scalar.shrsi v1649 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![4, 4, v2740.toNat]
def k1_cond69 (v1649 : BitVec 32) : BitVec 1 :=
  let c0_i32_1079 : BitVec 32 := 0#32
  let v1650 : BitVec 1 := Scalar.cmpi .ne v1649 c0_i32_1079
  let v1651 : BitVec 32 := Scalar.extui v1650
  let c0_i32_1080 : BitVec 32 := 0#32
  let v1652 : BitVec 1 := Scalar.cmpi .ne v1651 c0_i32_1080
  v1652

def k1_chk149 (v1649 : BitVec 32) : Prop :=
  (∀ (k1_h69 : k1_cond69 v1649 = 1#1), ∀ a, (k1_off225 v1649) a + S1x1x16.size a ≤ S16x8x128.size a)
theorem k1_off225_inb : ∀ (v1649 : BitVec 32) (k1_hw149 : k1_chk149 v1649), ∀ (k1_h69 : k1_cond69 v1649 = 1#1), ∀ a, (k1_off225 v1649) a + S1x1x16.size a ≤ S16x8x128.size a := fun v1649 k1_hw149 k1_h69 => k1_hw149 k1_h69

def k1_off226 (v1654 : BitVec 32) : Fin 3 → Nat :=
  let c5_i32_1778 : BitVec 32 := 5#32
  let v2738 : Index := Scalar.indexCast c5_i32_1778
  let c5_i32_1779 : BitVec 32 := 5#32
  let v2739 : Index := Scalar.indexCast c5_i32_1779
  let c4_i32_1775 : BitVec 32 := 4#32
  let v2735 : BitVec 32 := Scalar.shrsi v1654 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![5, 5, v2740.toNat]
def k1_cond70 (v1654 : BitVec 32) : BitVec 1 :=
  let c0_i32_1081 : BitVec 32 := 0#32
  let v1655 : BitVec 1 := Scalar.cmpi .ne v1654 c0_i32_1081
  let v1656 : BitVec 32 := Scalar.extui v1655
  let c0_i32_1082 : BitVec 32 := 0#32
  let v1657 : BitVec 1 := Scalar.cmpi .ne v1656 c0_i32_1082
  v1657

def k1_chk150 (v1654 : BitVec 32) : Prop :=
  (∀ (k1_h70 : k1_cond70 v1654 = 1#1), ∀ a, (k1_off226 v1654) a + S1x1x16.size a ≤ S16x8x128.size a)
theorem k1_off226_inb : ∀ (v1654 : BitVec 32) (k1_hw150 : k1_chk150 v1654), ∀ (k1_h70 : k1_cond70 v1654 = 1#1), ∀ a, (k1_off226 v1654) a + S1x1x16.size a ≤ S16x8x128.size a := fun v1654 k1_hw150 k1_h70 => k1_hw150 k1_h70

def k1_off227 (v1659 : BitVec 32) : Fin 3 → Nat :=
  let c6_i32_1778 : BitVec 32 := 6#32
  let v2738 : Index := Scalar.indexCast c6_i32_1778
  let c6_i32_1779 : BitVec 32 := 6#32
  let v2739 : Index := Scalar.indexCast c6_i32_1779
  let c4_i32_1775 : BitVec 32 := 4#32
  let v2735 : BitVec 32 := Scalar.shrsi v1659 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![6, 6, v2740.toNat]
def k1_cond71 (v1659 : BitVec 32) : BitVec 1 :=
  let c0_i32_1083 : BitVec 32 := 0#32
  let v1660 : BitVec 1 := Scalar.cmpi .ne v1659 c0_i32_1083
  let v1661 : BitVec 32 := Scalar.extui v1660
  let c0_i32_1084 : BitVec 32 := 0#32
  let v1662 : BitVec 1 := Scalar.cmpi .ne v1661 c0_i32_1084
  v1662

def k1_chk151 (v1659 : BitVec 32) : Prop :=
  (∀ (k1_h71 : k1_cond71 v1659 = 1#1), ∀ a, (k1_off227 v1659) a + S1x1x16.size a ≤ S16x8x128.size a)
theorem k1_off227_inb : ∀ (v1659 : BitVec 32) (k1_hw151 : k1_chk151 v1659), ∀ (k1_h71 : k1_cond71 v1659 = 1#1), ∀ a, (k1_off227 v1659) a + S1x1x16.size a ≤ S16x8x128.size a := fun v1659 k1_hw151 k1_h71 => k1_hw151 k1_h71

def k1_off228 (v1664 : BitVec 32) : Fin 3 → Nat :=
  let c7_i32_1778 : BitVec 32 := 7#32
  let v2738 : Index := Scalar.indexCast c7_i32_1778
  let c7_i32_1779 : BitVec 32 := 7#32
  let v2739 : Index := Scalar.indexCast c7_i32_1779
  let c4_i32_1775 : BitVec 32 := 4#32
  let v2735 : BitVec 32 := Scalar.shrsi v1664 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![7, 7, v2740.toNat]
def k1_cond72 (v1664 : BitVec 32) : BitVec 1 :=
  let c0_i32_1085 : BitVec 32 := 0#32
  let v1665 : BitVec 1 := Scalar.cmpi .ne v1664 c0_i32_1085
  let v1666 : BitVec 32 := Scalar.extui v1665
  let c0_i32_1086 : BitVec 32 := 0#32
  let v1667 : BitVec 1 := Scalar.cmpi .ne v1666 c0_i32_1086
  v1667

def k1_chk152 (v1664 : BitVec 32) : Prop :=
  (∀ (k1_h72 : k1_cond72 v1664 = 1#1), ∀ a, (k1_off228 v1664) a + S1x1x16.size a ≤ S16x8x128.size a)
theorem k1_off228_inb : ∀ (v1664 : BitVec 32) (k1_hw152 : k1_chk152 v1664), ∀ (k1_h72 : k1_cond72 v1664 = 1#1), ∀ a, (k1_off228 v1664) a + S1x1x16.size a ≤ S16x8x128.size a := fun v1664 k1_hw152 k1_h72 => k1_hw152 k1_h72

def k1_off229 (v1669 : BitVec 32) : Fin 3 → Nat :=
  let c8_i32_1778 : BitVec 32 := 8#32
  let v2738 : Index := Scalar.indexCast c8_i32_1778
  let c0_i32_1779 : BitVec 32 := 0#32
  let v2739 : Index := Scalar.indexCast c0_i32_1779
  let c4_i32_1775 : BitVec 32 := 4#32
  let v2735 : BitVec 32 := Scalar.shrsi v1669 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![8, 0, v2740.toNat]
def k1_cond73 (v1669 : BitVec 32) : BitVec 1 :=
  let c0_i32_1087 : BitVec 32 := 0#32
  let v1670 : BitVec 1 := Scalar.cmpi .ne v1669 c0_i32_1087
  let v1671 : BitVec 32 := Scalar.extui v1670
  let c0_i32_1088 : BitVec 32 := 0#32
  let v1672 : BitVec 1 := Scalar.cmpi .ne v1671 c0_i32_1088
  v1672

def k1_chk153 (v1669 : BitVec 32) : Prop :=
  (∀ (k1_h73 : k1_cond73 v1669 = 1#1), ∀ a, (k1_off229 v1669) a + S1x1x16.size a ≤ S16x8x128.size a)
theorem k1_off229_inb : ∀ (v1669 : BitVec 32) (k1_hw153 : k1_chk153 v1669), ∀ (k1_h73 : k1_cond73 v1669 = 1#1), ∀ a, (k1_off229 v1669) a + S1x1x16.size a ≤ S16x8x128.size a := fun v1669 k1_hw153 k1_h73 => k1_hw153 k1_h73

def k1_off230 (v1674 : BitVec 32) : Fin 3 → Nat :=
  let c9_i32_1778 : BitVec 32 := 9#32
  let v2738 : Index := Scalar.indexCast c9_i32_1778
  let c1_i32_1779 : BitVec 32 := 1#32
  let v2739 : Index := Scalar.indexCast c1_i32_1779
  let c4_i32_1775 : BitVec 32 := 4#32
  let v2735 : BitVec 32 := Scalar.shrsi v1674 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![9, 1, v2740.toNat]
def k1_cond74 (v1674 : BitVec 32) : BitVec 1 :=
  let c0_i32_1089 : BitVec 32 := 0#32
  let v1675 : BitVec 1 := Scalar.cmpi .ne v1674 c0_i32_1089
  let v1676 : BitVec 32 := Scalar.extui v1675
  let c0_i32_1090 : BitVec 32 := 0#32
  let v1677 : BitVec 1 := Scalar.cmpi .ne v1676 c0_i32_1090
  v1677

def k1_chk154 (v1674 : BitVec 32) : Prop :=
  (∀ (k1_h74 : k1_cond74 v1674 = 1#1), ∀ a, (k1_off230 v1674) a + S1x1x16.size a ≤ S16x8x128.size a)
theorem k1_off230_inb : ∀ (v1674 : BitVec 32) (k1_hw154 : k1_chk154 v1674), ∀ (k1_h74 : k1_cond74 v1674 = 1#1), ∀ a, (k1_off230 v1674) a + S1x1x16.size a ≤ S16x8x128.size a := fun v1674 k1_hw154 k1_h74 => k1_hw154 k1_h74

def k1_off231 (v1679 : BitVec 32) : Fin 3 → Nat :=
  let c10_i32_1778 : BitVec 32 := 10#32
  let v2738 : Index := Scalar.indexCast c10_i32_1778
  let c2_i32_1779 : BitVec 32 := 2#32
  let v2739 : Index := Scalar.indexCast c2_i32_1779
  let c4_i32_1775 : BitVec 32 := 4#32
  let v2735 : BitVec 32 := Scalar.shrsi v1679 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![10, 2, v2740.toNat]
def k1_cond75 (v1679 : BitVec 32) : BitVec 1 :=
  let c0_i32_1091 : BitVec 32 := 0#32
  let v1680 : BitVec 1 := Scalar.cmpi .ne v1679 c0_i32_1091
  let v1681 : BitVec 32 := Scalar.extui v1680
  let c0_i32_1092 : BitVec 32 := 0#32
  let v1682 : BitVec 1 := Scalar.cmpi .ne v1681 c0_i32_1092
  v1682

def k1_chk155 (v1679 : BitVec 32) : Prop :=
  (∀ (k1_h75 : k1_cond75 v1679 = 1#1), ∀ a, (k1_off231 v1679) a + S1x1x16.size a ≤ S16x8x128.size a)
theorem k1_off231_inb : ∀ (v1679 : BitVec 32) (k1_hw155 : k1_chk155 v1679), ∀ (k1_h75 : k1_cond75 v1679 = 1#1), ∀ a, (k1_off231 v1679) a + S1x1x16.size a ≤ S16x8x128.size a := fun v1679 k1_hw155 k1_h75 => k1_hw155 k1_h75

def k1_off232 (v1684 : BitVec 32) : Fin 3 → Nat :=
  let c11_i32_1778 : BitVec 32 := 11#32
  let v2738 : Index := Scalar.indexCast c11_i32_1778
  let c3_i32_1779 : BitVec 32 := 3#32
  let v2739 : Index := Scalar.indexCast c3_i32_1779
  let c4_i32_1775 : BitVec 32 := 4#32
  let v2735 : BitVec 32 := Scalar.shrsi v1684 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![11, 3, v2740.toNat]
def k1_cond76 (v1684 : BitVec 32) : BitVec 1 :=
  let c0_i32_1093 : BitVec 32 := 0#32
  let v1685 : BitVec 1 := Scalar.cmpi .ne v1684 c0_i32_1093
  let v1686 : BitVec 32 := Scalar.extui v1685
  let c0_i32_1094 : BitVec 32 := 0#32
  let v1687 : BitVec 1 := Scalar.cmpi .ne v1686 c0_i32_1094
  v1687

def k1_chk156 (v1684 : BitVec 32) : Prop :=
  (∀ (k1_h76 : k1_cond76 v1684 = 1#1), ∀ a, (k1_off232 v1684) a + S1x1x16.size a ≤ S16x8x128.size a)
theorem k1_off232_inb : ∀ (v1684 : BitVec 32) (k1_hw156 : k1_chk156 v1684), ∀ (k1_h76 : k1_cond76 v1684 = 1#1), ∀ a, (k1_off232 v1684) a + S1x1x16.size a ≤ S16x8x128.size a := fun v1684 k1_hw156 k1_h76 => k1_hw156 k1_h76

def k1_off233 (v1689 : BitVec 32) : Fin 3 → Nat :=
  let c12_i32_1778 : BitVec 32 := 12#32
  let v2738 : Index := Scalar.indexCast c12_i32_1778
  let c4_i32_1779 : BitVec 32 := 4#32
  let v2739 : Index := Scalar.indexCast c4_i32_1779
  let c4_i32_1775 : BitVec 32 := 4#32
  let v2735 : BitVec 32 := Scalar.shrsi v1689 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![12, 4, v2740.toNat]
def k1_cond77 (v1689 : BitVec 32) : BitVec 1 :=
  let c0_i32_1095 : BitVec 32 := 0#32
  let v1690 : BitVec 1 := Scalar.cmpi .ne v1689 c0_i32_1095
  let v1691 : BitVec 32 := Scalar.extui v1690
  let c0_i32_1096 : BitVec 32 := 0#32
  let v1692 : BitVec 1 := Scalar.cmpi .ne v1691 c0_i32_1096
  v1692

def k1_chk157 (v1689 : BitVec 32) : Prop :=
  (∀ (k1_h77 : k1_cond77 v1689 = 1#1), ∀ a, (k1_off233 v1689) a + S1x1x16.size a ≤ S16x8x128.size a)
theorem k1_off233_inb : ∀ (v1689 : BitVec 32) (k1_hw157 : k1_chk157 v1689), ∀ (k1_h77 : k1_cond77 v1689 = 1#1), ∀ a, (k1_off233 v1689) a + S1x1x16.size a ≤ S16x8x128.size a := fun v1689 k1_hw157 k1_h77 => k1_hw157 k1_h77

def k1_off234 (v1694 : BitVec 32) : Fin 3 → Nat :=
  let c13_i32_1778 : BitVec 32 := 13#32
  let v2738 : Index := Scalar.indexCast c13_i32_1778
  let c5_i32_1779 : BitVec 32 := 5#32
  let v2739 : Index := Scalar.indexCast c5_i32_1779
  let c4_i32_1775 : BitVec 32 := 4#32
  let v2735 : BitVec 32 := Scalar.shrsi v1694 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![13, 5, v2740.toNat]
def k1_cond78 (v1694 : BitVec 32) : BitVec 1 :=
  let c0_i32_1097 : BitVec 32 := 0#32
  let v1695 : BitVec 1 := Scalar.cmpi .ne v1694 c0_i32_1097
  let v1696 : BitVec 32 := Scalar.extui v1695
  let c0_i32_1098 : BitVec 32 := 0#32
  let v1697 : BitVec 1 := Scalar.cmpi .ne v1696 c0_i32_1098
  v1697

def k1_chk158 (v1694 : BitVec 32) : Prop :=
  (∀ (k1_h78 : k1_cond78 v1694 = 1#1), ∀ a, (k1_off234 v1694) a + S1x1x16.size a ≤ S16x8x128.size a)
theorem k1_off234_inb : ∀ (v1694 : BitVec 32) (k1_hw158 : k1_chk158 v1694), ∀ (k1_h78 : k1_cond78 v1694 = 1#1), ∀ a, (k1_off234 v1694) a + S1x1x16.size a ≤ S16x8x128.size a := fun v1694 k1_hw158 k1_h78 => k1_hw158 k1_h78

def k1_off235 (v1699 : BitVec 32) : Fin 3 → Nat :=
  let c14_i32_1778 : BitVec 32 := 14#32
  let v2738 : Index := Scalar.indexCast c14_i32_1778
  let c6_i32_1779 : BitVec 32 := 6#32
  let v2739 : Index := Scalar.indexCast c6_i32_1779
  let c4_i32_1775 : BitVec 32 := 4#32
  let v2735 : BitVec 32 := Scalar.shrsi v1699 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![14, 6, v2740.toNat]
def k1_cond79 (v1699 : BitVec 32) : BitVec 1 :=
  let c0_i32_1099 : BitVec 32 := 0#32
  let v1700 : BitVec 1 := Scalar.cmpi .ne v1699 c0_i32_1099
  let v1701 : BitVec 32 := Scalar.extui v1700
  let c0_i32_1100 : BitVec 32 := 0#32
  let v1702 : BitVec 1 := Scalar.cmpi .ne v1701 c0_i32_1100
  v1702

def k1_chk159 (v1699 : BitVec 32) : Prop :=
  (∀ (k1_h79 : k1_cond79 v1699 = 1#1), ∀ a, (k1_off235 v1699) a + S1x1x16.size a ≤ S16x8x128.size a)
theorem k1_off235_inb : ∀ (v1699 : BitVec 32) (k1_hw159 : k1_chk159 v1699), ∀ (k1_h79 : k1_cond79 v1699 = 1#1), ∀ a, (k1_off235 v1699) a + S1x1x16.size a ≤ S16x8x128.size a := fun v1699 k1_hw159 k1_h79 => k1_hw159 k1_h79

def k1_off236 (v1704 : BitVec 32) : Fin 3 → Nat :=
  let c15_i32_1778 : BitVec 32 := 15#32
  let v2738 : Index := Scalar.indexCast c15_i32_1778
  let c7_i32_1779 : BitVec 32 := 7#32
  let v2739 : Index := Scalar.indexCast c7_i32_1779
  let c4_i32_1775 : BitVec 32 := 4#32
  let v2735 : BitVec 32 := Scalar.shrsi v1704 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![15, 7, v2740.toNat]
def k1_cond80 (v1704 : BitVec 32) : BitVec 1 :=
  let c0_i32_1101 : BitVec 32 := 0#32
  let v1705 : BitVec 1 := Scalar.cmpi .ne v1704 c0_i32_1101
  let v1706 : BitVec 32 := Scalar.extui v1705
  let c0_i32_1102 : BitVec 32 := 0#32
  let v1707 : BitVec 1 := Scalar.cmpi .ne v1706 c0_i32_1102
  v1707

def k1_chk160 (v1704 : BitVec 32) : Prop :=
  (∀ (k1_h80 : k1_cond80 v1704 = 1#1), ∀ a, (k1_off236 v1704) a + S1x1x16.size a ≤ S16x8x128.size a)
theorem k1_off236_inb : ∀ (v1704 : BitVec 32) (k1_hw160 : k1_chk160 v1704), ∀ (k1_h80 : k1_cond80 v1704 = 1#1), ∀ a, (k1_off236 v1704) a + S1x1x16.size a ≤ S16x8x128.size a := fun v1704 k1_hw160 k1_h80 => k1_hw160 k1_h80

def k1_off237 (i : grid1.Coords) (v1714 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c80_i32 : BitVec 32 := 80#32
  let v1712 : BitVec 32 := Scalar.addi v2 c80_i32
  let c128_i32_1104 : BitVec 32 := 128#32
  let v1715 : BitVec 32 := Scalar.muli v1714 c128_i32_1104
  ![v1712.toNat, v1715.toNat]

def k1_off238 (i : grid1.Coords) (v1724 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c80_i32_1110 : BitVec 32 := 80#32
  let v1722 : BitVec 32 := Scalar.addi v2 c80_i32_1110
  let c128_i32_1111 : BitVec 32 := 128#32
  let v1725 : BitVec 32 := Scalar.muli v1724 c128_i32_1111
  ![v1722.toNat, v1725.toNat]

def k1_off239 (i : grid1.Coords) (v1734 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c80_i32_1117 : BitVec 32 := 80#32
  let v1732 : BitVec 32 := Scalar.addi v2 c80_i32_1117
  let c128_i32_1118 : BitVec 32 := 128#32
  let v1735 : BitVec 32 := Scalar.muli v1734 c128_i32_1118
  ![v1732.toNat, v1735.toNat]

def k1_off240 (i : grid1.Coords) (v1744 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c80_i32_1124 : BitVec 32 := 80#32
  let v1742 : BitVec 32 := Scalar.addi v2 c80_i32_1124
  let c128_i32_1125 : BitVec 32 := 128#32
  let v1745 : BitVec 32 := Scalar.muli v1744 c128_i32_1125
  ![v1742.toNat, v1745.toNat]

def k1_off241 (i : grid1.Coords) (v1754 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c80_i32_1131 : BitVec 32 := 80#32
  let v1752 : BitVec 32 := Scalar.addi v2 c80_i32_1131
  let c128_i32_1132 : BitVec 32 := 128#32
  let v1755 : BitVec 32 := Scalar.muli v1754 c128_i32_1132
  ![v1752.toNat, v1755.toNat]

def k1_off242 (i : grid1.Coords) (v1764 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c80_i32_1138 : BitVec 32 := 80#32
  let v1762 : BitVec 32 := Scalar.addi v2 c80_i32_1138
  let c128_i32_1139 : BitVec 32 := 128#32
  let v1765 : BitVec 32 := Scalar.muli v1764 c128_i32_1139
  ![v1762.toNat, v1765.toNat]

def k1_off243 (i : grid1.Coords) (v1774 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c80_i32_1145 : BitVec 32 := 80#32
  let v1772 : BitVec 32 := Scalar.addi v2 c80_i32_1145
  let c128_i32_1146 : BitVec 32 := 128#32
  let v1775 : BitVec 32 := Scalar.muli v1774 c128_i32_1146
  ![v1772.toNat, v1775.toNat]

def k1_off244 (i : grid1.Coords) (v1784 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c80_i32_1152 : BitVec 32 := 80#32
  let v1782 : BitVec 32 := Scalar.addi v2 c80_i32_1152
  let c128_i32_1153 : BitVec 32 := 128#32
  let v1785 : BitVec 32 := Scalar.muli v1784 c128_i32_1153
  ![v1782.toNat, v1785.toNat]

def k1_off245 (i : grid1.Coords) (v1794 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c88_i32 : BitVec 32 := 88#32
  let v1792 : BitVec 32 := Scalar.addi v2 c88_i32
  let c128_i32_1159 : BitVec 32 := 128#32
  let v1795 : BitVec 32 := Scalar.muli v1794 c128_i32_1159
  ![v1792.toNat, v1795.toNat]

def k1_off246 (i : grid1.Coords) (v1804 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c88_i32_1165 : BitVec 32 := 88#32
  let v1802 : BitVec 32 := Scalar.addi v2 c88_i32_1165
  let c128_i32_1166 : BitVec 32 := 128#32
  let v1805 : BitVec 32 := Scalar.muli v1804 c128_i32_1166
  ![v1802.toNat, v1805.toNat]

def k1_off247 (i : grid1.Coords) (v1814 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c88_i32_1172 : BitVec 32 := 88#32
  let v1812 : BitVec 32 := Scalar.addi v2 c88_i32_1172
  let c128_i32_1173 : BitVec 32 := 128#32
  let v1815 : BitVec 32 := Scalar.muli v1814 c128_i32_1173
  ![v1812.toNat, v1815.toNat]

def k1_off248 (i : grid1.Coords) (v1824 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c88_i32_1179 : BitVec 32 := 88#32
  let v1822 : BitVec 32 := Scalar.addi v2 c88_i32_1179
  let c128_i32_1180 : BitVec 32 := 128#32
  let v1825 : BitVec 32 := Scalar.muli v1824 c128_i32_1180
  ![v1822.toNat, v1825.toNat]

def k1_off249 (i : grid1.Coords) (v1834 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c88_i32_1186 : BitVec 32 := 88#32
  let v1832 : BitVec 32 := Scalar.addi v2 c88_i32_1186
  let c128_i32_1187 : BitVec 32 := 128#32
  let v1835 : BitVec 32 := Scalar.muli v1834 c128_i32_1187
  ![v1832.toNat, v1835.toNat]

def k1_off250 (i : grid1.Coords) (v1844 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c88_i32_1193 : BitVec 32 := 88#32
  let v1842 : BitVec 32 := Scalar.addi v2 c88_i32_1193
  let c128_i32_1194 : BitVec 32 := 128#32
  let v1845 : BitVec 32 := Scalar.muli v1844 c128_i32_1194
  ![v1842.toNat, v1845.toNat]

def k1_off251 (i : grid1.Coords) (v1854 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c88_i32_1200 : BitVec 32 := 88#32
  let v1852 : BitVec 32 := Scalar.addi v2 c88_i32_1200
  let c128_i32_1201 : BitVec 32 := 128#32
  let v1855 : BitVec 32 := Scalar.muli v1854 c128_i32_1201
  ![v1852.toNat, v1855.toNat]

def k1_off252 (i : grid1.Coords) (v1864 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c88_i32_1207 : BitVec 32 := 88#32
  let v1862 : BitVec 32 := Scalar.addi v2 c88_i32_1207
  let c128_i32_1208 : BitVec 32 := 128#32
  let v1865 : BitVec 32 := Scalar.muli v1864 c128_i32_1208
  ![v1862.toNat, v1865.toNat]

def k1_chk176 (i : grid1.Coords) (v1864 : BitVec 32) : Prop :=
  (∀ a, (k1_off252 i v1864) a + S8x128.size a ≤ S4096x32000.size a)
theorem k1_off252_inb : ∀ (i : grid1.Coords) (v1864 : BitVec 32) (k1_hw176 : k1_chk176 i v1864), ∀ a, (k1_off252 i v1864) a + S8x128.size a ≤ S4096x32000.size a := fun i v1864 k1_hw176 => k1_hw176

def k1_off253 (i : grid1.Coords) (v1714 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c80_i32 : BitVec 32 := 80#32
  let v1712 : BitVec 32 := Scalar.addi v2 c80_i32
  let c128_i32_1104 : BitVec 32 := 128#32
  let v1715 : BitVec 32 := Scalar.muli v1714 c128_i32_1104
  ![v1712.toNat, v1715.toNat]

def k1_chk161 (i : grid1.Coords) (v1714 : BitVec 32) : Prop :=
  (∀ a, (k1_off237 i v1714) a + S8x128.size a ≤ S4096x32000.size a) ∧
  (∀ a, (k1_off253 i v1714) a + S8x128.size a ≤ S4096x32000.size a)
theorem k1_off237_inb : ∀ (i : grid1.Coords) (v1714 : BitVec 32) (k1_hw161 : k1_chk161 i v1714), ∀ a, (k1_off237 i v1714) a + S8x128.size a ≤ S4096x32000.size a := fun i v1714 k1_hw161 => k1_hw161.1
theorem k1_off253_inb : ∀ (i : grid1.Coords) (v1714 : BitVec 32) (k1_hw161 : k1_chk161 i v1714), ∀ a, (k1_off253 i v1714) a + S8x128.size a ≤ S4096x32000.size a := fun i v1714 k1_hw161 => k1_hw161.2

def k1_off254 (i : grid1.Coords) (v1724 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c80_i32_1110 : BitVec 32 := 80#32
  let v1722 : BitVec 32 := Scalar.addi v2 c80_i32_1110
  let c128_i32_1111 : BitVec 32 := 128#32
  let v1725 : BitVec 32 := Scalar.muli v1724 c128_i32_1111
  ![v1722.toNat, v1725.toNat]

def k1_chk162 (i : grid1.Coords) (v1724 : BitVec 32) : Prop :=
  (∀ a, (k1_off238 i v1724) a + S8x128.size a ≤ S4096x32000.size a) ∧
  (∀ a, (k1_off254 i v1724) a + S8x128.size a ≤ S4096x32000.size a)
theorem k1_off238_inb : ∀ (i : grid1.Coords) (v1724 : BitVec 32) (k1_hw162 : k1_chk162 i v1724), ∀ a, (k1_off238 i v1724) a + S8x128.size a ≤ S4096x32000.size a := fun i v1724 k1_hw162 => k1_hw162.1
theorem k1_off254_inb : ∀ (i : grid1.Coords) (v1724 : BitVec 32) (k1_hw162 : k1_chk162 i v1724), ∀ a, (k1_off254 i v1724) a + S8x128.size a ≤ S4096x32000.size a := fun i v1724 k1_hw162 => k1_hw162.2

def k1_off255 (i : grid1.Coords) (v1734 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c80_i32_1117 : BitVec 32 := 80#32
  let v1732 : BitVec 32 := Scalar.addi v2 c80_i32_1117
  let c128_i32_1118 : BitVec 32 := 128#32
  let v1735 : BitVec 32 := Scalar.muli v1734 c128_i32_1118
  ![v1732.toNat, v1735.toNat]

def k1_chk163 (i : grid1.Coords) (v1734 : BitVec 32) : Prop :=
  (∀ a, (k1_off239 i v1734) a + S8x128.size a ≤ S4096x32000.size a) ∧
  (∀ a, (k1_off255 i v1734) a + S8x128.size a ≤ S4096x32000.size a)
theorem k1_off239_inb : ∀ (i : grid1.Coords) (v1734 : BitVec 32) (k1_hw163 : k1_chk163 i v1734), ∀ a, (k1_off239 i v1734) a + S8x128.size a ≤ S4096x32000.size a := fun i v1734 k1_hw163 => k1_hw163.1
theorem k1_off255_inb : ∀ (i : grid1.Coords) (v1734 : BitVec 32) (k1_hw163 : k1_chk163 i v1734), ∀ a, (k1_off255 i v1734) a + S8x128.size a ≤ S4096x32000.size a := fun i v1734 k1_hw163 => k1_hw163.2

def k1_off256 (i : grid1.Coords) (v1744 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c80_i32_1124 : BitVec 32 := 80#32
  let v1742 : BitVec 32 := Scalar.addi v2 c80_i32_1124
  let c128_i32_1125 : BitVec 32 := 128#32
  let v1745 : BitVec 32 := Scalar.muli v1744 c128_i32_1125
  ![v1742.toNat, v1745.toNat]

def k1_chk164 (i : grid1.Coords) (v1744 : BitVec 32) : Prop :=
  (∀ a, (k1_off240 i v1744) a + S8x128.size a ≤ S4096x32000.size a) ∧
  (∀ a, (k1_off256 i v1744) a + S8x128.size a ≤ S4096x32000.size a)
theorem k1_off240_inb : ∀ (i : grid1.Coords) (v1744 : BitVec 32) (k1_hw164 : k1_chk164 i v1744), ∀ a, (k1_off240 i v1744) a + S8x128.size a ≤ S4096x32000.size a := fun i v1744 k1_hw164 => k1_hw164.1
theorem k1_off256_inb : ∀ (i : grid1.Coords) (v1744 : BitVec 32) (k1_hw164 : k1_chk164 i v1744), ∀ a, (k1_off256 i v1744) a + S8x128.size a ≤ S4096x32000.size a := fun i v1744 k1_hw164 => k1_hw164.2

def k1_off257 (i : grid1.Coords) (v1754 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c80_i32_1131 : BitVec 32 := 80#32
  let v1752 : BitVec 32 := Scalar.addi v2 c80_i32_1131
  let c128_i32_1132 : BitVec 32 := 128#32
  let v1755 : BitVec 32 := Scalar.muli v1754 c128_i32_1132
  ![v1752.toNat, v1755.toNat]

def k1_chk165 (i : grid1.Coords) (v1754 : BitVec 32) : Prop :=
  (∀ a, (k1_off241 i v1754) a + S8x128.size a ≤ S4096x32000.size a) ∧
  (∀ a, (k1_off257 i v1754) a + S8x128.size a ≤ S4096x32000.size a)
theorem k1_off241_inb : ∀ (i : grid1.Coords) (v1754 : BitVec 32) (k1_hw165 : k1_chk165 i v1754), ∀ a, (k1_off241 i v1754) a + S8x128.size a ≤ S4096x32000.size a := fun i v1754 k1_hw165 => k1_hw165.1
theorem k1_off257_inb : ∀ (i : grid1.Coords) (v1754 : BitVec 32) (k1_hw165 : k1_chk165 i v1754), ∀ a, (k1_off257 i v1754) a + S8x128.size a ≤ S4096x32000.size a := fun i v1754 k1_hw165 => k1_hw165.2

def k1_off258 (i : grid1.Coords) (v1764 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c80_i32_1138 : BitVec 32 := 80#32
  let v1762 : BitVec 32 := Scalar.addi v2 c80_i32_1138
  let c128_i32_1139 : BitVec 32 := 128#32
  let v1765 : BitVec 32 := Scalar.muli v1764 c128_i32_1139
  ![v1762.toNat, v1765.toNat]

def k1_chk166 (i : grid1.Coords) (v1764 : BitVec 32) : Prop :=
  (∀ a, (k1_off242 i v1764) a + S8x128.size a ≤ S4096x32000.size a) ∧
  (∀ a, (k1_off258 i v1764) a + S8x128.size a ≤ S4096x32000.size a)
theorem k1_off242_inb : ∀ (i : grid1.Coords) (v1764 : BitVec 32) (k1_hw166 : k1_chk166 i v1764), ∀ a, (k1_off242 i v1764) a + S8x128.size a ≤ S4096x32000.size a := fun i v1764 k1_hw166 => k1_hw166.1
theorem k1_off258_inb : ∀ (i : grid1.Coords) (v1764 : BitVec 32) (k1_hw166 : k1_chk166 i v1764), ∀ a, (k1_off258 i v1764) a + S8x128.size a ≤ S4096x32000.size a := fun i v1764 k1_hw166 => k1_hw166.2

def k1_off259 (i : grid1.Coords) (v1774 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c80_i32_1145 : BitVec 32 := 80#32
  let v1772 : BitVec 32 := Scalar.addi v2 c80_i32_1145
  let c128_i32_1146 : BitVec 32 := 128#32
  let v1775 : BitVec 32 := Scalar.muli v1774 c128_i32_1146
  ![v1772.toNat, v1775.toNat]

def k1_chk167 (i : grid1.Coords) (v1774 : BitVec 32) : Prop :=
  (∀ a, (k1_off243 i v1774) a + S8x128.size a ≤ S4096x32000.size a) ∧
  (∀ a, (k1_off259 i v1774) a + S8x128.size a ≤ S4096x32000.size a)
theorem k1_off243_inb : ∀ (i : grid1.Coords) (v1774 : BitVec 32) (k1_hw167 : k1_chk167 i v1774), ∀ a, (k1_off243 i v1774) a + S8x128.size a ≤ S4096x32000.size a := fun i v1774 k1_hw167 => k1_hw167.1
theorem k1_off259_inb : ∀ (i : grid1.Coords) (v1774 : BitVec 32) (k1_hw167 : k1_chk167 i v1774), ∀ a, (k1_off259 i v1774) a + S8x128.size a ≤ S4096x32000.size a := fun i v1774 k1_hw167 => k1_hw167.2

def k1_off260 (i : grid1.Coords) (v1784 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c80_i32_1152 : BitVec 32 := 80#32
  let v1782 : BitVec 32 := Scalar.addi v2 c80_i32_1152
  let c128_i32_1153 : BitVec 32 := 128#32
  let v1785 : BitVec 32 := Scalar.muli v1784 c128_i32_1153
  ![v1782.toNat, v1785.toNat]

def k1_chk168 (i : grid1.Coords) (v1784 : BitVec 32) : Prop :=
  (∀ a, (k1_off244 i v1784) a + S8x128.size a ≤ S4096x32000.size a) ∧
  (∀ a, (k1_off260 i v1784) a + S8x128.size a ≤ S4096x32000.size a)
theorem k1_off244_inb : ∀ (i : grid1.Coords) (v1784 : BitVec 32) (k1_hw168 : k1_chk168 i v1784), ∀ a, (k1_off244 i v1784) a + S8x128.size a ≤ S4096x32000.size a := fun i v1784 k1_hw168 => k1_hw168.1
theorem k1_off260_inb : ∀ (i : grid1.Coords) (v1784 : BitVec 32) (k1_hw168 : k1_chk168 i v1784), ∀ a, (k1_off260 i v1784) a + S8x128.size a ≤ S4096x32000.size a := fun i v1784 k1_hw168 => k1_hw168.2

def k1_off261 (i : grid1.Coords) (v1794 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c88_i32 : BitVec 32 := 88#32
  let v1792 : BitVec 32 := Scalar.addi v2 c88_i32
  let c128_i32_1159 : BitVec 32 := 128#32
  let v1795 : BitVec 32 := Scalar.muli v1794 c128_i32_1159
  ![v1792.toNat, v1795.toNat]

def k1_chk169 (i : grid1.Coords) (v1794 : BitVec 32) : Prop :=
  (∀ a, (k1_off245 i v1794) a + S8x128.size a ≤ S4096x32000.size a) ∧
  (∀ a, (k1_off261 i v1794) a + S8x128.size a ≤ S4096x32000.size a)
theorem k1_off245_inb : ∀ (i : grid1.Coords) (v1794 : BitVec 32) (k1_hw169 : k1_chk169 i v1794), ∀ a, (k1_off245 i v1794) a + S8x128.size a ≤ S4096x32000.size a := fun i v1794 k1_hw169 => k1_hw169.1
theorem k1_off261_inb : ∀ (i : grid1.Coords) (v1794 : BitVec 32) (k1_hw169 : k1_chk169 i v1794), ∀ a, (k1_off261 i v1794) a + S8x128.size a ≤ S4096x32000.size a := fun i v1794 k1_hw169 => k1_hw169.2

def k1_off262 (i : grid1.Coords) (v1804 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c88_i32_1165 : BitVec 32 := 88#32
  let v1802 : BitVec 32 := Scalar.addi v2 c88_i32_1165
  let c128_i32_1166 : BitVec 32 := 128#32
  let v1805 : BitVec 32 := Scalar.muli v1804 c128_i32_1166
  ![v1802.toNat, v1805.toNat]

def k1_chk170 (i : grid1.Coords) (v1804 : BitVec 32) : Prop :=
  (∀ a, (k1_off246 i v1804) a + S8x128.size a ≤ S4096x32000.size a) ∧
  (∀ a, (k1_off262 i v1804) a + S8x128.size a ≤ S4096x32000.size a)
theorem k1_off246_inb : ∀ (i : grid1.Coords) (v1804 : BitVec 32) (k1_hw170 : k1_chk170 i v1804), ∀ a, (k1_off246 i v1804) a + S8x128.size a ≤ S4096x32000.size a := fun i v1804 k1_hw170 => k1_hw170.1
theorem k1_off262_inb : ∀ (i : grid1.Coords) (v1804 : BitVec 32) (k1_hw170 : k1_chk170 i v1804), ∀ a, (k1_off262 i v1804) a + S8x128.size a ≤ S4096x32000.size a := fun i v1804 k1_hw170 => k1_hw170.2

def k1_off263 (i : grid1.Coords) (v1814 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c88_i32_1172 : BitVec 32 := 88#32
  let v1812 : BitVec 32 := Scalar.addi v2 c88_i32_1172
  let c128_i32_1173 : BitVec 32 := 128#32
  let v1815 : BitVec 32 := Scalar.muli v1814 c128_i32_1173
  ![v1812.toNat, v1815.toNat]

def k1_chk171 (i : grid1.Coords) (v1814 : BitVec 32) : Prop :=
  (∀ a, (k1_off247 i v1814) a + S8x128.size a ≤ S4096x32000.size a) ∧
  (∀ a, (k1_off263 i v1814) a + S8x128.size a ≤ S4096x32000.size a)
theorem k1_off247_inb : ∀ (i : grid1.Coords) (v1814 : BitVec 32) (k1_hw171 : k1_chk171 i v1814), ∀ a, (k1_off247 i v1814) a + S8x128.size a ≤ S4096x32000.size a := fun i v1814 k1_hw171 => k1_hw171.1
theorem k1_off263_inb : ∀ (i : grid1.Coords) (v1814 : BitVec 32) (k1_hw171 : k1_chk171 i v1814), ∀ a, (k1_off263 i v1814) a + S8x128.size a ≤ S4096x32000.size a := fun i v1814 k1_hw171 => k1_hw171.2

def k1_off264 (i : grid1.Coords) (v1824 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c88_i32_1179 : BitVec 32 := 88#32
  let v1822 : BitVec 32 := Scalar.addi v2 c88_i32_1179
  let c128_i32_1180 : BitVec 32 := 128#32
  let v1825 : BitVec 32 := Scalar.muli v1824 c128_i32_1180
  ![v1822.toNat, v1825.toNat]

def k1_chk172 (i : grid1.Coords) (v1824 : BitVec 32) : Prop :=
  (∀ a, (k1_off248 i v1824) a + S8x128.size a ≤ S4096x32000.size a) ∧
  (∀ a, (k1_off264 i v1824) a + S8x128.size a ≤ S4096x32000.size a)
theorem k1_off248_inb : ∀ (i : grid1.Coords) (v1824 : BitVec 32) (k1_hw172 : k1_chk172 i v1824), ∀ a, (k1_off248 i v1824) a + S8x128.size a ≤ S4096x32000.size a := fun i v1824 k1_hw172 => k1_hw172.1
theorem k1_off264_inb : ∀ (i : grid1.Coords) (v1824 : BitVec 32) (k1_hw172 : k1_chk172 i v1824), ∀ a, (k1_off264 i v1824) a + S8x128.size a ≤ S4096x32000.size a := fun i v1824 k1_hw172 => k1_hw172.2

def k1_off265 (i : grid1.Coords) (v1834 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c88_i32_1186 : BitVec 32 := 88#32
  let v1832 : BitVec 32 := Scalar.addi v2 c88_i32_1186
  let c128_i32_1187 : BitVec 32 := 128#32
  let v1835 : BitVec 32 := Scalar.muli v1834 c128_i32_1187
  ![v1832.toNat, v1835.toNat]

def k1_chk173 (i : grid1.Coords) (v1834 : BitVec 32) : Prop :=
  (∀ a, (k1_off249 i v1834) a + S8x128.size a ≤ S4096x32000.size a) ∧
  (∀ a, (k1_off265 i v1834) a + S8x128.size a ≤ S4096x32000.size a)
theorem k1_off249_inb : ∀ (i : grid1.Coords) (v1834 : BitVec 32) (k1_hw173 : k1_chk173 i v1834), ∀ a, (k1_off249 i v1834) a + S8x128.size a ≤ S4096x32000.size a := fun i v1834 k1_hw173 => k1_hw173.1
theorem k1_off265_inb : ∀ (i : grid1.Coords) (v1834 : BitVec 32) (k1_hw173 : k1_chk173 i v1834), ∀ a, (k1_off265 i v1834) a + S8x128.size a ≤ S4096x32000.size a := fun i v1834 k1_hw173 => k1_hw173.2

def k1_off266 (i : grid1.Coords) (v1844 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c88_i32_1193 : BitVec 32 := 88#32
  let v1842 : BitVec 32 := Scalar.addi v2 c88_i32_1193
  let c128_i32_1194 : BitVec 32 := 128#32
  let v1845 : BitVec 32 := Scalar.muli v1844 c128_i32_1194
  ![v1842.toNat, v1845.toNat]

def k1_chk174 (i : grid1.Coords) (v1844 : BitVec 32) : Prop :=
  (∀ a, (k1_off250 i v1844) a + S8x128.size a ≤ S4096x32000.size a) ∧
  (∀ a, (k1_off266 i v1844) a + S8x128.size a ≤ S4096x32000.size a)
theorem k1_off250_inb : ∀ (i : grid1.Coords) (v1844 : BitVec 32) (k1_hw174 : k1_chk174 i v1844), ∀ a, (k1_off250 i v1844) a + S8x128.size a ≤ S4096x32000.size a := fun i v1844 k1_hw174 => k1_hw174.1
theorem k1_off266_inb : ∀ (i : grid1.Coords) (v1844 : BitVec 32) (k1_hw174 : k1_chk174 i v1844), ∀ a, (k1_off266 i v1844) a + S8x128.size a ≤ S4096x32000.size a := fun i v1844 k1_hw174 => k1_hw174.2

def k1_off267 (i : grid1.Coords) (v1854 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c88_i32_1200 : BitVec 32 := 88#32
  let v1852 : BitVec 32 := Scalar.addi v2 c88_i32_1200
  let c128_i32_1201 : BitVec 32 := 128#32
  let v1855 : BitVec 32 := Scalar.muli v1854 c128_i32_1201
  ![v1852.toNat, v1855.toNat]

def k1_chk175 (i : grid1.Coords) (v1854 : BitVec 32) : Prop :=
  (∀ a, (k1_off251 i v1854) a + S8x128.size a ≤ S4096x32000.size a) ∧
  (∀ a, (k1_off267 i v1854) a + S8x128.size a ≤ S4096x32000.size a)
theorem k1_off251_inb : ∀ (i : grid1.Coords) (v1854 : BitVec 32) (k1_hw175 : k1_chk175 i v1854), ∀ a, (k1_off251 i v1854) a + S8x128.size a ≤ S4096x32000.size a := fun i v1854 k1_hw175 => k1_hw175.1
theorem k1_off267_inb : ∀ (i : grid1.Coords) (v1854 : BitVec 32) (k1_hw175 : k1_chk175 i v1854), ∀ a, (k1_off267 i v1854) a + S8x128.size a ≤ S4096x32000.size a := fun i v1854 k1_hw175 => k1_hw175.2

def k1_off268 (v1969 : BitVec 32) : Fin 3 → Nat :=
  let c0_i32_1778 : BitVec 32 := 0#32
  let v2738 : Index := Scalar.indexCast c0_i32_1778
  let c0_i32_1779 : BitVec 32 := 0#32
  let v2739 : Index := Scalar.indexCast c0_i32_1779
  let c4_i32_1775 : BitVec 32 := 4#32
  let v2735 : BitVec 32 := Scalar.shrsi v1969 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![0, 0, v2740.toNat]
def k1_cond81 (v1969 : BitVec 32) : BitVec 1 :=
  let c0_i32_1294 : BitVec 32 := 0#32
  let v1970 : BitVec 1 := Scalar.cmpi .ne v1969 c0_i32_1294
  let v1971 : BitVec 32 := Scalar.extui v1970
  let c0_i32_1295 : BitVec 32 := 0#32
  let v1972 : BitVec 1 := Scalar.cmpi .ne v1971 c0_i32_1295
  v1972

def k1_chk177 (v1969 : BitVec 32) : Prop :=
  (∀ (k1_h81 : k1_cond81 v1969 = 1#1), ∀ a, (k1_off268 v1969) a + S1x1x16.size a ≤ S16x8x128.size a)
theorem k1_off268_inb : ∀ (v1969 : BitVec 32) (k1_hw177 : k1_chk177 v1969), ∀ (k1_h81 : k1_cond81 v1969 = 1#1), ∀ a, (k1_off268 v1969) a + S1x1x16.size a ≤ S16x8x128.size a := fun v1969 k1_hw177 k1_h81 => k1_hw177 k1_h81

def k1_off269 (v1974 : BitVec 32) : Fin 3 → Nat :=
  let c1_i32_1778 : BitVec 32 := 1#32
  let v2738 : Index := Scalar.indexCast c1_i32_1778
  let c1_i32_1779 : BitVec 32 := 1#32
  let v2739 : Index := Scalar.indexCast c1_i32_1779
  let c4_i32_1775 : BitVec 32 := 4#32
  let v2735 : BitVec 32 := Scalar.shrsi v1974 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![1, 1, v2740.toNat]
def k1_cond82 (v1974 : BitVec 32) : BitVec 1 :=
  let c0_i32_1296 : BitVec 32 := 0#32
  let v1975 : BitVec 1 := Scalar.cmpi .ne v1974 c0_i32_1296
  let v1976 : BitVec 32 := Scalar.extui v1975
  let c0_i32_1297 : BitVec 32 := 0#32
  let v1977 : BitVec 1 := Scalar.cmpi .ne v1976 c0_i32_1297
  v1977

def k1_chk178 (v1974 : BitVec 32) : Prop :=
  (∀ (k1_h82 : k1_cond82 v1974 = 1#1), ∀ a, (k1_off269 v1974) a + S1x1x16.size a ≤ S16x8x128.size a)
theorem k1_off269_inb : ∀ (v1974 : BitVec 32) (k1_hw178 : k1_chk178 v1974), ∀ (k1_h82 : k1_cond82 v1974 = 1#1), ∀ a, (k1_off269 v1974) a + S1x1x16.size a ≤ S16x8x128.size a := fun v1974 k1_hw178 k1_h82 => k1_hw178 k1_h82

def k1_off270 (v1979 : BitVec 32) : Fin 3 → Nat :=
  let c2_i32_1778 : BitVec 32 := 2#32
  let v2738 : Index := Scalar.indexCast c2_i32_1778
  let c2_i32_1779 : BitVec 32 := 2#32
  let v2739 : Index := Scalar.indexCast c2_i32_1779
  let c4_i32_1775 : BitVec 32 := 4#32
  let v2735 : BitVec 32 := Scalar.shrsi v1979 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![2, 2, v2740.toNat]
def k1_cond83 (v1979 : BitVec 32) : BitVec 1 :=
  let c0_i32_1298 : BitVec 32 := 0#32
  let v1980 : BitVec 1 := Scalar.cmpi .ne v1979 c0_i32_1298
  let v1981 : BitVec 32 := Scalar.extui v1980
  let c0_i32_1299 : BitVec 32 := 0#32
  let v1982 : BitVec 1 := Scalar.cmpi .ne v1981 c0_i32_1299
  v1982

def k1_chk179 (v1979 : BitVec 32) : Prop :=
  (∀ (k1_h83 : k1_cond83 v1979 = 1#1), ∀ a, (k1_off270 v1979) a + S1x1x16.size a ≤ S16x8x128.size a)
theorem k1_off270_inb : ∀ (v1979 : BitVec 32) (k1_hw179 : k1_chk179 v1979), ∀ (k1_h83 : k1_cond83 v1979 = 1#1), ∀ a, (k1_off270 v1979) a + S1x1x16.size a ≤ S16x8x128.size a := fun v1979 k1_hw179 k1_h83 => k1_hw179 k1_h83

def k1_off271 (v1984 : BitVec 32) : Fin 3 → Nat :=
  let c3_i32_1778 : BitVec 32 := 3#32
  let v2738 : Index := Scalar.indexCast c3_i32_1778
  let c3_i32_1779 : BitVec 32 := 3#32
  let v2739 : Index := Scalar.indexCast c3_i32_1779
  let c4_i32_1775 : BitVec 32 := 4#32
  let v2735 : BitVec 32 := Scalar.shrsi v1984 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![3, 3, v2740.toNat]
def k1_cond84 (v1984 : BitVec 32) : BitVec 1 :=
  let c0_i32_1300 : BitVec 32 := 0#32
  let v1985 : BitVec 1 := Scalar.cmpi .ne v1984 c0_i32_1300
  let v1986 : BitVec 32 := Scalar.extui v1985
  let c0_i32_1301 : BitVec 32 := 0#32
  let v1987 : BitVec 1 := Scalar.cmpi .ne v1986 c0_i32_1301
  v1987

def k1_chk180 (v1984 : BitVec 32) : Prop :=
  (∀ (k1_h84 : k1_cond84 v1984 = 1#1), ∀ a, (k1_off271 v1984) a + S1x1x16.size a ≤ S16x8x128.size a)
theorem k1_off271_inb : ∀ (v1984 : BitVec 32) (k1_hw180 : k1_chk180 v1984), ∀ (k1_h84 : k1_cond84 v1984 = 1#1), ∀ a, (k1_off271 v1984) a + S1x1x16.size a ≤ S16x8x128.size a := fun v1984 k1_hw180 k1_h84 => k1_hw180 k1_h84

def k1_off272 (v1989 : BitVec 32) : Fin 3 → Nat :=
  let c4_i32_1778 : BitVec 32 := 4#32
  let v2738 : Index := Scalar.indexCast c4_i32_1778
  let c4_i32_1779 : BitVec 32 := 4#32
  let v2739 : Index := Scalar.indexCast c4_i32_1779
  let c4_i32_1775 : BitVec 32 := 4#32
  let v2735 : BitVec 32 := Scalar.shrsi v1989 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![4, 4, v2740.toNat]
def k1_cond85 (v1989 : BitVec 32) : BitVec 1 :=
  let c0_i32_1302 : BitVec 32 := 0#32
  let v1990 : BitVec 1 := Scalar.cmpi .ne v1989 c0_i32_1302
  let v1991 : BitVec 32 := Scalar.extui v1990
  let c0_i32_1303 : BitVec 32 := 0#32
  let v1992 : BitVec 1 := Scalar.cmpi .ne v1991 c0_i32_1303
  v1992

def k1_chk181 (v1989 : BitVec 32) : Prop :=
  (∀ (k1_h85 : k1_cond85 v1989 = 1#1), ∀ a, (k1_off272 v1989) a + S1x1x16.size a ≤ S16x8x128.size a)
theorem k1_off272_inb : ∀ (v1989 : BitVec 32) (k1_hw181 : k1_chk181 v1989), ∀ (k1_h85 : k1_cond85 v1989 = 1#1), ∀ a, (k1_off272 v1989) a + S1x1x16.size a ≤ S16x8x128.size a := fun v1989 k1_hw181 k1_h85 => k1_hw181 k1_h85

def k1_off273 (v1994 : BitVec 32) : Fin 3 → Nat :=
  let c5_i32_1778 : BitVec 32 := 5#32
  let v2738 : Index := Scalar.indexCast c5_i32_1778
  let c5_i32_1779 : BitVec 32 := 5#32
  let v2739 : Index := Scalar.indexCast c5_i32_1779
  let c4_i32_1775 : BitVec 32 := 4#32
  let v2735 : BitVec 32 := Scalar.shrsi v1994 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![5, 5, v2740.toNat]
def k1_cond86 (v1994 : BitVec 32) : BitVec 1 :=
  let c0_i32_1304 : BitVec 32 := 0#32
  let v1995 : BitVec 1 := Scalar.cmpi .ne v1994 c0_i32_1304
  let v1996 : BitVec 32 := Scalar.extui v1995
  let c0_i32_1305 : BitVec 32 := 0#32
  let v1997 : BitVec 1 := Scalar.cmpi .ne v1996 c0_i32_1305
  v1997

def k1_chk182 (v1994 : BitVec 32) : Prop :=
  (∀ (k1_h86 : k1_cond86 v1994 = 1#1), ∀ a, (k1_off273 v1994) a + S1x1x16.size a ≤ S16x8x128.size a)
theorem k1_off273_inb : ∀ (v1994 : BitVec 32) (k1_hw182 : k1_chk182 v1994), ∀ (k1_h86 : k1_cond86 v1994 = 1#1), ∀ a, (k1_off273 v1994) a + S1x1x16.size a ≤ S16x8x128.size a := fun v1994 k1_hw182 k1_h86 => k1_hw182 k1_h86

def k1_off274 (v1999 : BitVec 32) : Fin 3 → Nat :=
  let c6_i32_1778 : BitVec 32 := 6#32
  let v2738 : Index := Scalar.indexCast c6_i32_1778
  let c6_i32_1779 : BitVec 32 := 6#32
  let v2739 : Index := Scalar.indexCast c6_i32_1779
  let c4_i32_1775 : BitVec 32 := 4#32
  let v2735 : BitVec 32 := Scalar.shrsi v1999 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![6, 6, v2740.toNat]
def k1_cond87 (v1999 : BitVec 32) : BitVec 1 :=
  let c0_i32_1306 : BitVec 32 := 0#32
  let v2000 : BitVec 1 := Scalar.cmpi .ne v1999 c0_i32_1306
  let v2001 : BitVec 32 := Scalar.extui v2000
  let c0_i32_1307 : BitVec 32 := 0#32
  let v2002 : BitVec 1 := Scalar.cmpi .ne v2001 c0_i32_1307
  v2002

def k1_chk183 (v1999 : BitVec 32) : Prop :=
  (∀ (k1_h87 : k1_cond87 v1999 = 1#1), ∀ a, (k1_off274 v1999) a + S1x1x16.size a ≤ S16x8x128.size a)
theorem k1_off274_inb : ∀ (v1999 : BitVec 32) (k1_hw183 : k1_chk183 v1999), ∀ (k1_h87 : k1_cond87 v1999 = 1#1), ∀ a, (k1_off274 v1999) a + S1x1x16.size a ≤ S16x8x128.size a := fun v1999 k1_hw183 k1_h87 => k1_hw183 k1_h87

def k1_off275 (v2004 : BitVec 32) : Fin 3 → Nat :=
  let c7_i32_1778 : BitVec 32 := 7#32
  let v2738 : Index := Scalar.indexCast c7_i32_1778
  let c7_i32_1779 : BitVec 32 := 7#32
  let v2739 : Index := Scalar.indexCast c7_i32_1779
  let c4_i32_1775 : BitVec 32 := 4#32
  let v2735 : BitVec 32 := Scalar.shrsi v2004 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![7, 7, v2740.toNat]
def k1_cond88 (v2004 : BitVec 32) : BitVec 1 :=
  let c0_i32_1308 : BitVec 32 := 0#32
  let v2005 : BitVec 1 := Scalar.cmpi .ne v2004 c0_i32_1308
  let v2006 : BitVec 32 := Scalar.extui v2005
  let c0_i32_1309 : BitVec 32 := 0#32
  let v2007 : BitVec 1 := Scalar.cmpi .ne v2006 c0_i32_1309
  v2007

def k1_chk184 (v2004 : BitVec 32) : Prop :=
  (∀ (k1_h88 : k1_cond88 v2004 = 1#1), ∀ a, (k1_off275 v2004) a + S1x1x16.size a ≤ S16x8x128.size a)
theorem k1_off275_inb : ∀ (v2004 : BitVec 32) (k1_hw184 : k1_chk184 v2004), ∀ (k1_h88 : k1_cond88 v2004 = 1#1), ∀ a, (k1_off275 v2004) a + S1x1x16.size a ≤ S16x8x128.size a := fun v2004 k1_hw184 k1_h88 => k1_hw184 k1_h88

def k1_off276 (v2009 : BitVec 32) : Fin 3 → Nat :=
  let c8_i32_1778 : BitVec 32 := 8#32
  let v2738 : Index := Scalar.indexCast c8_i32_1778
  let c0_i32_1779 : BitVec 32 := 0#32
  let v2739 : Index := Scalar.indexCast c0_i32_1779
  let c4_i32_1775 : BitVec 32 := 4#32
  let v2735 : BitVec 32 := Scalar.shrsi v2009 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![8, 0, v2740.toNat]
def k1_cond89 (v2009 : BitVec 32) : BitVec 1 :=
  let c0_i32_1310 : BitVec 32 := 0#32
  let v2010 : BitVec 1 := Scalar.cmpi .ne v2009 c0_i32_1310
  let v2011 : BitVec 32 := Scalar.extui v2010
  let c0_i32_1311 : BitVec 32 := 0#32
  let v2012 : BitVec 1 := Scalar.cmpi .ne v2011 c0_i32_1311
  v2012

def k1_chk185 (v2009 : BitVec 32) : Prop :=
  (∀ (k1_h89 : k1_cond89 v2009 = 1#1), ∀ a, (k1_off276 v2009) a + S1x1x16.size a ≤ S16x8x128.size a)
theorem k1_off276_inb : ∀ (v2009 : BitVec 32) (k1_hw185 : k1_chk185 v2009), ∀ (k1_h89 : k1_cond89 v2009 = 1#1), ∀ a, (k1_off276 v2009) a + S1x1x16.size a ≤ S16x8x128.size a := fun v2009 k1_hw185 k1_h89 => k1_hw185 k1_h89

def k1_off277 (v2014 : BitVec 32) : Fin 3 → Nat :=
  let c9_i32_1778 : BitVec 32 := 9#32
  let v2738 : Index := Scalar.indexCast c9_i32_1778
  let c1_i32_1779 : BitVec 32 := 1#32
  let v2739 : Index := Scalar.indexCast c1_i32_1779
  let c4_i32_1775 : BitVec 32 := 4#32
  let v2735 : BitVec 32 := Scalar.shrsi v2014 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![9, 1, v2740.toNat]
def k1_cond90 (v2014 : BitVec 32) : BitVec 1 :=
  let c0_i32_1312 : BitVec 32 := 0#32
  let v2015 : BitVec 1 := Scalar.cmpi .ne v2014 c0_i32_1312
  let v2016 : BitVec 32 := Scalar.extui v2015
  let c0_i32_1313 : BitVec 32 := 0#32
  let v2017 : BitVec 1 := Scalar.cmpi .ne v2016 c0_i32_1313
  v2017

def k1_chk186 (v2014 : BitVec 32) : Prop :=
  (∀ (k1_h90 : k1_cond90 v2014 = 1#1), ∀ a, (k1_off277 v2014) a + S1x1x16.size a ≤ S16x8x128.size a)
theorem k1_off277_inb : ∀ (v2014 : BitVec 32) (k1_hw186 : k1_chk186 v2014), ∀ (k1_h90 : k1_cond90 v2014 = 1#1), ∀ a, (k1_off277 v2014) a + S1x1x16.size a ≤ S16x8x128.size a := fun v2014 k1_hw186 k1_h90 => k1_hw186 k1_h90

def k1_off278 (v2019 : BitVec 32) : Fin 3 → Nat :=
  let c10_i32_1778 : BitVec 32 := 10#32
  let v2738 : Index := Scalar.indexCast c10_i32_1778
  let c2_i32_1779 : BitVec 32 := 2#32
  let v2739 : Index := Scalar.indexCast c2_i32_1779
  let c4_i32_1775 : BitVec 32 := 4#32
  let v2735 : BitVec 32 := Scalar.shrsi v2019 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![10, 2, v2740.toNat]
def k1_cond91 (v2019 : BitVec 32) : BitVec 1 :=
  let c0_i32_1314 : BitVec 32 := 0#32
  let v2020 : BitVec 1 := Scalar.cmpi .ne v2019 c0_i32_1314
  let v2021 : BitVec 32 := Scalar.extui v2020
  let c0_i32_1315 : BitVec 32 := 0#32
  let v2022 : BitVec 1 := Scalar.cmpi .ne v2021 c0_i32_1315
  v2022

def k1_chk187 (v2019 : BitVec 32) : Prop :=
  (∀ (k1_h91 : k1_cond91 v2019 = 1#1), ∀ a, (k1_off278 v2019) a + S1x1x16.size a ≤ S16x8x128.size a)
theorem k1_off278_inb : ∀ (v2019 : BitVec 32) (k1_hw187 : k1_chk187 v2019), ∀ (k1_h91 : k1_cond91 v2019 = 1#1), ∀ a, (k1_off278 v2019) a + S1x1x16.size a ≤ S16x8x128.size a := fun v2019 k1_hw187 k1_h91 => k1_hw187 k1_h91

def k1_off279 (v2024 : BitVec 32) : Fin 3 → Nat :=
  let c11_i32_1778 : BitVec 32 := 11#32
  let v2738 : Index := Scalar.indexCast c11_i32_1778
  let c3_i32_1779 : BitVec 32 := 3#32
  let v2739 : Index := Scalar.indexCast c3_i32_1779
  let c4_i32_1775 : BitVec 32 := 4#32
  let v2735 : BitVec 32 := Scalar.shrsi v2024 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![11, 3, v2740.toNat]
def k1_cond92 (v2024 : BitVec 32) : BitVec 1 :=
  let c0_i32_1316 : BitVec 32 := 0#32
  let v2025 : BitVec 1 := Scalar.cmpi .ne v2024 c0_i32_1316
  let v2026 : BitVec 32 := Scalar.extui v2025
  let c0_i32_1317 : BitVec 32 := 0#32
  let v2027 : BitVec 1 := Scalar.cmpi .ne v2026 c0_i32_1317
  v2027

def k1_chk188 (v2024 : BitVec 32) : Prop :=
  (∀ (k1_h92 : k1_cond92 v2024 = 1#1), ∀ a, (k1_off279 v2024) a + S1x1x16.size a ≤ S16x8x128.size a)
theorem k1_off279_inb : ∀ (v2024 : BitVec 32) (k1_hw188 : k1_chk188 v2024), ∀ (k1_h92 : k1_cond92 v2024 = 1#1), ∀ a, (k1_off279 v2024) a + S1x1x16.size a ≤ S16x8x128.size a := fun v2024 k1_hw188 k1_h92 => k1_hw188 k1_h92

def k1_off280 (v2029 : BitVec 32) : Fin 3 → Nat :=
  let c12_i32_1778 : BitVec 32 := 12#32
  let v2738 : Index := Scalar.indexCast c12_i32_1778
  let c4_i32_1779 : BitVec 32 := 4#32
  let v2739 : Index := Scalar.indexCast c4_i32_1779
  let c4_i32_1775 : BitVec 32 := 4#32
  let v2735 : BitVec 32 := Scalar.shrsi v2029 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![12, 4, v2740.toNat]
def k1_cond93 (v2029 : BitVec 32) : BitVec 1 :=
  let c0_i32_1318 : BitVec 32 := 0#32
  let v2030 : BitVec 1 := Scalar.cmpi .ne v2029 c0_i32_1318
  let v2031 : BitVec 32 := Scalar.extui v2030
  let c0_i32_1319 : BitVec 32 := 0#32
  let v2032 : BitVec 1 := Scalar.cmpi .ne v2031 c0_i32_1319
  v2032

def k1_chk189 (v2029 : BitVec 32) : Prop :=
  (∀ (k1_h93 : k1_cond93 v2029 = 1#1), ∀ a, (k1_off280 v2029) a + S1x1x16.size a ≤ S16x8x128.size a)
theorem k1_off280_inb : ∀ (v2029 : BitVec 32) (k1_hw189 : k1_chk189 v2029), ∀ (k1_h93 : k1_cond93 v2029 = 1#1), ∀ a, (k1_off280 v2029) a + S1x1x16.size a ≤ S16x8x128.size a := fun v2029 k1_hw189 k1_h93 => k1_hw189 k1_h93

def k1_off281 (v2034 : BitVec 32) : Fin 3 → Nat :=
  let c13_i32_1778 : BitVec 32 := 13#32
  let v2738 : Index := Scalar.indexCast c13_i32_1778
  let c5_i32_1779 : BitVec 32 := 5#32
  let v2739 : Index := Scalar.indexCast c5_i32_1779
  let c4_i32_1775 : BitVec 32 := 4#32
  let v2735 : BitVec 32 := Scalar.shrsi v2034 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![13, 5, v2740.toNat]
def k1_cond94 (v2034 : BitVec 32) : BitVec 1 :=
  let c0_i32_1320 : BitVec 32 := 0#32
  let v2035 : BitVec 1 := Scalar.cmpi .ne v2034 c0_i32_1320
  let v2036 : BitVec 32 := Scalar.extui v2035
  let c0_i32_1321 : BitVec 32 := 0#32
  let v2037 : BitVec 1 := Scalar.cmpi .ne v2036 c0_i32_1321
  v2037

def k1_chk190 (v2034 : BitVec 32) : Prop :=
  (∀ (k1_h94 : k1_cond94 v2034 = 1#1), ∀ a, (k1_off281 v2034) a + S1x1x16.size a ≤ S16x8x128.size a)
theorem k1_off281_inb : ∀ (v2034 : BitVec 32) (k1_hw190 : k1_chk190 v2034), ∀ (k1_h94 : k1_cond94 v2034 = 1#1), ∀ a, (k1_off281 v2034) a + S1x1x16.size a ≤ S16x8x128.size a := fun v2034 k1_hw190 k1_h94 => k1_hw190 k1_h94

def k1_off282 (v2039 : BitVec 32) : Fin 3 → Nat :=
  let c14_i32_1778 : BitVec 32 := 14#32
  let v2738 : Index := Scalar.indexCast c14_i32_1778
  let c6_i32_1779 : BitVec 32 := 6#32
  let v2739 : Index := Scalar.indexCast c6_i32_1779
  let c4_i32_1775 : BitVec 32 := 4#32
  let v2735 : BitVec 32 := Scalar.shrsi v2039 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![14, 6, v2740.toNat]
def k1_cond95 (v2039 : BitVec 32) : BitVec 1 :=
  let c0_i32_1322 : BitVec 32 := 0#32
  let v2040 : BitVec 1 := Scalar.cmpi .ne v2039 c0_i32_1322
  let v2041 : BitVec 32 := Scalar.extui v2040
  let c0_i32_1323 : BitVec 32 := 0#32
  let v2042 : BitVec 1 := Scalar.cmpi .ne v2041 c0_i32_1323
  v2042

def k1_chk191 (v2039 : BitVec 32) : Prop :=
  (∀ (k1_h95 : k1_cond95 v2039 = 1#1), ∀ a, (k1_off282 v2039) a + S1x1x16.size a ≤ S16x8x128.size a)
theorem k1_off282_inb : ∀ (v2039 : BitVec 32) (k1_hw191 : k1_chk191 v2039), ∀ (k1_h95 : k1_cond95 v2039 = 1#1), ∀ a, (k1_off282 v2039) a + S1x1x16.size a ≤ S16x8x128.size a := fun v2039 k1_hw191 k1_h95 => k1_hw191 k1_h95

def k1_off283 (v2044 : BitVec 32) : Fin 3 → Nat :=
  let c15_i32_1778 : BitVec 32 := 15#32
  let v2738 : Index := Scalar.indexCast c15_i32_1778
  let c7_i32_1779 : BitVec 32 := 7#32
  let v2739 : Index := Scalar.indexCast c7_i32_1779
  let c4_i32_1775 : BitVec 32 := 4#32
  let v2735 : BitVec 32 := Scalar.shrsi v2044 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![15, 7, v2740.toNat]
def k1_cond96 (v2044 : BitVec 32) : BitVec 1 :=
  let c0_i32_1324 : BitVec 32 := 0#32
  let v2045 : BitVec 1 := Scalar.cmpi .ne v2044 c0_i32_1324
  let v2046 : BitVec 32 := Scalar.extui v2045
  let c0_i32_1325 : BitVec 32 := 0#32
  let v2047 : BitVec 1 := Scalar.cmpi .ne v2046 c0_i32_1325
  v2047

def k1_chk192 (v2044 : BitVec 32) : Prop :=
  (∀ (k1_h96 : k1_cond96 v2044 = 1#1), ∀ a, (k1_off283 v2044) a + S1x1x16.size a ≤ S16x8x128.size a)
theorem k1_off283_inb : ∀ (v2044 : BitVec 32) (k1_hw192 : k1_chk192 v2044), ∀ (k1_h96 : k1_cond96 v2044 = 1#1), ∀ a, (k1_off283 v2044) a + S1x1x16.size a ≤ S16x8x128.size a := fun v2044 k1_hw192 k1_h96 => k1_hw192 k1_h96

def k1_off284 (i : grid1.Coords) (v2054 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c96_i32 : BitVec 32 := 96#32
  let v2052 : BitVec 32 := Scalar.addi v2 c96_i32
  let c128_i32_1327 : BitVec 32 := 128#32
  let v2055 : BitVec 32 := Scalar.muli v2054 c128_i32_1327
  ![v2052.toNat, v2055.toNat]

def k1_off285 (i : grid1.Coords) (v2064 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c96_i32_1333 : BitVec 32 := 96#32
  let v2062 : BitVec 32 := Scalar.addi v2 c96_i32_1333
  let c128_i32_1334 : BitVec 32 := 128#32
  let v2065 : BitVec 32 := Scalar.muli v2064 c128_i32_1334
  ![v2062.toNat, v2065.toNat]

def k1_off286 (i : grid1.Coords) (v2074 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c96_i32_1340 : BitVec 32 := 96#32
  let v2072 : BitVec 32 := Scalar.addi v2 c96_i32_1340
  let c128_i32_1341 : BitVec 32 := 128#32
  let v2075 : BitVec 32 := Scalar.muli v2074 c128_i32_1341
  ![v2072.toNat, v2075.toNat]

def k1_off287 (i : grid1.Coords) (v2084 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c96_i32_1347 : BitVec 32 := 96#32
  let v2082 : BitVec 32 := Scalar.addi v2 c96_i32_1347
  let c128_i32_1348 : BitVec 32 := 128#32
  let v2085 : BitVec 32 := Scalar.muli v2084 c128_i32_1348
  ![v2082.toNat, v2085.toNat]

def k1_off288 (i : grid1.Coords) (v2094 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c96_i32_1354 : BitVec 32 := 96#32
  let v2092 : BitVec 32 := Scalar.addi v2 c96_i32_1354
  let c128_i32_1355 : BitVec 32 := 128#32
  let v2095 : BitVec 32 := Scalar.muli v2094 c128_i32_1355
  ![v2092.toNat, v2095.toNat]

def k1_off289 (i : grid1.Coords) (v2104 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c96_i32_1361 : BitVec 32 := 96#32
  let v2102 : BitVec 32 := Scalar.addi v2 c96_i32_1361
  let c128_i32_1362 : BitVec 32 := 128#32
  let v2105 : BitVec 32 := Scalar.muli v2104 c128_i32_1362
  ![v2102.toNat, v2105.toNat]

def k1_off290 (i : grid1.Coords) (v2114 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c96_i32_1368 : BitVec 32 := 96#32
  let v2112 : BitVec 32 := Scalar.addi v2 c96_i32_1368
  let c128_i32_1369 : BitVec 32 := 128#32
  let v2115 : BitVec 32 := Scalar.muli v2114 c128_i32_1369
  ![v2112.toNat, v2115.toNat]

def k1_off291 (i : grid1.Coords) (v2124 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c96_i32_1375 : BitVec 32 := 96#32
  let v2122 : BitVec 32 := Scalar.addi v2 c96_i32_1375
  let c128_i32_1376 : BitVec 32 := 128#32
  let v2125 : BitVec 32 := Scalar.muli v2124 c128_i32_1376
  ![v2122.toNat, v2125.toNat]

def k1_off292 (i : grid1.Coords) (v2134 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c104_i32 : BitVec 32 := 104#32
  let v2132 : BitVec 32 := Scalar.addi v2 c104_i32
  let c128_i32_1382 : BitVec 32 := 128#32
  let v2135 : BitVec 32 := Scalar.muli v2134 c128_i32_1382
  ![v2132.toNat, v2135.toNat]

def k1_off293 (i : grid1.Coords) (v2144 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c104_i32_1388 : BitVec 32 := 104#32
  let v2142 : BitVec 32 := Scalar.addi v2 c104_i32_1388
  let c128_i32_1389 : BitVec 32 := 128#32
  let v2145 : BitVec 32 := Scalar.muli v2144 c128_i32_1389
  ![v2142.toNat, v2145.toNat]

def k1_off294 (i : grid1.Coords) (v2154 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c104_i32_1395 : BitVec 32 := 104#32
  let v2152 : BitVec 32 := Scalar.addi v2 c104_i32_1395
  let c128_i32_1396 : BitVec 32 := 128#32
  let v2155 : BitVec 32 := Scalar.muli v2154 c128_i32_1396
  ![v2152.toNat, v2155.toNat]

def k1_off295 (i : grid1.Coords) (v2164 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c104_i32_1402 : BitVec 32 := 104#32
  let v2162 : BitVec 32 := Scalar.addi v2 c104_i32_1402
  let c128_i32_1403 : BitVec 32 := 128#32
  let v2165 : BitVec 32 := Scalar.muli v2164 c128_i32_1403
  ![v2162.toNat, v2165.toNat]

def k1_off296 (i : grid1.Coords) (v2174 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c104_i32_1409 : BitVec 32 := 104#32
  let v2172 : BitVec 32 := Scalar.addi v2 c104_i32_1409
  let c128_i32_1410 : BitVec 32 := 128#32
  let v2175 : BitVec 32 := Scalar.muli v2174 c128_i32_1410
  ![v2172.toNat, v2175.toNat]

def k1_off297 (i : grid1.Coords) (v2184 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c104_i32_1416 : BitVec 32 := 104#32
  let v2182 : BitVec 32 := Scalar.addi v2 c104_i32_1416
  let c128_i32_1417 : BitVec 32 := 128#32
  let v2185 : BitVec 32 := Scalar.muli v2184 c128_i32_1417
  ![v2182.toNat, v2185.toNat]

def k1_off298 (i : grid1.Coords) (v2194 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c104_i32_1423 : BitVec 32 := 104#32
  let v2192 : BitVec 32 := Scalar.addi v2 c104_i32_1423
  let c128_i32_1424 : BitVec 32 := 128#32
  let v2195 : BitVec 32 := Scalar.muli v2194 c128_i32_1424
  ![v2192.toNat, v2195.toNat]

def k1_off299 (i : grid1.Coords) (v2204 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c104_i32_1430 : BitVec 32 := 104#32
  let v2202 : BitVec 32 := Scalar.addi v2 c104_i32_1430
  let c128_i32_1431 : BitVec 32 := 128#32
  let v2205 : BitVec 32 := Scalar.muli v2204 c128_i32_1431
  ![v2202.toNat, v2205.toNat]

def k1_chk208 (i : grid1.Coords) (v2204 : BitVec 32) : Prop :=
  (∀ a, (k1_off299 i v2204) a + S8x128.size a ≤ S4096x32000.size a)
theorem k1_off299_inb : ∀ (i : grid1.Coords) (v2204 : BitVec 32) (k1_hw208 : k1_chk208 i v2204), ∀ a, (k1_off299 i v2204) a + S8x128.size a ≤ S4096x32000.size a := fun i v2204 k1_hw208 => k1_hw208

def k1_off300 (i : grid1.Coords) (v2054 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c96_i32 : BitVec 32 := 96#32
  let v2052 : BitVec 32 := Scalar.addi v2 c96_i32
  let c128_i32_1327 : BitVec 32 := 128#32
  let v2055 : BitVec 32 := Scalar.muli v2054 c128_i32_1327
  ![v2052.toNat, v2055.toNat]

def k1_chk193 (i : grid1.Coords) (v2054 : BitVec 32) : Prop :=
  (∀ a, (k1_off284 i v2054) a + S8x128.size a ≤ S4096x32000.size a) ∧
  (∀ a, (k1_off300 i v2054) a + S8x128.size a ≤ S4096x32000.size a)
theorem k1_off284_inb : ∀ (i : grid1.Coords) (v2054 : BitVec 32) (k1_hw193 : k1_chk193 i v2054), ∀ a, (k1_off284 i v2054) a + S8x128.size a ≤ S4096x32000.size a := fun i v2054 k1_hw193 => k1_hw193.1
theorem k1_off300_inb : ∀ (i : grid1.Coords) (v2054 : BitVec 32) (k1_hw193 : k1_chk193 i v2054), ∀ a, (k1_off300 i v2054) a + S8x128.size a ≤ S4096x32000.size a := fun i v2054 k1_hw193 => k1_hw193.2

def k1_off301 (i : grid1.Coords) (v2064 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c96_i32_1333 : BitVec 32 := 96#32
  let v2062 : BitVec 32 := Scalar.addi v2 c96_i32_1333
  let c128_i32_1334 : BitVec 32 := 128#32
  let v2065 : BitVec 32 := Scalar.muli v2064 c128_i32_1334
  ![v2062.toNat, v2065.toNat]

def k1_chk194 (i : grid1.Coords) (v2064 : BitVec 32) : Prop :=
  (∀ a, (k1_off285 i v2064) a + S8x128.size a ≤ S4096x32000.size a) ∧
  (∀ a, (k1_off301 i v2064) a + S8x128.size a ≤ S4096x32000.size a)
theorem k1_off285_inb : ∀ (i : grid1.Coords) (v2064 : BitVec 32) (k1_hw194 : k1_chk194 i v2064), ∀ a, (k1_off285 i v2064) a + S8x128.size a ≤ S4096x32000.size a := fun i v2064 k1_hw194 => k1_hw194.1
theorem k1_off301_inb : ∀ (i : grid1.Coords) (v2064 : BitVec 32) (k1_hw194 : k1_chk194 i v2064), ∀ a, (k1_off301 i v2064) a + S8x128.size a ≤ S4096x32000.size a := fun i v2064 k1_hw194 => k1_hw194.2

def k1_off302 (i : grid1.Coords) (v2074 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c96_i32_1340 : BitVec 32 := 96#32
  let v2072 : BitVec 32 := Scalar.addi v2 c96_i32_1340
  let c128_i32_1341 : BitVec 32 := 128#32
  let v2075 : BitVec 32 := Scalar.muli v2074 c128_i32_1341
  ![v2072.toNat, v2075.toNat]

def k1_chk195 (i : grid1.Coords) (v2074 : BitVec 32) : Prop :=
  (∀ a, (k1_off286 i v2074) a + S8x128.size a ≤ S4096x32000.size a) ∧
  (∀ a, (k1_off302 i v2074) a + S8x128.size a ≤ S4096x32000.size a)
theorem k1_off286_inb : ∀ (i : grid1.Coords) (v2074 : BitVec 32) (k1_hw195 : k1_chk195 i v2074), ∀ a, (k1_off286 i v2074) a + S8x128.size a ≤ S4096x32000.size a := fun i v2074 k1_hw195 => k1_hw195.1
theorem k1_off302_inb : ∀ (i : grid1.Coords) (v2074 : BitVec 32) (k1_hw195 : k1_chk195 i v2074), ∀ a, (k1_off302 i v2074) a + S8x128.size a ≤ S4096x32000.size a := fun i v2074 k1_hw195 => k1_hw195.2

def k1_off303 (i : grid1.Coords) (v2084 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c96_i32_1347 : BitVec 32 := 96#32
  let v2082 : BitVec 32 := Scalar.addi v2 c96_i32_1347
  let c128_i32_1348 : BitVec 32 := 128#32
  let v2085 : BitVec 32 := Scalar.muli v2084 c128_i32_1348
  ![v2082.toNat, v2085.toNat]

def k1_chk196 (i : grid1.Coords) (v2084 : BitVec 32) : Prop :=
  (∀ a, (k1_off287 i v2084) a + S8x128.size a ≤ S4096x32000.size a) ∧
  (∀ a, (k1_off303 i v2084) a + S8x128.size a ≤ S4096x32000.size a)
theorem k1_off287_inb : ∀ (i : grid1.Coords) (v2084 : BitVec 32) (k1_hw196 : k1_chk196 i v2084), ∀ a, (k1_off287 i v2084) a + S8x128.size a ≤ S4096x32000.size a := fun i v2084 k1_hw196 => k1_hw196.1
theorem k1_off303_inb : ∀ (i : grid1.Coords) (v2084 : BitVec 32) (k1_hw196 : k1_chk196 i v2084), ∀ a, (k1_off303 i v2084) a + S8x128.size a ≤ S4096x32000.size a := fun i v2084 k1_hw196 => k1_hw196.2

def k1_off304 (i : grid1.Coords) (v2094 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c96_i32_1354 : BitVec 32 := 96#32
  let v2092 : BitVec 32 := Scalar.addi v2 c96_i32_1354
  let c128_i32_1355 : BitVec 32 := 128#32
  let v2095 : BitVec 32 := Scalar.muli v2094 c128_i32_1355
  ![v2092.toNat, v2095.toNat]

def k1_chk197 (i : grid1.Coords) (v2094 : BitVec 32) : Prop :=
  (∀ a, (k1_off288 i v2094) a + S8x128.size a ≤ S4096x32000.size a) ∧
  (∀ a, (k1_off304 i v2094) a + S8x128.size a ≤ S4096x32000.size a)
theorem k1_off288_inb : ∀ (i : grid1.Coords) (v2094 : BitVec 32) (k1_hw197 : k1_chk197 i v2094), ∀ a, (k1_off288 i v2094) a + S8x128.size a ≤ S4096x32000.size a := fun i v2094 k1_hw197 => k1_hw197.1
theorem k1_off304_inb : ∀ (i : grid1.Coords) (v2094 : BitVec 32) (k1_hw197 : k1_chk197 i v2094), ∀ a, (k1_off304 i v2094) a + S8x128.size a ≤ S4096x32000.size a := fun i v2094 k1_hw197 => k1_hw197.2

def k1_off305 (i : grid1.Coords) (v2104 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c96_i32_1361 : BitVec 32 := 96#32
  let v2102 : BitVec 32 := Scalar.addi v2 c96_i32_1361
  let c128_i32_1362 : BitVec 32 := 128#32
  let v2105 : BitVec 32 := Scalar.muli v2104 c128_i32_1362
  ![v2102.toNat, v2105.toNat]

def k1_chk198 (i : grid1.Coords) (v2104 : BitVec 32) : Prop :=
  (∀ a, (k1_off289 i v2104) a + S8x128.size a ≤ S4096x32000.size a) ∧
  (∀ a, (k1_off305 i v2104) a + S8x128.size a ≤ S4096x32000.size a)
theorem k1_off289_inb : ∀ (i : grid1.Coords) (v2104 : BitVec 32) (k1_hw198 : k1_chk198 i v2104), ∀ a, (k1_off289 i v2104) a + S8x128.size a ≤ S4096x32000.size a := fun i v2104 k1_hw198 => k1_hw198.1
theorem k1_off305_inb : ∀ (i : grid1.Coords) (v2104 : BitVec 32) (k1_hw198 : k1_chk198 i v2104), ∀ a, (k1_off305 i v2104) a + S8x128.size a ≤ S4096x32000.size a := fun i v2104 k1_hw198 => k1_hw198.2

def k1_off306 (i : grid1.Coords) (v2114 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c96_i32_1368 : BitVec 32 := 96#32
  let v2112 : BitVec 32 := Scalar.addi v2 c96_i32_1368
  let c128_i32_1369 : BitVec 32 := 128#32
  let v2115 : BitVec 32 := Scalar.muli v2114 c128_i32_1369
  ![v2112.toNat, v2115.toNat]

def k1_chk199 (i : grid1.Coords) (v2114 : BitVec 32) : Prop :=
  (∀ a, (k1_off290 i v2114) a + S8x128.size a ≤ S4096x32000.size a) ∧
  (∀ a, (k1_off306 i v2114) a + S8x128.size a ≤ S4096x32000.size a)
theorem k1_off290_inb : ∀ (i : grid1.Coords) (v2114 : BitVec 32) (k1_hw199 : k1_chk199 i v2114), ∀ a, (k1_off290 i v2114) a + S8x128.size a ≤ S4096x32000.size a := fun i v2114 k1_hw199 => k1_hw199.1
theorem k1_off306_inb : ∀ (i : grid1.Coords) (v2114 : BitVec 32) (k1_hw199 : k1_chk199 i v2114), ∀ a, (k1_off306 i v2114) a + S8x128.size a ≤ S4096x32000.size a := fun i v2114 k1_hw199 => k1_hw199.2

def k1_off307 (i : grid1.Coords) (v2124 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c96_i32_1375 : BitVec 32 := 96#32
  let v2122 : BitVec 32 := Scalar.addi v2 c96_i32_1375
  let c128_i32_1376 : BitVec 32 := 128#32
  let v2125 : BitVec 32 := Scalar.muli v2124 c128_i32_1376
  ![v2122.toNat, v2125.toNat]

def k1_chk200 (i : grid1.Coords) (v2124 : BitVec 32) : Prop :=
  (∀ a, (k1_off291 i v2124) a + S8x128.size a ≤ S4096x32000.size a) ∧
  (∀ a, (k1_off307 i v2124) a + S8x128.size a ≤ S4096x32000.size a)
theorem k1_off291_inb : ∀ (i : grid1.Coords) (v2124 : BitVec 32) (k1_hw200 : k1_chk200 i v2124), ∀ a, (k1_off291 i v2124) a + S8x128.size a ≤ S4096x32000.size a := fun i v2124 k1_hw200 => k1_hw200.1
theorem k1_off307_inb : ∀ (i : grid1.Coords) (v2124 : BitVec 32) (k1_hw200 : k1_chk200 i v2124), ∀ a, (k1_off307 i v2124) a + S8x128.size a ≤ S4096x32000.size a := fun i v2124 k1_hw200 => k1_hw200.2

def k1_off308 (i : grid1.Coords) (v2134 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c104_i32 : BitVec 32 := 104#32
  let v2132 : BitVec 32 := Scalar.addi v2 c104_i32
  let c128_i32_1382 : BitVec 32 := 128#32
  let v2135 : BitVec 32 := Scalar.muli v2134 c128_i32_1382
  ![v2132.toNat, v2135.toNat]

def k1_chk201 (i : grid1.Coords) (v2134 : BitVec 32) : Prop :=
  (∀ a, (k1_off292 i v2134) a + S8x128.size a ≤ S4096x32000.size a) ∧
  (∀ a, (k1_off308 i v2134) a + S8x128.size a ≤ S4096x32000.size a)
theorem k1_off292_inb : ∀ (i : grid1.Coords) (v2134 : BitVec 32) (k1_hw201 : k1_chk201 i v2134), ∀ a, (k1_off292 i v2134) a + S8x128.size a ≤ S4096x32000.size a := fun i v2134 k1_hw201 => k1_hw201.1
theorem k1_off308_inb : ∀ (i : grid1.Coords) (v2134 : BitVec 32) (k1_hw201 : k1_chk201 i v2134), ∀ a, (k1_off308 i v2134) a + S8x128.size a ≤ S4096x32000.size a := fun i v2134 k1_hw201 => k1_hw201.2

def k1_off309 (i : grid1.Coords) (v2144 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c104_i32_1388 : BitVec 32 := 104#32
  let v2142 : BitVec 32 := Scalar.addi v2 c104_i32_1388
  let c128_i32_1389 : BitVec 32 := 128#32
  let v2145 : BitVec 32 := Scalar.muli v2144 c128_i32_1389
  ![v2142.toNat, v2145.toNat]

def k1_chk202 (i : grid1.Coords) (v2144 : BitVec 32) : Prop :=
  (∀ a, (k1_off293 i v2144) a + S8x128.size a ≤ S4096x32000.size a) ∧
  (∀ a, (k1_off309 i v2144) a + S8x128.size a ≤ S4096x32000.size a)
theorem k1_off293_inb : ∀ (i : grid1.Coords) (v2144 : BitVec 32) (k1_hw202 : k1_chk202 i v2144), ∀ a, (k1_off293 i v2144) a + S8x128.size a ≤ S4096x32000.size a := fun i v2144 k1_hw202 => k1_hw202.1
theorem k1_off309_inb : ∀ (i : grid1.Coords) (v2144 : BitVec 32) (k1_hw202 : k1_chk202 i v2144), ∀ a, (k1_off309 i v2144) a + S8x128.size a ≤ S4096x32000.size a := fun i v2144 k1_hw202 => k1_hw202.2

def k1_off310 (i : grid1.Coords) (v2154 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c104_i32_1395 : BitVec 32 := 104#32
  let v2152 : BitVec 32 := Scalar.addi v2 c104_i32_1395
  let c128_i32_1396 : BitVec 32 := 128#32
  let v2155 : BitVec 32 := Scalar.muli v2154 c128_i32_1396
  ![v2152.toNat, v2155.toNat]

def k1_chk203 (i : grid1.Coords) (v2154 : BitVec 32) : Prop :=
  (∀ a, (k1_off294 i v2154) a + S8x128.size a ≤ S4096x32000.size a) ∧
  (∀ a, (k1_off310 i v2154) a + S8x128.size a ≤ S4096x32000.size a)
theorem k1_off294_inb : ∀ (i : grid1.Coords) (v2154 : BitVec 32) (k1_hw203 : k1_chk203 i v2154), ∀ a, (k1_off294 i v2154) a + S8x128.size a ≤ S4096x32000.size a := fun i v2154 k1_hw203 => k1_hw203.1
theorem k1_off310_inb : ∀ (i : grid1.Coords) (v2154 : BitVec 32) (k1_hw203 : k1_chk203 i v2154), ∀ a, (k1_off310 i v2154) a + S8x128.size a ≤ S4096x32000.size a := fun i v2154 k1_hw203 => k1_hw203.2

def k1_off311 (i : grid1.Coords) (v2164 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c104_i32_1402 : BitVec 32 := 104#32
  let v2162 : BitVec 32 := Scalar.addi v2 c104_i32_1402
  let c128_i32_1403 : BitVec 32 := 128#32
  let v2165 : BitVec 32 := Scalar.muli v2164 c128_i32_1403
  ![v2162.toNat, v2165.toNat]

def k1_chk204 (i : grid1.Coords) (v2164 : BitVec 32) : Prop :=
  (∀ a, (k1_off295 i v2164) a + S8x128.size a ≤ S4096x32000.size a) ∧
  (∀ a, (k1_off311 i v2164) a + S8x128.size a ≤ S4096x32000.size a)
theorem k1_off295_inb : ∀ (i : grid1.Coords) (v2164 : BitVec 32) (k1_hw204 : k1_chk204 i v2164), ∀ a, (k1_off295 i v2164) a + S8x128.size a ≤ S4096x32000.size a := fun i v2164 k1_hw204 => k1_hw204.1
theorem k1_off311_inb : ∀ (i : grid1.Coords) (v2164 : BitVec 32) (k1_hw204 : k1_chk204 i v2164), ∀ a, (k1_off311 i v2164) a + S8x128.size a ≤ S4096x32000.size a := fun i v2164 k1_hw204 => k1_hw204.2

def k1_off312 (i : grid1.Coords) (v2174 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c104_i32_1409 : BitVec 32 := 104#32
  let v2172 : BitVec 32 := Scalar.addi v2 c104_i32_1409
  let c128_i32_1410 : BitVec 32 := 128#32
  let v2175 : BitVec 32 := Scalar.muli v2174 c128_i32_1410
  ![v2172.toNat, v2175.toNat]

def k1_chk205 (i : grid1.Coords) (v2174 : BitVec 32) : Prop :=
  (∀ a, (k1_off296 i v2174) a + S8x128.size a ≤ S4096x32000.size a) ∧
  (∀ a, (k1_off312 i v2174) a + S8x128.size a ≤ S4096x32000.size a)
theorem k1_off296_inb : ∀ (i : grid1.Coords) (v2174 : BitVec 32) (k1_hw205 : k1_chk205 i v2174), ∀ a, (k1_off296 i v2174) a + S8x128.size a ≤ S4096x32000.size a := fun i v2174 k1_hw205 => k1_hw205.1
theorem k1_off312_inb : ∀ (i : grid1.Coords) (v2174 : BitVec 32) (k1_hw205 : k1_chk205 i v2174), ∀ a, (k1_off312 i v2174) a + S8x128.size a ≤ S4096x32000.size a := fun i v2174 k1_hw205 => k1_hw205.2

def k1_off313 (i : grid1.Coords) (v2184 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c104_i32_1416 : BitVec 32 := 104#32
  let v2182 : BitVec 32 := Scalar.addi v2 c104_i32_1416
  let c128_i32_1417 : BitVec 32 := 128#32
  let v2185 : BitVec 32 := Scalar.muli v2184 c128_i32_1417
  ![v2182.toNat, v2185.toNat]

def k1_chk206 (i : grid1.Coords) (v2184 : BitVec 32) : Prop :=
  (∀ a, (k1_off297 i v2184) a + S8x128.size a ≤ S4096x32000.size a) ∧
  (∀ a, (k1_off313 i v2184) a + S8x128.size a ≤ S4096x32000.size a)
theorem k1_off297_inb : ∀ (i : grid1.Coords) (v2184 : BitVec 32) (k1_hw206 : k1_chk206 i v2184), ∀ a, (k1_off297 i v2184) a + S8x128.size a ≤ S4096x32000.size a := fun i v2184 k1_hw206 => k1_hw206.1
theorem k1_off313_inb : ∀ (i : grid1.Coords) (v2184 : BitVec 32) (k1_hw206 : k1_chk206 i v2184), ∀ a, (k1_off313 i v2184) a + S8x128.size a ≤ S4096x32000.size a := fun i v2184 k1_hw206 => k1_hw206.2

def k1_off314 (i : grid1.Coords) (v2194 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c104_i32_1423 : BitVec 32 := 104#32
  let v2192 : BitVec 32 := Scalar.addi v2 c104_i32_1423
  let c128_i32_1424 : BitVec 32 := 128#32
  let v2195 : BitVec 32 := Scalar.muli v2194 c128_i32_1424
  ![v2192.toNat, v2195.toNat]

def k1_chk207 (i : grid1.Coords) (v2194 : BitVec 32) : Prop :=
  (∀ a, (k1_off298 i v2194) a + S8x128.size a ≤ S4096x32000.size a) ∧
  (∀ a, (k1_off314 i v2194) a + S8x128.size a ≤ S4096x32000.size a)
theorem k1_off298_inb : ∀ (i : grid1.Coords) (v2194 : BitVec 32) (k1_hw207 : k1_chk207 i v2194), ∀ a, (k1_off298 i v2194) a + S8x128.size a ≤ S4096x32000.size a := fun i v2194 k1_hw207 => k1_hw207.1
theorem k1_off314_inb : ∀ (i : grid1.Coords) (v2194 : BitVec 32) (k1_hw207 : k1_chk207 i v2194), ∀ a, (k1_off314 i v2194) a + S8x128.size a ≤ S4096x32000.size a := fun i v2194 k1_hw207 => k1_hw207.2

def k1_off315 (v2309 : BitVec 32) : Fin 3 → Nat :=
  let c0_i32_1778 : BitVec 32 := 0#32
  let v2738 : Index := Scalar.indexCast c0_i32_1778
  let c0_i32_1779 : BitVec 32 := 0#32
  let v2739 : Index := Scalar.indexCast c0_i32_1779
  let c4_i32_1775 : BitVec 32 := 4#32
  let v2735 : BitVec 32 := Scalar.shrsi v2309 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![0, 0, v2740.toNat]
def k1_cond97 (v2309 : BitVec 32) : BitVec 1 :=
  let c0_i32_1517 : BitVec 32 := 0#32
  let v2310 : BitVec 1 := Scalar.cmpi .ne v2309 c0_i32_1517
  let v2311 : BitVec 32 := Scalar.extui v2310
  let c0_i32_1518 : BitVec 32 := 0#32
  let v2312 : BitVec 1 := Scalar.cmpi .ne v2311 c0_i32_1518
  v2312

def k1_chk209 (v2309 : BitVec 32) : Prop :=
  (∀ (k1_h97 : k1_cond97 v2309 = 1#1), ∀ a, (k1_off315 v2309) a + S1x1x16.size a ≤ S16x8x128.size a)
theorem k1_off315_inb : ∀ (v2309 : BitVec 32) (k1_hw209 : k1_chk209 v2309), ∀ (k1_h97 : k1_cond97 v2309 = 1#1), ∀ a, (k1_off315 v2309) a + S1x1x16.size a ≤ S16x8x128.size a := fun v2309 k1_hw209 k1_h97 => k1_hw209 k1_h97

def k1_off316 (v2314 : BitVec 32) : Fin 3 → Nat :=
  let c1_i32_1778 : BitVec 32 := 1#32
  let v2738 : Index := Scalar.indexCast c1_i32_1778
  let c1_i32_1779 : BitVec 32 := 1#32
  let v2739 : Index := Scalar.indexCast c1_i32_1779
  let c4_i32_1775 : BitVec 32 := 4#32
  let v2735 : BitVec 32 := Scalar.shrsi v2314 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![1, 1, v2740.toNat]
def k1_cond98 (v2314 : BitVec 32) : BitVec 1 :=
  let c0_i32_1519 : BitVec 32 := 0#32
  let v2315 : BitVec 1 := Scalar.cmpi .ne v2314 c0_i32_1519
  let v2316 : BitVec 32 := Scalar.extui v2315
  let c0_i32_1520 : BitVec 32 := 0#32
  let v2317 : BitVec 1 := Scalar.cmpi .ne v2316 c0_i32_1520
  v2317

def k1_chk210 (v2314 : BitVec 32) : Prop :=
  (∀ (k1_h98 : k1_cond98 v2314 = 1#1), ∀ a, (k1_off316 v2314) a + S1x1x16.size a ≤ S16x8x128.size a)
theorem k1_off316_inb : ∀ (v2314 : BitVec 32) (k1_hw210 : k1_chk210 v2314), ∀ (k1_h98 : k1_cond98 v2314 = 1#1), ∀ a, (k1_off316 v2314) a + S1x1x16.size a ≤ S16x8x128.size a := fun v2314 k1_hw210 k1_h98 => k1_hw210 k1_h98

def k1_off317 (v2319 : BitVec 32) : Fin 3 → Nat :=
  let c2_i32_1778 : BitVec 32 := 2#32
  let v2738 : Index := Scalar.indexCast c2_i32_1778
  let c2_i32_1779 : BitVec 32 := 2#32
  let v2739 : Index := Scalar.indexCast c2_i32_1779
  let c4_i32_1775 : BitVec 32 := 4#32
  let v2735 : BitVec 32 := Scalar.shrsi v2319 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![2, 2, v2740.toNat]
def k1_cond99 (v2319 : BitVec 32) : BitVec 1 :=
  let c0_i32_1521 : BitVec 32 := 0#32
  let v2320 : BitVec 1 := Scalar.cmpi .ne v2319 c0_i32_1521
  let v2321 : BitVec 32 := Scalar.extui v2320
  let c0_i32_1522 : BitVec 32 := 0#32
  let v2322 : BitVec 1 := Scalar.cmpi .ne v2321 c0_i32_1522
  v2322

def k1_chk211 (v2319 : BitVec 32) : Prop :=
  (∀ (k1_h99 : k1_cond99 v2319 = 1#1), ∀ a, (k1_off317 v2319) a + S1x1x16.size a ≤ S16x8x128.size a)
theorem k1_off317_inb : ∀ (v2319 : BitVec 32) (k1_hw211 : k1_chk211 v2319), ∀ (k1_h99 : k1_cond99 v2319 = 1#1), ∀ a, (k1_off317 v2319) a + S1x1x16.size a ≤ S16x8x128.size a := fun v2319 k1_hw211 k1_h99 => k1_hw211 k1_h99

def k1_off318 (v2324 : BitVec 32) : Fin 3 → Nat :=
  let c3_i32_1778 : BitVec 32 := 3#32
  let v2738 : Index := Scalar.indexCast c3_i32_1778
  let c3_i32_1779 : BitVec 32 := 3#32
  let v2739 : Index := Scalar.indexCast c3_i32_1779
  let c4_i32_1775 : BitVec 32 := 4#32
  let v2735 : BitVec 32 := Scalar.shrsi v2324 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![3, 3, v2740.toNat]
def k1_cond100 (v2324 : BitVec 32) : BitVec 1 :=
  let c0_i32_1523 : BitVec 32 := 0#32
  let v2325 : BitVec 1 := Scalar.cmpi .ne v2324 c0_i32_1523
  let v2326 : BitVec 32 := Scalar.extui v2325
  let c0_i32_1524 : BitVec 32 := 0#32
  let v2327 : BitVec 1 := Scalar.cmpi .ne v2326 c0_i32_1524
  v2327

def k1_chk212 (v2324 : BitVec 32) : Prop :=
  (∀ (k1_h100 : k1_cond100 v2324 = 1#1), ∀ a, (k1_off318 v2324) a + S1x1x16.size a ≤ S16x8x128.size a)
theorem k1_off318_inb : ∀ (v2324 : BitVec 32) (k1_hw212 : k1_chk212 v2324), ∀ (k1_h100 : k1_cond100 v2324 = 1#1), ∀ a, (k1_off318 v2324) a + S1x1x16.size a ≤ S16x8x128.size a := fun v2324 k1_hw212 k1_h100 => k1_hw212 k1_h100

def k1_off319 (v2329 : BitVec 32) : Fin 3 → Nat :=
  let c4_i32_1778 : BitVec 32 := 4#32
  let v2738 : Index := Scalar.indexCast c4_i32_1778
  let c4_i32_1779 : BitVec 32 := 4#32
  let v2739 : Index := Scalar.indexCast c4_i32_1779
  let c4_i32_1775 : BitVec 32 := 4#32
  let v2735 : BitVec 32 := Scalar.shrsi v2329 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![4, 4, v2740.toNat]
def k1_cond101 (v2329 : BitVec 32) : BitVec 1 :=
  let c0_i32_1525 : BitVec 32 := 0#32
  let v2330 : BitVec 1 := Scalar.cmpi .ne v2329 c0_i32_1525
  let v2331 : BitVec 32 := Scalar.extui v2330
  let c0_i32_1526 : BitVec 32 := 0#32
  let v2332 : BitVec 1 := Scalar.cmpi .ne v2331 c0_i32_1526
  v2332

def k1_chk213 (v2329 : BitVec 32) : Prop :=
  (∀ (k1_h101 : k1_cond101 v2329 = 1#1), ∀ a, (k1_off319 v2329) a + S1x1x16.size a ≤ S16x8x128.size a)
theorem k1_off319_inb : ∀ (v2329 : BitVec 32) (k1_hw213 : k1_chk213 v2329), ∀ (k1_h101 : k1_cond101 v2329 = 1#1), ∀ a, (k1_off319 v2329) a + S1x1x16.size a ≤ S16x8x128.size a := fun v2329 k1_hw213 k1_h101 => k1_hw213 k1_h101

def k1_off320 (v2334 : BitVec 32) : Fin 3 → Nat :=
  let c5_i32_1778 : BitVec 32 := 5#32
  let v2738 : Index := Scalar.indexCast c5_i32_1778
  let c5_i32_1779 : BitVec 32 := 5#32
  let v2739 : Index := Scalar.indexCast c5_i32_1779
  let c4_i32_1775 : BitVec 32 := 4#32
  let v2735 : BitVec 32 := Scalar.shrsi v2334 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![5, 5, v2740.toNat]
def k1_cond102 (v2334 : BitVec 32) : BitVec 1 :=
  let c0_i32_1527 : BitVec 32 := 0#32
  let v2335 : BitVec 1 := Scalar.cmpi .ne v2334 c0_i32_1527
  let v2336 : BitVec 32 := Scalar.extui v2335
  let c0_i32_1528 : BitVec 32 := 0#32
  let v2337 : BitVec 1 := Scalar.cmpi .ne v2336 c0_i32_1528
  v2337

def k1_chk214 (v2334 : BitVec 32) : Prop :=
  (∀ (k1_h102 : k1_cond102 v2334 = 1#1), ∀ a, (k1_off320 v2334) a + S1x1x16.size a ≤ S16x8x128.size a)
theorem k1_off320_inb : ∀ (v2334 : BitVec 32) (k1_hw214 : k1_chk214 v2334), ∀ (k1_h102 : k1_cond102 v2334 = 1#1), ∀ a, (k1_off320 v2334) a + S1x1x16.size a ≤ S16x8x128.size a := fun v2334 k1_hw214 k1_h102 => k1_hw214 k1_h102

def k1_off321 (v2339 : BitVec 32) : Fin 3 → Nat :=
  let c6_i32_1778 : BitVec 32 := 6#32
  let v2738 : Index := Scalar.indexCast c6_i32_1778
  let c6_i32_1779 : BitVec 32 := 6#32
  let v2739 : Index := Scalar.indexCast c6_i32_1779
  let c4_i32_1775 : BitVec 32 := 4#32
  let v2735 : BitVec 32 := Scalar.shrsi v2339 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![6, 6, v2740.toNat]
def k1_cond103 (v2339 : BitVec 32) : BitVec 1 :=
  let c0_i32_1529 : BitVec 32 := 0#32
  let v2340 : BitVec 1 := Scalar.cmpi .ne v2339 c0_i32_1529
  let v2341 : BitVec 32 := Scalar.extui v2340
  let c0_i32_1530 : BitVec 32 := 0#32
  let v2342 : BitVec 1 := Scalar.cmpi .ne v2341 c0_i32_1530
  v2342

def k1_chk215 (v2339 : BitVec 32) : Prop :=
  (∀ (k1_h103 : k1_cond103 v2339 = 1#1), ∀ a, (k1_off321 v2339) a + S1x1x16.size a ≤ S16x8x128.size a)
theorem k1_off321_inb : ∀ (v2339 : BitVec 32) (k1_hw215 : k1_chk215 v2339), ∀ (k1_h103 : k1_cond103 v2339 = 1#1), ∀ a, (k1_off321 v2339) a + S1x1x16.size a ≤ S16x8x128.size a := fun v2339 k1_hw215 k1_h103 => k1_hw215 k1_h103

def k1_off322 (v2344 : BitVec 32) : Fin 3 → Nat :=
  let c7_i32_1778 : BitVec 32 := 7#32
  let v2738 : Index := Scalar.indexCast c7_i32_1778
  let c7_i32_1779 : BitVec 32 := 7#32
  let v2739 : Index := Scalar.indexCast c7_i32_1779
  let c4_i32_1775 : BitVec 32 := 4#32
  let v2735 : BitVec 32 := Scalar.shrsi v2344 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![7, 7, v2740.toNat]
def k1_cond104 (v2344 : BitVec 32) : BitVec 1 :=
  let c0_i32_1531 : BitVec 32 := 0#32
  let v2345 : BitVec 1 := Scalar.cmpi .ne v2344 c0_i32_1531
  let v2346 : BitVec 32 := Scalar.extui v2345
  let c0_i32_1532 : BitVec 32 := 0#32
  let v2347 : BitVec 1 := Scalar.cmpi .ne v2346 c0_i32_1532
  v2347

def k1_chk216 (v2344 : BitVec 32) : Prop :=
  (∀ (k1_h104 : k1_cond104 v2344 = 1#1), ∀ a, (k1_off322 v2344) a + S1x1x16.size a ≤ S16x8x128.size a)
theorem k1_off322_inb : ∀ (v2344 : BitVec 32) (k1_hw216 : k1_chk216 v2344), ∀ (k1_h104 : k1_cond104 v2344 = 1#1), ∀ a, (k1_off322 v2344) a + S1x1x16.size a ≤ S16x8x128.size a := fun v2344 k1_hw216 k1_h104 => k1_hw216 k1_h104

def k1_off323 (v2349 : BitVec 32) : Fin 3 → Nat :=
  let c8_i32_1778 : BitVec 32 := 8#32
  let v2738 : Index := Scalar.indexCast c8_i32_1778
  let c0_i32_1779 : BitVec 32 := 0#32
  let v2739 : Index := Scalar.indexCast c0_i32_1779
  let c4_i32_1775 : BitVec 32 := 4#32
  let v2735 : BitVec 32 := Scalar.shrsi v2349 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![8, 0, v2740.toNat]
def k1_cond105 (v2349 : BitVec 32) : BitVec 1 :=
  let c0_i32_1533 : BitVec 32 := 0#32
  let v2350 : BitVec 1 := Scalar.cmpi .ne v2349 c0_i32_1533
  let v2351 : BitVec 32 := Scalar.extui v2350
  let c0_i32_1534 : BitVec 32 := 0#32
  let v2352 : BitVec 1 := Scalar.cmpi .ne v2351 c0_i32_1534
  v2352

def k1_chk217 (v2349 : BitVec 32) : Prop :=
  (∀ (k1_h105 : k1_cond105 v2349 = 1#1), ∀ a, (k1_off323 v2349) a + S1x1x16.size a ≤ S16x8x128.size a)
theorem k1_off323_inb : ∀ (v2349 : BitVec 32) (k1_hw217 : k1_chk217 v2349), ∀ (k1_h105 : k1_cond105 v2349 = 1#1), ∀ a, (k1_off323 v2349) a + S1x1x16.size a ≤ S16x8x128.size a := fun v2349 k1_hw217 k1_h105 => k1_hw217 k1_h105

def k1_off324 (v2354 : BitVec 32) : Fin 3 → Nat :=
  let c9_i32_1778 : BitVec 32 := 9#32
  let v2738 : Index := Scalar.indexCast c9_i32_1778
  let c1_i32_1779 : BitVec 32 := 1#32
  let v2739 : Index := Scalar.indexCast c1_i32_1779
  let c4_i32_1775 : BitVec 32 := 4#32
  let v2735 : BitVec 32 := Scalar.shrsi v2354 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![9, 1, v2740.toNat]
def k1_cond106 (v2354 : BitVec 32) : BitVec 1 :=
  let c0_i32_1535 : BitVec 32 := 0#32
  let v2355 : BitVec 1 := Scalar.cmpi .ne v2354 c0_i32_1535
  let v2356 : BitVec 32 := Scalar.extui v2355
  let c0_i32_1536 : BitVec 32 := 0#32
  let v2357 : BitVec 1 := Scalar.cmpi .ne v2356 c0_i32_1536
  v2357

def k1_chk218 (v2354 : BitVec 32) : Prop :=
  (∀ (k1_h106 : k1_cond106 v2354 = 1#1), ∀ a, (k1_off324 v2354) a + S1x1x16.size a ≤ S16x8x128.size a)
theorem k1_off324_inb : ∀ (v2354 : BitVec 32) (k1_hw218 : k1_chk218 v2354), ∀ (k1_h106 : k1_cond106 v2354 = 1#1), ∀ a, (k1_off324 v2354) a + S1x1x16.size a ≤ S16x8x128.size a := fun v2354 k1_hw218 k1_h106 => k1_hw218 k1_h106

def k1_off325 (v2359 : BitVec 32) : Fin 3 → Nat :=
  let c10_i32_1778 : BitVec 32 := 10#32
  let v2738 : Index := Scalar.indexCast c10_i32_1778
  let c2_i32_1779 : BitVec 32 := 2#32
  let v2739 : Index := Scalar.indexCast c2_i32_1779
  let c4_i32_1775 : BitVec 32 := 4#32
  let v2735 : BitVec 32 := Scalar.shrsi v2359 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![10, 2, v2740.toNat]
def k1_cond107 (v2359 : BitVec 32) : BitVec 1 :=
  let c0_i32_1537 : BitVec 32 := 0#32
  let v2360 : BitVec 1 := Scalar.cmpi .ne v2359 c0_i32_1537
  let v2361 : BitVec 32 := Scalar.extui v2360
  let c0_i32_1538 : BitVec 32 := 0#32
  let v2362 : BitVec 1 := Scalar.cmpi .ne v2361 c0_i32_1538
  v2362

def k1_chk219 (v2359 : BitVec 32) : Prop :=
  (∀ (k1_h107 : k1_cond107 v2359 = 1#1), ∀ a, (k1_off325 v2359) a + S1x1x16.size a ≤ S16x8x128.size a)
theorem k1_off325_inb : ∀ (v2359 : BitVec 32) (k1_hw219 : k1_chk219 v2359), ∀ (k1_h107 : k1_cond107 v2359 = 1#1), ∀ a, (k1_off325 v2359) a + S1x1x16.size a ≤ S16x8x128.size a := fun v2359 k1_hw219 k1_h107 => k1_hw219 k1_h107

def k1_off326 (v2364 : BitVec 32) : Fin 3 → Nat :=
  let c11_i32_1778 : BitVec 32 := 11#32
  let v2738 : Index := Scalar.indexCast c11_i32_1778
  let c3_i32_1779 : BitVec 32 := 3#32
  let v2739 : Index := Scalar.indexCast c3_i32_1779
  let c4_i32_1775 : BitVec 32 := 4#32
  let v2735 : BitVec 32 := Scalar.shrsi v2364 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![11, 3, v2740.toNat]
def k1_cond108 (v2364 : BitVec 32) : BitVec 1 :=
  let c0_i32_1539 : BitVec 32 := 0#32
  let v2365 : BitVec 1 := Scalar.cmpi .ne v2364 c0_i32_1539
  let v2366 : BitVec 32 := Scalar.extui v2365
  let c0_i32_1540 : BitVec 32 := 0#32
  let v2367 : BitVec 1 := Scalar.cmpi .ne v2366 c0_i32_1540
  v2367

def k1_chk220 (v2364 : BitVec 32) : Prop :=
  (∀ (k1_h108 : k1_cond108 v2364 = 1#1), ∀ a, (k1_off326 v2364) a + S1x1x16.size a ≤ S16x8x128.size a)
theorem k1_off326_inb : ∀ (v2364 : BitVec 32) (k1_hw220 : k1_chk220 v2364), ∀ (k1_h108 : k1_cond108 v2364 = 1#1), ∀ a, (k1_off326 v2364) a + S1x1x16.size a ≤ S16x8x128.size a := fun v2364 k1_hw220 k1_h108 => k1_hw220 k1_h108

def k1_off327 (v2369 : BitVec 32) : Fin 3 → Nat :=
  let c12_i32_1778 : BitVec 32 := 12#32
  let v2738 : Index := Scalar.indexCast c12_i32_1778
  let c4_i32_1779 : BitVec 32 := 4#32
  let v2739 : Index := Scalar.indexCast c4_i32_1779
  let c4_i32_1775 : BitVec 32 := 4#32
  let v2735 : BitVec 32 := Scalar.shrsi v2369 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![12, 4, v2740.toNat]
def k1_cond109 (v2369 : BitVec 32) : BitVec 1 :=
  let c0_i32_1541 : BitVec 32 := 0#32
  let v2370 : BitVec 1 := Scalar.cmpi .ne v2369 c0_i32_1541
  let v2371 : BitVec 32 := Scalar.extui v2370
  let c0_i32_1542 : BitVec 32 := 0#32
  let v2372 : BitVec 1 := Scalar.cmpi .ne v2371 c0_i32_1542
  v2372

def k1_chk221 (v2369 : BitVec 32) : Prop :=
  (∀ (k1_h109 : k1_cond109 v2369 = 1#1), ∀ a, (k1_off327 v2369) a + S1x1x16.size a ≤ S16x8x128.size a)
theorem k1_off327_inb : ∀ (v2369 : BitVec 32) (k1_hw221 : k1_chk221 v2369), ∀ (k1_h109 : k1_cond109 v2369 = 1#1), ∀ a, (k1_off327 v2369) a + S1x1x16.size a ≤ S16x8x128.size a := fun v2369 k1_hw221 k1_h109 => k1_hw221 k1_h109

def k1_off328 (v2374 : BitVec 32) : Fin 3 → Nat :=
  let c13_i32_1778 : BitVec 32 := 13#32
  let v2738 : Index := Scalar.indexCast c13_i32_1778
  let c5_i32_1779 : BitVec 32 := 5#32
  let v2739 : Index := Scalar.indexCast c5_i32_1779
  let c4_i32_1775 : BitVec 32 := 4#32
  let v2735 : BitVec 32 := Scalar.shrsi v2374 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![13, 5, v2740.toNat]
def k1_cond110 (v2374 : BitVec 32) : BitVec 1 :=
  let c0_i32_1543 : BitVec 32 := 0#32
  let v2375 : BitVec 1 := Scalar.cmpi .ne v2374 c0_i32_1543
  let v2376 : BitVec 32 := Scalar.extui v2375
  let c0_i32_1544 : BitVec 32 := 0#32
  let v2377 : BitVec 1 := Scalar.cmpi .ne v2376 c0_i32_1544
  v2377

def k1_chk222 (v2374 : BitVec 32) : Prop :=
  (∀ (k1_h110 : k1_cond110 v2374 = 1#1), ∀ a, (k1_off328 v2374) a + S1x1x16.size a ≤ S16x8x128.size a)
theorem k1_off328_inb : ∀ (v2374 : BitVec 32) (k1_hw222 : k1_chk222 v2374), ∀ (k1_h110 : k1_cond110 v2374 = 1#1), ∀ a, (k1_off328 v2374) a + S1x1x16.size a ≤ S16x8x128.size a := fun v2374 k1_hw222 k1_h110 => k1_hw222 k1_h110

def k1_off329 (v2379 : BitVec 32) : Fin 3 → Nat :=
  let c14_i32_1778 : BitVec 32 := 14#32
  let v2738 : Index := Scalar.indexCast c14_i32_1778
  let c6_i32_1779 : BitVec 32 := 6#32
  let v2739 : Index := Scalar.indexCast c6_i32_1779
  let c4_i32_1775 : BitVec 32 := 4#32
  let v2735 : BitVec 32 := Scalar.shrsi v2379 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![14, 6, v2740.toNat]
def k1_cond111 (v2379 : BitVec 32) : BitVec 1 :=
  let c0_i32_1545 : BitVec 32 := 0#32
  let v2380 : BitVec 1 := Scalar.cmpi .ne v2379 c0_i32_1545
  let v2381 : BitVec 32 := Scalar.extui v2380
  let c0_i32_1546 : BitVec 32 := 0#32
  let v2382 : BitVec 1 := Scalar.cmpi .ne v2381 c0_i32_1546
  v2382

def k1_chk223 (v2379 : BitVec 32) : Prop :=
  (∀ (k1_h111 : k1_cond111 v2379 = 1#1), ∀ a, (k1_off329 v2379) a + S1x1x16.size a ≤ S16x8x128.size a)
theorem k1_off329_inb : ∀ (v2379 : BitVec 32) (k1_hw223 : k1_chk223 v2379), ∀ (k1_h111 : k1_cond111 v2379 = 1#1), ∀ a, (k1_off329 v2379) a + S1x1x16.size a ≤ S16x8x128.size a := fun v2379 k1_hw223 k1_h111 => k1_hw223 k1_h111

def k1_off330 (v2384 : BitVec 32) : Fin 3 → Nat :=
  let c15_i32_1778 : BitVec 32 := 15#32
  let v2738 : Index := Scalar.indexCast c15_i32_1778
  let c7_i32_1779 : BitVec 32 := 7#32
  let v2739 : Index := Scalar.indexCast c7_i32_1779
  let c4_i32_1775 : BitVec 32 := 4#32
  let v2735 : BitVec 32 := Scalar.shrsi v2384 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![15, 7, v2740.toNat]
def k1_cond112 (v2384 : BitVec 32) : BitVec 1 :=
  let c0_i32_1547 : BitVec 32 := 0#32
  let v2385 : BitVec 1 := Scalar.cmpi .ne v2384 c0_i32_1547
  let v2386 : BitVec 32 := Scalar.extui v2385
  let c0_i32_1548 : BitVec 32 := 0#32
  let v2387 : BitVec 1 := Scalar.cmpi .ne v2386 c0_i32_1548
  v2387

def k1_chk224 (v2384 : BitVec 32) : Prop :=
  (∀ (k1_h112 : k1_cond112 v2384 = 1#1), ∀ a, (k1_off330 v2384) a + S1x1x16.size a ≤ S16x8x128.size a)
theorem k1_off330_inb : ∀ (v2384 : BitVec 32) (k1_hw224 : k1_chk224 v2384), ∀ (k1_h112 : k1_cond112 v2384 = 1#1), ∀ a, (k1_off330 v2384) a + S1x1x16.size a ≤ S16x8x128.size a := fun v2384 k1_hw224 k1_h112 => k1_hw224 k1_h112

def k1_off331 (i : grid1.Coords) (v2394 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c112_i32 : BitVec 32 := 112#32
  let v2392 : BitVec 32 := Scalar.addi v2 c112_i32
  let c128_i32_1550 : BitVec 32 := 128#32
  let v2395 : BitVec 32 := Scalar.muli v2394 c128_i32_1550
  ![v2392.toNat, v2395.toNat]

def k1_off332 (i : grid1.Coords) (v2404 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c112_i32_1556 : BitVec 32 := 112#32
  let v2402 : BitVec 32 := Scalar.addi v2 c112_i32_1556
  let c128_i32_1557 : BitVec 32 := 128#32
  let v2405 : BitVec 32 := Scalar.muli v2404 c128_i32_1557
  ![v2402.toNat, v2405.toNat]

def k1_off333 (i : grid1.Coords) (v2414 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c112_i32_1563 : BitVec 32 := 112#32
  let v2412 : BitVec 32 := Scalar.addi v2 c112_i32_1563
  let c128_i32_1564 : BitVec 32 := 128#32
  let v2415 : BitVec 32 := Scalar.muli v2414 c128_i32_1564
  ![v2412.toNat, v2415.toNat]

def k1_off334 (i : grid1.Coords) (v2424 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c112_i32_1570 : BitVec 32 := 112#32
  let v2422 : BitVec 32 := Scalar.addi v2 c112_i32_1570
  let c128_i32_1571 : BitVec 32 := 128#32
  let v2425 : BitVec 32 := Scalar.muli v2424 c128_i32_1571
  ![v2422.toNat, v2425.toNat]

def k1_off335 (i : grid1.Coords) (v2434 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c112_i32_1577 : BitVec 32 := 112#32
  let v2432 : BitVec 32 := Scalar.addi v2 c112_i32_1577
  let c128_i32_1578 : BitVec 32 := 128#32
  let v2435 : BitVec 32 := Scalar.muli v2434 c128_i32_1578
  ![v2432.toNat, v2435.toNat]

def k1_off336 (i : grid1.Coords) (v2444 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c112_i32_1584 : BitVec 32 := 112#32
  let v2442 : BitVec 32 := Scalar.addi v2 c112_i32_1584
  let c128_i32_1585 : BitVec 32 := 128#32
  let v2445 : BitVec 32 := Scalar.muli v2444 c128_i32_1585
  ![v2442.toNat, v2445.toNat]

def k1_off337 (i : grid1.Coords) (v2454 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c112_i32_1591 : BitVec 32 := 112#32
  let v2452 : BitVec 32 := Scalar.addi v2 c112_i32_1591
  let c128_i32_1592 : BitVec 32 := 128#32
  let v2455 : BitVec 32 := Scalar.muli v2454 c128_i32_1592
  ![v2452.toNat, v2455.toNat]

def k1_off338 (i : grid1.Coords) (v2464 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c112_i32_1598 : BitVec 32 := 112#32
  let v2462 : BitVec 32 := Scalar.addi v2 c112_i32_1598
  let c128_i32_1599 : BitVec 32 := 128#32
  let v2465 : BitVec 32 := Scalar.muli v2464 c128_i32_1599
  ![v2462.toNat, v2465.toNat]

def k1_off339 (i : grid1.Coords) (v2474 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c120_i32 : BitVec 32 := 120#32
  let v2472 : BitVec 32 := Scalar.addi v2 c120_i32
  let c128_i32_1605 : BitVec 32 := 128#32
  let v2475 : BitVec 32 := Scalar.muli v2474 c128_i32_1605
  ![v2472.toNat, v2475.toNat]

def k1_off340 (i : grid1.Coords) (v2484 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c120_i32_1611 : BitVec 32 := 120#32
  let v2482 : BitVec 32 := Scalar.addi v2 c120_i32_1611
  let c128_i32_1612 : BitVec 32 := 128#32
  let v2485 : BitVec 32 := Scalar.muli v2484 c128_i32_1612
  ![v2482.toNat, v2485.toNat]

def k1_off341 (i : grid1.Coords) (v2494 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c120_i32_1618 : BitVec 32 := 120#32
  let v2492 : BitVec 32 := Scalar.addi v2 c120_i32_1618
  let c128_i32_1619 : BitVec 32 := 128#32
  let v2495 : BitVec 32 := Scalar.muli v2494 c128_i32_1619
  ![v2492.toNat, v2495.toNat]

def k1_off342 (i : grid1.Coords) (v2504 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c120_i32_1625 : BitVec 32 := 120#32
  let v2502 : BitVec 32 := Scalar.addi v2 c120_i32_1625
  let c128_i32_1626 : BitVec 32 := 128#32
  let v2505 : BitVec 32 := Scalar.muli v2504 c128_i32_1626
  ![v2502.toNat, v2505.toNat]

def k1_off343 (i : grid1.Coords) (v2514 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c120_i32_1632 : BitVec 32 := 120#32
  let v2512 : BitVec 32 := Scalar.addi v2 c120_i32_1632
  let c128_i32_1633 : BitVec 32 := 128#32
  let v2515 : BitVec 32 := Scalar.muli v2514 c128_i32_1633
  ![v2512.toNat, v2515.toNat]

def k1_off344 (i : grid1.Coords) (v2524 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c120_i32_1639 : BitVec 32 := 120#32
  let v2522 : BitVec 32 := Scalar.addi v2 c120_i32_1639
  let c128_i32_1640 : BitVec 32 := 128#32
  let v2525 : BitVec 32 := Scalar.muli v2524 c128_i32_1640
  ![v2522.toNat, v2525.toNat]

def k1_off345 (i : grid1.Coords) (v2534 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c120_i32_1646 : BitVec 32 := 120#32
  let v2532 : BitVec 32 := Scalar.addi v2 c120_i32_1646
  let c128_i32_1647 : BitVec 32 := 128#32
  let v2535 : BitVec 32 := Scalar.muli v2534 c128_i32_1647
  ![v2532.toNat, v2535.toNat]

def k1_off346 (i : grid1.Coords) (v2544 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c120_i32_1653 : BitVec 32 := 120#32
  let v2542 : BitVec 32 := Scalar.addi v2 c120_i32_1653
  let c128_i32_1654 : BitVec 32 := 128#32
  let v2545 : BitVec 32 := Scalar.muli v2544 c128_i32_1654
  ![v2542.toNat, v2545.toNat]

def k1_chk240 (i : grid1.Coords) (v2544 : BitVec 32) : Prop :=
  (∀ a, (k1_off346 i v2544) a + S8x128.size a ≤ S4096x32000.size a)
theorem k1_off346_inb : ∀ (i : grid1.Coords) (v2544 : BitVec 32) (k1_hw240 : k1_chk240 i v2544), ∀ a, (k1_off346 i v2544) a + S8x128.size a ≤ S4096x32000.size a := fun i v2544 k1_hw240 => k1_hw240

def k1_off347 (i : grid1.Coords) (v2394 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c112_i32 : BitVec 32 := 112#32
  let v2392 : BitVec 32 := Scalar.addi v2 c112_i32
  let c128_i32_1550 : BitVec 32 := 128#32
  let v2395 : BitVec 32 := Scalar.muli v2394 c128_i32_1550
  ![v2392.toNat, v2395.toNat]

def k1_chk225 (i : grid1.Coords) (v2394 : BitVec 32) : Prop :=
  (∀ a, (k1_off331 i v2394) a + S8x128.size a ≤ S4096x32000.size a) ∧
  (∀ a, (k1_off347 i v2394) a + S8x128.size a ≤ S4096x32000.size a)
theorem k1_off331_inb : ∀ (i : grid1.Coords) (v2394 : BitVec 32) (k1_hw225 : k1_chk225 i v2394), ∀ a, (k1_off331 i v2394) a + S8x128.size a ≤ S4096x32000.size a := fun i v2394 k1_hw225 => k1_hw225.1
theorem k1_off347_inb : ∀ (i : grid1.Coords) (v2394 : BitVec 32) (k1_hw225 : k1_chk225 i v2394), ∀ a, (k1_off347 i v2394) a + S8x128.size a ≤ S4096x32000.size a := fun i v2394 k1_hw225 => k1_hw225.2

def k1_off348 (i : grid1.Coords) (v2404 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c112_i32_1556 : BitVec 32 := 112#32
  let v2402 : BitVec 32 := Scalar.addi v2 c112_i32_1556
  let c128_i32_1557 : BitVec 32 := 128#32
  let v2405 : BitVec 32 := Scalar.muli v2404 c128_i32_1557
  ![v2402.toNat, v2405.toNat]

def k1_chk226 (i : grid1.Coords) (v2404 : BitVec 32) : Prop :=
  (∀ a, (k1_off332 i v2404) a + S8x128.size a ≤ S4096x32000.size a) ∧
  (∀ a, (k1_off348 i v2404) a + S8x128.size a ≤ S4096x32000.size a)
theorem k1_off332_inb : ∀ (i : grid1.Coords) (v2404 : BitVec 32) (k1_hw226 : k1_chk226 i v2404), ∀ a, (k1_off332 i v2404) a + S8x128.size a ≤ S4096x32000.size a := fun i v2404 k1_hw226 => k1_hw226.1
theorem k1_off348_inb : ∀ (i : grid1.Coords) (v2404 : BitVec 32) (k1_hw226 : k1_chk226 i v2404), ∀ a, (k1_off348 i v2404) a + S8x128.size a ≤ S4096x32000.size a := fun i v2404 k1_hw226 => k1_hw226.2

def k1_off349 (i : grid1.Coords) (v2414 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c112_i32_1563 : BitVec 32 := 112#32
  let v2412 : BitVec 32 := Scalar.addi v2 c112_i32_1563
  let c128_i32_1564 : BitVec 32 := 128#32
  let v2415 : BitVec 32 := Scalar.muli v2414 c128_i32_1564
  ![v2412.toNat, v2415.toNat]

def k1_chk227 (i : grid1.Coords) (v2414 : BitVec 32) : Prop :=
  (∀ a, (k1_off333 i v2414) a + S8x128.size a ≤ S4096x32000.size a) ∧
  (∀ a, (k1_off349 i v2414) a + S8x128.size a ≤ S4096x32000.size a)
theorem k1_off333_inb : ∀ (i : grid1.Coords) (v2414 : BitVec 32) (k1_hw227 : k1_chk227 i v2414), ∀ a, (k1_off333 i v2414) a + S8x128.size a ≤ S4096x32000.size a := fun i v2414 k1_hw227 => k1_hw227.1
theorem k1_off349_inb : ∀ (i : grid1.Coords) (v2414 : BitVec 32) (k1_hw227 : k1_chk227 i v2414), ∀ a, (k1_off349 i v2414) a + S8x128.size a ≤ S4096x32000.size a := fun i v2414 k1_hw227 => k1_hw227.2

def k1_off350 (i : grid1.Coords) (v2424 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c112_i32_1570 : BitVec 32 := 112#32
  let v2422 : BitVec 32 := Scalar.addi v2 c112_i32_1570
  let c128_i32_1571 : BitVec 32 := 128#32
  let v2425 : BitVec 32 := Scalar.muli v2424 c128_i32_1571
  ![v2422.toNat, v2425.toNat]

def k1_chk228 (i : grid1.Coords) (v2424 : BitVec 32) : Prop :=
  (∀ a, (k1_off334 i v2424) a + S8x128.size a ≤ S4096x32000.size a) ∧
  (∀ a, (k1_off350 i v2424) a + S8x128.size a ≤ S4096x32000.size a)
theorem k1_off334_inb : ∀ (i : grid1.Coords) (v2424 : BitVec 32) (k1_hw228 : k1_chk228 i v2424), ∀ a, (k1_off334 i v2424) a + S8x128.size a ≤ S4096x32000.size a := fun i v2424 k1_hw228 => k1_hw228.1
theorem k1_off350_inb : ∀ (i : grid1.Coords) (v2424 : BitVec 32) (k1_hw228 : k1_chk228 i v2424), ∀ a, (k1_off350 i v2424) a + S8x128.size a ≤ S4096x32000.size a := fun i v2424 k1_hw228 => k1_hw228.2

def k1_off351 (i : grid1.Coords) (v2434 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c112_i32_1577 : BitVec 32 := 112#32
  let v2432 : BitVec 32 := Scalar.addi v2 c112_i32_1577
  let c128_i32_1578 : BitVec 32 := 128#32
  let v2435 : BitVec 32 := Scalar.muli v2434 c128_i32_1578
  ![v2432.toNat, v2435.toNat]

def k1_chk229 (i : grid1.Coords) (v2434 : BitVec 32) : Prop :=
  (∀ a, (k1_off335 i v2434) a + S8x128.size a ≤ S4096x32000.size a) ∧
  (∀ a, (k1_off351 i v2434) a + S8x128.size a ≤ S4096x32000.size a)
theorem k1_off335_inb : ∀ (i : grid1.Coords) (v2434 : BitVec 32) (k1_hw229 : k1_chk229 i v2434), ∀ a, (k1_off335 i v2434) a + S8x128.size a ≤ S4096x32000.size a := fun i v2434 k1_hw229 => k1_hw229.1
theorem k1_off351_inb : ∀ (i : grid1.Coords) (v2434 : BitVec 32) (k1_hw229 : k1_chk229 i v2434), ∀ a, (k1_off351 i v2434) a + S8x128.size a ≤ S4096x32000.size a := fun i v2434 k1_hw229 => k1_hw229.2

def k1_off352 (i : grid1.Coords) (v2444 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c112_i32_1584 : BitVec 32 := 112#32
  let v2442 : BitVec 32 := Scalar.addi v2 c112_i32_1584
  let c128_i32_1585 : BitVec 32 := 128#32
  let v2445 : BitVec 32 := Scalar.muli v2444 c128_i32_1585
  ![v2442.toNat, v2445.toNat]

def k1_chk230 (i : grid1.Coords) (v2444 : BitVec 32) : Prop :=
  (∀ a, (k1_off336 i v2444) a + S8x128.size a ≤ S4096x32000.size a) ∧
  (∀ a, (k1_off352 i v2444) a + S8x128.size a ≤ S4096x32000.size a)
theorem k1_off336_inb : ∀ (i : grid1.Coords) (v2444 : BitVec 32) (k1_hw230 : k1_chk230 i v2444), ∀ a, (k1_off336 i v2444) a + S8x128.size a ≤ S4096x32000.size a := fun i v2444 k1_hw230 => k1_hw230.1
theorem k1_off352_inb : ∀ (i : grid1.Coords) (v2444 : BitVec 32) (k1_hw230 : k1_chk230 i v2444), ∀ a, (k1_off352 i v2444) a + S8x128.size a ≤ S4096x32000.size a := fun i v2444 k1_hw230 => k1_hw230.2

def k1_off353 (i : grid1.Coords) (v2454 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c112_i32_1591 : BitVec 32 := 112#32
  let v2452 : BitVec 32 := Scalar.addi v2 c112_i32_1591
  let c128_i32_1592 : BitVec 32 := 128#32
  let v2455 : BitVec 32 := Scalar.muli v2454 c128_i32_1592
  ![v2452.toNat, v2455.toNat]

def k1_chk231 (i : grid1.Coords) (v2454 : BitVec 32) : Prop :=
  (∀ a, (k1_off337 i v2454) a + S8x128.size a ≤ S4096x32000.size a) ∧
  (∀ a, (k1_off353 i v2454) a + S8x128.size a ≤ S4096x32000.size a)
theorem k1_off337_inb : ∀ (i : grid1.Coords) (v2454 : BitVec 32) (k1_hw231 : k1_chk231 i v2454), ∀ a, (k1_off337 i v2454) a + S8x128.size a ≤ S4096x32000.size a := fun i v2454 k1_hw231 => k1_hw231.1
theorem k1_off353_inb : ∀ (i : grid1.Coords) (v2454 : BitVec 32) (k1_hw231 : k1_chk231 i v2454), ∀ a, (k1_off353 i v2454) a + S8x128.size a ≤ S4096x32000.size a := fun i v2454 k1_hw231 => k1_hw231.2

def k1_off354 (i : grid1.Coords) (v2464 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c112_i32_1598 : BitVec 32 := 112#32
  let v2462 : BitVec 32 := Scalar.addi v2 c112_i32_1598
  let c128_i32_1599 : BitVec 32 := 128#32
  let v2465 : BitVec 32 := Scalar.muli v2464 c128_i32_1599
  ![v2462.toNat, v2465.toNat]

def k1_chk232 (i : grid1.Coords) (v2464 : BitVec 32) : Prop :=
  (∀ a, (k1_off338 i v2464) a + S8x128.size a ≤ S4096x32000.size a) ∧
  (∀ a, (k1_off354 i v2464) a + S8x128.size a ≤ S4096x32000.size a)
theorem k1_off338_inb : ∀ (i : grid1.Coords) (v2464 : BitVec 32) (k1_hw232 : k1_chk232 i v2464), ∀ a, (k1_off338 i v2464) a + S8x128.size a ≤ S4096x32000.size a := fun i v2464 k1_hw232 => k1_hw232.1
theorem k1_off354_inb : ∀ (i : grid1.Coords) (v2464 : BitVec 32) (k1_hw232 : k1_chk232 i v2464), ∀ a, (k1_off354 i v2464) a + S8x128.size a ≤ S4096x32000.size a := fun i v2464 k1_hw232 => k1_hw232.2

def k1_off355 (i : grid1.Coords) (v2474 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c120_i32 : BitVec 32 := 120#32
  let v2472 : BitVec 32 := Scalar.addi v2 c120_i32
  let c128_i32_1605 : BitVec 32 := 128#32
  let v2475 : BitVec 32 := Scalar.muli v2474 c128_i32_1605
  ![v2472.toNat, v2475.toNat]

def k1_chk233 (i : grid1.Coords) (v2474 : BitVec 32) : Prop :=
  (∀ a, (k1_off339 i v2474) a + S8x128.size a ≤ S4096x32000.size a) ∧
  (∀ a, (k1_off355 i v2474) a + S8x128.size a ≤ S4096x32000.size a)
theorem k1_off339_inb : ∀ (i : grid1.Coords) (v2474 : BitVec 32) (k1_hw233 : k1_chk233 i v2474), ∀ a, (k1_off339 i v2474) a + S8x128.size a ≤ S4096x32000.size a := fun i v2474 k1_hw233 => k1_hw233.1
theorem k1_off355_inb : ∀ (i : grid1.Coords) (v2474 : BitVec 32) (k1_hw233 : k1_chk233 i v2474), ∀ a, (k1_off355 i v2474) a + S8x128.size a ≤ S4096x32000.size a := fun i v2474 k1_hw233 => k1_hw233.2

def k1_off356 (i : grid1.Coords) (v2484 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c120_i32_1611 : BitVec 32 := 120#32
  let v2482 : BitVec 32 := Scalar.addi v2 c120_i32_1611
  let c128_i32_1612 : BitVec 32 := 128#32
  let v2485 : BitVec 32 := Scalar.muli v2484 c128_i32_1612
  ![v2482.toNat, v2485.toNat]

def k1_chk234 (i : grid1.Coords) (v2484 : BitVec 32) : Prop :=
  (∀ a, (k1_off340 i v2484) a + S8x128.size a ≤ S4096x32000.size a) ∧
  (∀ a, (k1_off356 i v2484) a + S8x128.size a ≤ S4096x32000.size a)
theorem k1_off340_inb : ∀ (i : grid1.Coords) (v2484 : BitVec 32) (k1_hw234 : k1_chk234 i v2484), ∀ a, (k1_off340 i v2484) a + S8x128.size a ≤ S4096x32000.size a := fun i v2484 k1_hw234 => k1_hw234.1
theorem k1_off356_inb : ∀ (i : grid1.Coords) (v2484 : BitVec 32) (k1_hw234 : k1_chk234 i v2484), ∀ a, (k1_off356 i v2484) a + S8x128.size a ≤ S4096x32000.size a := fun i v2484 k1_hw234 => k1_hw234.2

def k1_off357 (i : grid1.Coords) (v2494 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c120_i32_1618 : BitVec 32 := 120#32
  let v2492 : BitVec 32 := Scalar.addi v2 c120_i32_1618
  let c128_i32_1619 : BitVec 32 := 128#32
  let v2495 : BitVec 32 := Scalar.muli v2494 c128_i32_1619
  ![v2492.toNat, v2495.toNat]

def k1_chk235 (i : grid1.Coords) (v2494 : BitVec 32) : Prop :=
  (∀ a, (k1_off341 i v2494) a + S8x128.size a ≤ S4096x32000.size a) ∧
  (∀ a, (k1_off357 i v2494) a + S8x128.size a ≤ S4096x32000.size a)
theorem k1_off341_inb : ∀ (i : grid1.Coords) (v2494 : BitVec 32) (k1_hw235 : k1_chk235 i v2494), ∀ a, (k1_off341 i v2494) a + S8x128.size a ≤ S4096x32000.size a := fun i v2494 k1_hw235 => k1_hw235.1
theorem k1_off357_inb : ∀ (i : grid1.Coords) (v2494 : BitVec 32) (k1_hw235 : k1_chk235 i v2494), ∀ a, (k1_off357 i v2494) a + S8x128.size a ≤ S4096x32000.size a := fun i v2494 k1_hw235 => k1_hw235.2

def k1_off358 (i : grid1.Coords) (v2504 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c120_i32_1625 : BitVec 32 := 120#32
  let v2502 : BitVec 32 := Scalar.addi v2 c120_i32_1625
  let c128_i32_1626 : BitVec 32 := 128#32
  let v2505 : BitVec 32 := Scalar.muli v2504 c128_i32_1626
  ![v2502.toNat, v2505.toNat]

def k1_chk236 (i : grid1.Coords) (v2504 : BitVec 32) : Prop :=
  (∀ a, (k1_off342 i v2504) a + S8x128.size a ≤ S4096x32000.size a) ∧
  (∀ a, (k1_off358 i v2504) a + S8x128.size a ≤ S4096x32000.size a)
theorem k1_off342_inb : ∀ (i : grid1.Coords) (v2504 : BitVec 32) (k1_hw236 : k1_chk236 i v2504), ∀ a, (k1_off342 i v2504) a + S8x128.size a ≤ S4096x32000.size a := fun i v2504 k1_hw236 => k1_hw236.1
theorem k1_off358_inb : ∀ (i : grid1.Coords) (v2504 : BitVec 32) (k1_hw236 : k1_chk236 i v2504), ∀ a, (k1_off358 i v2504) a + S8x128.size a ≤ S4096x32000.size a := fun i v2504 k1_hw236 => k1_hw236.2

def k1_off359 (i : grid1.Coords) (v2514 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c120_i32_1632 : BitVec 32 := 120#32
  let v2512 : BitVec 32 := Scalar.addi v2 c120_i32_1632
  let c128_i32_1633 : BitVec 32 := 128#32
  let v2515 : BitVec 32 := Scalar.muli v2514 c128_i32_1633
  ![v2512.toNat, v2515.toNat]

def k1_chk237 (i : grid1.Coords) (v2514 : BitVec 32) : Prop :=
  (∀ a, (k1_off343 i v2514) a + S8x128.size a ≤ S4096x32000.size a) ∧
  (∀ a, (k1_off359 i v2514) a + S8x128.size a ≤ S4096x32000.size a)
theorem k1_off343_inb : ∀ (i : grid1.Coords) (v2514 : BitVec 32) (k1_hw237 : k1_chk237 i v2514), ∀ a, (k1_off343 i v2514) a + S8x128.size a ≤ S4096x32000.size a := fun i v2514 k1_hw237 => k1_hw237.1
theorem k1_off359_inb : ∀ (i : grid1.Coords) (v2514 : BitVec 32) (k1_hw237 : k1_chk237 i v2514), ∀ a, (k1_off359 i v2514) a + S8x128.size a ≤ S4096x32000.size a := fun i v2514 k1_hw237 => k1_hw237.2

def k1_off360 (i : grid1.Coords) (v2524 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c120_i32_1639 : BitVec 32 := 120#32
  let v2522 : BitVec 32 := Scalar.addi v2 c120_i32_1639
  let c128_i32_1640 : BitVec 32 := 128#32
  let v2525 : BitVec 32 := Scalar.muli v2524 c128_i32_1640
  ![v2522.toNat, v2525.toNat]

def k1_chk238 (i : grid1.Coords) (v2524 : BitVec 32) : Prop :=
  (∀ a, (k1_off344 i v2524) a + S8x128.size a ≤ S4096x32000.size a) ∧
  (∀ a, (k1_off360 i v2524) a + S8x128.size a ≤ S4096x32000.size a)
theorem k1_off344_inb : ∀ (i : grid1.Coords) (v2524 : BitVec 32) (k1_hw238 : k1_chk238 i v2524), ∀ a, (k1_off344 i v2524) a + S8x128.size a ≤ S4096x32000.size a := fun i v2524 k1_hw238 => k1_hw238.1
theorem k1_off360_inb : ∀ (i : grid1.Coords) (v2524 : BitVec 32) (k1_hw238 : k1_chk238 i v2524), ∀ a, (k1_off360 i v2524) a + S8x128.size a ≤ S4096x32000.size a := fun i v2524 k1_hw238 => k1_hw238.2

def k1_off361 (i : grid1.Coords) (v2534 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c120_i32_1646 : BitVec 32 := 120#32
  let v2532 : BitVec 32 := Scalar.addi v2 c120_i32_1646
  let c128_i32_1647 : BitVec 32 := 128#32
  let v2535 : BitVec 32 := Scalar.muli v2534 c128_i32_1647
  ![v2532.toNat, v2535.toNat]

def k1_chk239 (i : grid1.Coords) (v2534 : BitVec 32) : Prop :=
  (∀ a, (k1_off345 i v2534) a + S8x128.size a ≤ S4096x32000.size a) ∧
  (∀ a, (k1_off361 i v2534) a + S8x128.size a ≤ S4096x32000.size a)
theorem k1_off345_inb : ∀ (i : grid1.Coords) (v2534 : BitVec 32) (k1_hw239 : k1_chk239 i v2534), ∀ a, (k1_off345 i v2534) a + S8x128.size a ≤ S4096x32000.size a := fun i v2534 k1_hw239 => k1_hw239.1
theorem k1_off361_inb : ∀ (i : grid1.Coords) (v2534 : BitVec 32) (k1_hw239 : k1_chk239 i v2534), ∀ a, (k1_off361 i v2534) a + S8x128.size a ≤ S4096x32000.size a := fun i v2534 k1_hw239 => k1_hw239.2

def k1_off362 (v2649 : BitVec 32) : Fin 3 → Nat :=
  let c0_i32_1778 : BitVec 32 := 0#32
  let v2738 : Index := Scalar.indexCast c0_i32_1778
  let c0_i32_1779 : BitVec 32 := 0#32
  let v2739 : Index := Scalar.indexCast c0_i32_1779
  let c4_i32_1775 : BitVec 32 := 4#32
  let v2735 : BitVec 32 := Scalar.shrsi v2649 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![0, 0, v2740.toNat]
def k1_cond113 (v2649 : BitVec 32) : BitVec 1 :=
  let c0_i32_1740 : BitVec 32 := 0#32
  let v2650 : BitVec 1 := Scalar.cmpi .ne v2649 c0_i32_1740
  let v2651 : BitVec 32 := Scalar.extui v2650
  let c0_i32_1741 : BitVec 32 := 0#32
  let v2652 : BitVec 1 := Scalar.cmpi .ne v2651 c0_i32_1741
  v2652

def k1_chk241 (v2649 : BitVec 32) : Prop :=
  (∀ (k1_h113 : k1_cond113 v2649 = 1#1), ∀ a, (k1_off362 v2649) a + S1x1x16.size a ≤ S16x8x128.size a)
theorem k1_off362_inb : ∀ (v2649 : BitVec 32) (k1_hw241 : k1_chk241 v2649), ∀ (k1_h113 : k1_cond113 v2649 = 1#1), ∀ a, (k1_off362 v2649) a + S1x1x16.size a ≤ S16x8x128.size a := fun v2649 k1_hw241 k1_h113 => k1_hw241 k1_h113

def k1_off363 (v2654 : BitVec 32) : Fin 3 → Nat :=
  let c1_i32_1778 : BitVec 32 := 1#32
  let v2738 : Index := Scalar.indexCast c1_i32_1778
  let c1_i32_1779 : BitVec 32 := 1#32
  let v2739 : Index := Scalar.indexCast c1_i32_1779
  let c4_i32_1775 : BitVec 32 := 4#32
  let v2735 : BitVec 32 := Scalar.shrsi v2654 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![1, 1, v2740.toNat]
def k1_cond114 (v2654 : BitVec 32) : BitVec 1 :=
  let c0_i32_1742 : BitVec 32 := 0#32
  let v2655 : BitVec 1 := Scalar.cmpi .ne v2654 c0_i32_1742
  let v2656 : BitVec 32 := Scalar.extui v2655
  let c0_i32_1743 : BitVec 32 := 0#32
  let v2657 : BitVec 1 := Scalar.cmpi .ne v2656 c0_i32_1743
  v2657

def k1_chk242 (v2654 : BitVec 32) : Prop :=
  (∀ (k1_h114 : k1_cond114 v2654 = 1#1), ∀ a, (k1_off363 v2654) a + S1x1x16.size a ≤ S16x8x128.size a)
theorem k1_off363_inb : ∀ (v2654 : BitVec 32) (k1_hw242 : k1_chk242 v2654), ∀ (k1_h114 : k1_cond114 v2654 = 1#1), ∀ a, (k1_off363 v2654) a + S1x1x16.size a ≤ S16x8x128.size a := fun v2654 k1_hw242 k1_h114 => k1_hw242 k1_h114

def k1_off364 (v2659 : BitVec 32) : Fin 3 → Nat :=
  let c2_i32_1778 : BitVec 32 := 2#32
  let v2738 : Index := Scalar.indexCast c2_i32_1778
  let c2_i32_1779 : BitVec 32 := 2#32
  let v2739 : Index := Scalar.indexCast c2_i32_1779
  let c4_i32_1775 : BitVec 32 := 4#32
  let v2735 : BitVec 32 := Scalar.shrsi v2659 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![2, 2, v2740.toNat]
def k1_cond115 (v2659 : BitVec 32) : BitVec 1 :=
  let c0_i32_1744 : BitVec 32 := 0#32
  let v2660 : BitVec 1 := Scalar.cmpi .ne v2659 c0_i32_1744
  let v2661 : BitVec 32 := Scalar.extui v2660
  let c0_i32_1745 : BitVec 32 := 0#32
  let v2662 : BitVec 1 := Scalar.cmpi .ne v2661 c0_i32_1745
  v2662

def k1_chk243 (v2659 : BitVec 32) : Prop :=
  (∀ (k1_h115 : k1_cond115 v2659 = 1#1), ∀ a, (k1_off364 v2659) a + S1x1x16.size a ≤ S16x8x128.size a)
theorem k1_off364_inb : ∀ (v2659 : BitVec 32) (k1_hw243 : k1_chk243 v2659), ∀ (k1_h115 : k1_cond115 v2659 = 1#1), ∀ a, (k1_off364 v2659) a + S1x1x16.size a ≤ S16x8x128.size a := fun v2659 k1_hw243 k1_h115 => k1_hw243 k1_h115

def k1_off365 (v2664 : BitVec 32) : Fin 3 → Nat :=
  let c3_i32_1778 : BitVec 32 := 3#32
  let v2738 : Index := Scalar.indexCast c3_i32_1778
  let c3_i32_1779 : BitVec 32 := 3#32
  let v2739 : Index := Scalar.indexCast c3_i32_1779
  let c4_i32_1775 : BitVec 32 := 4#32
  let v2735 : BitVec 32 := Scalar.shrsi v2664 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![3, 3, v2740.toNat]
def k1_cond116 (v2664 : BitVec 32) : BitVec 1 :=
  let c0_i32_1746 : BitVec 32 := 0#32
  let v2665 : BitVec 1 := Scalar.cmpi .ne v2664 c0_i32_1746
  let v2666 : BitVec 32 := Scalar.extui v2665
  let c0_i32_1747 : BitVec 32 := 0#32
  let v2667 : BitVec 1 := Scalar.cmpi .ne v2666 c0_i32_1747
  v2667

def k1_chk244 (v2664 : BitVec 32) : Prop :=
  (∀ (k1_h116 : k1_cond116 v2664 = 1#1), ∀ a, (k1_off365 v2664) a + S1x1x16.size a ≤ S16x8x128.size a)
theorem k1_off365_inb : ∀ (v2664 : BitVec 32) (k1_hw244 : k1_chk244 v2664), ∀ (k1_h116 : k1_cond116 v2664 = 1#1), ∀ a, (k1_off365 v2664) a + S1x1x16.size a ≤ S16x8x128.size a := fun v2664 k1_hw244 k1_h116 => k1_hw244 k1_h116

def k1_off366 (v2669 : BitVec 32) : Fin 3 → Nat :=
  let c4_i32_1778 : BitVec 32 := 4#32
  let v2738 : Index := Scalar.indexCast c4_i32_1778
  let c4_i32_1779 : BitVec 32 := 4#32
  let v2739 : Index := Scalar.indexCast c4_i32_1779
  let c4_i32_1775 : BitVec 32 := 4#32
  let v2735 : BitVec 32 := Scalar.shrsi v2669 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![4, 4, v2740.toNat]
def k1_cond117 (v2669 : BitVec 32) : BitVec 1 :=
  let c0_i32_1748 : BitVec 32 := 0#32
  let v2670 : BitVec 1 := Scalar.cmpi .ne v2669 c0_i32_1748
  let v2671 : BitVec 32 := Scalar.extui v2670
  let c0_i32_1749 : BitVec 32 := 0#32
  let v2672 : BitVec 1 := Scalar.cmpi .ne v2671 c0_i32_1749
  v2672

def k1_chk245 (v2669 : BitVec 32) : Prop :=
  (∀ (k1_h117 : k1_cond117 v2669 = 1#1), ∀ a, (k1_off366 v2669) a + S1x1x16.size a ≤ S16x8x128.size a)
theorem k1_off366_inb : ∀ (v2669 : BitVec 32) (k1_hw245 : k1_chk245 v2669), ∀ (k1_h117 : k1_cond117 v2669 = 1#1), ∀ a, (k1_off366 v2669) a + S1x1x16.size a ≤ S16x8x128.size a := fun v2669 k1_hw245 k1_h117 => k1_hw245 k1_h117

def k1_off367 (v2674 : BitVec 32) : Fin 3 → Nat :=
  let c5_i32_1778 : BitVec 32 := 5#32
  let v2738 : Index := Scalar.indexCast c5_i32_1778
  let c5_i32_1779 : BitVec 32 := 5#32
  let v2739 : Index := Scalar.indexCast c5_i32_1779
  let c4_i32_1775 : BitVec 32 := 4#32
  let v2735 : BitVec 32 := Scalar.shrsi v2674 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![5, 5, v2740.toNat]
def k1_cond118 (v2674 : BitVec 32) : BitVec 1 :=
  let c0_i32_1750 : BitVec 32 := 0#32
  let v2675 : BitVec 1 := Scalar.cmpi .ne v2674 c0_i32_1750
  let v2676 : BitVec 32 := Scalar.extui v2675
  let c0_i32_1751 : BitVec 32 := 0#32
  let v2677 : BitVec 1 := Scalar.cmpi .ne v2676 c0_i32_1751
  v2677

def k1_chk246 (v2674 : BitVec 32) : Prop :=
  (∀ (k1_h118 : k1_cond118 v2674 = 1#1), ∀ a, (k1_off367 v2674) a + S1x1x16.size a ≤ S16x8x128.size a)
theorem k1_off367_inb : ∀ (v2674 : BitVec 32) (k1_hw246 : k1_chk246 v2674), ∀ (k1_h118 : k1_cond118 v2674 = 1#1), ∀ a, (k1_off367 v2674) a + S1x1x16.size a ≤ S16x8x128.size a := fun v2674 k1_hw246 k1_h118 => k1_hw246 k1_h118

def k1_off368 (v2679 : BitVec 32) : Fin 3 → Nat :=
  let c6_i32_1778 : BitVec 32 := 6#32
  let v2738 : Index := Scalar.indexCast c6_i32_1778
  let c6_i32_1779 : BitVec 32 := 6#32
  let v2739 : Index := Scalar.indexCast c6_i32_1779
  let c4_i32_1775 : BitVec 32 := 4#32
  let v2735 : BitVec 32 := Scalar.shrsi v2679 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![6, 6, v2740.toNat]
def k1_cond119 (v2679 : BitVec 32) : BitVec 1 :=
  let c0_i32_1752 : BitVec 32 := 0#32
  let v2680 : BitVec 1 := Scalar.cmpi .ne v2679 c0_i32_1752
  let v2681 : BitVec 32 := Scalar.extui v2680
  let c0_i32_1753 : BitVec 32 := 0#32
  let v2682 : BitVec 1 := Scalar.cmpi .ne v2681 c0_i32_1753
  v2682

def k1_chk247 (v2679 : BitVec 32) : Prop :=
  (∀ (k1_h119 : k1_cond119 v2679 = 1#1), ∀ a, (k1_off368 v2679) a + S1x1x16.size a ≤ S16x8x128.size a)
theorem k1_off368_inb : ∀ (v2679 : BitVec 32) (k1_hw247 : k1_chk247 v2679), ∀ (k1_h119 : k1_cond119 v2679 = 1#1), ∀ a, (k1_off368 v2679) a + S1x1x16.size a ≤ S16x8x128.size a := fun v2679 k1_hw247 k1_h119 => k1_hw247 k1_h119

def k1_off369 (v2684 : BitVec 32) : Fin 3 → Nat :=
  let c7_i32_1778 : BitVec 32 := 7#32
  let v2738 : Index := Scalar.indexCast c7_i32_1778
  let c7_i32_1779 : BitVec 32 := 7#32
  let v2739 : Index := Scalar.indexCast c7_i32_1779
  let c4_i32_1775 : BitVec 32 := 4#32
  let v2735 : BitVec 32 := Scalar.shrsi v2684 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![7, 7, v2740.toNat]
def k1_cond120 (v2684 : BitVec 32) : BitVec 1 :=
  let c0_i32_1754 : BitVec 32 := 0#32
  let v2685 : BitVec 1 := Scalar.cmpi .ne v2684 c0_i32_1754
  let v2686 : BitVec 32 := Scalar.extui v2685
  let c0_i32_1755 : BitVec 32 := 0#32
  let v2687 : BitVec 1 := Scalar.cmpi .ne v2686 c0_i32_1755
  v2687

def k1_chk248 (v2684 : BitVec 32) : Prop :=
  (∀ (k1_h120 : k1_cond120 v2684 = 1#1), ∀ a, (k1_off369 v2684) a + S1x1x16.size a ≤ S16x8x128.size a)
theorem k1_off369_inb : ∀ (v2684 : BitVec 32) (k1_hw248 : k1_chk248 v2684), ∀ (k1_h120 : k1_cond120 v2684 = 1#1), ∀ a, (k1_off369 v2684) a + S1x1x16.size a ≤ S16x8x128.size a := fun v2684 k1_hw248 k1_h120 => k1_hw248 k1_h120

def k1_off370 (v2689 : BitVec 32) : Fin 3 → Nat :=
  let c8_i32_1778 : BitVec 32 := 8#32
  let v2738 : Index := Scalar.indexCast c8_i32_1778
  let c0_i32_1779 : BitVec 32 := 0#32
  let v2739 : Index := Scalar.indexCast c0_i32_1779
  let c4_i32_1775 : BitVec 32 := 4#32
  let v2735 : BitVec 32 := Scalar.shrsi v2689 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![8, 0, v2740.toNat]
def k1_cond121 (v2689 : BitVec 32) : BitVec 1 :=
  let c0_i32_1756 : BitVec 32 := 0#32
  let v2690 : BitVec 1 := Scalar.cmpi .ne v2689 c0_i32_1756
  let v2691 : BitVec 32 := Scalar.extui v2690
  let c0_i32_1757 : BitVec 32 := 0#32
  let v2692 : BitVec 1 := Scalar.cmpi .ne v2691 c0_i32_1757
  v2692

def k1_chk249 (v2689 : BitVec 32) : Prop :=
  (∀ (k1_h121 : k1_cond121 v2689 = 1#1), ∀ a, (k1_off370 v2689) a + S1x1x16.size a ≤ S16x8x128.size a)
theorem k1_off370_inb : ∀ (v2689 : BitVec 32) (k1_hw249 : k1_chk249 v2689), ∀ (k1_h121 : k1_cond121 v2689 = 1#1), ∀ a, (k1_off370 v2689) a + S1x1x16.size a ≤ S16x8x128.size a := fun v2689 k1_hw249 k1_h121 => k1_hw249 k1_h121

def k1_off371 (v2694 : BitVec 32) : Fin 3 → Nat :=
  let c9_i32_1778 : BitVec 32 := 9#32
  let v2738 : Index := Scalar.indexCast c9_i32_1778
  let c1_i32_1779 : BitVec 32 := 1#32
  let v2739 : Index := Scalar.indexCast c1_i32_1779
  let c4_i32_1775 : BitVec 32 := 4#32
  let v2735 : BitVec 32 := Scalar.shrsi v2694 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![9, 1, v2740.toNat]
def k1_cond122 (v2694 : BitVec 32) : BitVec 1 :=
  let c0_i32_1758 : BitVec 32 := 0#32
  let v2695 : BitVec 1 := Scalar.cmpi .ne v2694 c0_i32_1758
  let v2696 : BitVec 32 := Scalar.extui v2695
  let c0_i32_1759 : BitVec 32 := 0#32
  let v2697 : BitVec 1 := Scalar.cmpi .ne v2696 c0_i32_1759
  v2697

def k1_chk250 (v2694 : BitVec 32) : Prop :=
  (∀ (k1_h122 : k1_cond122 v2694 = 1#1), ∀ a, (k1_off371 v2694) a + S1x1x16.size a ≤ S16x8x128.size a)
theorem k1_off371_inb : ∀ (v2694 : BitVec 32) (k1_hw250 : k1_chk250 v2694), ∀ (k1_h122 : k1_cond122 v2694 = 1#1), ∀ a, (k1_off371 v2694) a + S1x1x16.size a ≤ S16x8x128.size a := fun v2694 k1_hw250 k1_h122 => k1_hw250 k1_h122

def k1_off372 (v2699 : BitVec 32) : Fin 3 → Nat :=
  let c10_i32_1778 : BitVec 32 := 10#32
  let v2738 : Index := Scalar.indexCast c10_i32_1778
  let c2_i32_1779 : BitVec 32 := 2#32
  let v2739 : Index := Scalar.indexCast c2_i32_1779
  let c4_i32_1775 : BitVec 32 := 4#32
  let v2735 : BitVec 32 := Scalar.shrsi v2699 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![10, 2, v2740.toNat]
def k1_cond123 (v2699 : BitVec 32) : BitVec 1 :=
  let c0_i32_1760 : BitVec 32 := 0#32
  let v2700 : BitVec 1 := Scalar.cmpi .ne v2699 c0_i32_1760
  let v2701 : BitVec 32 := Scalar.extui v2700
  let c0_i32_1761 : BitVec 32 := 0#32
  let v2702 : BitVec 1 := Scalar.cmpi .ne v2701 c0_i32_1761
  v2702

def k1_chk251 (v2699 : BitVec 32) : Prop :=
  (∀ (k1_h123 : k1_cond123 v2699 = 1#1), ∀ a, (k1_off372 v2699) a + S1x1x16.size a ≤ S16x8x128.size a)
theorem k1_off372_inb : ∀ (v2699 : BitVec 32) (k1_hw251 : k1_chk251 v2699), ∀ (k1_h123 : k1_cond123 v2699 = 1#1), ∀ a, (k1_off372 v2699) a + S1x1x16.size a ≤ S16x8x128.size a := fun v2699 k1_hw251 k1_h123 => k1_hw251 k1_h123

def k1_off373 (v2704 : BitVec 32) : Fin 3 → Nat :=
  let c11_i32_1778 : BitVec 32 := 11#32
  let v2738 : Index := Scalar.indexCast c11_i32_1778
  let c3_i32_1779 : BitVec 32 := 3#32
  let v2739 : Index := Scalar.indexCast c3_i32_1779
  let c4_i32_1775 : BitVec 32 := 4#32
  let v2735 : BitVec 32 := Scalar.shrsi v2704 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![11, 3, v2740.toNat]
def k1_cond124 (v2704 : BitVec 32) : BitVec 1 :=
  let c0_i32_1762 : BitVec 32 := 0#32
  let v2705 : BitVec 1 := Scalar.cmpi .ne v2704 c0_i32_1762
  let v2706 : BitVec 32 := Scalar.extui v2705
  let c0_i32_1763 : BitVec 32 := 0#32
  let v2707 : BitVec 1 := Scalar.cmpi .ne v2706 c0_i32_1763
  v2707

def k1_chk252 (v2704 : BitVec 32) : Prop :=
  (∀ (k1_h124 : k1_cond124 v2704 = 1#1), ∀ a, (k1_off373 v2704) a + S1x1x16.size a ≤ S16x8x128.size a)
theorem k1_off373_inb : ∀ (v2704 : BitVec 32) (k1_hw252 : k1_chk252 v2704), ∀ (k1_h124 : k1_cond124 v2704 = 1#1), ∀ a, (k1_off373 v2704) a + S1x1x16.size a ≤ S16x8x128.size a := fun v2704 k1_hw252 k1_h124 => k1_hw252 k1_h124

def k1_off374 (v2709 : BitVec 32) : Fin 3 → Nat :=
  let c12_i32_1778 : BitVec 32 := 12#32
  let v2738 : Index := Scalar.indexCast c12_i32_1778
  let c4_i32_1779 : BitVec 32 := 4#32
  let v2739 : Index := Scalar.indexCast c4_i32_1779
  let c4_i32_1775 : BitVec 32 := 4#32
  let v2735 : BitVec 32 := Scalar.shrsi v2709 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![12, 4, v2740.toNat]
def k1_cond125 (v2709 : BitVec 32) : BitVec 1 :=
  let c0_i32_1764 : BitVec 32 := 0#32
  let v2710 : BitVec 1 := Scalar.cmpi .ne v2709 c0_i32_1764
  let v2711 : BitVec 32 := Scalar.extui v2710
  let c0_i32_1765 : BitVec 32 := 0#32
  let v2712 : BitVec 1 := Scalar.cmpi .ne v2711 c0_i32_1765
  v2712

def k1_chk253 (v2709 : BitVec 32) : Prop :=
  (∀ (k1_h125 : k1_cond125 v2709 = 1#1), ∀ a, (k1_off374 v2709) a + S1x1x16.size a ≤ S16x8x128.size a)
theorem k1_off374_inb : ∀ (v2709 : BitVec 32) (k1_hw253 : k1_chk253 v2709), ∀ (k1_h125 : k1_cond125 v2709 = 1#1), ∀ a, (k1_off374 v2709) a + S1x1x16.size a ≤ S16x8x128.size a := fun v2709 k1_hw253 k1_h125 => k1_hw253 k1_h125

def k1_off375 (v2714 : BitVec 32) : Fin 3 → Nat :=
  let c13_i32_1778 : BitVec 32 := 13#32
  let v2738 : Index := Scalar.indexCast c13_i32_1778
  let c5_i32_1779 : BitVec 32 := 5#32
  let v2739 : Index := Scalar.indexCast c5_i32_1779
  let c4_i32_1775 : BitVec 32 := 4#32
  let v2735 : BitVec 32 := Scalar.shrsi v2714 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![13, 5, v2740.toNat]
def k1_cond126 (v2714 : BitVec 32) : BitVec 1 :=
  let c0_i32_1766 : BitVec 32 := 0#32
  let v2715 : BitVec 1 := Scalar.cmpi .ne v2714 c0_i32_1766
  let v2716 : BitVec 32 := Scalar.extui v2715
  let c0_i32_1767 : BitVec 32 := 0#32
  let v2717 : BitVec 1 := Scalar.cmpi .ne v2716 c0_i32_1767
  v2717

def k1_chk254 (v2714 : BitVec 32) : Prop :=
  (∀ (k1_h126 : k1_cond126 v2714 = 1#1), ∀ a, (k1_off375 v2714) a + S1x1x16.size a ≤ S16x8x128.size a)
theorem k1_off375_inb : ∀ (v2714 : BitVec 32) (k1_hw254 : k1_chk254 v2714), ∀ (k1_h126 : k1_cond126 v2714 = 1#1), ∀ a, (k1_off375 v2714) a + S1x1x16.size a ≤ S16x8x128.size a := fun v2714 k1_hw254 k1_h126 => k1_hw254 k1_h126

def k1_off376 (v2719 : BitVec 32) : Fin 3 → Nat :=
  let c14_i32_1778 : BitVec 32 := 14#32
  let v2738 : Index := Scalar.indexCast c14_i32_1778
  let c6_i32_1779 : BitVec 32 := 6#32
  let v2739 : Index := Scalar.indexCast c6_i32_1779
  let c4_i32_1775 : BitVec 32 := 4#32
  let v2735 : BitVec 32 := Scalar.shrsi v2719 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![14, 6, v2740.toNat]
def k1_cond127 (v2719 : BitVec 32) : BitVec 1 :=
  let c0_i32_1768 : BitVec 32 := 0#32
  let v2720 : BitVec 1 := Scalar.cmpi .ne v2719 c0_i32_1768
  let v2721 : BitVec 32 := Scalar.extui v2720
  let c0_i32_1769 : BitVec 32 := 0#32
  let v2722 : BitVec 1 := Scalar.cmpi .ne v2721 c0_i32_1769
  v2722

def k1_chk255 (v2719 : BitVec 32) : Prop :=
  (∀ (k1_h127 : k1_cond127 v2719 = 1#1), ∀ a, (k1_off376 v2719) a + S1x1x16.size a ≤ S16x8x128.size a)
theorem k1_off376_inb : ∀ (v2719 : BitVec 32) (k1_hw255 : k1_chk255 v2719), ∀ (k1_h127 : k1_cond127 v2719 = 1#1), ∀ a, (k1_off376 v2719) a + S1x1x16.size a ≤ S16x8x128.size a := fun v2719 k1_hw255 k1_h127 => k1_hw255 k1_h127

def k1_off377 (v2724 : BitVec 32) : Fin 3 → Nat :=
  let c15_i32_1778 : BitVec 32 := 15#32
  let v2738 : Index := Scalar.indexCast c15_i32_1778
  let c7_i32_1779 : BitVec 32 := 7#32
  let v2739 : Index := Scalar.indexCast c7_i32_1779
  let c4_i32_1775 : BitVec 32 := 4#32
  let v2735 : BitVec 32 := Scalar.shrsi v2724 c4_i32_1775
  let c7_i32_1776 : BitVec 32 := 7#32
  let v2736 : BitVec 32 := Scalar.andi v2735 c7_i32_1776
  let c16_i32_1777 : BitVec 32 := 16#32
  let v2737 : BitVec 32 := Scalar.muli v2736 c16_i32_1777
  let v2740 : Index := Scalar.indexCast v2737
  ![15, 7, v2740.toNat]
def k1_cond128 (v2724 : BitVec 32) : BitVec 1 :=
  let c0_i32_1770 : BitVec 32 := 0#32
  let v2725 : BitVec 1 := Scalar.cmpi .ne v2724 c0_i32_1770
  let v2726 : BitVec 32 := Scalar.extui v2725
  let c0_i32_1771 : BitVec 32 := 0#32
  let v2727 : BitVec 1 := Scalar.cmpi .ne v2726 c0_i32_1771
  v2727

def k1_chk256 (v2724 : BitVec 32) : Prop :=
  (∀ (k1_h128 : k1_cond128 v2724 = 1#1), ∀ a, (k1_off377 v2724) a + S1x1x16.size a ≤ S16x8x128.size a)
theorem k1_off377_inb : ∀ (v2724 : BitVec 32) (k1_hw256 : k1_chk256 v2724), ∀ (k1_h128 : k1_cond128 v2724 = 1#1), ∀ a, (k1_off377 v2724) a + S1x1x16.size a ≤ S16x8x128.size a := fun v2724 k1_hw256 k1_h128 => k1_hw256 k1_h128

def k1_off378 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_1775_r1 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "c1" => some (((1 / 10) * (Real.log (129140163 / 106660000000000)) : ℝ) : EReal)
  | "delta" => some ((-287981 / 319980 : ℝ) : EReal)
  | "neg_smooth" => some ((-1 / 319980 : ℝ) : EReal)
  | "smooth" => some ((1 / 319980 : ℝ) : EReal)
  | _ => none
-- ==== ReferenceIdeal.lean ====
abbrev S2x2048x32000 : Shape := ⟨3, ![2, 2048, 32000]⟩
abbrev S2x2048 : Shape := ⟨2, ![2, 2048]⟩
abbrev S1x32000 : Shape := ⟨2, ![1, 32000]⟩
abbrev S4096 : Shape := ⟨1, ![4096]⟩
abbrev S4096x32000 : Shape := ⟨2, ![4096, 32000]⟩
abbrev S_ : Shape := ⟨0, ![]⟩
abbrev S1x1x1x32000 : Shape := ⟨4, ![1, 1, 1, 32000]⟩
abbrev S4096x1x1x32000 : Shape := ⟨4, ![4096, 1, 1, 32000]⟩
abbrev S4096x1 : Shape := ⟨2, ![4096, 1]⟩
abbrev S4096x2 : Shape := ⟨2, ![4096, 2]⟩

abbrev nBuf : Space → Nat
  | .hbm => 59
  | .vmem => 0
  | .smem => 0
  | _ => 0

abbrev bufTy : (tb : Table) → Fin (tcTables nBuf tb) → BufTy
  | .hbm, ⟨0, _⟩ => ⟨S2x2048x32000, .f32⟩
  | .hbm, ⟨1, _⟩ => ⟨S2x2048, .i32⟩
  | .hbm, ⟨2, _⟩ => ⟨S1x32000, .f32⟩
  | .hbm, ⟨3, _⟩ => ⟨S4096, .i32⟩
  | .hbm, ⟨4, _⟩ => ⟨S4096x32000, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1x1x1x32000, .f32⟩
  | .hbm, ⟨9, _⟩ => ⟨S4096x1x1x32000, .f32⟩
  | .hbm, ⟨10, _⟩ => ⟨S4096x32000, .f32⟩
  | .hbm, ⟨11, _⟩ => ⟨S4096, .i32⟩
  | .hbm, ⟨12, _⟩ => ⟨S_, .i32⟩
  | .hbm, ⟨13, _⟩ => ⟨S4096, .i32⟩
  | .hbm, ⟨14, _⟩ => ⟨S4096, .i1⟩
  | .hbm, ⟨15, _⟩ => ⟨S_, .i32⟩
  | .hbm, ⟨16, _⟩ => ⟨S4096, .i32⟩
  | .hbm, ⟨17, _⟩ => ⟨S4096, .i32⟩
  | .hbm, ⟨18, _⟩ => ⟨S4096, .i32⟩
  | .hbm, ⟨19, _⟩ => ⟨S_, .i32⟩
  | .hbm, ⟨20, _⟩ => ⟨S4096, .i32⟩
  | .hbm, ⟨21, _⟩ => ⟨S4096, .i1⟩
  | .hbm, ⟨22, _⟩ => ⟨S_, .i32⟩
  | .hbm, ⟨23, _⟩ => ⟨S4096, .i32⟩
  | .hbm, ⟨24, _⟩ => ⟨S4096, .i32⟩
  | .hbm, ⟨25, _⟩ => ⟨S4096, .i32⟩
  | .hbm, ⟨26, _⟩ => ⟨S4096x1, .i32⟩
  | .hbm, ⟨27, _⟩ => ⟨S4096x1, .i32⟩
  | .hbm, ⟨28, _⟩ => ⟨S4096x2, .i32⟩
  | .hbm, ⟨29, _⟩ => ⟨S4096, .f32⟩
  | .hbm, ⟨30, _⟩ => ⟨S4096x32000, .f32⟩
  | .hbm, ⟨31, _⟩ => ⟨S_, .i32⟩
  | .hbm, ⟨32, _⟩ => ⟨S4096, .i32⟩
  | .hbm, ⟨33, _⟩ => ⟨S4096, .i1⟩
  | .hbm, ⟨34, _⟩ => ⟨S4096x1, .i1⟩
  | .hbm, ⟨35, _⟩ => ⟨S_, .f32⟩
  | .hbm, ⟨36, _⟩ => ⟨S_, .f32⟩
  | .hbm, ⟨37, _⟩ => ⟨S4096x32000, .i1⟩
  | .hbm, ⟨38, _⟩ => ⟨S4096x32000, .f32⟩
  | .hbm, ⟨39, _⟩ => ⟨S4096x32000, .f32⟩
  | .hbm, ⟨40, _⟩ => ⟨S_, .f32⟩
  | .hbm, ⟨41, _⟩ => ⟨S4096x32000, .f32⟩
  | .hbm, ⟨42, _⟩ => ⟨S4096x32000, .i1⟩
  | .hbm, ⟨43, _⟩ => ⟨S_, .f32⟩
  | .hbm, ⟨44, _⟩ => ⟨S_, .f32⟩
  | .hbm, ⟨45, _⟩ => ⟨S4096x32000, .f32⟩
  | .hbm, ⟨46, _⟩ => ⟨S4096x32000, .f32⟩
  | .hbm, ⟨47, _⟩ => ⟨S_, .f32⟩
  | .hbm, ⟨48, _⟩ => ⟨S4096x32000, .f32⟩
  | .hbm, ⟨49, _⟩ => ⟨S4096x32000, .i1⟩
  | .hbm, ⟨50, _⟩ => ⟨S4096x32000, .f32⟩
  | .hbm, ⟨51, _⟩ => ⟨S4096x32000, .f32⟩
  | .hbm, ⟨52, _⟩ => ⟨S4096x32000, .f32⟩
  | .hbm, ⟨53, _⟩ => ⟨S_, .f32⟩
  | .hbm, ⟨54, _⟩ => ⟨S_, .f32⟩
  | .hbm, ⟨55, _⟩ => ⟨S4096x32000, .f32⟩
  | .hbm, ⟨56, _⟩ => ⟨S4096x32000, .f32⟩
  | .hbm, ⟨57, _⟩ => ⟨S_, .f32⟩
  | .hbm, ⟨58, _⟩ => ⟨S_, .f32⟩
  | _, _ => ⟨S2x2048x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_c_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_call1_v0 : Ref sig .tc := ⟨.hbm, 44, rfl⟩
abbrev main_call1_v1 : Ref sig .tc := ⟨.hbm, 45, rfl⟩
abbrev main_v28 : Ref sig .tc := ⟨.hbm, 46, rfl⟩
abbrev main_cst_8 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_9 : Ref sig .tc := ⟨.hbm, 53, rfl⟩
abbrev main_call2_v0 : Ref sig .tc := ⟨.hbm, 54, rfl⟩
abbrev main_call2_v1 : Ref sig .tc := ⟨.hbm, 55, rfl⟩
abbrev main_v34 : Ref sig .tc := ⟨.hbm, 56, rfl⟩
abbrev main_cst_10 : Ref sig .tc := ⟨.hbm, 57, rfl⟩
abbrev main_v35 : Ref sig .tc := ⟨.hbm, 58, rfl⟩

abbrev nD : Nat := 1
abbrev τ : Topo := Topo.v7x

variable {F : FTy → Type} [FloatOps F]
-- ==== Proof.Shape.lean ====
/-
  The text of one tile's task, written with its repetitions as recursions: a prologue that fetches the tile's 128
  targets, eight groups of sixteen target words each (sixteen copies issued, sixteen waits, sixteen conditional adds),
  and an epilogue that scales the sixteen sums and writes them out. The printed task is this program, unrolled.
-/
module

public import proofs.«01_k».proof.KernelIdeal
public import proofs.«01_k».proof.Proof.Gen.KernelIdeal

@[expose] public section

noncomputable section

namespace Cert.Proof.Shape

open Cert.KernelIdeal Cert.KernelIdeal.Gen
open Idealize.ShloMosaic Idealize.SL.Sem

variable {F : FTy → Type} [FloatOps F] [Named F]

/-- The effects of the task of the tile with coordinates `i`. -/
abbrev Eff (F : FTy → Type) (i : grid1.Coords) : Type → Type _ :=
  TpuEff nD τ sig (Elt F) Λ₀ (.scVector ((i 0).castLE hcore1) ((i 1).castLE hsub1))

/-- The first of the tile's 128 rows, as the task computes it. -/
def base (i : grid1.Coords) : BitVec 32 :=
  Scalar.muli (Scalar.addi (Scalar.muli (BitVec.ofNat 32 (i 1).val) 2#32) (BitVec.ofNat 32 (i 0).val)) 128#32

/-- Where the block fetched for word `u` of group `q` begins: the row block of eight that holds the row, and the
    column block of 128 numbered `v`. -/
def srcOff (i : grid1.Coords) (q u : ℕ) (v : BitVec 32) : Fin 2 → ℕ :=
  ![(Scalar.addi (base i) (BitVec.ofNat 32 (16 * q + 8 * (u / 8)))).toNat, (Scalar.muli v 128#32).toNat]

/-- The block lies inside the array. -/
abbrev SrcIn (i : grid1.Coords) (q u : ℕ) (v : BitVec 32) : Prop :=
  ∀ a, srcOff i q u v a + S8x128.size a ≤ S4096x32000.size a

/-- What the task checks before issuing a copy: the block lies inside the array (asked twice but for the last word of a
    group). -/
def SrcChk (i : grid1.Coords) (q u : ℕ) (v : BitVec 32) : Bool → Prop
  | true => SrcIn i q u v
  | false => SrcIn i q u v ∧ SrcIn i q u v

/-- The check can be decided. -/
instance SrcChk.dec (i : grid1.Coords) (q u : ℕ) (v : BitVec 32) : (b : Bool) → Decidable (SrcChk i q u v b)
  | true => decidable_of_iff' (SrcIn i q u v) Iff.rfl
  | false => decidable_of_iff' (SrcIn i q u v ∧ SrcIn i q u v) Iff.rfl

/-- Either form of the check says that the block lies inside the array. -/
theorem SrcChk.inb {i : grid1.Coords} {q u : ℕ} {v : BitVec 32} : {b : Bool} → SrcChk i q u v b → SrcIn i q u v
  | true, h => h
  | false, h => h.1

/-- Where the sixteen lanes read back for word `u` begin in the staging buffer. -/
def tileOff (u : ℕ) (t : BitVec 32) : Fin 3 → ℕ :=
  ![u, u % 8, (Scalar.indexCast (Scalar.muli (Scalar.andi (Scalar.shrsi t 4#32) 7#32) 16#32)).toNat]

/-- The condition under which word `t` contributes: it is not zero. -/
def nz (t : BitVec 32) : BitVec 1 := Scalar.cmpi .ne (Scalar.extui (Scalar.cmpi .ne t 0#32) : BitVec 32) 0#32

/-- What the task checks before reading back: the sixteen lanes lie inside the staging buffer. -/
def TileChk (u : ℕ) (t : BitVec 32) : Prop :=
  ∀ (_ : nz t = 1#1), ∀ a, tileOff u t a + S1x1x16.size a ≤ S16x8x128.size a

/-- The check can be decided. -/
instance TileChk.dec (u : ℕ) (t : BitVec 32) : Decidable (TileChk u t) :=
  decidable_of_iff' (∀ (_ : nz t = 1#1), ∀ a, tileOff u t a + S1x1x16.size a ≤ S16x8x128.size a) Iff.rfl

/-- One of sixteen words is a slice of them. -/
theorem slices16 {u : ℕ} (hu : u < 16) : S16.Slices ![u] S1 := by
  interval_cases u <;> decide

/-- Word `u` of sixteen. -/
def word (x : IVec S16 32) (u : ℕ) (hu : u < 16) : BitVec 32 :=
  extractAt ![0] (extractStridedSlice S1 ![u] x (slices16 hu)) inpos_S1_p0

/-- A page lies inside the staging buffer. -/
theorem stage_inb {u : ℕ} (hu : u < 16) : ∀ a, (![u, 0, 0] : Fin 3 → ℕ) a + S1x8x128.size a ≤ S16x8x128.size a := by
  interval_cases u <;> decide

section
variable (i : grid1.Coords)
  (arg2 : Memref sig .scVector .hbm S4096x32000 .f32) (arg3 : Memref sig .scVector .hbm S4096 .i32)
  (arg4 : Memref sig .scVector .hbm S32x16 .f32)
  (arg5 : Memref sig .scVector .vmem S128 .i32) (harg5 : arg5.IsWhole)
  (arg6 : Memref sig .scVector .vmem S16x8x128 .f32)
  (arg7 : Memref sig .scVector .vmem S16 .f32) (harg7 : arg7.IsWhole)
  (sem sem0 sem1 : DmaSems sig S_)

/-- The block of the array that is fetched for word `u` of group `q`. -/
abbrev srcRef (q u : ℕ) (v : BitVec 32) (h : SrcIn i q u v) : Memref sig .scVector .hbm S8x128 .f32 :=
  arg2.slice (Rect.unit (s := S4096x32000) (srcOff i q u v) S8x128.size h) (fun _ => rfl)

/-- Page `u` of the staging buffer. -/
abbrev pageRef (u : ℕ) (hu : u < 16) : Memref sig .scVector .vmem S8x128 .f32 :=
  (arg6.slice (Rect.unit (s := S16x8x128) ![u, 0, 0] S1x8x128.size (stage_inb hu)) (fun _ => rfl)).squeeze S8x128 squeezes_S1x8x128_S8x128

/-- Every one of the first `n` blocks of group `q` lies inside the array. -/
abbrev AllIn (q : ℕ) (cols : IVec S16 32) (n : ℕ) : Prop :=
  ∀ u (hu : u < 16), u < n → SrcIn i q u (word cols u hu)

omit [FloatOps F] [Named F] in
/-- The checks of the first `n` words and of the next are those of the first `n + 1`. -/
theorem AllIn.succ {q : ℕ} {cols : IVec S16 32} {n : ℕ} (hn : n < 16) (h : AllIn i q cols n) (w : SrcIn i q n (word cols n hn)) :
    AllIn i q cols (n + 1) := fun u hu hlt =>
  if e : u = n then by subst e; exact w else h u hu (by omega)

/-- The copies of group `q` from the `n`-th, `r` of them, each checked, then issued; then `k`. -/
def issues {α : Type} (q : ℕ) (cols : IVec S16 32) (k : AllIn i q cols 16 → Prog (Eff F i) α) (r : ℕ) :
    (n : ℕ) → (hn : n + r = 16) → AllIn i q cols n → Prog (Eff F i) α :=
  Nat.rec (motive := fun r => (n : ℕ) → (hn : n + r = 16) → AllIn i q cols n → Prog (Eff F i) α)
    (fun n hn h => k fun u hu _ => h u hu (hu.trans_eq (show 16 = n from hn.symm)))
    (fun _ next n hn h =>
      Prog.lift (TpuEff.assume (SrcChk i q n (word cols n (by omega)) (n == 15)) (SrcChk.dec i q n (word cols n (by omega)) (n == 15)))
        >>= fun w =>
      Prog.lift (.enqueueDma (srcRef i arg2 q n (word cols n (by omega)) w.down.inb) (.here (pageRef arg6 n (by omega))) (.dma sem.sem)
        (View.wordExact_bits rfl) ((View.wordExact_bits rfl).reshape _ _) ⟨Or.inl rfl, trivial⟩) >>= fun _ =>
      next (n + 1) (by omega) (h.succ i (by omega) w.down.inb)) r

/-- The waits of group `q` from the `n`-th, `r` of them; then `k`. -/
def waits {α : Type} (q : ℕ) (cols : IVec S16 32) (h : AllIn i q cols 16) (k : Prog (Eff F i) α) (r : ℕ) :
    (n : ℕ) → (hn : n + r = 16) → Prog (Eff F i) α :=
  Nat.rec (motive := fun r => (n : ℕ) → (hn : n + r = 16) → Prog (Eff F i) α)
    (fun _ _ => k)
    (fun _ next n hn =>
      Prog.lift (.waitDma2 sem.sem (srcRef i arg2 q n (word cols n (by omega)) (h n (by omega) (by omega))) (pageRef arg6 n (by omega))
        (View.wordExact_bits rfl) ((View.wordExact_bits rfl).reshape _ _)) >>= fun _ =>
      next (n + 1) (by omega)) r

/-- The addition for one word: the sixteen lanes around the word's column, all but the column's masked away, added to
    the sixteen sums. -/
def add (u : ℕ) (t : BitVec 32) (w : TileChk u t) (h : nz t = 1#1) : Prog (Eff F i) PUnit := do
  let x : Vec F S1x1x16 .f32 ← Prog.lift (.load arg6 (Rect.unit (s := S16x8x128) (tileOff u t) S1x1x16.size (w h)).toLoadRect (View.loadsAt_vmem h_S1x1x16))
  let r : Vec F S16 .f32 ← Prog.lift (.load arg7 (Rect.unit (s := S16) ![0] S16.size inb_S16_S16_0).toLoadRect (View.loadsAt_vmem h_S16))
  let _ : Vec F S16 .f32 ← Prog.lift (.load arg7 (Rect.unit (s := S16) ![0] S16.size inb_S16_S16_0).toLoadRect (View.loadsAt_vmem h_S16))
  Prog.lift (.store arg7 (Rect.unit (s := S16) ![0] S16.size inb_S16_S16_0)
    (shapeCast S16 (addf (shapeCast S16 r shapeCasts_S16_S16)
      (select (cmpi .eq (iota .scVector S16 32 [0] iota_S16_d0_w32_scVector) (broadcast S16 (Scalar.andi t 15#32)))
        (shapeCast S16 x shapeCasts_S1x1x16_S16) (broadcast S16 (Scalar.ofBits .f32 0x00000000#32)))) shapeCasts_S16_S16)
    Finset.univ (View.stores_vmem_bits_univ h_S16 rfl) (.inl rfl))
  pure ⟨⟩

/-- One word: its check, and its addition where it is not zero. -/
def step (tgt : IVec S16 32) (u : ℕ) (hu : u < 16) : Prog (Eff F i) PUnit := do
  let w ← Prog.lift (TpuEff.assume (TileChk u (word tgt u hu)) (TileChk.dec u (word tgt u hu)))
  if h : nz (word tgt u hu) = 1#1 then add i arg6 arg7 u (word tgt u hu) w.down h else pure ⟨⟩

/-- The words from the `u`-th, `n` of them. -/
def steps (tgt : IVec S16 32) : (n u : ℕ) → (hn : u + n ≤ 16) → Prog (Eff F i) PUnit
  | 0, _, _ => pure ⟨⟩
  | n + 1, u, hn => do
    step i arg6 arg7 tgt u (by omega)
    steps tgt n (u + 1) (by omega)

/-- A group's sixteen words lie inside the tile's 128. -/
theorem words_inb {q : ℕ} (hq : q < 8) : ∀ a, (![16 * q] : Fin 1 → ℕ) a + S16.size a ≤ S128.size a := by
  interval_cases q <;> decide

/-- The first half of group `q`: its sixteen words read, its blocks fetched. -/
def head (q : ℕ) (hq : q < 8) : Prog (Eff F i) (IVec S16 32) := do
  let x : Vec F S16 .i32 ← Prog.lift (.load arg5 (Rect.unit (s := S128) ![16 * q] S16.size (words_inb hq)).toLoadRect (View.loadsAt_vmem h_S16))
  let cols : IVec S16 32 := shrsi (shapeCast S16 x shapeCasts_S16_S16) (broadcast S16 7#32)
  issues i arg2 arg6 sem q cols (fun h =>
    waits i arg2 arg6 sem q cols h (pure (shapeCast S16 x shapeCasts_S16_S16)) 16 0 rfl) 16 0 rfl (fun _ _ h => absurd h (Nat.not_lt_zero _))

/-- Group `q`. -/
def group (q : ℕ) (hq : q < 8) : Prog (Eff F i) PUnit := do
  let x ← head i arg2 arg5 arg6 sem q hq
  steps i arg6 arg7 x 16 0 le_rfl

/-- The first `n` groups. -/
def groups : (n : ℕ) → (hn : n ≤ 8) → Prog (Eff F i) PUnit
  | 0, _ => pure ⟨⟩
  | n + 1, hn => do
    groups n (Nat.le_of_succ_le hn)
    group i arg2 arg5 arg6 arg7 sem n hn

/-- The targets fetched, the sums set to zero. -/
def prologue : Prog (Eff F i) PUnit := do
  Prog.lift (.enqueueDma (arg3.slice (Rect.unit (s := S4096) (k1_off1 i) S128.size (k1_off1_inb i)) (fun _ => rfl)) (.here arg5) (.dma sem0.sem) (View.wordExact_bits rfl) harg5.wordExact ⟨Or.inl rfl, trivial⟩)
  Prog.lift (.waitDma2 sem0.sem (arg3.slice (Rect.unit (s := S4096) (k1_off1 i) S128.size (k1_off1_inb i)) (fun _ => rfl)) arg5 (View.wordExact_bits rfl) harg5.wordExact)
  let _ : Vec F S16 .f32 ← Prog.lift (.load arg7 (Rect.unit (s := S16) ![0] S16.size inb_S16_S16_0).toLoadRect (View.loadsAt_vmem h_S16))
  Prog.lift (.store arg7 (Rect.unit (s := S16) ![0] S16.size inb_S16_S16_0) (shapeCast S16 (broadcast S16 (Scalar.ofBits (F := F) .f32 0x00000000#32)) shapeCasts_S16_S16) Finset.univ (View.stores_vmem_bits_univ h_S16 rfl) (.inl rfl))

/-- The sums scaled and written out. -/
def epilogue : Prog (Eff F i) PUnit := do
  let r : Vec F S16 .f32 ← Prog.lift (.load arg7 (Rect.unit (s := S16) ![0] S16.size inb_S16_S16_0).toLoadRect (View.loadsAt_vmem h_S16))
  let _ : Vec F S16 .f32 ← Prog.lift (.load arg7 (Rect.unit (s := S16) ![0] S16.size inb_S16_S16_0).toLoadRect (View.loadsAt_vmem h_S16))
  Prog.lift (.store arg7 (Rect.unit (s := S16) ![0] S16.size inb_S16_S16_0)
    (shapeCast S16 (mulf (broadcast S16 (Named.named κ "delta" 0xBF666632#32)) (shapeCast S16 r shapeCasts_S16_S16)) shapeCasts_S16_S16) Finset.univ (View.stores_vmem_bits_univ h_S16 rfl) (.inl rfl))
  Prog.lift (.enqueueDma arg7 (.here ((arg4.slice (Rect.unit (s := S32x16) (k1_off378 i) S1x16.size (k1_off378_inb i)) (fun _ => rfl)).squeeze S16 squeezes_S1x16_S16)) (.dma sem1.sem) harg7.wordExact ((View.wordExact_bits rfl).reshape _ _) ⟨Or.inl rfl, trivial⟩)
  Prog.lift (.waitDma2 sem1.sem arg7 ((arg4.slice (Rect.unit (s := S32x16) (k1_off378 i) S1x16.size (k1_off378_inb i)) (fun _ => rfl)).squeeze S16 squeezes_S1x16_S16) harg7.wordExact ((View.wordExact_bits rfl).reshape _ _))
  pure ⟨⟩

/-- The whole task. -/
def task : Prog (Eff F i) PUnit := do
  prologue i arg3 arg5 harg5 arg7 sem0
  groups i arg2 arg5 arg6 arg7 sem 8 le_rfl
  epilogue i arg4 arg7 harg7 sem1

end

end Cert.Proof.Shape

end
-- ==== Proof.Base.lean ====
/-
  The setting of the kernel's certificate: the program as the launch of a SparseCore call sees it, the algebra of its
  ghost state, the buffers, the shares dealt to the 32 tiles, and the assumption on the launch memory.
-/
module

public import proofs.«01_k».proof.Proof.Shape
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Batch
public import Idealize.ShloMosaic.Lib.ValueLayout
public import Idealize.ShloMosaic.Lib.Tactic

@[expose] public section

noncomputable section

namespace Cert.Proof.Run

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program -/

section
variable [FloatOps F] [Named F]

/-- The labels the SparseCore call's threads run: the kernels' and the one pipeline's. -/
abbrev ΛP : Labels := Pipeline.Sig Λ₀ (Fin 1) fun p => (pcfgs (F := F) p).Adm
/-- The one SparseCore call. -/
abbrev K : SparseCore.Cfg τ sig (ΛP (F := F)) 1 := sc (F := F)
/-- The bodies of the kernels and of the pipeline. -/
abbrev D : Defs nD τ sig (Elt F) (ΛP (F := F)) := Pipeline.defs pcfgs defs₀
end
abbrev 𝒱₀ : Variants := Variants.none
abbrev 𝒱 : Variants := 𝒱₀.lift
abbrev v₀ : 𝒱.V := Sum.inl none

/-- The layout of the call's semaphores: distinct and unscoped. -/
theorem facts [FloatOps F] [Named F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the pipeline's rounds, the copies' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' part, -/
abbrev EH : Emb UH (MT nD τ sig (HIx 1) (Elt F) ℕ UU ℕ) := embL
/-- and the pipeline's. -/
def EP : Emb UP (MT nD τ sig (HIx 1) (Elt F) ℕ UU ℕ) := (Emb.inl : Emb UP (UP × Counters)).trans embR
instance EP_landsIn : (EP (F := F)).LandsIn (upEmb : UEmb _ 𝕄) := by unfold EP; infer_instance

/-! ## The buffers -/

abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev v0Loc (d : Dev nD) : Loc nD τ sig := (SparseCore.T d).loc main_v0
abbrev v1Loc (d : Dev nD) : Loc nD τ sig := (SparseCore.T d).loc main_v1
abbrev v4Loc (d : Dev nD) : Loc nD τ sig := (SparseCore.T d).loc main_v4

/-- Tile `(c, s)`'s number: `2 s + c`. -/
def wid (i : grid1.Coords) : Fin 32 := ⟨2 * (i 1).val + (i 0).val, by
  have h0 : (i 0).val < 2 := (i 0).isLt
  have h1 : (i 1).val < 16 := (i 1).isLt
  omega⟩

/-- The table's 32 rows divide into 32 parts. -/
theorem odiv : 32 ∣ S32x16.size 0 := ⟨1, rfl⟩
/-- Row `w` of the table of the tiles' sums. -/
abbrev orow (w : Fin 32) : Rect S32x16 := Rect.part (s := S32x16) (a₀ := 0) odiv w
abbrev oRowSet (w : Fin 32) : Finset S32x16.Idx := (orow w).set

/-! ## Shares: the full share halved again and again -/

/-- Leaf `i` of the depth-`n` halving of share `q`. -/
def leaf : (n : ℕ) → PosShare TreeShare → Fin (2 ^ n) → PosShare TreeShare
  | 0, q, _ => q
  | n + 1, q, i => if h : i.val % 2 = 0 then leaf n q.left ⟨i.val / 2, by omega⟩ else leaf n q.right ⟨i.val / 2, by omega⟩

/-- A leaf of depth `n + 1` is on the left or on the right. -/
def sideEquiv (n : ℕ) : Fin (2 ^ n) ⊕ Fin (2 ^ n) ≃ Fin (2 ^ (n + 1)) where
  toFun := Sum.elim (fun i => ⟨2 * i.val, by omega⟩) (fun i => ⟨2 * i.val + 1, by omega⟩)
  invFun i := if i.val % 2 = 0 then Sum.inl ⟨i.val / 2, by omega⟩ else Sum.inr ⟨i.val / 2, by omega⟩
  left_inv x := by
    rcases x with x | x
    · simp
    · simp
      exact Fin.ext (show (2 * x.val + 1) / 2 = x.val by omega)
  right_inv i := by
    by_cases h : i.val % 2 = 0 <;> simp only [h, if_true, if_false, Sum.elim_inl, Sum.elim_inr] <;> (apply Fin.ext; simp only []; omega)

/-- An even leaf lies in the left half of the share. -/
theorem leaf_inl (n : ℕ) (q : PosShare TreeShare) (i : Fin (2 ^ n)) : leaf (n + 1) q (sideEquiv n (Sum.inl i)) = leaf n q.left i := by
  have h : (sideEquiv n (Sum.inl i)).val = 2 * i.val := rfl
  rw [leaf, dif_pos (by omega)]; congr 1; apply Fin.ext; simp only [h]; omega
/-- An odd leaf lies in the right half of the share. -/
theorem leaf_inr (n : ℕ) (q : PosShare TreeShare) (i : Fin (2 ^ n)) : leaf (n + 1) q (sideEquiv n (Sum.inr i)) = leaf n q.right i := by
  have h : (sideEquiv n (Sum.inr i)).val = 2 * i.val + 1 := rfl
  rw [leaf, dif_neg (by omega)]; congr 1; apply Fin.ext; simp only [h]; omega

/-- A buffer held at a share is held at all its leaves at once. -/
theorem pointsTo_leaves {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{leaf n q i} f
  | 0, q => (bigSep_univ_of_subsingleton (0 : Fin 1) (Φ := fun i : Fin (2 ^ 0) => (ℓ ↦[I]{leaf 0 q i} f : sProp 𝕄))).symm
  | n + 1, q => by
    rw [BI.Entails.antisymm (pointsTo_share (PosShare.mem_left_op_right q)).1 (pointsTo_share (PosShare.mem_left_op_right q)).2,
      pointsTo_leaves I f n q.left, pointsTo_leaves I f n q.right,
      bigSep_univ_equiv (sideEquiv n) (fun i : Fin (2 ^ (n + 1)) => (ℓ ↦[I]{leaf (n + 1) q i} f : sProp 𝕄)), bigSep_univ_sum]
    congr 1 <;> refine bigSep_congr fun i _ => ?_
    · rw [leaf_inl]
    · rw [leaf_inr]

/-- Tile `w`'s share of the arrays every tile reads. -/
abbrev tq (w : Fin 32) : PosShare TreeShare := leaf 5 fullShare w

/-! ## The launch memory -/

section
variable (m : (ℓ : Loc nD τ sig) → Buf (Elt F) ℓ)

/-- The array `out` as the call finds it: 4096 rows of 32000. -/
def X0 (d : Dev nD) : Vec F S4096x32000 .f32 := shapeCast S4096x32000 (m (a0Loc d) : Vec F S2x2048x32000 .f32) shapeCasts_S2x2048x32000_S4096x32000
/-- The targets as the call finds them: 4096 words. -/
def T0 (d : Dev nD) : IVec S4096 32 := shapeCast S4096 (m (a1Loc d) : IVec S2x2048 32) shapeCasts_S2x2048_S4096

/-- What the certificate asks of the launch memory: every target is below 32000. -/
def PreOK : Prop := ∀ (d : Dev nD) (j : S2x2048.Idx), ((m (a1Loc d) : IVec S2x2048 32) j).toNat < 32000

/-- The flattened targets are below 32000 too. -/
theorem PreOK.lt (h : PreOK m) (d : Dev nD) (j : S4096.Idx) : (T0 m d j).toNat < 32000 := h d _
end

end Cert.Proof.Run

end
-- ==== Proof.Tile.lean ====
/-
  One tile's task, word by word: what the sixteen sums and the staging buffer hold, as functions of the array and of
  the targets, and the run of the conditional additions.
-/
module

public import proofs.«01_k».proof.Proof.Base
public import Idealize.ShloMosaic.Lib.VecWindow

@[expose] public section

noncomputable section

namespace Cert.Proof.Run

open Cert.KernelIdeal Cert.KernelIdeal.Gen Cert.Proof.Shape
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]
local notation "𝕄" => MT nD τ sig (HIx 1) (Elt F) ℕ UU ℕ

/-! ## The arrays and buffers one tile's task is called with -/

abbrev srcV : Memref sig .scVector .hbm S4096x32000 .f32 := Memref.whole main_v0_scv
abbrev tgtV : Memref sig .scVector .hbm S4096 .i32 := Memref.whole main_v1_scv
abbrev outV : Memref sig .scVector .hbm S32x16 .f32 := Memref.whole main_v4_scv
abbrev wdV : Memref sig .scVector .vmem S128 .i32 := Memref.whole cc1_scratch0
abbrev pgV : Memref sig .scVector .vmem S16x8x128 .f32 := Memref.whole cc1_scratch1
abbrev acV : Memref sig .scVector .vmem S16 .f32 := Memref.whole cc1_scratch2

/-! ## The values -/

/-- The whole of the sixteen sums, as the task's loads and stores name it. -/
abbrev rAc : Rect S16 := Rect.unit (s := S16) ![0] S16.size inb_S16_S16_0

/-- The staging buffer once group `q` is fetched: page `u` is the block of `X` fetched for word `u`. -/
def pages (i : grid1.Coords) (X : Vec F S4096x32000 .f32) (q : ℕ) (cols : IVec S16 32) : Vec F S16x8x128 .f32 := fun x =>
  X (ix2 (⟨(srcOff i q (x 0).val (word cols (x 0).val (x 0).isLt) 0 + (x 1).val) % 4096, Nat.mod_lt _ (by decide)⟩ : Fin 4096)
    (⟨(srcOff i q (x 0).val (word cols (x 0).val (x 0).isLt) 1 + (x 2).val) % 32000, Nat.mod_lt _ (by decide)⟩ : Fin 32000))

/-- The sixteen sums after the addition for word `t`, the `u`-th of its group. -/
def addV (pg : Vec F S16x8x128 .f32) (u : ℕ) (t : BitVec 32) (w : ∀ a, tileOff u t a + S1x1x16.size a ≤ S16x8x128.size a)
    (acc : Vec F S16 .f32) : Vec F S16 .f32 :=
  addf acc (select (cmpi .eq (iota .scVector S16 32 [0] iota_S16_d0_w32_scVector) (broadcast S16 (Scalar.andi t 15#32)))
    (shapeCast S16 (pgV.view.readAt (Elt F) (Rect.unit (s := S16x8x128) (tileOff u t) S1x1x16.size w).toLoadRect pg) shapeCasts_S1x1x16_S16)
    (broadcast S16 (Scalar.ofBits .f32 0x00000000#32)))

/-- The sixteen sums after word `t`: unchanged where it is zero. -/
def stepV (pg : Vec F S16x8x128 .f32) (u : ℕ) (t : BitVec 32) (acc : Vec F S16 .f32) : Vec F S16 .f32 :=
  if w : nz t = 1#1 ∧ ∀ a, tileOff u t a + S1x1x16.size a ≤ S16x8x128.size a then addV pg u t w.2 acc else acc

/-- The sixteen sums after the words from the `u`-th, `n` of them. -/
def stepsV (pg : Vec F S16x8x128 .f32) (tgt : IVec S16 32) : (n u : ℕ) → u + n ≤ 16 → Vec F S16 .f32 → Vec F S16 .f32
  | 0, _, _, acc => acc
  | n + 1, u, hn, acc => stepsV pg tgt n (u + 1) (by omega) (stepV pg u (word tgt u (by omega)) acc)

variable (d : Dev nD) (i : grid1.Coords)
abbrev cV : Fin τ.nSC := (i 0).castLE hcore1
abbrev jV : Fin τ.nSub := (i 1).castLE hsub1
/-- The tile's thread. -/
abbrev thr : Thread nD τ := V d (cV i) (jV i)

/-- The staging buffer at contents `pg`; -/
abbrev pgPts (pg : Vec F S16x8x128 .f32) : sProp 𝕄 := (pgV).view.loc (thr d i) ↦{fullShare} pg
/-- the sixteen sums at `acc`; -/
abbrev acPts (acc : Vec F S16 .f32) : sProp 𝕄 := (acV).view.loc (thr d i) ↦{fullShare} acc
/-- the tile's 128 targets at `W`. -/
abbrev wdPts (W : IVec S128 32) : sProp 𝕄 := (wdV).view.loc (thr d i) ↦{fullShare} (W : Vec F S128 .i32)

/-- Reading the sums whole gives them. -/
theorem readAt_ac (acc : Vec F S16 .f32) : acV.view.readAt (Elt F) rAc.toLoadRect acc = acc :=
  View.readAt_full _ _ _
/-- Writing the sums whole leaves what is written. -/
theorem writes_ac (acc : Vec F S16 .f32) (v : Vec F S16 .f32) : acV.view.writes (Elt F) acc [⟨rAc, v⟩] = v :=
  View.read_writes_full acV.view acc inb_S16_S16_0 v []

/-- The addition for one word. -/
theorem wp_add (pg : Vec F S16x8x128 .f32) (acc : Vec F S16 .f32) (u : ℕ) (t : BitVec 32) (hw : TileChk u t) (h : nz t = 1#1) :
    iprop(pgPts d i pg ∗ acPts d i acc)
      ⊢ wp frame (wpE (defs₀ (F := F)) 𝒱₀ (thr d i) none) Set.univ (add i pgV acV u t hw h)
          (fun _ => iprop(pgPts d i pg ∗ acPts d i (stepV pg u t acc))) := by
  unfold add
  iintro ⟨Hp, Ha⟩
  sl_exec
  sl_step
  rw [writes_ac, readAt_ac, shapeCast_self, shapeCast_self, stepV, dif_pos ⟨h, hw h⟩]
  isplitl [Hp]; · iexact Hp
  iexact Ha

/-- One word: its check passes, and it is added where it is not zero. -/
theorem wp_step (pg : Vec F S16x8x128 .f32) (acc : Vec F S16 .f32) (tgt : IVec S16 32) (u : ℕ) (hu : u < 16) (hw : TileChk u (word tgt u hu)) :
    iprop(pgPts d i pg ∗ acPts d i acc)
      ⊢ wp frame (wpE (defs₀ (F := F)) 𝒱₀ (thr d i) none) Set.univ (step i pgV acV tgt u hu)
          (fun _ => iprop(pgPts d i pg ∗ acPts d i (stepV pg u (word tgt u hu) acc))) := by
  by_cases h : nz (word tgt u hu) = 1#1
  · have e : step (F := F) i pgV acV tgt u hu = (Prog.lift (TpuEff.assume (TileChk u (word tgt u hu)) (TileChk.dec u (word tgt u hu))) >>= fun w =>
        add i pgV acV u (word tgt u hu) w.down h) := by unfold step; simp only [h, ↓reduceDIte]
    rw [e]
    exact (wp_add d i pg acc u _ hw h).trans (wp_assume (k := fun w => add i pgV acV u (word tgt u hu) w.down h) 𝒱₀ (thr d i) none Set.univ hw)
  · have e : step (F := F) i pgV acV tgt u hu = (Prog.lift (TpuEff.assume (TileChk u (word tgt u hu)) (TileChk.dec u (word tgt u hu))) >>= fun _ =>
        pure ⟨⟩) := by unfold step; simp only [h, ↓reduceDIte]
    rw [e, stepV, dif_neg fun w => h w.1]
    exact .trans fupd_intro (wp_assume (k := fun _ => (Prog.ret PUnit.unit : Prog (Eff F i) PUnit)) (Q := fun _ => iprop(pgPts d i pg ∗ acPts d i acc))
      𝒱₀ (thr d i) none Set.univ hw)

/-- The words from the `u`-th, `n` of them. -/
theorem wp_steps (pg : Vec F S16x8x128 .f32) (tgt : IVec S16 32) (hw : ∀ u (hu : u < 16), TileChk u (word tgt u hu)) :
    ∀ (n u : ℕ) (hn : u + n ≤ 16) (acc : Vec F S16 .f32),
    iprop(pgPts d i pg ∗ acPts d i acc)
      ⊢ wp frame (wpE (defs₀ (F := F)) 𝒱₀ (thr d i) none) Set.univ (steps i pgV acV tgt n u hn)
          (fun _ => iprop(pgPts d i pg ∗ acPts d i (stepsV pg tgt n u hn acc)))
  | 0, u, hn, acc => fupd_intro
  | n + 1, u, hn, acc => by
    rw [steps, wp_bind]
    exact (wp_step d i pg acc tgt u (by omega) (hw u _)).trans (wp_mono frame _ _ fun _ => wp_steps pg tgt hw n (u + 1) (by omega) _)

end Cert.Proof.Run

end
-- ==== Proof.TcBody.lean ====
/-
  The TensorCore kernel at one grid point: what it adds to the accumulator.
-/
module

public import proofs.«01_k».proof.Proof.Tile
public import Idealize.ShloMosaic.Lib.VecWindow

@[expose] public section

noncomputable section

namespace Cert.Proof.Run

open Cert.KernelIdeal Cert.KernelIdeal.Gen Cert.Proof.Shape
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

variable {F : FTy → Type} [FloatOps F] [Named F]
local notation "𝕄" => MT nD τ sig (HIx 1) (Elt F) ℕ UU ℕ

variable (d : Dev nD) (i : grid0.Coords) (M2 : Memref sig .tc .vmem S128x1 .i32) (h2 : M2.IsWhole)
  (M3 : Memref sig .tc .vmem S128x32000 .f32) (h3 : M3.IsWhole) (M4 : Memref sig .tc .smem S1x1 .f32) (h4 : M4.IsWhole)

/-- The test for the first grid point, as the kernel computes it. -/
abbrev firstBit (i : grid0.Coords) : BitVec 1 :=
  Scalar.cmpi .ne (Scalar.extui (Scalar.andi (Scalar.cmpi .eq (BitVec.ofNat 32 (i 0).val) 0#32)
    (Scalar.cmpi .eq (BitVec.ofNat 32 (i 1).val) 0#32)) : BitVec 32) 0#32

/-- The part of the body under the test, when the test holds: the accumulator is read and zero is stored. -/
theorem part2_first : k0_part2 (F := F) i M2 h2 M3 h3 M4 h4 1#1 = (do
    let _ ← smemLoad M4 (Rect.unit (s := S1x1) ![0, 0] S1x1.size inb_S1x1_S1x1_0_0) numel1_S1x1 rfl
    Prog.lift (.store M4 (Rect.unit (s := S1x1) ![0, 0] S1x1.size inb_S1x1_S1x1_0_0)
      (fun _ => (Scalar.ofBits .f32 0x00000000#32 : F .f32)) Finset.univ (View.stores_smem_one rfl numel1_S1x1) (.inl rfl))) := rfl

/-- The part of the body under the test, when the test fails: nothing. -/
theorem part2_later : k0_part2 (F := F) i M2 h2 M3 h3 M4 h4 0#1 = pure ⟨⟩ := rfl

/-- Which rows of a block of targets count: one where the target is not zero, else zero. -/
def tcMask (tg : IVec S128x1 32) : FVec F S128x1 .f32 :=
  sitofp .f32 (extui 32 (cmpi .ne (shapeCast S128x1 tg shapeCasts_S128x1_S128x1) (broadcast S128x1 0#32)) natLt_1_32)

/-- The sum of a column of 128 numbers. -/
def tcSum (x : FVec F S128x1 .f32) : F .f32 :=
  extractAt ![0, 0, 0] (shapeCast S1x1x1 (multiReduction .add [1, 2] S1 (shapeCast S1x128x1 x shapeCasts_S128x1_S1x128x1)
    0x00000000#32 reduces_S1x128x1_S1 (.inl rfl) rfl) shapeCasts_S1_S1x1x1) inpos_S1x1x1_p0_0_0

/-- What one block adds to the accumulator: from its 128 targets `tg` and its 128 rows `x`, at column block `j`. -/
def tcVal (j : BitVec 32) (tg : IVec S128x1 32) (x : FVec F S128x32000 .f32) : F .f32 :=
  Scalar.addf
    (Scalar.mulf (Named.named κ "neg_smooth" 0xB651BA72#32)
      (tcSum (mulf (shapeCast S128x1 (multiReduction .add [1] S128 (shapeCast S128x32000 x shapeCasts_S128x32000_S128x32000)
        0x00000000#32 reduces_S128x32000_S128 (.inl rfl) rfl) shapeCasts_S128_S128x1) (tcMask tg))))
    (Scalar.select (Scalar.cmpi .eq j 0#32)
      (tcSum (mulf (tcMask tg) (addf (broadcast S128x1 (Named.named κ "c1" 0xBFAE63F8#32))
        (mulf (broadcast S128x1 (Named.named κ "smooth" 0x3651BA72#32))
          (extractStridedSlice S128x1 ![0, 0] (shapeCast S128x32000 x shapeCasts_S128x32000_S128x32000)
            slices_S128x32000_o0_0_S128x1)))))
      (Scalar.ofBits .f32 0x00000000#32))

/-- A memref's buffer, held whole. -/
abbrev pt {sp : Space} {S : Shape} {e : EltTy} (M : Memref sig .tc sp S e) (f : Buf (Elt F) (M.view.loc (T d : Thread nD τ))) : sProp 𝕄 :=
  M.view.loc (T d : Thread nD τ) ↦{fullShare} f

set_option maxHeartbeats 2000000 in
/-- The body at the first grid point leaves the accumulator at zero plus the block's value. -/
theorem wp_tc_first (hc : firstBit i = 1#1) (f2 : Buf (Elt F) (M2.view.loc (T d))) (f3 : Buf (Elt F) (M3.view.loc (T d)))
    (f4 : Buf (Elt F) (M4.view.loc (T d))) (Q : PUnit → sProp 𝕄) :
    iprop(pt d M2 f2 ∗ pt d M3 f3 ∗ pt d M4 f4 ∗ (∀ f, pt d M4 f -∗ ⌜M4.view.read (Elt F) f = fun _ => Scalar.addf (Scalar.ofBits .f32 0x00000000#32)
          (tcVal (BitVec.ofNat 32 (i 1).val) (M2.view.read (Elt F) f2) (M3.view.read (Elt F) f3))⌝ -∗ pt d M2 f2 -∗ pt d M3 f3 -∗ Q ⟨⟩))
      ⊢ wp frame (wpE (defs₀ (F := F)) 𝒱₀ (T d) none) Set.univ (cc0__tc_body i M2 h2 M3 h3 M4 h4) Q := by
  have hp : k0_part1 (F := F) i M2 h2 M3 h3 M4 h4 = pure ⟨BitVec.ofNat 32 (i 1).val, 1#1⟩ := by
    rw [← hc]; rfl
  unfold cc0__tc_body
  rw [hp]
  simp only [pure_bind]
  rw [part2_first]
  iintro ⟨H2, H3, H4, Hk⟩
  sl_exec!
  sl_step
  iapply Hk $$ [H4] [] [H2] [H3]
  · iexact H4
  · ipureintro
    refine (View.read_writes_full _ _ _ _ _).trans ?_
    funext _
    refine congrArg₂ Scalar.addf ?_ (congrArg₂ (tcVal (BitVec.ofNat 32 (i 1).val))
      (View.readAt_full M2.view f2 inb_S128x1_S128x1_0_0) (View.readAt_full M3.view f3 inb_S128x32000_S128x32000_0_0))
    rfl
  · iexact H2
  · iexact H3

set_option maxHeartbeats 2000000 in
/-- The body at a later grid point adds the block's value to the accumulator. -/
theorem wp_tc_later (hc : firstBit i = 0#1) (f2 : Buf (Elt F) (M2.view.loc (T d))) (f3 : Buf (Elt F) (M3.view.loc (T d)))
    (f4 : Buf (Elt F) (M4.view.loc (T d))) (Q : PUnit → sProp 𝕄) :
    iprop(pt d M2 f2 ∗ pt d M3 f3 ∗ pt d M4 f4 ∗ (∀ f, pt d M4 f -∗ ⌜M4.view.read (Elt F) f = fun _ => Scalar.addf (M4.view.read (Elt F) f4 (ix2 0 0))
          (tcVal (BitVec.ofNat 32 (i 1).val) (M2.view.read (Elt F) f2) (M3.view.read (Elt F) f3))⌝ -∗ pt d M2 f2 -∗ pt d M3 f3 -∗ Q ⟨⟩))
      ⊢ wp frame (wpE (defs₀ (F := F)) 𝒱₀ (T d) none) Set.univ (cc0__tc_body i M2 h2 M3 h3 M4 h4) Q := by
  have hp : k0_part1 (F := F) i M2 h2 M3 h3 M4 h4 = pure ⟨BitVec.ofNat 32 (i 1).val, 0#1⟩ := by
    rw [← hc]; rfl
  unfold cc0__tc_body
  rw [hp]
  simp only [pure_bind]
  rw [part2_later]
  iintro ⟨H2, H3, H4, Hk⟩
  sl_exec!
  sl_step
  iapply Hk $$ [H4] [] [H2] [H3]
  · iexact H4
  · ipureintro
    refine (View.read_writes_full _ _ _ _ _).trans ?_
    funext _
    refine congrArg₂ Scalar.addf ?_ (congrArg₂ (tcVal (BitVec.ofNat 32 (i 1).val))
      (View.readAt_full M2.view f2 inb_S128x1_S128x1_0_0) (View.readAt_full M3.view f3 inb_S128x32000_S128x32000_0_0))
    refine (congrFun (View.readAt_full M4.view f4 inb_S1x1_S1x1_0_0) _).trans (congrArg _ (funext fun a => Fin.ext ?_))
    have h1 : ∀ (x : S1x1.Idx) (a : Fin 2), (x a).val = 0 := fun x a => by
      have := (x a).isLt
      match a with
      | 0 => exact Nat.lt_one_iff.mp this
      | 1 => exact Nat.lt_one_iff.mp this
    exact (h1 _ a).trans (h1 _ a).symm
  · iexact H2
  · iexact H3

/-- A memref over a whole buffer reading `X`: the buffer held at contents that read `X`. -/
theorem owns_pt {sp : Space} {S : Shape} {e : EltTy} (M : Memref sig .tc sp S e) (h : M.IsWhole) (X : S.Idx → Elt F e) :
    (owns (T d : Thread nD τ) M fullShare X : sProp 𝕄) = iprop(∃ f, ⌜M.view.read (Elt F) f = X⌝ ∗ pt d M f) := by
  unfold owns; rw [h.set_eq_univ]

/-- The body at any grid point, over what the three memrefs read: the accumulator goes from `a` (at the first point from
    anything, `a` being zero) to `a` plus the block's value. -/
theorem wp_tc_owns (tg : IVec S128x1 32) (x : FVec F S128x32000 .f32) (y : S1x1.Idx → Elt F .f32) (a : F .f32)
    (hc : (firstBit i = 1#1 ∧ a = Scalar.ofBits .f32 0x00000000#32) ∨ (firstBit i = 0#1 ∧ y = fun _ => a)) (Q : PUnit → sProp 𝕄) :
    iprop(owns (T d : Thread nD τ) M2 fullShare tg ∗ owns (T d : Thread nD τ) M3 fullShare x ∗ owns (T d : Thread nD τ) M4 fullShare y
        ∗ (iprop(owns (T d : Thread nD τ) M2 fullShare tg ∗ owns (T d : Thread nD τ) M3 fullShare x
            ∗ owns (T d : Thread nD τ) M4 fullShare fun _ => Scalar.addf a (tcVal (BitVec.ofNat 32 (i 1).val) tg x)) -∗ Q ⟨⟩))
      ⊢ wp frame (wpE (defs₀ (F := F)) 𝒱₀ (T d) none) Set.univ (cc0__tc_body i M2 h2 M3 h3 M4 h4) Q := by
  rw [owns_pt d M2 h2, owns_pt d M3 h3, owns_pt d M4 h4, owns_pt d M4 h4]
  iintro ⟨⟨%f2, %e2, H2⟩, ⟨%f3, %e3, H3⟩, ⟨%f4, %e4, H4⟩, Hk⟩
  subst e2 e3
  rcases hc with ⟨hc, ha⟩ | ⟨hc, hy⟩
  · iapply (wp_tc_first d i M2 h2 M3 h3 M4 h4 hc f2 f3 f4 Q)
    isplitl [H2]; · iexact H2
    isplitl [H3]; · iexact H3
    isplitl [H4]; · iexact H4
    iintro %f H4 %hf H2 H3
    iapply Hk
    isplitl [H2]; · iexists f2; isplitr; swap; (· iexact H2); ipureintro; rfl
    isplitl [H3]; · iexists f3; isplitr; swap; (· iexact H3); ipureintro; rfl
    iexists f; isplitr; swap; (· iexact H4); ipureintro; rw [ha]; exact hf
  · iapply (wp_tc_later d i M2 h2 M3 h3 M4 h4 hc f2 f3 f4 Q)
    isplitl [H2]; · iexact H2
    isplitl [H3]; · iexact H3
    isplitl [H4]; · iexact H4
    iintro %f H4 %hf H2 H3
    iapply Hk
    isplitl [H2]; · iexists f2; isplitr; swap; (· iexact H2); ipureintro; rfl
    isplitl [H3]; · iexists f3; isplitr; swap; (· iexact H3); ipureintro; rfl
    iexists f; isplitr; swap; (· iexact H4); ipureintro; rw [hf, e4, hy]

end Cert.Proof.Run

end
-- ==== Proof.Core.lean ====
/-
  The TensorCore call: the accumulator after each grid point, the data of its pipeline, and the call entered from the
  three arrays and left with the result array at the last sum.
-/
module

public import proofs.«01_k».proof.Proof.TcBody
public import proofs.«01_k».proof.Proof.Gen.KernelIdeal.Launch
public import proofs.«01_k».proof.Proof.Gen.KernelIdeal.Points
public import Idealize.ShloMosaic.Lib.Pipeline.Frame
public import Idealize.ShloMosaic.Lib.Pipeline.Value

@[expose] public section

noncomputable section

namespace Cert.Proof.Run

open Cert.KernelIdeal Cert.KernelIdeal.Gen Cert.Proof.Shape
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

variable {F : FTy → Type} [FloatOps F] [Named F]
local notation "𝕄" => MT nD τ sig (HIx 1) (Elt F) ℕ UU ℕ

abbrev v2Loc (d : Dev nD) : Loc nD τ sig := (SparseCore.T d).loc main_v2
abbrev v3Loc (d : Dev nD) : Loc nD τ sig := (SparseCore.T d).loc main_v3

variable (m : (ℓ : Loc nD τ sig) → Buf (Elt F) ℓ)

/-- The targets as the TensorCore call finds them: a column of 4096 words. -/
def T2 (d : Dev nD) : Buf (Elt F) (v2Loc d) := shapeCast S4096x1 (T0 m d) shapeCasts_S4096_S4096x1

/-- The 128 targets of grid point `t`, -/
def blkT (d : Dev nD) (t : Fin cfg0.N) : IVec S128x1 32 := (win0_0.blk t).view.read (Elt F) (T2 m d)
/-- and its 128 rows. -/
def blkX (d : Dev nD) (t : Fin cfg0.N) : FVec F S128x32000 .f32 := (win0_1.blk t).view.read (Elt F) (X0 m d)

/-- What grid point `n` adds to the accumulator. -/
def ptVal (d : Dev nD) (n : ℕ) : F .f32 :=
  if h : n < cfg0.N then tcVal (BitVec.ofNat 32 (grid0.coords ⟨n, h⟩ 1).val) (blkT m d ⟨n, h⟩) (blkX m d ⟨n, h⟩) else Scalar.ofBits .f32 0x00000000#32

/-- The accumulator before grid point `n`. -/
def accAt (d : Dev nD) : ℕ → F .f32
  | 0 => Scalar.ofBits .f32 0x00000000#32
  | n + 1 => Scalar.addf (accAt d n) (ptVal m d n)

/-- What a grid point adds is the body's value on the point's two blocks. -/
theorem ptVal_lt (d : Dev nD) (t : Fin cfg0.N) :
    ptVal m d t.val = tcVal (BitVec.ofNat 32 (grid0.coords t 1).val) (blkT m d t) (blkX m d t) := dif_pos t.isLt

/-- The proof data of the call: the arrays at what the host left, the two fetched blocks kept, the accumulator after
    the point in the third window's buffer; the debts of the TensorCore towards the SparseCores untouched. -/
def dat (d : Dev nD) : Pipeline.Dat τ (Elt F) (HIx 1) ℕ UU ℕ cfg0 d where
  A w := match w with
    | ⟨0, _⟩ => T2 m d
    | ⟨1, _⟩ => X0 m d
    | ⟨2, _⟩ => m (v3Loc d)
  after w t := match w with
    | ⟨0, _⟩ => blkT m d t
    | ⟨1, _⟩ => blkX m d t
    | ⟨2, _⟩ => fun _ => accAt m d (t.val + 1)
  Φ _ := Pipeline.scopedRest (Ix := HIx 1) (Name := ℕ) (U := UU) (Lvl := ℕ) (Val := Elt F) spec0 d
  q _ := fullShare
  owed _ := (K (F := F)).Otc d 0
  recorded _ := {p | (K (F := F)).lev (T d, p.1) p.2 ≤ 0}

/-- At the first grid point the body starts the accumulator. -/
theorem firstBit_zero : ∀ t : Fin cfg0.N, t.val = 0 → firstBit (grid0.coords t) = 1#1 := by decide +kernel
/-- At every later grid point it does not. -/
theorem firstBit_pos : ∀ t : Fin cfg0.N, t.val ≠ 0 → firstBit (grid0.coords t) = 0#1 := by decide +kernel

/-- Every grid point finds its block of targets in the first window. -/
theorem before_0 (d : Dev nD) (t : Fin cfg0.N) (x) : (dat m d).before 0 t x = blkT m d t := by
  unfold Pipeline.Dat.before; rw [if_pos (fetch0_0 t)]; rfl
/-- Every grid point finds its block of log-probabilities in the second window. -/
theorem before_1 (d : Dev nD) (t : Fin cfg0.N) (x) : (dat m d).before 1 t x = blkX m d t := by
  unfold Pipeline.Dat.before; rw [if_pos (fetch0_1 t)]; rfl
/-- Every grid point but the first finds the accumulator so far in the third window. -/
theorem before_2 (d : Dev nD) (t : Fin cfg0.N) (ht : t.val ≠ 0) (x) :
    (dat m d).before 2 t x = fun _ => accAt m d t.val := by
  have hN : cfg0.N = 32 := N_0
  rw [Pipeline.Dat.before_out_kept (dat m d) 2 rfl t ht (by
    rw [Bool.eq_false_iff]; intro h
    have h1 := (flush0_2 _).mp h; have h2 := t.isLt; dsimp only at h1; omega) (fun _ => rfl) (fun _ _ => rfl)]
  dsimp only [dat]
  rw [Nat.sub_add_cancel (Nat.pos_of_ne_zero ht)]

/-- The body at every grid point, from the windows' buffers as the pipeline hands them over. -/
theorem tc_obligation (d : Dev nD) : Pipeline.BodyObligation (dat m d) (defs₀ (F := F)) 𝒱₀ none Set.univ := fun t => by
  rw [bigSep_W0, bigSep_W0]
  rw [show (dat m d).Φ t.castSucc = (dat m d).Φ t.succ from rfl,
    show (dat m d).owesAt none t.succ = (dat m d).owesAt none t.castSucc from rfl]
  iintro ⟨HΦ, Howes, ⟨%d0, H0⟩, ⟨%d1, H1⟩, ⟨%d2, H2⟩⟩
  rw [before_0 m d t d0, before_1 m d t d1]
  iapply (wp_tc_owns d (grid0.coords t) (st0_0 t) (hstage0_0 _) (st0_1 t) (hstage0_1 _) (st0_2 t) (hstage0_2 _)
    (blkT m d t) (blkX m d t) ((dat m d).before 2 t d2) (accAt m d t.val) (by
      by_cases ht : t.val = 0
      · exact Or.inl ⟨firstBit_zero t ht, by rw [ht]; rfl⟩
      · exact Or.inr ⟨firstBit_pos t ht, before_2 m d t ht d2⟩) _)
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexact H0
  isplitl [H1]; · iexact H1
  rw [← ptVal_lt]
  iexact H2

end Cert.Proof.Run

end
-- ==== Proof.Region.lean ====
/-
  The TensorCore call as a region: entered from the three arrays it names, left with its result array at the
  accumulator after the last grid point.
-/
module

public import proofs.«01_k».proof.Proof.Core
public import Idealize.ShloMosaic.Lib.Pipeline.Regions

@[expose] public section

noncomputable section

namespace Cert.Proof.Run

open Cert.KernelIdeal Cert.KernelIdeal.Gen Cert.Proof.Shape
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

variable {F : FTy → Type} [FloatOps F] [Named F]
local notation "𝕄" => MT nD τ sig (HIx 1) (Elt F) ℕ UU ℕ

variable (m : (ℓ : Loc nD τ sig) → Buf (Elt F) ℓ)

/-- The windows' arrays, one by one. -/
theorem arrays_eq (d : Dev nD) (G : (w : Fin cfg0.W) → Buf (Elt F) ((cfg0.win w).arr.view.loc (d.tc : Thread nD τ))) :
    ((dat m d).arrays G : sProp 𝕄)
      = iprop((v2Loc d ↦{fullShare} (G 0 : Buf (Elt F) (v2Loc d))) ∗ (v0Loc d ↦{fullShare} (G 1 : Buf (Elt F) (v0Loc d)))
          ∗ (v3Loc d ↦{fullShare} (G 2 : Buf (Elt F) (v3Loc d)))) := by
  unfold Pipeline.Dat.arrays
  rw [bigSep_W0]
  have h0 := (arr_whole0 0).set_eq_univ
  have h1 := (arr_whole0 1).set_eq_univ
  have h2 := (arr_whole0 2).set_eq_univ
  rw [h0, h1, h2]
  rfl

/-- The result of the call: the accumulator after the last grid point. -/
def acc3 (d : Dev nD) : Buf (Elt F) (v3Loc d) := fun _ => accAt m d 32

/-- The value written back at the last grid point is the call's result. -/
theorem flushed_2 (d : Dev nD) (t : Fin cfg0.N) (hf : (cfg0.win 2).flush t = true) :
    (dat m d).flushed 2 t = ((cfg0.win 2).blk t).view.read (Elt F) (acc3 m d) := by
  have hN : cfg0.N = 32 := N_0
  have h3 : t.val = 31 := by have := (flush0_2 t).mp hf; have := t.isLt; omega
  funext x
  show (cfg0.win 2).cut (grid0.coords t) ((dat m d).after 2 t) x = _
  dsimp only [dat]
  rw [h3]
  rfl

/-- A 1×1 array has one index. -/
theorem idx11 (x y : S1x1.Idx) : x = y := by
  have h1 : ∀ (x : S1x1.Idx) (a : Fin 2), (x a).val = 0 := fun x a => by
    have := (x a).isLt
    match a with
    | 0 => exact Nat.lt_one_iff.mp this
    | 1 => exact Nat.lt_one_iff.mp this
  exact funext fun a => Fin.ext ((h1 x a).trans (h1 y a).symm)

/-- The last grid point. -/
def tLast : Fin cfg0.N := ⟨31, lt_of_lt_of_eq (by decide : 31 < 32) N_0.symm⟩

/-- The result array at the end of the call. -/
theorem final_2 (d : Dev nD) : (dat m d).arrAt 2 cfg0.N = acc3 m d :=
  (dat m d).arrAt_eq_of_cover 2 (acc3 m d) (flushed_2 m d) fun i =>
    ⟨tLast, (flush0_2 _).mpr rfl, by
      have e : (win0_2.blk tLast).view.emb (ix2 0 0 : S1x1.Idx) = i := idx11 _ _
      rw [← e]; exact View.emb_mem_set _ _⟩

/-- No table is prefetched. -/
abbrev adm : (p : Fin 1) → (pcfgs (F := F) p).Adm := fun p => (cfgs p).toPCfg_adm

/-- The program's one pipeline's data. -/
abbrev pdats : (p : Fin 1) → (d : Dev nD) → Pipeline.Dat τ (Elt F) (HIx 1) ℕ UU ℕ (Pipeline.pin (pcfgs (F := F)) adm p) d := fun _ d => dat m d

/-- No wait of the TensorCore's own is owed anything by it. -/
theorem Otc_none (d : Dev nD) (g : GSem nD τ sig) : (K (F := F)).Otc (N := 1) d 0 g none = 0 := by
  unfold SparseCore.Cfg.Otc
  rw [Finset.sum_apply, Finsupp.finset_sum_apply]
  refine Finset.sum_eq_zero fun q _ => ?_
  rw [if_pos (Nat.zero_le _), Finset.sum_apply, Finsupp.finset_sum_apply]
  refine Finset.sum_eq_zero fun c _ => ?_
  rw [tallyAt_apply, if_neg fun h => nomatch h.2]

/-- The arrays the call names, the third at `f`; and what the TensorCore owes the SparseCores. -/
def regPts (d : Dev nD) (f : Buf (Elt F) (v3Loc d)) : sProp 𝕄 :=
  iprop((v2Loc d ↦{fullShare} T2 m d) ∗ (v0Loc d ↦{fullShare} X0 m d) ∗ (v3Loc d ↦{fullShare} f)
    ∗ ∃ W, ⌜(K (F := F)).WBelow (T d) W 0⌝ ∗ owes (T d : Thread nD τ) ((K (F := F)).Otc d 0) W)

/-- The debts at a grid point are those that @main brings to the call. -/
theorem owesAt_iff (d : Dev nD) (t : Fin (cfg0.N + 1)) :
    ((dat m d).owesAt none t : sProp 𝕄) = iprop(∃ W, ⌜(K (F := F)).WBelow (T d) W 0⌝ ∗ owes (T d : Thread nD τ) ((K (F := F)).Otc d 0) W) := by
  unfold Pipeline.Dat.owesAt Pipeline.owesWithin
  refine congrArg _ (funext fun W => ?_)
  rw [show ((W : Set (SemLoc sig × HIx 1)) ⊆ (dat m d).bound none t) = (K (F := F)).WBelow (T d) W 0 from
    propext ⟨fun h p hp => (h hp).elim id fun ⟨w, s, e⟩ => e ▸ le_rfl, fun h p hp => Or.inl (h p hp)⟩]
  rfl

set_option backward.isDefEq.respectTransparency.types false in
/-- The call as a region. -/
def reg : Pipeline.RegionSeg (pcfgs (F := F)) adm (pdats m) none defs₀ 𝒱₀ (K (F := F)).L (K (F := F)).lev 0 where
  win := (launch0).win.to₀
  block_pos := launch0.block_pos
  stage_whole := launch0.stage_whole
  K := PEmpty
  osem k := k.elim
  ho := Pipeline.OwnSemFacts.none _
  hbody d := (tc_obligation m d).loose
  hwaits d := Pipeline.cellsWaits_intro _ _ _ 0 d fun _ _ _ => (K (F := F)).mayWait_none _ (Otc_none d)
  pre d := regPts m d (m (v3Loc d))
  post d := regPts m d (acc3 m d)
  X _ := BI.emp
  Y _ := BI.emp
  Z _ := BI.emp
  hentry d := by
    rw [Pipeline.ownSems0_none, show (pdats m 0 d) = dat m d from rfl, arrays_eq, show (dat m d).owesAt none 0 = _ from owesAt_iff m d 0]
    unfold regPts
    iintro ⟨⟨H2, H0, H3, HO⟩, -, -⟩
    imodintro
    isplitl [H2 H0 H3]
    · isplitl [H2]; · iexact H2
      isplitl [H0]; · iexact H0
      iexact H3
    isplitr; · unfold Pipeline.prefHeld; rw [show (Finset.univ : Finset (Fin 0)) = ∅ from rfl, BI.bigSep_empty]; iempintro
    isplitl [HO]; · iexact HO
    isplitr <;> iempintro
  hin d := by
    rw [show (pdats m 0 d).Φ 0 = Pipeline.scopedRest spec0 d from rfl]
    iintro ⟨-, -, Hr⟩; iexact Hr
  hout d := by
    rw [Pipeline.ownSems0_none, show (pdats m 0 d).Φ (Fin.last _) = Pipeline.scopedRest spec0 d from rfl]
    iintro Hr
    isplitr; · iempintro
    isplitr; · iempintro
    iexact Hr
  hexit d := by
    rw [show (pdats m 0 d) = dat m d from rfl, arrays_eq, show (dat m d).owesAt none (Fin.last _) = _ from owesAt_iff m d (Fin.last _)]
    rw [show (dat m d).arrAt 0 cfg0.N = T2 m d from (dat m d).arrAt_in 0 rfl _, show (dat m d).arrAt 1 cfg0.N = X0 m d from (dat m d).arrAt_in 1 rfl _,
      final_2]
    unfold regPts
    iintro ⟨⟨H2, H0, H3⟩, HO, -, -⟩
    imodintro
    isplitl [H2]; · iexact H2
    isplitl [H0]; · iexact H0
    isplitl [H3]; · iexact H3
    iexact HO

end Cert.Proof.Run

end
-- ==== Proof.Fetch.lean ====
/-
  The fetches of one group of sixteen words: sixteen copies issued on one semaphore, each from the block of the array
  its word names into its own page of the staging buffer, then waited for together.
-/
module

public import proofs.«01_k».proof.Proof.Tile

@[expose] public section

noncomputable section

namespace Cert.Proof.Run

open Cert.KernelIdeal Cert.KernelIdeal.Gen Cert.Proof.Shape
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]
local notation "𝕄" => MT nD τ sig (HIx 1) (Elt F) ℕ UU ℕ

/-! ## The pages of the staging buffer -/

/-- The elements of page `u`. -/
abbrev pageSet (u : Fin 16) : Finset S16x8x128.Idx := (pageRef pgV u.val u.isLt).view.set

/-- The elements of page `u` are those with first coordinate `u`. -/
theorem mem_pageSet (u : Fin 16) (x : S16x8x128.Idx) : x ∈ pageSet u ↔ (x 0).val = u.val := by
  have e : pageSet u = (Rect.unit (s := S16x8x128) ![u.val, 0, 0] S1x8x128.size (stage_inb u.isLt)).set := by
    show ((pgV.view.slice _).reshape _ _).set = _
    rw [View.set_reshape]; exact View.set_slice_whole _ _
  rw [e, Rect.mem_set_unit]
  constructor
  · intro h
    have := h 0
    simp at this; omega
  · intro h a
    have h1 := (x 1).isLt; have h2 := (x 2).isLt
    match a with
    | 0 => simp [h]
    | 1 => simpa using h1
    | 2 => simpa using h2

/-- Two pages share no element. -/
theorem pageSet_disjoint : ∀ t ∈ (Finset.univ : Finset (Fin 16)), ∀ t' ∈ (Finset.univ : Finset (Fin 16)), t ≠ t' → Disjoint (pageSet t) (pageSet t') := by
  intro t _ t' _ hne
  rw [Finset.disjoint_left]
  intro x hx hx'
  exact hne (Fin.ext (((mem_pageSet t x).mp hx).symm.trans ((mem_pageSet t' x).mp hx')))

/-- The sixteen pages are the whole staging buffer. -/
theorem pageSet_cover : (Finset.univ : Finset (Fin 16)).biUnion pageSet = Finset.univ := by
  ext x
  simp only [Finset.mem_biUnion, Finset.mem_univ, true_and, iff_true]
  exact ⟨x 0, (mem_pageSet _ x).mpr rfl⟩

/-! ## One group's copies -/

variable (d : Dev nD) (i : grid1.Coords) (X : Vec F S4096x32000 .f32) (q : ℕ) (cols : IVec S16 32)

/-- The blocks of group `q`, all inside the array. -/
abbrev blk (hall : AllIn i q cols 16) (u : Fin 16) : Memref sig .scVector .hbm S8x128 .f32 :=
  srcRef i srcV q u.val (word cols u.val u.isLt) (hall u.val u.isLt u.isLt)

/-- The share of the array lent to word `u`'s copy. -/
abbrev uq (i : grid1.Coords) (u : Fin 16) : PosShare TreeShare := leaf 4 (tq (wid i)) u

/-- Word `u`'s block, lent; -/
abbrev lentPts (hall : AllIn i q cols 16) (u : Fin 16) : sProp 𝕄 :=
  (blk i q cols hall u).view.loc (thr d i) ↦[(blk i q cols hall u).view.set]{uq i u} X
/-- page `u` of the staging buffer. -/
abbrev pagePts (pg : Vec F S16x8x128 .f32) (u : Fin 16) : sProp 𝕄 :=
  (pageRef pgV u.val u.isLt).view.loc (thr d i) ↦[(pageRef pgV u.val u.isLt).view.set]{fullShare} pg

/-- What word `u`'s copy delivers: its page filled, and the block back. -/
def delivery (hall : AllIn i q cols 16) (u : Fin 16) : sProp 𝕄 :=
  iprop(pagePts d i (pages i X q cols) u ∗ lentPts d i X q cols hall u)

/-- What a copy delivers may be kept in an invariant. -/
instance delivery_storable (hall : AllIn i q cols 16) (u : Fin 16) : Storable (upEmb : UEmb _ 𝕄) (delivery d i X q cols hall u) := by
  unfold delivery; infer_instance

/-- What one page's copy counts on the semaphore. -/
abbrev pgN : ℕ := (pageRef pgV 0 (by decide)).view.dmaCredit

/-- A page's copy counts something. -/
theorem pgN_pos : 0 < pgN := by decide

/-- A page written with its block is the page of `pages`. -/
theorem page_written (hall : AllIn i q cols 16) (u : Fin 16) (pg : Vec F S16x8x128 .f32) (x : S16x8x128.Idx) (hx : x ∈ pageSet u) :
    (pageRef pgV u.val u.isLt).view.write (Elt F) pg ((blk i q cols hall u).view.read (Elt F) X) Finset.univ x = pages i X q cols x := by
  obtain ⟨y, rfl⟩ : ∃ y, (pageRef pgV u.val u.isLt).view.emb y = x := by
    simpa [View.set] using hx
  rw [View.write_emb_of_mem _ _ (Finset.mem_univ y)]
  have e : (pageRef pgV u.val u.isLt).view.emb y = ix3 u (y 0) (y 1) := by
    refine Eq.trans (congrArg (Rect.unit (s := S16x8x128) ![u.val, 0, 0] S1x8x128.size (stage_inb u.isLt)).emb
      (show Shape.reshapeEquiv _ y = ix3 (⟨0, Nat.one_pos⟩ : Fin 1) (y 0) (y 1) from
        (congrArg _ (eq_ix2 y)).trans (reshapeEquiv_ix2_1ab (a := 8) (b := 128) _ (y 0) (y 1)))) ?_
    funext a
    match a with
    | 0 => exact Fin.ext (by simp [Rect.emb_apply, ix3])
    | 1 => exact Fin.ext (by simp [Rect.emb_apply, ix3])
    | 2 => exact Fin.ext (by simp [Rect.emb_apply, ix3])
  rw [e]
  show X ((blk i q cols hall u).view.emb y) = X _
  refine congrArg X (funext fun a => Fin.ext ?_)
  have h := hall u.val u.isLt u.isLt
  have y0 : (y 0).val < 8 := (y 0).isLt
  have y1 : (y 1).val < 128 := (y 1).isLt
  match a with
  | 0 =>
    have h0 : srcOff i q u.val (word cols u.val u.isLt) 0 + 8 ≤ 4096 := h 0
    show srcOff i q u.val (word cols u.val u.isLt) 0 + 1 * (y 0).val = (srcOff i q u.val (word cols u.val u.isLt) 0 + (y 0).val) % 4096
    rw [Nat.mod_eq_of_lt (by omega)]; omega
  | 1 =>
    have h1 : srcOff i q u.val (word cols u.val u.isLt) 1 + 128 ≤ 32000 := h 1
    show srcOff i q u.val (word cols u.val u.isLt) 1 + 1 * (y 1).val = (srcOff i q u.val (word cols u.val u.isLt) 1 + (y 1).val) % 32000
    rw [Nat.mod_eq_of_lt (by omega)]; omega

/-- A page that its copy has written, and the block lent for it, are the copy's delivery. -/
theorem pagePts_written (hall : AllIn i q cols 16) (u : Fin 16) (pg : Vec F S16x8x128 .f32) :
    (iprop(((pageRef pgV u.val u.isLt).view.loc (thr d i) ↦[(pageRef pgV u.val u.isLt).view.set]{fullShare}
        ((pageRef pgV u.val u.isLt).view.write (Elt F) pg (ReadAs.same.apply ((blk i q cols hall u).view.read (Elt F) X)) Finset.univ))
      ∗ lentPts d i X q cols hall u) : sProp 𝕄) ⊢ delivery d i X q cols hall u := by
  unfold delivery pagePts
  exact sep_mono_l (Entails.of_eq (pointsTo_congr fun x hx => page_written i X q cols hall u pg x hx))

/-- Group `q`'s sixteen copies, of which the first `n` are issued and `c` units are consumed. -/
abbrev batch (hall : AllIn i q cols 16) (n c : ℕ) : sProp 𝕄 :=
  Transfers.Batch (countersEmb (U := UU)) (thr d i) (.dma cc1_scratch3.sem) (default : HIx 1) pgN (delivery d i X q cols hall) n c

/-- The copies from the `n`-th, `r` of them: each lends its block and its page to its transfer. -/
theorem wp_issues {α : Type} (pg : Vec F S16x8x128 .f32) (hall : AllIn i q cols 16) (k : AllIn i q cols 16 → Prog (Eff F i) α) (Q : α → sProp 𝕄) :
    ∀ (r n : ℕ) (hn : n + r = 16) (h : AllIn i q cols n),
    iprop(bigSep (Transfers.pending (n := 16) n) (fun u => iprop(lentPts d i X q cols hall u ∗ pagePts d i pg u))
        ∗ batch d i X q cols hall n 0
        ∗ (batch d i X q cols hall 16 0 -∗ wp frame (wpE (defs₀ (F := F)) 𝒱₀ (thr d i) none) Set.univ (k hall) Q))
      ⊢ wp frame (wpE (defs₀ (F := F)) 𝒱₀ (thr d i) none) Set.univ (issues i srcV pgV cc1_scratch3 q cols k r n hn h) Q
  | 0, n, hn, h => by
    obtain rfl : n = 16 := hn
    iintro ⟨-, HB, Hk⟩
    iapply Hk $$ HB
  | r + 1, n, hn, h => by
    have hlt : n < 16 := by omega
    have hchk : SrcChk i q n (word cols n hlt) (n == 15) := by
      cases (n == 15)
      · exact ⟨hall n hlt hlt, hall n hlt hlt⟩
      · exact hall n hlt hlt
    refine .trans ?_ (wp_assume (k := fun w =>
      Prog.lift (.enqueueDma (srcRef i srcV q n (word cols n hlt) w.down.inb) (.here (pageRef pgV n hlt)) (.dma cc1_scratch3.sem)
        (View.wordExact_bits rfl) ((View.wordExact_bits rfl).reshape _ _) ⟨Or.inl rfl, trivial⟩) >>= fun _ =>
      issues i srcV pgV cc1_scratch3 q cols k r (n + 1) (by omega) (h.succ i hlt w.down.inb)) 𝒱₀ (thr d i) none Set.univ hchk)
    rw [Transfers.bigSep_pending_step _ n hlt]
    iintro ⟨⟨⟨Hs, Hd⟩, Hrest⟩, HB, Hk⟩
    iapply (Transfers.wp_dmaBatch (countersEmb (U := UU)) 𝒱₀ (thr d i) none (src := srcRef i srcV q n (word cols n hlt) hchk.inb) (dst := pageRef pgV n hlt)
      (default : HIx 1) pgN rfl subset_rfl hlt (Nat.zero_le _) (pagePts_written d i X q cols hall ⟨n, hlt⟩ pg)) $$ [Hs Hd HB]
    · isplitl [Hs]; · iexact Hs
      isplitl [Hd]; · iexact Hd
      iexact HB
    iintro HB
    iapply (wp_issues pg hall k Q r (n + 1) (by omega) (h.succ i hlt hchk.inb))
    isplitl [Hrest]; · iexact Hrest
    isplitl [HB]; · iexact HB
    iexact Hk

/-- The waits from the `n`-th on: the last one hands back every page, filled, and every block. -/
theorem wp_waits {α : Type} (hall h : AllIn i q cols 16) (k : Prog (Eff F i) α) (Q : α → sProp 𝕄) (O : CellTallies nD τ sig (HIx 1)) (W₀ : Waits sig (HIx 1)) :
    ∀ (r n : ℕ) (hn : n + (r + 1) = 16) (W : Waits sig (HIx 1)) (hW : ∀ p ∈ W, p ∈ W₀ ∨ p.2 = none),
    iprop(batch d i X q cols hall 16 (n * pgN) ∗ owes (thr d i) O W ∗ Transfers.MayWaits (thr d i) (default : HIx 1) O
        ∗ (iprop(bigSep Finset.univ (delivery d i X q cols hall) ∗ semVal (thr d i, SemLoc.dma cc1_scratch3.sem) 0
              ∗ ∃ W' : Waits sig (HIx 1), ⌜∀ p ∈ W', p ∈ W₀ ∨ p.2 = none⌝ ∗ owes (thr d i) O W')
            -∗ wp frame (wpE (defs₀ (F := F)) 𝒱₀ (thr d i) none) Set.univ k Q))
      ⊢ wp frame (wpE (defs₀ (F := F)) 𝒱₀ (thr d i) none) Set.univ (waits i srcV pgV cc1_scratch3 q cols h k (r + 1) n hn) Q
  | 0, n, hn, W, hW => by
    obtain rfl : n = 15 := by omega
    iintro ⟨HB, HO, #Hmw, Hk⟩
    iapply (Transfers.wp_waitBatchLastO (countersEmb (U := UU)) 𝒱₀ (thr d i) none
      (srcw := srcRef i srcV q 15 (word cols 15 (by decide)) (h 15 (by decide) (by decide))) (dstw := pageRef pgV 15 (by decide))
      (hsrc := View.wordExact_bits rfl) (hdst := (View.wordExact_bits rfl).reshape _ _) (default : HIx 1) (N := pgN) rfl pgN_pos
      (D := delivery d i X q cols hall) (u := 15 * pgN) (by omega) (O := O) (W := W)) $$ [HB HO]
    · isplitl [HB]; · iexact HB
      isplitl [HO]; · iexact HO
      iapply (Transfers.MayWaits.elim (SemLoc.dma cc1_scratch3.sem)) $$ Hmw
    iintro ⟨HD, Hv, HO⟩
    iapply Hk
    isplitl [HD]; · iexact HD
    isplitl [Hv]; · iexact Hv
    iexists (insert (SemLoc.dma cc1_scratch3.sem, (default : HIx 1)) W)
    isplitr
    · ipureintro
      intro p hp
      rcases Finset.mem_insert.mp hp with rfl | hp
      · exact .inr rfl
      · exact hW p hp
    iexact HO
  | r + 1, n, hn, W, hW => by
    iintro ⟨HB, HO, #Hmw, Hk⟩
    iapply (Transfers.wp_waitBatchO (countersEmb (U := UU)) 𝒱₀ (thr d i) none
      (srcw := srcRef i srcV q n (word cols n (by omega)) (h n (by omega) (by omega))) (dstw := pageRef pgV n (by omega))
      (hsrc := View.wordExact_bits rfl) (hdst := (View.wordExact_bits rfl).reshape _ _) (default : HIx 1) (N := pgN) rfl
      (D := delivery d i X q cols hall) (u := n * pgN) (by have := pgN_pos; nlinarith) (O := O) (W := W)) $$ [HB HO]
    · isplitl [HB]; · iexact HB
      isplitl [HO]; · iexact HO
      iapply (Transfers.MayWaits.elim (SemLoc.dma cc1_scratch3.sem)) $$ Hmw
    iintro ⟨HB, HO⟩
    iapply (wp_waits hall h k Q O W₀ r (n + 1) (by omega) (insert (SemLoc.dma cc1_scratch3.sem, (default : HIx 1)) W) (by
      intro p hp
      rcases Finset.mem_insert.mp hp with rfl | hp
      · exact .inr rfl
      · exact hW p hp))
    rw [show (n + 1) * pgN = n * pgN + pgN from Nat.succ_mul n pgN]
    isplitl [HB]; · iexact HB
    isplitl [HO]; · iexact HO
    isplitr; · iexact Hmw
    iexact Hk

end Cert.Proof.Run

end
-- ==== Proof.Group.lean ====
/-
  One tile's groups of sixteen words: the words read, their blocks fetched, their additions made.
-/
module

public import proofs.«01_k».proof.Proof.Fetch

@[expose] public section

noncomputable section

namespace Cert.Proof.Run

open Cert.KernelIdeal Cert.KernelIdeal.Gen Cert.Proof.Shape
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

variable {F : FTy → Type} [FloatOps F] [Named F]
local notation "𝕄" => MT nD τ sig (HIx 1) (Elt F) ℕ UU ℕ

/-- The sixteen words of group `q`, of the tile's 128. -/
def wordsQ (F : FTy → Type) (W : IVec S128 32) (q : ℕ) (hq : q < 8) : IVec S16 32 :=
  shapeCast S16 (wdV.view.readAt (Elt F) (Rect.unit (s := S128) ![16 * q] S16.size (words_inb hq)).toLoadRect W : IVec S16 32) shapeCasts_S16_S16
/-- Their column blocks: each word over 128. -/
def colsQ (F : FTy → Type) (W : IVec S128 32) (q : ℕ) (hq : q < 8) : IVec S16 32 := shrsi (wordsQ F W q hq) (broadcast S16 7#32)

/-- The sixteen sums after the first `n` groups. -/
def groupsV (i : grid1.Coords) (X : Vec F S4096x32000 .f32) (W : IVec S128 32) : (n : ℕ) → n ≤ 8 → Vec F S16 .f32
  | 0, _ => broadcast S16 (Scalar.ofBits (F := F) .f32 0x00000000#32)
  | n + 1, hn => stepsV (pages i X n (colsQ F W n hn)) (wordsQ F W n hn) 16 0 le_rfl (groupsV i X W n (Nat.le_of_succ_le hn))

variable (d : Dev nD) (i : grid1.Coords) (X : Vec F S4096x32000 .f32) (W : IVec S128 32)

/-- The array, read by all the tiles, at this tile's share. -/
abbrev srcPts : sProp 𝕄 := (srcV).view.loc (thr d i) ↦{tq (wid i)} X

/-- The staging buffer is its sixteen pages. -/
theorem pg_split (pg : Vec F S16x8x128 .f32) : (pgPts d i pg : sProp 𝕄) = bigSep Finset.univ (pagePts d i pg) := by
  show (pgPts d i pg : sProp 𝕄) = bigSep Finset.univ (fun u : Fin 16 => (pgV).view.loc (thr d i) ↦[pageSet u]{fullShare} pg)
  refine Eq.trans ?_ (pointsTo_biUnion (ℓ := (pgV).view.loc (thr d i)) Finset.univ pageSet pageSet_disjoint)
  rw [pageSet_cover]

/-- What is left of each word's share of the array beside its block. -/
abbrev restPts (q : ℕ) (cols : IVec S16 32) (hall : AllIn i q cols 16) (u : Fin 16) : sProp 𝕄 :=
  (srcV).view.loc (thr d i) ↦[Finset.univ \ (blk i q cols hall u).view.set]{uq i u} X

/-- The tile's share of the array is the sixteen blocks lent to the copies, and what is left beside them. -/
theorem src_split (q : ℕ) (cols : IVec S16 32) (hall : AllIn i q cols 16) :
    (srcPts d i X : sProp 𝕄) = iprop(bigSep Finset.univ (lentPts d i X q cols hall) ∗ bigSep Finset.univ (restPts d i X q cols hall)) := by
  refine Eq.trans ?_ (bigSep_sep Finset.univ (lentPts d i X q cols hall) (restPts d i X q cols hall))
  refine (pointsTo_leaves (ℓ := (srcV).view.loc (thr d i)) Finset.univ X 4 (tq (wid i))).trans (bigSep_congr fun u _ => ?_)
  exact Entails.antisymm (pointsTo_split_subset (Finset.subset_univ _)).1 (pointsTo_split_subset (Finset.subset_univ _)).2

/-- Two programs in sequence, the first run on part of what is held. -/
theorem wp_seq {α β : Type} {P R : sProp 𝕄} {p : Prog (Eff F i) α} {k : α → Prog (Eff F i) β} {Q : α → sProp 𝕄} {Q' : β → sProp 𝕄}
    (h : P ⊢ wp frame (wpE (defs₀ (F := F)) 𝒱₀ (thr d i) none) Set.univ p Q)
    (h' : ∀ a, iprop(Q a ∗ R) ⊢ wp frame (wpE (defs₀ (F := F)) 𝒱₀ (thr d i) none) Set.univ (k a) Q') :
    iprop(P ∗ R) ⊢ wp frame (wpE (defs₀ (F := F)) 𝒱₀ (thr d i) none) Set.univ (p >>= k) Q' := by
  rw [wp_bind]
  exact (sep_mono_l h).trans ((wp_frame_r _ _ _).trans (wp_mono _ _ _ h'))

/-- The read of group `q`'s sixteen words. -/
theorem wp_words (q : ℕ) (hq : q < 8) :
    (wdPts d i W : sProp 𝕄) ⊢ wp frame (wpE (defs₀ (F := F)) 𝒱₀ (thr d i) none) Set.univ
      (Prog.lift (.load wdV (Rect.unit (s := S128) ![16 * q] S16.size (words_inb hq)).toLoadRect (View.loadsAt_vmem h_S16)) : Prog (Eff F i) (Vec F S16 .i32))
      fun x => iprop(⌜x = wdV.view.readAt (Elt F) (Rect.unit (s := S128) ![16 * q] S16.size (words_inb hq)).toLoadRect (W : Vec F S128 .i32)⌝ ∗ wdPts d i W) := by
  iintro Hw
  sl_exec
  sl_step
  isplitr; · ipureintro; rfl
  iexact Hw

/-- The first half of group `q`: its words are read, its blocks fetched. -/
theorem wp_head (q : ℕ) (hq : q < 8) (hall : AllIn i q (colsQ F W q hq) 16) (pg : Vec F S16x8x128 .f32)
    (O : CellTallies nD τ sig (HIx 1)) (W₀ W₁ : Waits sig (HIx 1)) (hW : ∀ p ∈ W₁, p ∈ W₀ ∨ p.2 = none) :
    iprop(srcPts d i X ∗ wdPts d i W ∗ pgPts d i pg ∗ semVal (thr d i, SemLoc.dma cc1_scratch3.sem) 0
        ∗ owes (thr d i) O W₁ ∗ Transfers.MayWaits (thr d i) (default : HIx 1) O)
      ⊢ wp frame (wpE (defs₀ (F := F)) 𝒱₀ (thr d i) none) Set.univ (head i srcV wdV pgV cc1_scratch3 q hq) fun x =>
          iprop(⌜x = wordsQ F W q hq⌝ ∗ srcPts d i X ∗ wdPts d i W ∗ pgPts d i (pages i X q (colsQ F W q hq)) ∗ semVal (thr d i, SemLoc.dma cc1_scratch3.sem) 0
            ∗ ∃ W' : Waits sig (HIx 1), ⌜∀ p ∈ W', p ∈ W₀ ∨ p.2 = none⌝ ∗ owes (thr d i) O W') := by
  unfold head
  refine .trans ?_ (wp_seq d i (R := iprop(srcPts d i X ∗ pgPts d i pg ∗ semVal (thr d i, SemLoc.dma cc1_scratch3.sem) 0
        ∗ owes (thr d i) O W₁ ∗ Transfers.MayWaits (thr d i) (default : HIx 1) O)) (wp_words d i W q hq) fun x => ?_)
  · iintro ⟨Hs, Hw, HR⟩
    isplitl [Hw]; · iexact Hw
    isplitl [Hs]; · iexact Hs
    iexact HR
  iintro ⟨⟨%hx, Hw⟩, Hs, Hp, Hv, HO, #Hmw⟩
  subst hx
  imod (Transfers.batch_alloc' (Lvl := ℕ) (countersEmb (U := UU)) (c := thr d i) (default : HIx 1) pgN (delivery d i X q (colsQ F W q hq) hall)
    (sm := .dma cc1_scratch3.sem) (E := Set.univ)) $$ Hv with HB
  ihave Hs' := (Entails.of_eq (src_split d i X q (colsQ F W q hq) hall)) $$ Hs
  icases Hs' with ⟨Hs, Hr⟩
  ihave Hp' := (Entails.of_eq (pg_split d i pg)) $$ Hp
  iapply (wp_issues d i X q (colsQ F W q hq) pg hall _ _ 16 0 rfl _)
  isplitl [Hs Hp']
  · rw [← Transfers.bigSep_pending_zero]
    iapply (show iprop(bigSep Finset.univ (lentPts d i X q (colsQ F W q hq) hall) ∗ bigSep Finset.univ (pagePts d i pg))
      ⊢ (bigSep Finset.univ (fun u => iprop(lentPts d i X q (colsQ F W q hq) hall u ∗ pagePts d i pg u)) : sProp 𝕄)
      from Entails.of_eq (bigSep_sep Finset.univ _ _).symm)
    isplitl [Hs]; · iexact Hs
    iexact Hp'
  isplitl [HB]; · iexact HB
  iintro HB
  iapply (wp_waits d i X q (colsQ F W q hq) hall hall _ _ O W₀ 15 0 rfl W₁ hW)
  isplitl [HB]; · rw [Nat.zero_mul]; iexact HB
  isplitl [HO]; · iexact HO
  isplitr; · iexact Hmw
  iintro ⟨HD, Hv, HO⟩
  ihave HD' := (Entails.of_eq (show bigSep Finset.univ (delivery d i X q (colsQ F W q hq) hall)
      = iprop(bigSep Finset.univ (pagePts d i (pages i X q (colsQ F W q hq))) ∗ bigSep Finset.univ (lentPts d i X q (colsQ F W q hq) hall))
    from bigSep_sep Finset.univ _ _)) $$ HD
  icases HD' with ⟨Hp, Hs⟩
  ihave Hp' := (Entails.of_eq (pg_split d i _).symm) $$ Hp
  sl_step
  isplitr; · ipureintro; rfl
  isplitl [Hs Hr]
  · iapply (Entails.of_eq (src_split d i X q (colsQ F W q hq) hall).symm)
    isplitl [Hs]; · iexact Hs
    iexact Hr
  isplitl [Hw]; · iexact Hw
  isplitl [Hp']; · iexact Hp'
  isplitl [Hv]; · iexact Hv
  iexact HO

/-- What the groups need and keep: the array's share, the tile's words, the staging buffer, the sums, the semaphore, and
    the tile's debts. -/
abbrev groupRes (O : CellTallies nD τ sig (HIx 1)) (W₀ : Waits sig (HIx 1)) (acc : Vec F S16 .f32) : sProp 𝕄 :=
  iprop(srcPts d i X ∗ wdPts d i W ∗ (∃ pg : Vec F S16x8x128 .f32, pgPts d i pg) ∗ acPts d i acc ∗ semVal (thr d i, SemLoc.dma cc1_scratch3.sem) 0
    ∗ ∃ W' : Waits sig (HIx 1), ⌜∀ p ∈ W', p ∈ W₀ ∨ p.2 = none⌝ ∗ owes (thr d i) O W')

/-- Group `q`. -/
theorem wp_group (q : ℕ) (hq : q < 8) (hall : AllIn i q (colsQ F W q hq) 16) (hw : ∀ u (hu : u < 16), TileChk u (word (wordsQ F W q hq) u hu))
    (acc : Vec F S16 .f32) (O : CellTallies nD τ sig (HIx 1)) (W₀ : Waits sig (HIx 1)) :
    iprop(groupRes d i X W O W₀ acc ∗ Transfers.MayWaits (thr d i) (default : HIx 1) O)
      ⊢ wp frame (wpE (defs₀ (F := F)) 𝒱₀ (thr d i) none) Set.univ (group i srcV wdV pgV acV cc1_scratch3 q hq) fun _ =>
          groupRes d i X W O W₀ (stepsV (pages i X q (colsQ F W q hq)) (wordsQ F W q hq) 16 0 le_rfl acc) := by
  unfold group
  iintro ⟨⟨Hs, Hw, ⟨%pg, Hp⟩, Ha, Hv, ⟨%W₁, %hW, HO⟩⟩, Hmw⟩
  iapply (wp_seq d i (R := acPts d i acc) (wp_head d i X W q hq hall pg O W₀ W₁ hW) (fun x => ?h))
  case h =>
    iintro ⟨⟨%hx, Hs, Hw, Hp, Hv, HO⟩, Ha⟩
    subst hx
    iapply (wp_wand frame _ _) $$ [Hp Ha]
    · iapply (wp_steps d i (pages i X q (colsQ F W q hq)) (wordsQ F W q hq) hw 16 0 le_rfl acc)
      isplitl [Hp]; · iexact Hp
      iexact Ha
    iintro %_ ⟨Hp, Ha⟩
    isplitl [Hs]; · iexact Hs
    isplitl [Hw]; · iexact Hw
    isplitl [Hp]; · iexists _; iexact Hp
    isplitl [Ha]; · iexact Ha
    isplitl [Hv]; · iexact Hv
    iexact HO
  · isplitr [Ha]
    · isplitl [Hs]; · iexact Hs
      isplitl [Hw]; · iexact Hw
      isplitl [Hp]; · iexact Hp
      isplitl [Hv]; · iexact Hv
      isplitl [HO]; · iexact HO
      iexact Hmw
    iexact Ha

/-- The first `n` groups. -/
theorem wp_groups (hall : ∀ q (hq : q < 8), AllIn i q (colsQ F W q hq) 16)
    (hw : ∀ q (hq : q < 8) u (hu : u < 16), TileChk u (word (wordsQ F W q hq) u hu))
    (O : CellTallies nD τ sig (HIx 1)) (W₀ : Waits sig (HIx 1)) : ∀ (n : ℕ) (hn : n ≤ 8),
    iprop(groupRes d i X W O W₀ (groupsV i X W 0 (Nat.zero_le _)) ∗ Transfers.MayWaits (thr d i) (default : HIx 1) O)
      ⊢ wp frame (wpE (defs₀ (F := F)) 𝒱₀ (thr d i) none) Set.univ (groups i srcV wdV pgV acV cc1_scratch3 n hn) fun _ =>
          iprop(groupRes d i X W O W₀ (groupsV i X W n hn) ∗ Transfers.MayWaits (thr d i) (default : HIx 1) O)
  | 0, hn => fupd_intro
  | n + 1, hn => by
    rw [groups, wp_bind]
    refine (wp_groups hall hw O W₀ n (Nat.le_of_succ_le hn)).trans (wp_mono frame _ _ fun _ => ?_)
    iintro ⟨HG, #Hmw⟩
    iapply (wp_wand frame _ _) $$ [HG]
    · iapply (wp_group d i X W n hn (hall n hn) (hw n hn) (groupsV i X W n (Nat.le_of_succ_le hn)) O W₀)
      isplitl [HG]; · iexact HG
      iexact Hmw
    iintro %_ HG
    isplitl [HG]; · iexact HG
    iexact Hmw

end Cert.Proof.Run

end
-- ==== Proof.Words.lean ====
/-
  The index arithmetic of one tile's task: under the assumption that every target is below 32000, every block fetched lies
  inside the array and every sixteen lanes read back lie inside the staging buffer.
-/
module

public import proofs.«01_k».proof.Proof.Group

@[expose] public section

noncomputable section

namespace Cert.Proof.Run

open Cert.KernelIdeal Cert.KernelIdeal.Gen Cert.Proof.Shape
open Idealize.ShloMosaic Idealize.ShloMosaic.ValueIdx

variable {F : FTy → Type} [FloatOps F] [Named F]

/-- An arithmetic shift right of a word below 32000 divides by the power of two. -/
theorem shrsi_toNat {u : ArithUnit} {t : BitVec 32} (ht : t.toNat < 32000) (k : ℕ) (hk : k < 32) :
    (IntOp.shrsi u t (BitVec.ofNat 32 k)).toNat = t.toNat / 2 ^ k := by
  have hk' : (BitVec.ofNat 32 k).toNat = k := by rw [BitVec.toNat_ofNat]; exact Nat.mod_eq_of_lt (by omega)
  have hm : t.msb = false := by rw [BitVec.msb_eq_false_iff_two_mul_lt]; omega
  rw [IntOp.shrsi, hk', if_pos hk, show t.sshiftRight' (BitVec.ofNat 32 k) = t.sshiftRight (BitVec.ofNat 32 k).toNat from rfl, hk', BitVec.sshiftRight_eq_of_msb_false hm, BitVec.toNat_ushiftRight,
    Nat.shiftRight_eq_div_pow]

/-- The tile's first row is 128 times its number. -/
theorem base_toNat (i : grid1.Coords) : (base i).toNat = 128 * (wid i).val := by
  have h0 : (i 0).val < 2 := (i 0).isLt
  have h1 : (i 1).val < 16 := (i 1).isLt
  show ((BitVec.ofNat 32 (i 1).val * 2#32 + BitVec.ofNat 32 (i 0).val) * 128#32).toNat = 128 * (2 * (i 1).val + (i 0).val)
  simp only [BitVec.toNat_mul, BitVec.toNat_add, BitVec.toNat_ofNat]
  omega

/-- The block of word `u` of group `q` begins at the row, rounded down to a multiple of 8. -/
theorem srcOff_zero (i : grid1.Coords) {q u : ℕ} (hq : q < 8) (hu : u < 16) (v : BitVec 32) :
    srcOff i q u v 0 = 128 * (wid i).val + (16 * q + 8 * (u / 8)) := by
  have hw := (wid i).isLt
  show (base i + BitVec.ofNat 32 (16 * q + 8 * (u / 8))).toNat = _
  rw [BitVec.toNat_add, base_toNat, BitVec.toNat_ofNat]
  omega

/-- Word `u` of sixteen is their element `u`. -/
theorem word_eq (x : IVec S16 32) (u : ℕ) (hu : u < 16) : word x u hu = x (ix1 ⟨u, hu⟩) := by
  refine congrArg x (funext fun a => Fin.ext ?_)
  match a with
  | 0 => exact Nat.add_zero u

/-- Word `u` of group `q` is the tile's word `16 q + u`. -/
theorem wordsQ_word (W : IVec S128 32) (q : ℕ) (hq : q < 8) (u : ℕ) (hu : u < 16) :
    word (wordsQ F W q hq) u hu = W (ix1 ⟨16 * q + u, by omega⟩) := by
  rw [word_eq]
  show shapeCast (s := S16) S16 (wdV.view.readAt (Elt F) (Rect.unit (s := S128) ![16 * q] S16.size (words_inb hq)).toLoadRect W : IVec S16 32) shapeCasts_S16_S16 (ix1 ⟨u, hu⟩) = _
  rw [shapeCast_self (s := S16)]
  refine congrArg W (funext fun a => Fin.ext ?_)
  match a with
  | 0 => show 16 * q + 1 * u = 16 * q + u; omega

/-- The block of a word begins at the word, rounded down to a multiple of 128. -/
theorem srcOff_one (i : grid1.Coords) (W : IVec S128 32) (q : ℕ) (hq : q < 8) (u : ℕ) (hu : u < 16)
    (ht : (word (wordsQ F W q hq) u hu).toNat < 32000) :
    srcOff i q u (word (colsQ F W q hq) u hu) 1 = 128 * ((word (wordsQ F W q hq) u hu).toNat / 128) := by
  have e : word (colsQ F W q hq) u hu = IntOp.shrsi .vector (word (wordsQ F W q hq) u hu) (BitVec.ofNat 32 7) := by
    rw [word_eq, word_eq]; rfl
  show (word (colsQ F W q hq) u hu * 128#32).toNat = _
  rw [e, BitVec.toNat_mul, shrsi_toNat ht 7 (by decide)]
  show _ / 128 * 128 % 4294967296 = _
  omega

/-- Every block that a group fetches lies inside the array. -/
theorem allIn (i : grid1.Coords) (W : IVec S128 32) (hW : ∀ j, (W j).toNat < 32000) (q : ℕ) (hq : q < 8) : AllIn i q (colsQ F W q hq) 16 := by
  intro u hu _ a
  have ht : (word (wordsQ F W q hq) u hu).toNat < 32000 := by rw [wordsQ_word]; exact hW _
  have hw := (wid i).isLt
  match a with
  | 0 => show srcOff i q u (word (colsQ F W q hq) u hu) 0 + 8 ≤ 4096; rw [srcOff_zero i hq hu]; omega
  | 1 => show srcOff i q u (word (colsQ F W q hq) u hu) 1 + 128 ≤ 32000; rw [srcOff_one i W q hq u hu ht]; omega

/-- The lanes read back begin at the word's sixteenth of its column block. -/
theorem tileOff_two {u : ℕ} {t : BitVec 32} (ht : t.toNat < 32000) : tileOff u t 2 = 16 * (t.toNat / 16 % 8) := by
  show ((IntOp.shrsi .scalar t (BitVec.ofNat 32 4) &&& 7#32) * 16#32).toNat = _
  rw [BitVec.toNat_mul, BitVec.toNat_and, shrsi_toNat ht 4 (by decide)]
  show (_ / 16 &&& (2 ^ 3 - 1)) * 16 % 4294967296 = _
  rw [Nat.and_two_pow_sub_one_eq_mod]
  omega

/-- The sixteen lanes read back lie inside the staging buffer. -/
theorem tileOff_inb {u : ℕ} (hu : u < 16) {t : BitVec 32} (ht : t.toNat < 32000) : ∀ a, tileOff u t a + S1x1x16.size a ≤ S16x8x128.size a := by
  intro a
  match a with
  | 0 => show u + 1 ≤ 16; omega
  | 1 => show u % 8 + 1 ≤ 8; omega
  | 2 => show tileOff u t 2 + 16 ≤ 128; rw [tileOff_two ht]; omega

/-- So the check before reading back holds of every word. -/
theorem tileChk (W : IVec S128 32) (hW : ∀ j, (W j).toNat < 32000) (q : ℕ) (hq : q < 8) (u : ℕ) (hu : u < 16) : TileChk u (word (wordsQ F W q hq) u hu) :=
  fun _ => tileOff_inb hu (by rw [wordsQ_word]; exact hW _)

end Cert.Proof.Run

end
-- ==== Proof.TaskA.lean ====
/-
  The printed stretches of one tile's task are stretches of the program of `Shape`.
-/
module

public import proofs.«01_k».proof.Proof.Shape

@[expose] public section

noncomputable section

namespace Cert.Proof.Shape

open Cert.KernelIdeal Cert.KernelIdeal.Gen
open Idealize.ShloMosaic Idealize.SL.Sem

variable {F : FTy → Type} [FloatOps F] [Named F]

section
variable (i : grid1.Coords)
  (arg2 : Memref sig .scVector .hbm S4096x32000 .f32) (harg2 : arg2.IsWhole)
  (arg3 : Memref sig .scVector .hbm S4096 .i32) (harg3 : arg3.IsWhole)
  (arg4 : Memref sig .scVector .hbm S32x16 .f32) (harg4 : arg4.IsWhole)
  (arg5 : Memref sig .scVector .vmem S128 .i32) (harg5 : arg5.IsWhole)
  (arg6 : Memref sig .scVector .vmem S16x8x128 .f32) (harg6 : arg6.IsWhole)
  (arg7 : Memref sig .scVector .vmem S16 .f32) (harg7 : arg7.IsWhole)
  (sem sem0 sem1 : DmaSems sig S_)

set_option maxRecDepth 100000 in
set_option maxHeartbeats 40000000 in
/-- The first stretch of the printed task: the prologue, group 0, and group 1 up to its sixth word. -/
theorem part321_eq : k1_part321 (F := F) i arg2 harg2 arg3 harg3 arg4 harg4 arg5 harg5 arg6 harg6 arg7 harg7 sem sem0 sem1
    = (do
      prologue i arg3 arg5 harg5 arg7 sem0
      group i arg2 arg5 arg6 arg7 sem 0 (by decide)
      let x ← head i arg2 arg5 arg6 sem 1 (by decide)
      steps i arg6 arg7 x 6 0 (by decide)
      pure ⟨base i, iota .scVector S16 32 [0] iota_S16_d0_w32_scVector, x⟩) := by
  unfold k1_part321
  simp only [group, steps, bind_assoc, pure_bind]
  rfl

set_option maxRecDepth 100000 in
set_option maxHeartbeats 40000000 in
/-- The second stretch: the rest of group 1, and group 2. -/
theorem part322_eq (x : IVec S16 32) : k1_part322 (F := F) i arg2 harg2 arg3 harg3 arg4 harg4 arg5 harg5 arg6 harg6 arg7 harg7 sem sem0 sem1 (base i) (iota .scVector S16 32 [0] iota_S16_d0_w32_scVector) x
    = (do
      steps i arg6 arg7 x 10 6 (by decide)
      group i arg2 arg5 arg6 arg7 sem 2 (by decide)) := by
  unfold k1_part322
  simp only [group, steps, bind_assoc, pure_bind]
  rfl

set_option maxRecDepth 100000 in
set_option maxHeartbeats 40000000 in
/-- The third stretch: group 3, and group 4 up to its sixth word. -/
theorem part323_eq : k1_part323 (F := F) i arg2 harg2 arg3 harg3 arg4 harg4 arg5 harg5 arg6 harg6 arg7 harg7 sem sem0 sem1 (base i) (iota .scVector S16 32 [0] iota_S16_d0_w32_scVector)
    = (do
      group i arg2 arg5 arg6 arg7 sem 3 (by decide)
      let x ← head i arg2 arg5 arg6 sem 4 (by decide)
      steps i arg6 arg7 x 6 0 (by decide)
      pure x) := by
  unfold k1_part323
  simp only [group, steps, bind_assoc, pure_bind]
  rfl

set_option maxRecDepth 100000 in
set_option maxHeartbeats 40000000 in
/-- The fourth stretch: the rest of group 4, and group 5. -/
theorem part324_eq (x : IVec S16 32) : k1_part324 (F := F) i arg2 harg2 arg3 harg3 arg4 harg4 arg5 harg5 arg6 harg6 arg7 harg7 sem sem0 sem1 (base i) (iota .scVector S16 32 [0] iota_S16_d0_w32_scVector) x
    = (do
      steps i arg6 arg7 x 10 6 (by decide)
      group i arg2 arg5 arg6 arg7 sem 5 (by decide)) := by
  unfold k1_part324
  simp only [group, steps, bind_assoc, pure_bind]
  rfl

set_option maxRecDepth 100000 in
set_option maxHeartbeats 40000000 in
/-- The fifth stretch: group 6, and group 7 up to its sixth word. -/
theorem part325_eq : k1_part325 (F := F) i arg2 harg2 arg3 harg3 arg4 harg4 arg5 harg5 arg6 harg6 arg7 harg7 sem sem0 sem1 (base i) (iota .scVector S16 32 [0] iota_S16_d0_w32_scVector)
    = (do
      group i arg2 arg5 arg6 arg7 sem 6 (by decide)
      let x ← head i arg2 arg5 arg6 sem 7 (by decide)
      steps i arg6 arg7 x 6 0 (by decide)
      pure x) := by
  unfold k1_part325
  simp only [group, steps, bind_assoc, pure_bind]
  rfl

end

end Cert.Proof.Shape

end
-- ==== Proof.Task.lean ====
/-
  The printed task of one tile is the program of `Shape`.
-/
module

public import proofs.«01_k».proof.Proof.TaskA

@[expose] public section

noncomputable section

namespace Cert.Proof.Shape

open Cert.KernelIdeal Cert.KernelIdeal.Gen
open Idealize.ShloMosaic Idealize.SL.Sem

variable {F : FTy → Type} [FloatOps F] [Named F]

section
variable (i : grid1.Coords)
  (arg2 : Memref sig .scVector .hbm S4096x32000 .f32) (harg2 : arg2.IsWhole)
  (arg3 : Memref sig .scVector .hbm S4096 .i32) (harg3 : arg3.IsWhole)
  (arg4 : Memref sig .scVector .hbm S32x16 .f32) (harg4 : arg4.IsWhole)
  (arg5 : Memref sig .scVector .vmem S128 .i32) (harg5 : arg5.IsWhole)
  (arg6 : Memref sig .scVector .vmem S16x8x128 .f32) (harg6 : arg6.IsWhole)
  (arg7 : Memref sig .scVector .vmem S16 .f32) (harg7 : arg7.IsWhole)
  (sem sem0 sem1 : DmaSems sig S_)

set_option maxRecDepth 100000 in
set_option maxHeartbeats 40000000 in
/-- The printed task, its last stretch written as in `Shape`. -/
theorem cc1_k_tail : cc1_k (F := F) i arg2 harg2 arg3 harg3 arg4 harg4 arg5 harg5 arg6 harg6 arg7 harg7 sem sem0 sem1
    = (do
      prologue i arg3 arg5 harg5 arg7 sem0
      group i arg2 arg5 arg6 arg7 sem 0 (by decide)
      let x ← head i arg2 arg5 arg6 sem 1 (by decide)
      steps i arg6 arg7 x 6 0 (by decide)
      k1_part322 (F := F) i arg2 harg2 arg3 harg3 arg4 harg4 arg5 harg5 arg6 harg6 arg7 harg7 sem sem0 sem1 (base i) (iota .scVector S16 32 [0] iota_S16_d0_w32_scVector) x
      let x ← k1_part323 (F := F) i arg2 harg2 arg3 harg3 arg4 harg4 arg5 harg5 arg6 harg6 arg7 harg7 sem sem0 sem1 (base i) (iota .scVector S16 32 [0] iota_S16_d0_w32_scVector)
      k1_part324 (F := F) i arg2 harg2 arg3 harg3 arg4 harg4 arg5 harg5 arg6 harg6 arg7 harg7 sem sem0 sem1 (base i) (iota .scVector S16 32 [0] iota_S16_d0_w32_scVector) x
      let x ← k1_part325 (F := F) i arg2 harg2 arg3 harg3 arg4 harg4 arg5 harg5 arg6 harg6 arg7 harg7 sem sem0 sem1 (base i) (iota .scVector S16 32 [0] iota_S16_d0_w32_scVector)
      steps i arg6 arg7 x 10 6 (by decide)
      epilogue i arg4 arg7 harg7 sem1) := by
  unfold cc1_k
  rw [part321_eq]
  simp only [bind_assoc, pure_bind]
  refine bind_congr fun _ => bind_congr fun _ => bind_congr fun _ => bind_congr fun _ => bind_congr fun _ => bind_congr fun _ =>
    bind_congr fun _ => bind_congr fun x => ?_
  simp only [steps, bind_assoc, pure_bind]
  rfl

omit [FloatOps F] [Named F] in
/-- A run of words is two runs of words. -/
theorem steps_append [FloatOps F] [Named F] (x : IVec S16 32) (b : ℕ) : ∀ (a u : ℕ) (h : u + (a + b) ≤ 16),
    steps (F := F) i arg6 arg7 x (a + b) u h = (do
      steps i arg6 arg7 x a u (by omega)
      steps i arg6 arg7 x b (u + a) (by omega))
  | 0, u, h => by
    simp only [Nat.zero_add, steps, pure_bind]; rfl
  | a + 1, u, h => by
    have e : steps (F := F) i arg6 arg7 x (a + 1 + b) u h = (do
        step i arg6 arg7 x u (by omega)
        steps i arg6 arg7 x (a + b) (u + 1) (by omega)) := by
      have : ∀ (k : ℕ) (hk : k = a + b + 1) (h : u + k ≤ 16), steps (F := F) i arg6 arg7 x k u h = (do
        step i arg6 arg7 x u (by omega)
        steps i arg6 arg7 x (a + b) (u + 1) (by omega)) := by rintro _ rfl h; rfl
      exact this _ (by omega) h
    rw [e, steps_append x b a (u + 1) (by omega)]
    simp only [steps, bind_assoc]
    have e' : ∀ v (hv : v = u + (a + 1)) (h : v + b ≤ 16), steps (F := F) i arg6 arg7 x b v h = steps i arg6 arg7 x b (u + (a + 1)) (by omega) := by rintro _ rfl h; rfl
    simp only [e' (u + 1 + a) (by omega)]

/-- The printed task is `task`. -/
theorem cc1_k_eq : cc1_k (F := F) i arg2 harg2 arg3 harg3 arg4 harg4 arg5 harg5 arg6 harg6 arg7 harg7 sem sem0 sem1
    = task i arg2 arg3 arg4 arg5 harg5 arg6 arg7 harg7 sem sem0 sem1 := by
  rw [cc1_k_tail]
  have e2 := fun x => part322_eq (F := F) i arg2 harg2 arg3 harg3 arg4 harg4 arg5 harg5 arg6 harg6 arg7 harg7 sem sem0 sem1 x
  have e3 := part323_eq (F := F) i arg2 harg2 arg3 harg3 arg4 harg4 arg5 harg5 arg6 harg6 arg7 harg7 sem sem0 sem1
  have e4 := fun x => part324_eq (F := F) i arg2 harg2 arg3 harg3 arg4 harg4 arg5 harg5 arg6 harg6 arg7 harg7 sem sem0 sem1 x
  have e5 := part325_eq (F := F) i arg2 harg2 arg3 harg3 arg4 harg4 arg5 harg5 arg6 harg6 arg7 harg7 sem sem0 sem1
  generalize base i = b, iota .scVector S16 32 [0] iota_S16_d0_w32_scVector = io at e2 e3 e4 e5 ⊢
  simp only [e2, e3, e4, e5, task, groups, group, bind_assoc, pure_bind,
    show ∀ (x : IVec S16 32), steps (F := F) i arg6 arg7 x 16 0 le_rfl = (do
      steps i arg6 arg7 x 6 0 (by decide)
      steps i arg6 arg7 x 10 6 (by decide)) from fun x => steps_append i arg6 arg7 x 10 6 0 le_rfl]

end

end Cert.Proof.Shape

end
-- ==== Proof.Body.lean ====
/-
  One tile's task from its start to its end: the 128 targets fetched, the eight groups, the scaled sums written out.
-/
module

public import proofs.«01_k».proof.Proof.Words
public import proofs.«01_k».proof.Proof.Task

@[expose] public section

noncomputable section

namespace Cert.Proof.Run

open Cert.KernelIdeal Cert.KernelIdeal.Gen Cert.Proof.Shape
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

variable {F : FTy → Type} [FloatOps F] [Named F]
local notation "𝕄" => MT nD τ sig (HIx 1) (Elt F) ℕ UU ℕ

variable (d : Dev nD) (i : grid1.Coords) (X : Vec F S4096x32000 .f32) (T₀ : IVec S4096 32)

/-- The tile's 128 targets, as the task addresses them. -/
abbrev tgtRef : Memref sig .scVector .hbm S128 .i32 :=
  tgtV.slice (Rect.unit (s := S4096) (k1_off1 i) S128.size (k1_off1_inb i)) (fun _ => rfl)
/-- The tile's row of the table of sums, as the task addresses it. -/
abbrev outRef : Memref sig .scVector .hbm S16 .f32 :=
  (outV.slice (Rect.unit (s := S32x16) (k1_off378 i) S1x16.size (k1_off378_inb i)) (fun _ => rfl)).squeeze S16 squeezes_S1x16_S16

/-- The tile's 128 targets. -/
def tileW (F : FTy → Type) (T₀ : IVec S4096 32) : IVec S128 32 := (tgtRef i).view.read (Elt F) T₀

/-- All the targets, at this tile's share. -/
abbrev tgtPts : sProp 𝕄 := (tgtV).view.loc (thr d i) ↦{tq (wid i)} (T₀ : Vec F S4096 .i32)

/-- The tile's row of the table of sums. -/
abbrev outPts (fo : Vec F S32x16 .f32) : sProp 𝕄 := (outRef i).view.loc (thr d i) ↦[(outRef i).view.set]{fullShare} fo
/-- The table of sums once the tile has written its row. -/
abbrev outW (fo : Vec F S32x16 .f32) (acc : Vec F S16 .f32) : Vec F S32x16 .f32 :=
  (outRef i).view.writes (Elt F) fo [⟨Rect.whole S16, mulf (broadcast S16 (Named.named κ "delta" 0xBF666632#32)) acc⟩]

/-- What is recorded of the waits done so far: besides those before the task, waits of the task's own copies. -/
abbrev owesSince (O : CellTallies nD τ sig (HIx 1)) (W₀ : Waits sig (HIx 1)) : sProp 𝕄 :=
  iprop(∃ W' : Waits sig (HIx 1), ⌜∀ p ∈ W', p ∈ W₀ ∨ p.2 = none⌝ ∗ owes (thr d i) O W')

/-- The task's opening: the tile's 128 targets arrive in its word buffer, and its sums start at zero. -/
theorem wp_prologue (O : CellTallies nD τ sig (HIx 1)) (W₀ : Waits sig (HIx 1)) (fw : IVec S128 32) (fa : Vec F S16 .f32) :
    iprop(tgtPts d i T₀ ∗ wdPts d i fw ∗ acPts d i fa ∗ semVal (thr d i, SemLoc.dma cc1_scoped0.sem) 0
        ∗ owes (thr d i) O W₀ ∗ Transfers.MayWaits (thr d i) (default : HIx 1) O)
      ⊢ wp frame (wpE (defs₀ (F := F)) 𝒱₀ (thr d i) none) Set.univ (prologue i tgtV wdV (Memref.isWhole_whole _) acV cc1_scoped0) fun _ =>
          iprop(tgtPts d i T₀ ∗ wdPts d i (tileW i F T₀) ∗ acPts d i (broadcast S16 (Scalar.ofBits (F := F) .f32 0x00000000#32))
            ∗ semVal (thr d i, SemLoc.dma cc1_scoped0.sem) 0 ∗ owesSince d i O W₀) := by
  unfold prologue
  iintro ⟨Ht, Hw, Ha, Hv, HO, #Hmw⟩
  sl_exec
  sl_step
  have e : wp_prologue.sl.dma0 (F := F) i T₀ = tileW i F T₀ := by unfold wp_prologue.sl.dma0 tileW; rfl
  have ea : (acV.view.writes (Elt F) fa [⟨rAc, shapeCast S16 (broadcast S16 (Scalar.ofBits (F := F) .f32 0x00000000#32)) shapeCasts_S16_S16⟩])
      = broadcast S16 (Scalar.ofBits (F := F) .f32 0x00000000#32) := by rw [writes_ac, shapeCast_self]
  rw [e, View.write_whole_univ]
  isplitl [Ht]; · iexact Ht
  isplitl [Hw]; · iexact Hw
  isplitl [Ha]
  · iapply (Entails.of_eq (congrArg (acPts d i) ea))
    iexact Ha
  isplitl [Hv]; · iexact Hv
  iexists _
  isplitr [HO]
  rotate_left
  · iexact HO
  · ipureintro
    intro p hp
    rcases Finset.mem_insert.mp hp with rfl | hp
    · exact .inr rfl
    · exact .inl hp

/-- The task's end: the sums, scaled, go to the tile's row of the table. -/
theorem wp_epilogue (O : CellTallies nD τ sig (HIx 1)) (W₀ : Waits sig (HIx 1)) (acc : Vec F S16 .f32) (fo : Vec F S32x16 .f32) :
    iprop(outPts d i fo ∗ acPts d i acc ∗ semVal (thr d i, SemLoc.dma cc1_scoped1.sem) 0
        ∗ owes (thr d i) O W₀ ∗ Transfers.MayWaits (thr d i) (default : HIx 1) O)
      ⊢ wp frame (wpE (defs₀ (F := F)) 𝒱₀ (thr d i) none) Set.univ (epilogue i outV acV (Memref.isWhole_whole _) cc1_scoped1) fun _ =>
          iprop(outPts d i (outW i fo acc)
            ∗ (∃ fa : Vec F S16 .f32, acPts d i fa)
            ∗ semVal (thr d i, SemLoc.dma cc1_scoped1.sem) 0 ∗ owesSince d i O W₀) := by
  unfold epilogue
  iintro ⟨Ho, Ha, Hv, HO, #Hmw⟩
  sl_exec
  sl_step
  have e : wp_epilogue.sl.dma3 acc = mulf (broadcast S16 (Named.named κ "delta" 0xBF666632#32)) acc := by
    unfold wp_epilogue.sl.dma3 wp_epilogue.sl.Ha_1
    rw [readAt_ac, shapeCast_self, shapeCast_self, writes_ac]
    rfl
  rw [e]
  isplitl [Ho]; · iexact Ho
  isplitl [Ha]
  · iexists _
    iexact Ha
  isplitl [Hv]; · iexact Hv
  iexists _
  isplitr [HO]
  rotate_left
  · iexact HO
  · ipureintro
    intro p hp
    rcases Finset.mem_insert.mp hp with rfl | hp
    · exact .inr rfl
    · exact .inl hp

/-! ## The row written, by its index in the table -/

/-- The coordinates numbered `(c, s)`. -/
def coordsV (c : Fin (grid1.bound 0)) (s : Fin (grid1.bound 1)) : grid1.Coords :=
  fun | 0 => c | 1 => s | ⟨_ + 2, h⟩ => absurd h (Nat.not_lt.2 (Nat.le_add_left _ _))

/-- The tile numbered `w`. -/
def iOf (w : Fin 32) : grid1.Coords :=
  coordsV ⟨w.val % 2, Nat.mod_lt _ (by decide)⟩ ⟨w.val / 2, show w.val / 2 < 16 by omega⟩

/-- A tile's coordinates are those of its number. -/
theorem iOf_wid (i : grid1.Coords) : iOf (wid i) = i := by
  have h0 : (i 0).val < 2 := (i 0).isLt
  have h1 : (i 1).val < 16 := (i 1).isLt
  funext a
  match a with
  | 0 => exact Fin.ext (show (2 * (i 1).val + (i 0).val) % 2 = (i 0).val by omega)
  | 1 => exact Fin.ext (show (2 * (i 1).val + (i 0).val) / 2 = (i 1).val by omega)

/-- A tile's number is that of its coordinates. -/
theorem wid_iOf (w : Fin 32) : wid (iOf w) = w := Fin.ext (show 2 * (w.val / 2) + w.val % 2 = w.val by omega)

/-- What tile `i` leaves in its row: its sixteen sums, scaled. -/
def outRow (i : grid1.Coords) (X : Vec F S4096x32000 .f32) (T₀ : IVec S4096 32) : Vec F S16 .f32 :=
  mulf (broadcast S16 (Named.named κ "delta" 0xBF666632#32)) (groupsV i X (tileW i F T₀) 8 le_rfl)
/-- The table of sums when every tile has written its row. -/
def outF (X : Vec F S4096x32000 .f32) (T₀ : IVec S4096 32) : Vec F S32x16 .f32 := fun x => outRow (iOf (x 0)) X T₀ (ix1 (x 1))

/-- The rectangle that the tile writes is its row of the table. -/
theorem orowK_eq : Rect.unit (s := S32x16) (k1_off378 i) S1x16.size (k1_off378_inb i) = orow (wid i) := by
  unfold orow Rect.part Rect.block
  congr 1 <;> funext a
  · rw [k1_off378_eq]
    match a with
    | 0 => simp [Shape.partIx, Shape.partSize, wid]
    | 1 => simp [Shape.partIx, Shape.partSize]
  · match a with
    | 0 => simp [Shape.partSize]
    | 1 => simp [Shape.partSize]

/-- The elements that the tile writes are those of its row. -/
theorem set_outRef : (outRef i).view.set = oRowSet (wid i) := by
  show (((outV).view.slice (Rect.unit (s := S32x16) (k1_off378 i) S1x16.size (k1_off378_inb i))).reshape S16 squeezes_S1x16_S16.numel_eq).set = _
  rw [View.set_reshape, View.set_slice]
  exact Finset.map_refl.trans (congrArg (fun r : Rect S32x16 => r.set) (orowK_eq i))

/-- The tile's row, as the tile names it, is its part of the table. -/
theorem pts_outRef (fo : Vec F S32x16 .f32) : (outPts d i fo : sProp 𝕄) = v4Loc d ↦[oRowSet (wid i)]{fullShare} fo := by
  rw [outPts, set_outRef]

/-- Element `y` of the tile's row is element `(wid, y)` of the table. -/
theorem outRef_emb (y : S16.Idx) : (outRef i).view.emb y = ix2 (wid i) (y 0) := by
  refine Eq.trans (congrArg (Rect.unit (s := S32x16) (k1_off378 i) S1x16.size (k1_off378_inb i)).emb
    (show Shape.reshapeEquiv _ y = ix2 (⟨0, Nat.one_pos⟩ : Fin 1) (y 0) from
      Shape.reshapeEquiv_eq_of_rowMajor _ (by
        rw [Shape.rowMajor_val_two, Shape.rowMajor_val_one]
        show 0 * 16 + (y 0).val = (y 0).val
        omega))) ?_
  funext a
  match a with
  | 0 => exact Fin.ext (by simp [Rect.emb_apply, ix2, k1_off378_eq, wid])
  | 1 => exact Fin.ext (by simp [Rect.emb_apply, ix2, k1_off378_eq])

/-- On its row, what the tile has written is the final table. -/
theorem outW_apply (fo : Vec F S32x16 .f32) (x : S32x16.Idx) (hx : x ∈ (outRef i).view.set) :
    outW i fo (groupsV i X (tileW i F T₀) 8 le_rfl) x = outF X T₀ x := by
  obtain ⟨y, rfl⟩ : ∃ y, (outRef i).view.emb y = x := by simpa [View.set] using hx
  have e : outF X T₀ ((outRef i).view.emb y) = outRow i X T₀ y := by
    rw [outRef_emb]
    show outRow (iOf (wid i)) X T₀ (ix1 (y 0)) = _
    rw [iOf_wid]; exact congrArg _ (eq_ix1 y).symm
  rw [e]
  have e' : (outRef i).view.emb y = ((outRef i).view.slice (Rect.whole S16)).emb y := congrArg (outRef i).view.emb (Rect.emb_whole_apply S16 y).symm
  rw [e', outW, View.writes_cons, View.write_emb_of_mem _ _ (Finset.mem_univ y)]
  rfl

/-- Target `j` of the tile is target `128 wid + j` of all. -/
theorem tileW_apply (j : S128.Idx) : tileW i F T₀ j = T₀ (ix1 (⟨128 * (wid i).val + (j 0).val, by
    have := (wid i).isLt; have : (j 0).val < 128 := (j 0).isLt; omega⟩ : Fin 4096)) := by
  show T₀ ((tgtRef i).view.emb j) = _
  refine congrArg T₀ (funext fun a => Fin.ext ?_)
  match a with
  | 0 =>
    show k1_off1 i 0 + 1 * (j 0).val = 128 * (wid i).val + (j 0).val
    rw [k1_off1_eq]
    show 256 * (i 1).val + 128 * (i 0).val + 1 * (j 0).val = 128 * (2 * (i 1).val + (i 0).val) + (j 0).val
    omega

/-! ## What a tile owns by itself -/

abbrev cAcell (d : Dev nD) (c : Fin τ.nSC) (i : Fin τ.nSub) : GSem nD τ sig := (V d c i, .dma cc1_scratch3.sem)
abbrev cBcell (d : Dev nD) (c : Fin τ.nSC) (i : Fin τ.nSub) : GSem nD τ sig := (V d c i, .dma cc1_scoped0.sem)
abbrev cCcell (d : Dev nD) (c : Fin τ.nSC) (i : Fin τ.nSub) : GSem nD τ sig := (V d c i, .dma cc1_scoped1.sem)

/-- A tile's own semaphores: the three that the task uses, and the rest. -/
theorem ownSems0_V (c : Fin τ.nSC) (s : Fin τ.nSub) :
    (ownSems0 (V d c s) : sProp 𝕄)
      = iprop(semVal (cAcell d c s) 0 ∗ semVal (cBcell d c s) 0 ∗ semVal (cCcell d c s) 0
          ∗ bigSep ((((ownCells (V d c s)).erase (cAcell d c s)).erase (cBcell d c s)).erase (cCcell d c s)) fun g => semVal g 0) := by
  unfold SparseCore.Cfg.ownSems0
  rw [SparseCore.bigSep_erase' ((mem_ownCells (g := cAcell d c s)).mpr ⟨rfl, by
      show (SemLoc.dma cc1_scratch3.sem : SemLoc sig).isScoped .scVector = true; decide⟩),
    SparseCore.bigSep_erase' (Finset.mem_erase.mpr ⟨by simp [cAcell, cBcell]; decide, (mem_ownCells (g := cBcell d c s)).mpr ⟨rfl, by
      show (SemLoc.dma cc1_scoped0.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d c s)).mpr ⟨rfl, by show (SemLoc.dma cc1_scoped1.sem : SemLoc sig).isScoped .scVector = true; decide⟩⟩⟩)]

/-- A tile's own buffers: the three that the task uses, and the rest. -/
theorem ownBufs_V (c : Fin τ.nSC) (s : Fin τ.nSub) :
    (ownBufs (V d c s) : sProp 𝕄)
      = iprop((∃ f, (V d c s).loc cc1_scratch0 ↦{fullShare} f) ∗ (∃ f, (V d c s).loc cc1_scratch1 ↦{fullShare} f) ∗ (∃ f, (V d c s).loc cc1_scratch2 ↦{fullShare} f)
          ∗ bigSep ((((ownRefs (τ := τ) (.scVector c s)).erase ((Proc.scVector c s).devRef cc1_scratch0)).erase
              ((Proc.scVector c s).devRef cc1_scratch1)).erase ((Proc.scVector c s).devRef cc1_scratch2))
              fun b => iprop(∃ f, ((d, b) : Loc nD τ sig) ↦{fullShare} f)) := by
  have m0 := SparseCore.Cfg.mem_ownRefs_of_owner (p := Proc.scVector c s) (b := (Proc.scVector c s).devRef cc1_scratch0) rfl
  have m1 := SparseCore.Cfg.mem_ownRefs_of_owner (p := Proc.scVector c s) (b := (Proc.scVector c s).devRef cc1_scratch1) rfl
  have m2 := SparseCore.Cfg.mem_ownRefs_of_owner (p := Proc.scVector c s) (b := (Proc.scVector c s).devRef cc1_scratch2) rfl
  have n10 : (Proc.scVector c s).devRef cc1_scratch1 ≠ (Proc.scVector c s).devRef cc1_scratch0 :=
    fun e => absurd (Proc.devRef_injective _ e) (show (cc1_scratch1 : Ref sig .scVector) ≠ cc1_scratch0 by decide)
  have n20 : (Proc.scVector c s).devRef cc1_scratch2 ≠ (Proc.scVector c s).devRef cc1_scratch0 :=
    fun e => absurd (Proc.devRef_injective _ e) (show (cc1_scratch2 : Ref sig .scVector) ≠ cc1_scratch0 by decide)
  have n21 : (Proc.scVector c s).devRef cc1_scratch2 ≠ (Proc.scVector c s).devRef cc1_scratch1 :=
    fun e => absurd (Proc.devRef_injective _ e) (show (cc1_scratch2 : Ref sig .scVector) ≠ cc1_scratch1 by decide)
  unfold SparseCore.Cfg.ownBufs
  refine (SparseCore.bigSep_erase' m0).trans ?_
  rw [SparseCore.bigSep_erase' (Finset.mem_erase.mpr ⟨n10, m1⟩),
    SparseCore.bigSep_erase' (Finset.mem_erase.mpr ⟨n21, Finset.mem_erase.mpr ⟨n20, m2⟩⟩)]

/-! ## The whole task -/

/-- What a tile takes: its share of the array and of the targets, and its row of the table of sums; -/
abbrev goRes (fo : Vec F S32x16 .f32) (w : Fin 32) : sProp 𝕄 :=
  iprop((v0Loc d ↦{tq w} X) ∗ (v1Loc d ↦{tq w} (T₀ : Vec F S4096 .i32)) ∗ (v4Loc d ↦[oRowSet w]{fullShare} fo))

/-- The whole task of a tile: from its shares of the array and the targets and its row of the table, to the same shares and the row with its sums. -/
theorem tile_body (hF : (K (F := F)).Facts) (hT : ∀ j, (T₀ j).toNat < 32000) (O : CellTallies nD τ sig (HIx 1)) (W : Waits sig (HIx 1)) (hO : ∀ g, O g none = 0)
    (fo : Vec F S32x16 .f32) :
    iprop(levAts (K (F := F)).L (K (F := F)).lev ∗ emp ∗ goRes d X T₀ fo (wid i)
        ∗ scopedBufs (thr d i) ∗ scopedSems0 (thr d i) ∗ owes (thr d i) O W)
      ⊢ wp frame (wpE (defs₀ (F := F)) 𝒱₀ (thr d i) none) Set.univ
          (cc1_k i srcV (Memref.isWhole_whole _) tgtV (Memref.isWhole_whole _) outV (Memref.isWhole_whole _)
            wdV (Memref.isWhole_whole _) pgV (Memref.isWhole_whole _) acV (Memref.isWhole_whole _) cc1_scratch3 cc1_scoped0 cc1_scoped1)
          fun _ => iprop(goRes d X T₀ (outF X T₀) (wid i)
            ∗ scopedBufs (thr d i) ∗ scopedSems0 (thr d i)
            ∗ ∃ W', ⌜∀ p ∈ W', p ∈ W ∨ p.2 = none⌝ ∗ owes (thr d i) O W') := by
  have hW : ∀ j, (tileW i F T₀ j).toNat < 32000 := fun j => by rw [tileW_apply]; exact hT _
  rw [cc1_k_eq, (K (F := F)).scopedBufs_V hF d (cV i) (jV i), SparseCore.Cfg.scopedSems0_V (Val := Elt F) d (cV i) (jV i), ownSems0_V, ownBufs_V, task]
  iintro ⟨#Hlv, -, ⟨Hx, Ht, Ho⟩, ⟨⟨%fw, Hw⟩, ⟨%fp, Hp⟩, ⟨%fa, Ha⟩, Hbufs⟩, ⟨HsA, HsB, HsC, Hsems⟩, HO⟩
  ihave #Hmw := (show levAts (K (F := F)).L (K (F := F)).lev ⊢ Transfers.MayWaits (thr d i) (default : HIx 1) O from
    (K (F := F)).mayWaits_none (thr := thr d i) hO) $$ Hlv
  rw [wp_bind]
  iapply (wp_wand frame _ _) $$ [Ht Hw Ha HsB HO]
  · iapply (wp_prologue d i T₀ O W fw fa)
    isplitl [Ht]; · iexact Ht
    isplitl [Hw]; · iexact Hw
    isplitl [Ha]; · iexact Ha
    isplitl [HsB]; · iexact HsB
    isplitl [HO]; · iexact HO
    iexact Hmw
  iintro %_ ⟨Ht, Hw, Ha, HsB, HO⟩
  rw [wp_bind]
  iapply (wp_wand frame _ _) $$ [Hx Hw Hp Ha HsA HO]
  · iapply (wp_groups d i X (tileW i F T₀) (allIn i (tileW i F T₀) hW) (tileChk (tileW i F T₀) hW) O W 8 le_rfl)
    isplitl
    · isplitl [Hx]; · iexact Hx
      isplitl [Hw]; · iexact Hw
      isplitl [Hp]; · iexists fp; iexact Hp
      isplitl [Ha]; · iexact Ha
      isplitl [HsA]; · iexact HsA
      iexact HO
    iexact Hmw
  iintro %_ ⟨⟨Hx, Hw, Hp, Ha, HsA, %W', %hW', HO⟩, -⟩
  iapply (wp_wand frame _ _) $$ [Ho Ha HsC HO]
  · iapply (wp_epilogue d i O W' (groupsV i X (tileW i F T₀) 8 le_rfl) fo)
    isplitl [Ho]
    · iapply (Entails.of_eq (pts_outRef d i fo).symm); iexact Ho
    isplitl [Ha]; · iexact Ha
    isplitl [HsC]; · iexact HsC
    isplitl [HO]; · iexact HO
    iexact Hmw
  iintro %_ ⟨Ho, Ha, HsC, %W'', %hW'', HO⟩
  ihave Ho := (Entails.of_eq (pointsTo_congr (ℓ := v4Loc d) (q := fullShare) fun x hx => outW_apply i X T₀ fo x hx)) $$ Ho
  isplitl [Hx Ht Ho]
  · isplitl [Hx]; · iexact Hx
    isplitl [Ht]; · iexact Ht
    iapply (Entails.of_eq (pts_outRef d i (outF X T₀))); iexact Ho
  isplitl [Hw Hp Ha Hbufs]
  · isplitl [Hw]; · iexists _; iexact Hw
    isplitl [Hp]; · iexact Hp
    isplitl [Ha]; · iexact Ha
    iexact Hbufs
  isplitl [HsA HsB HsC Hsems]
  · isplitl [HsA]; · iexact HsA
    isplitl [HsB]; · iexact HsB
    isplitl [HsC]; · iexact HsC
    iexact Hsems
  iexists W''
  isplitr
  · ipureintro
    intro p hp
    rcases hW'' p hp with h | h
    · exact hW' p h
    · exact .inr h
  · iexact HO

end Cert.Proof.Run

end
-- ==== Proof.Pay.lean ====
/-
  What the one SparseCore call is lent and gives back, tile by tile, and the tile's obligation under the call.
-/
module

public import proofs.«01_k».proof.Proof.Body

@[expose] public section

noncomputable section

namespace Cert.Proof.Run

open Cert.KernelIdeal Cert.KernelIdeal.Gen Cert.Proof.Shape
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

variable {F : FTy → Type} [FloatOps F] [Named F]
local notation "𝕄" => MT nD τ sig (HIx 1) (Elt F) ℕ UU ℕ

variable (m : (ℓ : Loc nD τ sig) → Buf (Elt F) ℓ)

/-- The call runs on two SparseCores. -/
theorem nCore_zero : (K (F := F)).nCore 0 = 2 := rfl
/-- It runs on sixteen tiles of each. -/
theorem nSub_zero : (K (F := F)).nSub 0 = 16 := rfl

/-- The number of the tile on subcore `s` of SparseCore `c`. -/
def tileNo (c : Fin ((K (F := F)).nCore 0)) (s : Fin ((K (F := F)).nSub 0)) : Fin 32 := wid (coordsV (Fin.cast nCore_zero c) (Fin.cast nSub_zero s))

/-- What tile `w` takes, -/
abbrev goPts (d : Dev nD) (w : Fin 32) : sProp 𝕄 := goRes d (X0 m d) (T0 m d) (m (v4Loc d)) w
/-- and what it gives back: its row written. -/
abbrev tdPts (d : Dev nD) (w : Fin 32) : sProp 𝕄 := goRes d (X0 m d) (T0 m d) (outF (X0 m d) (T0 m d)) w

/-- Each SparseCore takes what its sixteen tiles take, and gives back what they give back. -/
def P : (K (F := F)).Pay (nD := nD) (Val := Elt F) (Name := ℕ) (U := UU) where
  st := fun q d c => match q with | 0 => bigSep Finset.univ fun s => goPts m d (tileNo c s)
  dn := fun q d c => match q with | 0 => bigSep Finset.univ fun s => tdPts m d (tileNo c s)
  go := fun q d c s => match q with | 0 => goPts m d (tileNo c s)
  td := fun q d c s => match q with | 0 => tdPts m d (tileNo c s)
  x := fun _ _ => iprop(emp)

/-- What the call lends and gets back may be kept in invariants. -/
instance P_storable : (P m).IsStorable where
  st q d c := match q with
    | 0 => (inferInstance : BI.Storable (upEmb : UEmb _ 𝕄) (bigSep Finset.univ fun s => goPts m d (tileNo c s)))
  dn q d c := match q with
    | 0 => (inferInstance : BI.Storable (upEmb : UEmb _ 𝕄) (bigSep Finset.univ fun s => tdPts m d (tileNo c s)))
  go q d c s := match q with
    | 0 => (inferInstance : BI.Storable (upEmb : UEmb _ 𝕄) (goPts m d (tileNo c s)))
  td q d c s := match q with
    | 0 => (inferInstance : BI.Storable (upEmb : UEmb _ 𝕄) (tdPts m d (tileNo c s)))

/-! ## The tile's obligation -/

/-- A tile's procedure is the printed task at the tile's coordinates. -/
theorem defs₀_vector (c : Fin τ.nSC) (s : Fin τ.nSub) :
    defs₀ (F := F) (.scVector c s) 1 ()
      = SparseCore.onTile hcore1 hsub1 (fun c s => cc1_k (coordsV c s)
          srcV (Memref.isWhole_whole _) tgtV (Memref.isWhole_whole _) outV (Memref.isWhole_whole _)
          wdV (Memref.isWhole_whole _) pgV (Memref.isWhole_whole _) acV (Memref.isWhole_whole _) cc1_scratch3 cc1_scoped0 cc1_scoped1) ⟨⟩ c s := rfl

/-- The task's end meets the obligation's form, what the tile keeps being dropped. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile meets its obligation: from what the call lends it, to what the call gets back. -/
theorem tileObl (hF : (K (F := F)).Facts) (hpre : PreOK m) : (K (F := F)).TileObl (D (F := F)) 𝒱 (P m) v₀ 0 := by
  intro d c s O W hO _ _
  simp only [show (P m).ox = fun _ _ => 0 from rfl, add_zero]
  have hci : ((K (F := F)).core 0 c).val < grid1.bound 0 ∧ ((K (F := F)).sub 0 s).val < grid1.bound 1 := ⟨c.isLt, s.isLt⟩
  change _ ⊢ wp _ _ _ (Pipeline.liftProg (defs₀ (F := F) (.scVector ((K (F := F)).core 0 c) ((K (F := F)).sub 0 s)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (X0 m d) (T0 m d) hF (hpre.lt m d) O W hO (m (v4Loc d))).trans (wp_mono frame _ _ fun _ => obl_post)

/-- What a SparseCore takes is, as it stands, what its tiles take, and likewise what it gives back. -/
theorem vecSplit : (K (F := F)).VecSplit' (P m) 0 := by
  intro d c
  show (bigSep Finset.univ fun s => goPts m d (tileNo c s)) ⊢ |={Set.univ}=> iprop((bigSep Finset.univ fun s => goPts m d (tileNo c s))
      ∗ ((bigSep Finset.univ fun s => tdPts m d (tileNo c s)) -∗ (bigSep Finset.univ fun s => tdPts m d (tileNo c s))))
  iintro H; imodintro
  isplitl [H]; · iexact H
  iintro H; iexact H

/-! ## All the tiles at once -/

/-- The tiles, by SparseCore and subcore. -/
def tileEquiv : Fin ((K (F := F)).nCore 0) × Fin ((K (F := F)).nSub 0) ≃ Fin 32 where
  toFun p := tileNo p.1 p.2
  invFun w := (⟨w.val % 2, Nat.mod_lt _ (by decide)⟩, ⟨w.val / 2, show w.val / 2 < 16 by omega⟩)
  left_inv p := by
    have h0 : p.1.val < 2 := p.1.isLt
    have h1 : p.2.val < 16 := p.2.isLt
    refine Prod.ext (Fin.ext ?_) (Fin.ext ?_)
    · show (2 * p.2.val + p.1.val) % 2 = p.1.val; omega
    · show (2 * p.2.val + p.1.val) / 2 = p.2.val; omega
  right_inv w := Fin.ext (show 2 * (w.val / 2) + w.val % 2 = w.val by omega)

/-- Over the two SparseCores' tiles is over the 32 tiles. -/
theorem bigSep_tiles (Φ : Fin 32 → sProp 𝕄) :
    (bigSep Finset.univ fun c : Fin ((K (F := F)).nCore 0) => bigSep Finset.univ fun s : Fin ((K (F := F)).nSub 0) => Φ (tileNo c s)) = bigSep Finset.univ Φ := by
  rw [bigSep_univ_equiv (tileEquiv (F := F)) Φ]
  exact (bigSep_univ_prod (fun p => Φ (tileEquiv (F := F) p))).symm

/-- Two tiles' rows share no element. -/
theorem orows_disjoint {v w : Fin 32} (h : v ≠ w) : Disjoint (oRowSet v) (oRowSet w) := Rect.part_disjoint odiv h
/-- The 32 rows are the whole table. -/
theorem orows_cover : Finset.univ.biUnion oRowSet = Finset.univ := Rect.biUnion_part odiv

/-- The three arrays whole are all the tiles' parts of them. -/
theorem goRes_all (d : Dev nD) (X : Vec F S4096x32000 .f32) (T₀ : IVec S4096 32) (fo : Vec F S32x16 .f32) :
    (bigSep Finset.univ fun w => goRes d X T₀ fo w : sProp 𝕄)
      = iprop((v0Loc d ↦{fullShare} X) ∗ (v1Loc d ↦{fullShare} (T₀ : Vec F S4096 .i32)) ∗ (v4Loc d ↦{fullShare} fo)) := by
  have hX : (v0Loc d ↦{fullShare} X : sProp 𝕄) = bigSep Finset.univ fun w : Fin 32 => v0Loc d ↦{tq w} X :=
    pointsTo_leaves (ℓ := v0Loc d) Finset.univ X 5 fullShare
  have hT : (v1Loc d ↦{fullShare} (T₀ : Vec F S4096 .i32) : sProp 𝕄) = bigSep Finset.univ fun w : Fin 32 => v1Loc d ↦{tq w} (T₀ : Vec F S4096 .i32) :=
    pointsTo_leaves (ℓ := v1Loc d) Finset.univ (T₀ : Vec F S4096 .i32) 5 fullShare
  have hO : (v4Loc d ↦{fullShare} fo : sProp 𝕄) = bigSep Finset.univ fun w : Fin 32 => v4Loc d ↦[oRowSet w]{fullShare} fo := by
    rw [← pointsTo_biUnion Finset.univ (ℓ := v4Loc d) oRowSet (fun v _ w _ h => orows_disjoint h), orows_cover]
  rw [hX, hT, hO, bigSep_sep', bigSep_sep']

/-- What the call takes is the three arrays whole. -/
theorem st0_eq (d : Dev nD) : (bigSep Finset.univ fun c : Fin ((K (F := F)).nCore 0) => (P m).st 0 d c)
    = iprop((v0Loc d ↦{fullShare} X0 m d) ∗ (v1Loc d ↦{fullShare} (T0 m d : Vec F S4096 .i32)) ∗ (v4Loc d ↦{fullShare} m (v4Loc d))) :=
  (bigSep_tiles (goPts m d)).trans (goRes_all d _ _ _)
/-- What the call gives back is the three arrays whole, the table filled. -/
theorem dn0_eq (d : Dev nD) : (bigSep Finset.univ fun c : Fin ((K (F := F)).nCore 0) => (P m).dn 0 d c)
    = iprop((v0Loc d ↦{fullShare} X0 m d) ∗ (v1Loc d ↦{fullShare} (T0 m d : Vec F S4096 .i32)) ∗ (v4Loc d ↦{fullShare} outF (X0 m d) (T0 m d))) :=
  (bigSep_tiles (tdPts m d)).trans (goRes_all d _ _ _)

end Cert.Proof.Run

end
-- ==== Proof.Main.lean ====
/-
  The run of @main on a TensorCore: three reshapes, the TensorCore call, the SparseCore call, and the sum of the two results.
-/
module

public import proofs.«01_k».proof.Proof.Region
public import proofs.«01_k».proof.Proof.Pay

@[expose] public section

noncomputable section

namespace Cert.Proof.Run

open Cert.KernelIdeal Cert.KernelIdeal.Gen Cert.Proof.Shape
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.TcCoe

variable {F : FTy → Type} [FloatOps F] [Named F]
local notation "𝕄" => MT nD τ sig (HIx 1) (Elt F) ℕ UU ℕ

/-! ## The buffers @main works on, held at a valuation -/

/-- The TensorCore's buffers that live through the program. -/
def ucRefs : Finset (DevRef τ sig) := (StableHlo.tcRefs τ sig).filter fun b => ¬ b.isScoped

/-- The launch's buffers at a valuation are that set held at it. -/
theorem unscopedBufs_held (d : Dev nD) (W : Valuation τ sig (Elt F)) :
    (unscopedBufs d (fun b => W b) : sProp 𝕄) = StableHlo.held (T d : Thread nD τ) ucRefs W := by
  unfold unscopedBufs StableHlo.held ucRefs StableHlo.tcRefs
  rw [Finset.filter_map, bigSep_map]
  rfl

set_option maxRecDepth 16384 in
/-- That set, buffer by buffer. -/
theorem held_eq (d : Dev nD) (W : Valuation τ sig (Elt F)) :
    (StableHlo.held (T d : Thread nD τ) ucRefs W : sProp 𝕄)
      = iprop(((SparseCore.T d : Thread nD τ).loc main_arg0 ↦{fullShare} W main_arg0) ∗ ((SparseCore.T d : Thread nD τ).loc main_arg1 ↦{fullShare} W main_arg1)
          ∗ ((SparseCore.T d : Thread nD τ).loc main_arg2 ↦{fullShare} W main_arg2) ∗ ((SparseCore.T d : Thread nD τ).loc main_v0 ↦{fullShare} W main_v0)
          ∗ ((SparseCore.T d : Thread nD τ).loc main_v1 ↦{fullShare} W main_v1) ∗ ((SparseCore.T d : Thread nD τ).loc main_v2 ↦{fullShare} W main_v2)
          ∗ ((SparseCore.T d : Thread nD τ).loc main_v3 ↦{fullShare} W main_v3) ∗ ((SparseCore.T d : Thread nD τ).loc main_v4 ↦{fullShare} W main_v4)
          ∗ ((SparseCore.T d : Thread nD τ).loc main_v5 ↦{fullShare} W main_v5) ∗ ((SparseCore.T d : Thread nD τ).loc main_cst ↦{fullShare} W main_cst)
          ∗ ((SparseCore.T d : Thread nD τ).loc main_v6 ↦{fullShare} W main_v6) ∗ ((SparseCore.T d : Thread nD τ).loc main_v7 ↦{fullShare} W main_v7)) := by
  rw [← unscopedBufs_held]
  unfold unscopedBufs
  rw [show (Finset.univ.filter fun b : Ref sig .tc => ¬ b.isScoped)
      = {main_arg0, main_arg1, main_arg2, main_v0, main_v1, main_v2, main_v3, main_v4, main_v5, main_cst, main_v6, main_v7} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- A host operation takes the buffers from a valuation to its result there. -/
theorem wp_host (d : Dev nD) (op : HloOp τ sig (Elt F)) (hS : op.bufs ⊆ ucRefs) (hf : op.fresh = ∅) (V : Valuation τ sig (Elt F)) (Q : PUnit → sProp 𝕄) :
    iprop(boundary (T d : Thread nD τ) ∗ StableHlo.held (T d : Thread nD τ) ucRefs V
        ∗ (iprop(boundary (T d : Thread nD τ) ∗ StableHlo.held (T d : Thread nD τ) ucRefs (op.result V)) -∗ Q ⟨⟩))
      ⊢ wp frame (wpE ((K (F := F)).defs D) 𝒱 (T d : Thread nD τ) none) Set.univ (hlo (p := (T d : Thread nD τ).2) rfl op fun _ => .ret ⟨⟩) Q := by
  iintro ⟨Hb, Hh, Hk⟩
  iapply (StableHlo.wp_hlo_within 𝒱 (T d : Thread nD τ) none Set.univ hS hf) $$ [Hb Hh]
  · isplitl [Hb] <;> iassumption
  iintro H
  rw [wp_ret]
  imodintro
  iapply Hk; iexact H

/-- A buffer outside every scope is one that @main holds. -/
theorem mem_ucRefs (b : Ref sig .tc) (h : b.isScoped = false) : (b : DevRef τ sig) ∈ ucRefs :=
  Finset.mem_filter.mpr ⟨StableHlo.devRef_mem_tcRefs b, by
    show ¬ b.isScoped = true
    rw [h]; exact Bool.false_ne_true⟩

/-! ## The four stretches of @main -/

variable (m : (ℓ : Loc nD τ sig) → Buf (Elt F) ℓ)

/-- The launch memory of device `d`. -/
abbrev W0 (d : Dev nD) : Valuation τ sig (Elt F) := fun b => m (d, b)

abbrev op1 : HloOp τ sig (Elt F) := StableHlo.reshape main_arg0 main_v0 (rfl : (.f32 : EltTy) = .f32) shapeCasts_S2x2048x32000_S4096x32000
abbrev op2 : HloOp τ sig (Elt F) := StableHlo.reshape main_arg1 main_v1 (rfl : (.i32 : EltTy) = .i32) shapeCasts_S2x2048_S4096
abbrev op3 : HloOp τ sig (Elt F) := StableHlo.reshape main_v1 main_v2 (rfl : (.i32 : EltTy) = .i32) shapeCasts_S4096_S4096x1
abbrev op4 : HloOp τ sig (Elt F) := StableHlo.reshape main_v3 main_v5 (rfl : (.f32 : EltTy) = .f32) shapeCasts_S1x1_S_
abbrev op5 : HloOp τ sig (Elt F) := StableHlo.nullary main_cst (constant S_ .f32 0x00000000#32)
abbrev op6 : HloOp τ sig (Elt F) := StableHlo.binary main_v4 main_cst main_v6 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F))
abbrev op7 : HloOp τ sig (Elt F) := StableHlo.binary main_v5 main_v6 main_v7 (addf : (⟨S_, .f32⟩ : BufTy).Contents (Elt F) → (⟨S_, .f32⟩ : BufTy).Contents (Elt F) → (⟨S_, .f32⟩ : BufTy).Contents (Elt F))

/-- The buffers after the three reshapes. -/
def W3 (d : Dev nD) : Valuation τ sig (Elt F) := op3.result (op2.result (op1.result (W0 m d)))
/-- The buffers after the two calls. -/
def W5 (d : Dev nD) : Valuation τ sig (Elt F) :=
  Function.update (Function.update (W3 m d) (main_v3 : DevRef τ sig) (acc3 m d)) (main_v4 : DevRef τ sig) (outF (X0 m d) (T0 m d))
/-- The buffers at the end. -/
def W9 (d : Dev nD) : Valuation τ sig (Elt F) := op7.result (op6.result (op5.result (op4.result (W5 m d))))

/-- After the first three operations `v0` holds the log-probabilities, flattened. -/
theorem W3_v0 (d : Dev nD) : W3 m d main_v0 = X0 m d := by
  unfold W3; rw [StableHlo.reshape_result_ne' _ _ _ _ _ (by decide), StableHlo.reshape_result_ne' _ _ _ _ _ (by decide), StableHlo.reshape_result']; rfl
/-- After the first three operations `v1` holds the targets, flattened. -/
theorem W3_v1 (d : Dev nD) : W3 m d main_v1 = T0 m d := by
  unfold W3; rw [StableHlo.reshape_result_ne' _ _ _ _ _ (by decide), StableHlo.reshape_result']
  rw [StableHlo.reshape_result_ne' _ _ _ _ _ (by decide)]; rfl
/-- After the first three operations `v2` holds the targets as a column. -/
theorem W3_v2 (d : Dev nD) : W3 m d main_v2 = T2 m d := by
  unfold W3; rw [StableHlo.reshape_result', StableHlo.reshape_result']
  rw [StableHlo.reshape_result_ne' _ _ _ _ _ (by decide)]; rfl
/-- The first three operations write no other buffer. -/
theorem W3_ne (d : Dev nD) (b : Ref sig .tc) (h0 : b ≠ main_v0) (h1 : b ≠ main_v1) (h2 : b ≠ main_v2) : W3 m d b = m ((SparseCore.T d : Thread nD τ).loc b) := by
  unfold W3; rw [StableHlo.reshape_result_ne' _ _ _ _ _ h2, StableHlo.reshape_result_ne' _ _ _ _ _ h1, StableHlo.reshape_result_ne' _ _ _ _ _ h0]

/-- The two calls write only their results. -/
theorem W5_ne (d : Dev nD) (b : Ref sig .tc) (h3 : b ≠ main_v3) (h4 : b ≠ main_v4) : W5 m d b = W3 m d b := by
  unfold W5; rw [Function.update_of_ne (StableHlo.devRef_ne_of_ne h4), Function.update_of_ne (StableHlo.devRef_ne_of_ne h3)]
/-- The TensorCore call's result is the accumulator. -/
theorem W5_v3 (d : Dev nD) : W5 m d main_v3 = acc3 m d := by
  unfold W5; rw [Function.update_of_ne (StableHlo.devRef_ne_of_ne (by decide)), Function.update_self]
/-- The SparseCore call's result is the table of sums. -/
theorem W5_v4 (d : Dev nD) : W5 m d main_v4 = outF (X0 m d) (T0 m d) := by
  unfold W5; rw [Function.update_self]

/-- The result of the program: the accumulator plus the sum of the tiles' rows. -/
def result (d : Dev nD) : FVec F S_ .f32 :=
  addf (shapeCast S_ (acc3 m d) shapeCasts_S1x1_S_)
    (Host.reduceAdd (outF (X0 m d) (T0 m d)) (constant S_ .f32 0x00000000#32) reducesTo_S32x16_S_d0_1 h_S_)

/-- The program's result is the sum of the accumulator and of the table. -/
theorem W9_v7 (d : Dev nD) : W9 m d main_v7 = result m d := by
  unfold W9
  rw [StableHlo.binary_result', StableHlo.binary_result', StableHlo.binary_result_ne' _ _ _ _ _ (by decide),
    StableHlo.nullary_result', StableHlo.nullary_result_ne' _ _ _ (by decide), StableHlo.nullary_result_ne' _ _ _ (by decide),
    StableHlo.reshape_result', StableHlo.reshape_result_ne' _ _ _ _ _ (by decide), W5_v3, W5_v4]
  rfl

/-- The program leaves its arguments as they were. -/
theorem W9_arg (d : Dev nD) (b : Ref sig .tc) (h : b ∈ [main_arg0, main_arg1, main_arg2]) : W9 m d b = m ((SparseCore.T d : Thread nD τ).loc b) := by
  have hn : ∀ y ∈ [main_v0, main_v1, main_v2, main_v3, main_v4, main_v5, main_cst, main_v6, main_v7], b ≠ y := by
    revert b; decide
  simp only [List.forall_mem_cons] at hn
  obtain ⟨n0, n1, n2, n3, n4, n5, n6, n7, n8, -⟩ := hn
  unfold W9
  rw [StableHlo.binary_result_ne' _ _ _ _ _ n8, StableHlo.binary_result_ne' _ _ _ _ _ n7, StableHlo.nullary_result_ne' _ _ _ n6,
    StableHlo.reshape_result_ne' _ _ _ _ _ n5, W5_ne m d b n3 n4, W3_ne m d b n0 n1 n2]

end Cert.Proof.Run

end
-- ==== Proof.Launch.lean ====
/-
The run of the whole program: @main on each device's TensorCore, through the two calls and the host operations around
them, and the launch that puts the tiles' task and @main together.
-/
module

public import proofs.«01_k».proof.Proof.Main

@[expose] public section

noncomputable section

namespace Cert.Proof.Run

open Cert.KernelIdeal Cert.KernelIdeal.Gen Cert.Proof.Shape
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.TcCoe

variable {F : FTy → Type} [FloatOps F] [Named F]
local notation "𝕄" => MT nD τ sig (HIx 1) (Elt F) ℕ UU ℕ

variable (m : (ℓ : Loc nD τ sig) → Buf (Elt F) ℓ) (ρ : Dev nD → PrngReg)

/-! ## The launch element of the ghost state -/

/-- The rounds of the SparseCore calls' handshakes and of the TensorCore call's staging cells, each at its start. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

/-- What of it goes to device `d`'s @main: its staging cells' positions and tokens. -/
abbrev G (d : Dev nD) : sProp 𝕄 :=
  iprop(Pipeline.cellsGhost (Pipeline.pin (pcfgs (F := F)) adm) EP 0 d ∗ Pipeline.toksInit (Pipeline.pin (pcfgs (F := F)) adm) EP 0 d)

/-- The launch element gives the handshakes' ghost state and, to each device, its staging cells'. -/
theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P m).x q thr) := by
  unfold u₀
  iintro Hu
  ihave H := (ownU_pair (initOf (K (F := F)).hsCells (K (F := F)).hsToks) _) $$ Hu
  icases H with ⟨HH, Hr⟩
  ihave H := (own_pair_emb embR _ _) $$ Hr
  icases H with ⟨HP, -⟩
  imod (Pipeline.fund_ghost (Pipeline.pin (pcfgs (F := F)) adm) EP cellOf_inj) $$ [HP] with ⟨Hc, Ht⟩
  · iapply (show (BI.own (((Emb.inl : Emb UP (UP × Counters)).trans embR) (initOf (Pipeline.cells (Pipeline.pin (pcfgs (F := F)) adm) cellOf_inj)
      (Pipeline.launchToks (Pipeline.pin (pcfgs (F := F)) adm) cellOf_inj))) : sProp 𝕄) ⊢ BI.own (EP _) from .rfl)
    iexact HP
  imodintro
  isplitl [HH]; · iexact HH
  isplitl [Hc Ht]
  · rw [show (bigSep Finset.univ fun d : Dev nD => G (F := F) d) = iprop((bigSep Finset.univ fun d : Dev nD => bigSep Finset.univ fun p =>
          Pipeline.cellsGhost (Pipeline.pin (pcfgs (F := F)) adm) EP p d)
        ∗ bigSep Finset.univ fun d : Dev nD => bigSep Finset.univ fun p => Pipeline.toksInit (Pipeline.pin (pcfgs (F := F)) adm) EP p d) from by
      rw [bigSep_sep']
      exact congrArg₂ _ (bigSep_congr fun d _ => (bigSep_univ_of_subsingleton (Φ := fun p : Fin 1 => (Pipeline.cellsGhost (Pipeline.pin (pcfgs (F := F)) adm) EP p d : sProp 𝕄)) (0 : Fin 1)).symm)
        (bigSep_congr fun d _ => (bigSep_univ_of_subsingleton (Φ := fun p : Fin 1 => (Pipeline.toksInit (Pipeline.pin (pcfgs (F := F)) adm) EP p d : sProp 𝕄)) (0 : Fin 1)).symm)]
    isplitl [Hc]; · iexact Hc
    iexact Ht
  rw [show (bigSep Finset.univ fun thr : Thread nD τ => bigSep Finset.univ fun q : Fin 1 => (P (F := F) m).x q thr) = bigSep Finset.univ fun _ => (BI.emp : sProp 𝕄) from
    bigSep_congr fun _ _ => bigSep_univ_of_subsingleton (0 : Fin 1), bigSep_emp_const]
  iempintro

/-! ## @main on the TensorCore -/

/-- What @main leaves of the buffers a claim speaks of: the arguments as launched, the result. -/
abbrev FIN (d : Dev nD) : sProp 𝕄 :=
  iprop((a0Loc d ↦{fullShare} m (a0Loc d)) ∗ (a1Loc d ↦{fullShare} m (a1Loc d)) ∗ (a2Loc d ↦{fullShare} m (a2Loc d)) ∗ ((SparseCore.T d : Thread nD τ).loc main_v7 ↦{fullShare} result m d))

/-- The TensorCore's call, from its state around the SparseCore calls. -/
theorem wp_region [∀ e, Nonempty (Elt F e)] (κ : GSem nD τ sig → ℕ) (d : Dev nD) (Q : PUnit → sProp 𝕄) :
    iprop((K (F := F)).ctx EH (P m) κ ∗ (K (F := F)).tcSt EH d 0 ∗ boundary (SparseCore.T d : Thread nD τ) ∗ G d
        ∗ (v2Loc d ↦{fullShare} T2 m d) ∗ (v0Loc d ↦{fullShare} X0 m d) ∗ (v3Loc d ↦{fullShare} m (v3Loc d))
        ∗ (iprop((K (F := F)).tcSt EH d 0 ∗ boundary (SparseCore.T d : Thread nD τ)
            ∗ (v2Loc d ↦{fullShare} T2 m d) ∗ (v0Loc d ↦{fullShare} X0 m d) ∗ (v3Loc d ↦{fullShare} acc3 m d)) -∗ Q ⟨⟩))
      ⊢ wp frame (wpE ((K (F := F)).defs (D (F := F))) 𝒱 (SparseCore.T d) none) Set.univ
          (Prog.lift (.customCall (SparseCore.inner (Pipeline.entry 0)) ())) Q := by
  iintro ⟨#Hctx, Hst, Hb, ⟨Hc, Ht⟩, H2, H0, H3, Hk⟩
  unfold SparseCore.Cfg.tcSt
  icases Hst with ⟨HO, Hrest⟩
  iapply (show wp frame (wpE ((K (F := F)).defs (D (F := F))) 𝒱 (SparseCore.T d) none) Set.univ
      (SparseCore.liftProg (Q := 1) (Prog.lift (.customCall (Pipeline.entry (0 : Fin 1)) ()))) Q ⊢ _ from .rfl)
  iapply ((K (F := F)).wp_liftProg (D (F := F)) 𝒱 (SparseCore.T d) Set.univ none _ Q)
  iapply (Pipeline.RegionSeg.wp (pcfgs (F := F)) adm (pdats m) none cellOf_inj EP defs₀ 𝒱₀ (K (F := F)).L (K (F := F)).lev (reg m) d none (fun _ h => nomatch h) _ Q)
  isplitl [Hk Hrest]
  · iintro ⟨Hb, Hp⟩
    ihave Hp' := (show ((reg m).post d : sProp 𝕄) ⊢ regPts m d (acc3 m d) from .rfl) $$ Hp
    unfold regPts
    icases Hp' with ⟨H2, H0, H3, HO⟩
    rw [wp_ret]
    imodintro
    iapply Hk
    isplitl [HO Hrest]
    · isplitl [HO]; · iexact HO
      iexact Hrest
    isplitl [Hb]; · iexact Hb
    isplitl [H2]; · iexact H2
    isplitl [H0]; · iexact H0
    iexact H3
  isplitl [Hb]; · iexact Hb
  isplitl [HO H2 H0 H3]
  · iapply (show regPts m d (m (v3Loc d)) ⊢ ((reg m).pre d : sProp 𝕄) from .rfl)
    unfold regPts
    isplitl [H2]; · iexact H2
    isplitl [H0]; · iexact H0
    isplitl [H3]; · iexact H3
    iexact HO
  isplitr
  · iapply (SparseCore.Cfg.ctx_levAts κ); iexact Hctx
  isplitl [Hc] <;> iassumption

/-! The buffers of each host operation are the program's own. -/

/-- A buffer outside every scope is among those that the device's @main holds. -/
theorem one_sub (a : Ref sig .tc) (ha : a.isScoped = false) : ({(a : DevRef τ sig)} : Finset (DevRef τ sig)) ⊆ ucRefs :=
  Finset.singleton_subset_iff.mpr (mem_ucRefs a ha)
/-- Such a buffer may be added to a set of them. -/
theorem more_sub (a : Ref sig .tc) {s : Finset (DevRef τ sig)} (ha : a.isScoped = false) (hs : s ⊆ ucRefs) : insert (a : DevRef τ sig) s ⊆ ucRefs :=
  Finset.insert_subset (mem_ucRefs a ha) hs

/-- Operation 1 uses only buffers that @main holds. -/
theorem sub1 : (op1 (F := F)).bufs ⊆ ucRefs := more_sub main_arg0 rfl (one_sub main_v0 rfl)
/-- Operation 2 uses only buffers that @main holds. -/
theorem sub2 : (op2 (F := F)).bufs ⊆ ucRefs := more_sub main_arg1 rfl (one_sub main_v1 rfl)
/-- Operation 3 uses only buffers that @main holds. -/
theorem sub3 : (op3 (F := F)).bufs ⊆ ucRefs := more_sub main_v1 rfl (one_sub main_v2 rfl)
/-- Operation 4 uses only buffers that @main holds. -/
theorem sub4 : (op4 (F := F)).bufs ⊆ ucRefs := more_sub main_v3 rfl (one_sub main_v5 rfl)
/-- Operation 5 uses only buffers that @main holds. -/
theorem sub5 : (op5 (F := F)).bufs ⊆ ucRefs := one_sub main_cst rfl
/-- Operation 6 uses only buffers that @main holds. -/
theorem sub6 : (op6 (F := F)).bufs ⊆ ucRefs := more_sub main_v4 rfl (more_sub main_cst rfl (one_sub main_v6 rfl))
/-- Operation 7 uses only buffers that @main holds. -/
theorem sub7 : (op7 (F := F)).bufs ⊆ ucRefs := more_sub main_v5 rfl (more_sub main_v6 rfl (one_sub main_v7 rfl))

/-- The buffers after the reshapes, by name; those no later step reads go with the rest. -/
theorem held3 (d : Dev nD) :
    (StableHlo.held (SparseCore.T d : Thread nD τ) ucRefs (W3 m d) : sProp 𝕄)
      = iprop((a0Loc d ↦{fullShare} W5 m d main_arg0) ∗ (a1Loc d ↦{fullShare} W5 m d main_arg1)
          ∗ (a2Loc d ↦{fullShare} W5 m d main_arg2) ∗ (v0Loc d ↦{fullShare} X0 m d)
          ∗ (v1Loc d ↦{fullShare} (T0 m d : Vec F S4096 .i32)) ∗ (v2Loc d ↦{fullShare} T2 m d)
          ∗ (v3Loc d ↦{fullShare} m (v3Loc d)) ∗ (v4Loc d ↦{fullShare} m (v4Loc d))
          ∗ ((SparseCore.T d : Thread nD τ).loc main_v5 ↦{fullShare} W5 m d main_v5) ∗ ((SparseCore.T d : Thread nD τ).loc main_cst ↦{fullShare} W5 m d main_cst)
          ∗ ((SparseCore.T d : Thread nD τ).loc main_v6 ↦{fullShare} W5 m d main_v6) ∗ ((SparseCore.T d : Thread nD τ).loc main_v7 ↦{fullShare} W5 m d main_v7)) := by
  rw [held_eq, W3_v0, W3_v1, W3_v2, W3_ne m d main_v3 (by decide) (by decide) (by decide), W3_ne m d main_v4 (by decide) (by decide) (by decide),
    W5_ne m d main_arg0 (by decide) (by decide), W5_ne m d main_arg1 (by decide) (by decide), W5_ne m d main_arg2 (by decide) (by decide),
    W5_ne m d main_v5 (by decide) (by decide), W5_ne m d main_cst (by decide) (by decide), W5_ne m d main_v6 (by decide) (by decide),
    W5_ne m d main_v7 (by decide) (by decide)]

/-- The buffers after the two calls, by name. -/
theorem held5 (d : Dev nD) :
    (StableHlo.held (SparseCore.T d : Thread nD τ) ucRefs (W5 m d) : sProp 𝕄)
      = iprop((a0Loc d ↦{fullShare} W5 m d main_arg0) ∗ (a1Loc d ↦{fullShare} W5 m d main_arg1)
          ∗ (a2Loc d ↦{fullShare} W5 m d main_arg2) ∗ (v0Loc d ↦{fullShare} X0 m d)
          ∗ (v1Loc d ↦{fullShare} (T0 m d : Vec F S4096 .i32)) ∗ (v2Loc d ↦{fullShare} T2 m d)
          ∗ (v3Loc d ↦{fullShare} acc3 m d) ∗ (v4Loc d ↦{fullShare} outF (X0 m d) (T0 m d))
          ∗ ((SparseCore.T d : Thread nD τ).loc main_v5 ↦{fullShare} W5 m d main_v5) ∗ ((SparseCore.T d : Thread nD τ).loc main_cst ↦{fullShare} W5 m d main_cst)
          ∗ ((SparseCore.T d : Thread nD τ).loc main_v6 ↦{fullShare} W5 m d main_v6) ∗ ((SparseCore.T d : Thread nD τ).loc main_v7 ↦{fullShare} W5 m d main_v7)) := by
  rw [held_eq, W5_v3, W5_v4, W5_ne m d main_v0 (by decide) (by decide), W5_ne m d main_v1 (by decide) (by decide),
    W5_ne m d main_v2 (by decide) (by decide), W3_v0, W3_v1, W3_v2]

/-- What is kept at the end of @main, out of all its buffers. -/
theorem held9 (d : Dev nD) : (StableHlo.held (SparseCore.T d : Thread nD τ) ucRefs (W9 m d) : sProp 𝕄) ⊢ FIN m d := by
  rw [held_eq, W9_v7, W9_arg m d main_arg0 (by decide), W9_arg m d main_arg1 (by decide), W9_arg m d main_arg2 (by decide)]
  iintro ⟨H0, H1, H2, -, -, -, -, -, -, -, -, H7⟩
  isplitl [H0]; · iexact H0
  isplitl [H1]; · iexact H1
  isplitl [H2]; · iexact H2
  iexact H7

/-- @main on device `d`'s TensorCore, from its launch to the kept buffers. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d : Thread nD τ).loc b)) : sProp 𝕄) = _ from unscopedBufs_held d (W0 m d)]
  simp only [main, wp_bind, wp_pure]
  iintro ⟨#Hctx, Hst, ⟨Hb, Hh, Hts, -⟩, HG⟩
  iapply (wp_host d op1 sub1 rfl (W0 m d) _)
  isplitl [Hb]; · iexact Hb
  isplitl [Hh]; · iexact Hh
  iintro ⟨Hb, Hh⟩
  iapply (wp_host d op2 sub2 rfl _ _)
  isplitl [Hb]; · iexact Hb
  isplitl [Hh]; · iexact Hh
  iintro ⟨Hb, Hh⟩
  iapply (wp_host d op3 sub3 rfl _ _)
  isplitl [Hb]; · iexact Hb
  isplitl [Hh]; · iexact Hh
  iintro ⟨Hb, Hh⟩
  ihave H3 := (Entails.of_eq (show (StableHlo.held (SparseCore.T d : Thread nD τ) ucRefs (op3.result (op2.result (op1.result (W0 m d)))) : sProp 𝕄) = _ from held3 m d)) $$ Hh
  icases H3 with ⟨A0, A1, A2, B0, B1, B2, B3, B4, C⟩
  iapply (wp_region m κ d _)
  isplitr; · iexact Hctx
  isplitl [Hst]; · iexact Hst
  isplitl [Hb]; · iexact Hb
  isplitl [HG]; · iexact HG
  isplitl [B2]; · iexact B2
  isplitl [B0]; · iexact B0
  isplitl [B3]; · iexact B3
  iintro ⟨Hst, Hb, B2, B0, B3⟩
  iapply ((K (F := F)).wp_run (D (F := F)) 𝒱 (EH := EH) (P := P m) κ d 0)
  isplitr; · iexact Hctx
  isplitl [Hst]; · iexact Hst
  isplitl [B0 B1 B4]
  · rw [st0_eq]
    isplitl [B0]; · iexact B0
    isplitl [B1]; · iexact B1
    iexact B4
  iintro ⟨Hst, Hdn⟩
  ihave Hdn' := (Entails.of_eq (dn0_eq m d)) $$ Hdn
  icases Hdn' with ⟨B0, B1, B4⟩
  ihave Hh := (Entails.of_eq (held5 m d).symm) $$ [A0 A1 A2 B0 B1 B2 B3 B4 C]
  · isplitl [A0]; · iexact A0
    isplitl [A1]; · iexact A1
    isplitl [A2]; · iexact A2
    isplitl [B0]; · iexact B0
    isplitl [B1]; · iexact B1
    isplitl [B2]; · iexact B2
    isplitl [B3]; · iexact B3
    isplitl [B4]; · iexact B4
    iexact C
  iapply (wp_host d op4 sub4 rfl _ _)
  isplitl [Hb]; · iexact Hb
  isplitl [Hh]; · iexact Hh
  iintro ⟨Hb, Hh⟩
  iapply (wp_host d op5 sub5 rfl _ _)
  isplitl [Hb]; · iexact Hb
  isplitl [Hh]; · iexact Hh
  iintro ⟨Hb, Hh⟩
  iapply (wp_host d op6 sub6 rfl _ _)
  isplitl [Hb]; · iexact Hb
  isplitl [Hh]; · iexact Hh
  iintro ⟨Hb, Hh⟩
  iapply (wp_host d op7 sub7 rfl _ _)
  isplitl [Hb]; · iexact Hb
  isplitl [Hh]; · iexact Hh
  iintro ⟨Hb, Hh⟩
  imodintro
  isplitl [Hst]; · iexact Hst
  isplitl [Hh]
  · iapply (held9 m d)
    iapply (show (StableHlo.held (SparseCore.T d : Thread nD τ) ucRefs (op7.result (op6.result (op5.result (op4.result (W5 m d))))) : sProp 𝕄) ⊢ _ from .rfl)
    iexact Hh
  isplitl [Hb] <;> iassumption

/-! ## The end of the program and its run -/

/-- The final memory of device `d`: arguments unchanged, the result's buffer at `result`. -/
def fq (d : Dev nD) (s' : Phys nD τ sig (Elt F)) : Prop :=
  (s'.mem.mem (a0Loc d) = m (a0Loc d) ∧ s'.mem.mem (a1Loc d) = m (a1Loc d) ∧ s'.mem.mem (a2Loc d) = m (a2Loc d))
    ∧ s'.mem.mem ((SparseCore.T d : Thread nD τ).loc main_v7) = result m d

/-- A buffer owned at a value holds it. -/
theorem read_off (s' : Phys nD τ sig (Elt F)) (ℓ : Loc nD τ sig) (f : Buf (Elt F) ℓ) :
    iprop(SI s' ∗ (ℓ ↦{fullShare} f)) ⊢ (iprop(⌜s'.mem.mem ℓ = f⌝ ∗ SI s' ∗ (ℓ ↦{fullShare} f)) : sProp 𝕄) := by
  iintro H
  ihave H' := (persistent_entails_right (SI_pointsTo_agree (st := s') (ℓ := ℓ) (I := Finset.univ) (q := fullShare) (f := f))) $$ H
  icases H' with ⟨%h, Hr⟩
  isplitr
  · ipureintro; exact funext fun i => h i (Finset.mem_univ i)
  iexact Hr

/-- What @main ends with says what the final memory holds. -/
theorem hfin (d : Dev nD) (s' : Phys nD τ sig (Elt F)) : iprop(FIN m d ∗ SI s') ⊢ (⌜fq m d s'⌝ : sProp 𝕄) := by
  iintro ⟨⟨H0, H1, H2, H7⟩, HSI⟩
  ihave H := (read_off s' (a0Loc d) _) $$ [HSI H0]
  · isplitl [HSI] <;> iassumption
  icases H with ⟨%h0, HSI, -⟩
  ihave H := (read_off s' (a1Loc d) _) $$ [HSI H1]
  · isplitl [HSI] <;> iassumption
  icases H with ⟨%h1, HSI, -⟩
  ihave H := (read_off s' (a2Loc d) _) $$ [HSI H2]
  · isplitl [HSI] <;> iassumption
  icases H with ⟨%h2, HSI, -⟩
  ihave H := (read_off s' ((SparseCore.T d : Thread nD τ).loc main_v7) _) $$ [HSI H7]
  · isplitl [HSI] <;> iassumption
  icases H with ⟨%h7, -, -⟩
  ipureintro; exact ⟨⟨h0, h1, h2⟩, h7⟩

/-- What a run ends in: every device's arguments unchanged and result as computed, every semaphore zero. -/
def QC : PUnit × MemSt nD τ sig (Elt F) → Prop := fun r =>
  (∀ d : Dev nD, (r.2.mem (a0Loc d) = m (a0Loc d) ∧ r.2.mem (a1Loc d) = m (a1Loc d) ∧ r.2.mem (a2Loc d) = m (a2Loc d))
    ∧ r.2.mem ((SparseCore.T d : Thread nD τ).loc main_v7) = result m d) ∧ r.2.sem = fun _ => 0

/-- The program's run from any memory whose targets are in range. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main G (FIN m) (u₀ (F := F)) (sep_elim_left.trans (hu₀ m)) (hmain m ρ) (fq m) (hfin m) (QC m) (fun _ h hz => ⟨h, hz⟩)

end Cert.Proof.Run

end
-- ==== Proof.Frames.lean ====
/-
What the range of the targets gives, and the frames of the idealized kernel and the reference.
-/
module

public import proofs.«01_k».proof.Proof.Launch
public import proofs.«01_k».proof.Defs
public import proofs.«01_k».proof.Proof.Gen.Kernel
public import proofs.«01_k».proof.Proof.Gen.ReferenceIdeal
public import proofs.«01_k».proof.Proof.Gen.ReferenceIdeal.Run

@[expose] public section

noncomputable section

namespace Cert.Proof.Run

open Cert.KernelIdeal Cert.KernelIdeal.Gen Cert.Proof.Shape
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.TcCoe

/-! ## The precondition -/

/-- The side conditions of the range predicate's operations. -/
instance inRangeFacts : Cert.Pre_in_range.Facts := ⟨by decide⟩
/-- The conjunction of two truth bits is the bit of the conjunction. -/
theorem andi_ofBool (p q : Bool) : IntOp.andi (BitVec.ofBool p) (BitVec.ofBool q) = BitVec.ofBool (p && q) := by
  cases p <;> cases q <;> decide
/-- A truth bit is one just where the truth value is true. -/
theorem ofBool_eq_one (p : Bool) : (BitVec.ofBool p = 1#1) ↔ p = true := by cases p <;> decide

/-- A word between 0 and 32000 as a signed number is below 32000 as it stands. -/
theorem word_in_range (v : BitVec 32) (e : IntOp.andi (IntOp.cmpi .sge v 0#32) (IntOp.cmpi .slt v 32000#32) = 1#1) : v.toNat < 32000 := by
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- The range predicate gives what the run asks of the targets, for any float values. -/
theorem ok_of_in_range {F : FTy → Type} [FloatOps F] (m : (ℓ : Loc nD τ sig) → Buf (Elt F) ℓ)
    (h : ∀ d : Dev nD, Cert.Pre_in_range.fn (F := F) (m (a0Loc d)) (m (a1Loc d)) (m (a2Loc d)) = fun _ => 1#1) : PreOK m := by
  intro d j
  have e := congrFun (h d) j
  simp only [Cert.Pre_in_range.fn, andi, cmpi, broadcastInDim, constantI] at e
  exact word_in_range _ e

/-! ## The frames -/

/-- The idealized kernel runs to its end from targets in range, its arguments unchanged. -/
theorem frame_ideal : Cert.quiescent_KernelIdeal := fun m ρ hpre =>
  (θ_run (Cert.KernelIdeal.defs (F := Ideal)) _ _).mono (fun _ h => ⟨fun c => (h.1 c).1, h.2⟩) (run_main (F := Ideal) m ρ (ok_of_in_range m hpre))

/-- The reference runs to its end, its arguments unchanged; it declares no semaphore. -/
theorem frame_reference : Cert.quiescent_ReferenceIdeal := fun m ρ _ =>
  (θ_run (Cert.ReferenceIdeal.defs (F := Ideal)) _ _).mono
    (fun r h => ⟨fun c => (h c).2, Idealize.ShloMosaic.sem_eq_zero_of_no_sems (by decide) r.2⟩) (Cert.ReferenceIdeal.Value.run (F := Ideal) m ρ)

end Cert.Proof.Run

end
-- ==== Proof.Transfer.lean ====
/-
The kernel as printed. Its text is that of the idealized kernel with each named constant's word in its place, so over
the machine's floats the two programs are one, and the idealized kernel's run is the kernel's.
-/
module

public import proofs.«01_k».proof.Proof.Frames
public import proofs.«01_k».proof.Proof.Gen.Kernel

@[expose] public section

noncomputable section

namespace Cert.Proof.Run

open Cert.KernelIdeal Cert.KernelIdeal.Gen Cert.Proof.Shape
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.TcCoe

/-- A named constant read as the word it stands for. -/
@[reducible] def namedBits : Named Bits := ⟨fun _ _ _ b => b⟩

set_option maxRecDepth 100000
set_option maxHeartbeats 0

/-- The SparseCore's task is one text in both. -/
theorem task_eq : @Cert.Kernel.cc1_k Bits _ _ = @Cert.KernelIdeal.cc1_k Bits _ namedBits _ := rfl
/-- So is what the threads run. -/
theorem threads_eq : @Cert.Kernel.threads Bits _ _ = @Cert.KernelIdeal.threads Bits _ _ := rfl

/-- So is each kernel's body. -/
theorem bodies_eq : @Cert.Kernel.defs₀ Bits _ _ = @Cert.KernelIdeal.defs₀ Bits _ namedBits _ := by
  unfold Cert.Kernel.defs₀
  rw [task_eq]
  funext p ℓ a
  match p, ℓ, a with
  | .tc, 0, (t, s) => rfl
  | .tc, 1, _ => rfl
  | .scScalar _, _, _ => rfl
  | .scVector _ _, 0, _ => rfl
  | .scVector c s, 1, a => rfl

/-- And so is the table of bodies the launch runs. -/
theorem table_eq : @Cert.Kernel.defs Bits _ _ = @Cert.KernelIdeal.defs Bits _ namedBits _ := by
  unfold Cert.Kernel.defs
  rw [bodies_eq]
  rfl

/-- The kernel runs to its end from targets in range, its arguments unchanged. -/
theorem frame_kernel : Cert.quiescent_Kernel := by
  intro m ρ hpre
  rw [table_eq, threads_eq]
  exact (θ_run (@Cert.KernelIdeal.defs Bits _ namedBits _) _ _).mono (fun _ h => ⟨fun c => (h.1 c).1, h.2⟩)
    (@run_main Bits _ namedBits m ρ _ (ok_of_in_range m hpre))

end Cert.Proof.Run

end
-- ==== Proof.Template.lean ====
/-
What the template precondition gives: the same frames.
-/
module

public import proofs.«01_k».proof.Proof.Frames

@[expose] public section

noncomputable section

namespace Cert.Proof.Run

open Cert.KernelIdeal Cert.KernelIdeal.Gen Cert.Proof.Shape
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.TcCoe

/-- The side conditions of the template predicate's operations. -/
instance templateFacts : Cert.Pre_template.Facts := ⟨by decide, by decide, by decide⟩

/-- The first part of the template predicate gives what the run asks of the targets, for any float values. -/
theorem ok_of_template {F : FTy → Type} [FloatOps F] (m : (ℓ : Loc nD τ sig) → Buf (Elt F) ℓ)
    (h : ∀ d : Dev nD, (Cert.Pre_template.fn (F := F) (m (a0Loc d)) (m (a1Loc d)) (m (a2Loc d))).1 = fun _ => 1#1) : PreOK m := by
  intro d j
  have e := congrFun (h d) j
  simp only [Cert.Pre_template.fn, Cert.Pre_template.fn_part1, andi, cmpi, broadcastInDim, constantI] at e
  exact word_in_range _ e

/-- The idealized kernel runs to its end from arguments that meet the template predicate, its arguments unchanged. -/
theorem frame_ideal_template : Cert.quiescent_KernelIdeal_pre_template := fun m ρ hpre =>
  (θ_run (Cert.KernelIdeal.defs (F := Ideal)) _ _).mono (fun _ h => ⟨fun c => (h.1 c).1, h.2⟩)
    (run_main (F := Ideal) m ρ (ok_of_template m fun d => (hpre d).1))

/-- The reference runs to its end from such arguments, its arguments unchanged. -/
theorem frame_reference_template : Cert.quiescent_ReferenceIdeal_pre_template := fun m ρ _ =>
  frame_reference m ρ trivial

end Cert.Proof.Run

end
-- ==== Proof.RealTc.lean ====
/-
The TensorCore call's value over the reals: what one block adds, and what the thirty-two blocks add up to.
-/
module

public import proofs.«01_k».proof.Proof.Region
public import Idealize.ShloMosaic.PureOps.Ideal.Laws
public import Idealize.ShloMosaic.Lib.Pipeline.ValueKit.Geometry

@[expose] public section

noncomputable section

namespace Cert.Proof.Run

open Cert.KernelIdeal Cert.KernelIdeal.Gen Cert.Proof.Shape
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.TcCoe

/-! ## Sums of reals, read as extended reals -/

/-- The sum of reals read as extended reals is the real sum. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The constant `smooth` is 1/319980. -/
theorem named_smooth (b : BitVec 32) : (Named.named κ "smooth" (φ := .f32) b : Ideal .f32) = ((1 / 319980 : ℝ) : EReal) := rfl
/-- The constant `neg_smooth` is -1/319980. -/
theorem named_neg (b : BitVec 32) : (Named.named κ "neg_smooth" (φ := .f32) b : Ideal .f32) = ((-1 / 319980 : ℝ) : EReal) := rfl
/-- The constant `delta` is -287981/319980. -/
theorem named_delta (b : BitVec 32) : (Named.named κ "delta" (φ := .f32) b : Ideal .f32) = ((-287981 / 319980 : ℝ) : EReal) := rfl
/-- The constant of a row: what its logarithms add up to. -/
def c1R : ℝ := 1 / 10 * Real.log (129140163 / 106660000000000)
/-- The constant `c1` is the row's constant. -/
theorem named_c1 (b : BitVec 32) : (Named.named κ "c1" (φ := .f32) b : Ideal .f32) = ((c1R : ℝ) : EReal) := rfl

/-! ## One block of the TensorCore call -/

/-- One where a target counts, zero where it is the padding word. -/
def mu (w : BitVec 32) : ℝ := if w = 0#32 then 0 else 1

/-- A row's mask is zero where its target is the padding word, and one elsewhere. -/
theorem tcMask_real (tg : IVec S128x1 32) (p : Fin 128) : (tcMask tg : FVec Ideal S128x1 .f32) (ix2 p 0) = ((mu (tg (ix2 p 0)) : ℝ) : EReal) := by
  have e : shapeCast S128x1 tg shapeCasts_S128x1_S128x1 (ix2 p 0) = tg (ix2 p 0) := shapeCast_apply _ _ _ _ rfl
  show (((((IntOp.cmpi .ne (shapeCast S128x1 tg shapeCasts_S128x1_S128x1 (ix2 p 0)) 0#32).setWidth 32 : BitVec 32).toInt : ℤ) : ℝ) : EReal) = _
  rw [e]
  unfold mu
  by_cases h : tg (ix2 p 0) = 0#32
  · rw [h, if_pos rfl]; simp [IntOp.cmpi]
  · rw [if_neg h]
    have : IntOp.cmpi .ne (tg (ix2 p 0)) 0#32 = 1#1 := by
      show BitVec.ofBool (tg (ix2 p 0) != 0#32) = 1#1
      rw [show (tg (ix2 p 0) != 0#32) = true from bne_iff_ne.2 h]; rfl
    rw [this]; simp

/-- The sum of a column of reals. -/
theorem tcSum_real (y : FVec Ideal S128x1 .f32) (f : Fin 128 → ℝ) (h : ∀ p, y (ix2 p 0) = ((f p : ℝ) : EReal)) :
    tcSum y = ((∑ p, f p : ℝ) : EReal) := by
  unfold tcSum
  show shapeCast S1x1x1 _ _ _ = _
  unfold shapeCast
  refine (Ideal.multiReduction_add_total _ _ _ (by decide) _ _ _).trans ?_
  rw [Equiv.sum_comp (Shape.reshapeEquiv shapeCasts_S128x1_S1x128x1) y, sum_idx2, ← coe_sum]
  refine Finset.sum_congr rfl fun p _ => ?_
  rw [Fin.sum_univ_one, h]

/-- Row `p` of a block, summed. -/
theorem rowSum_real (x : FVec Ideal S128x32000 .f32) (y : Fin 128 → Fin 32000 → ℝ) (hx : ∀ p v, x (ix2 p v) = ((y p v : ℝ) : EReal)) (p : Fin 128) :
    shapeCast S128x1 (multiReduction .add [1] S128 (shapeCast S128x32000 x shapeCasts_S128x32000_S128x32000)
        0x00000000#32 reduces_S128x32000_S128 (.inl rfl) rfl) shapeCasts_S128_S128x1 (ix2 p 0) = ((∑ v, y p v : ℝ) : EReal) := by
  rw [shapeCast_apply _ _ _ (ix1 p) (by rw [Shape.rowMajor_val_one, Shape.rowMajor_val_two]; simp)]
  refine (Ideal.multiReduction_add_single _ _ _ _ _ _).trans ?_
  rw [← coe_sum]
  refine Finset.sum_congr rfl fun v _ => ?_
  rw [← hx p v]
  exact shapeCast_apply _ _ _ _ (by
    rw [Shape.rowMajor_val_two, Shape.rowMajor_val_two]; rfl)

/-- What a block adds to the accumulator, over the reals. -/
theorem tcVal_real (tg : IVec S128x1 32) (x : FVec Ideal S128x32000 .f32) (y : Fin 128 → Fin 32000 → ℝ)
    (hx : ∀ p v, x (ix2 p v) = ((y p v : ℝ) : EReal)) :
    tcVal 0#32 tg x = ((∑ p, mu (tg (ix2 p 0)) * (-1 / 319980 * (∑ v, y p v) + c1R + 1 / 319980 * y p 0) : ℝ) : EReal) := by
  unfold tcVal
  rw [tcSum_real _ (fun p => (∑ v, y p v) * mu (tg (ix2 p 0))) fun p => by
      show _ * _ = _
      rw [rowSum_real x y hx, tcMask_real, EReal.coe_mul],
    tcSum_real _ (fun p => mu (tg (ix2 p 0)) * (c1R + 1 / 319980 * y p 0)) fun p => by
      show _ * (_ + _ * extractStridedSlice _ _ _ _ _) = _
      rw [tcMask_real, extractStridedSlice_apply _ _ _ _ (ix2 p 0) (by intro a; match a with | 0 => simp | 1 => simp)]
      rw [shapeCast_apply _ _ _ (ix2 p 0) rfl, hx]
      rw [EReal.coe_mul, EReal.coe_add, EReal.coe_mul]
      rfl]
  show _ * _ + Scalar.select (1#1) _ _ = _
  rw [named_neg]
  rw [show ∀ a b : EReal, Scalar.select (1#1) a b = a from fun _ _ => rfl]
  rw [← EReal.coe_mul, ← EReal.coe_add, Finset.mul_sum, ← Finset.sum_add_distrib]
  refine congrArg _ (Finset.sum_congr rfl fun p _ => ?_)
  ring

/-! ## The rows, numbered -/

/-- Entry `v` of row `r` of the log-probabilities, as a real. -/
def xr (X : FVec Ideal S4096x32000 .f32) (r : ℕ) (v : Fin 32000) : ℝ :=
  (X (ix2 (⟨r % 4096, Nat.mod_lt _ (by decide)⟩ : Fin 4096) v)).toReal
/-- The target of row `r`. -/
def wd (T₀ : IVec S4096 32) (r : ℕ) : BitVec 32 := T₀ (ix1 (⟨r % 4096, Nat.mod_lt _ (by decide)⟩ : Fin 4096))

/-- Every entry is a real. -/
def AllReal (X : FVec Ideal S4096x32000 .f32) : Prop := ∀ i, X i ≠ ⊤ ∧ X i ≠ ⊥

/-- An array of reals holds `xr`. -/
theorem coe_xr {X : FVec Ideal S4096x32000 .f32} (hX : AllReal X) (r : Fin 4096) (v : Fin 32000) : X (ix2 r v) = ((xr X r.val v : ℝ) : EReal) := by
  unfold xr
  rw [EReal.coe_toReal (hX _).1 (hX _).2]
  exact congrArg (fun q => X (ix2 q v)) (Fin.ext (Nat.mod_eq_of_lt r.isLt).symm)

variable (m : (ℓ : Loc nD τ sig) → Buf (Elt Ideal) ℓ) (d : Dev nD)

/-- A grid point's coordinates, and the places of its two blocks. -/
theorem coords_0 : ∀ t : Fin cfg0.N, (grid0.coords t 1).val = 0 ∧ win0_0.index t 0 = t.val ∧ win0_0.index t 1 = 0 ∧ win0_1.index t 0 = t.val ∧ win0_1.index t 1 = 0 := by
  decide +kernel
/-- There are 32 grid points. -/
theorem lt_N (t : Fin cfg0.N) : t.val < 32 := lt_of_lt_of_eq t.isLt N_0

/-- Row `p` of grid point `t`'s block is row `128 t + p` of the array. -/
theorem blkX_apply (t : Fin cfg0.N) (p : Fin 128) (v : Fin 32000) :
    blkX m d t (ix2 p v) = X0 m d (ix2 (⟨128 * t.val + p.val, by have := lt_N t; omega⟩ : Fin 4096) v) := by
  obtain ⟨_, _, _, h0, h1⟩ := coords_0 t
  unfold blkX
  blk_simp
  refine congrArg (X0 m d) (funext fun a => Fin.ext ?_)
  match a with
  | 0 => blk_simp; rw [h0, Nat.mul_comm]; rfl
  | 1 => blk_simp; rw [h1, Nat.zero_mul, Nat.zero_add]; rfl

/-- The targets of its block likewise. -/
theorem blkT_apply (t : Fin cfg0.N) (p : Fin 128) : blkT m d t (ix2 p 0) = wd (T0 m d) (128 * t.val + p.val) := by
  obtain ⟨_, h0, h1, _, _⟩ := coords_0 t
  have ht := lt_N t
  unfold blkT wd T2
  blk_simp
  refine shapeCast_apply _ _ _ _ ?_
  rw [Shape.rowMajor_val_one, Shape.rowMajor_val_two]
  show (128 * t.val + p.val) % 4096 = _
  blk_simp
  rw [h0, h1, Nat.mod_eq_of_lt (by omega)]
  show _ = t.val * 128 + p.val + 0
  omega

/-- What row `r` adds in the TensorCore call. -/
def rowTc (X : FVec Ideal S4096x32000 .f32) (T₀ : IVec S4096 32) (r : ℕ) : ℝ :=
  mu (wd T₀ r) * (-1 / 319980 * (∑ v, xr X r v) + c1R + 1 / 319980 * xr X r 0)

/-- After `n` grid points the accumulator is the sum of what the first `128 n` rows add. -/
theorem accAt_real (hX : AllReal (X0 m d)) (n : ℕ) (hn : n ≤ 32) :
    accAt m d n = ((∑ k ∈ Finset.range n, ∑ p : Fin 128, rowTc (X0 m d) (T0 m d) (128 * k + p.val) : ℝ) : EReal) := by
  induction n with
  | zero => exact Ideal.ofBits_zero_f32
  | succ n ih =>
    have hN : n < cfg0.N := lt_of_lt_of_eq (show n < 32 by omega) N_0.symm
    show accAt m d n + ptVal m d n = _
    rw [ih (by omega), Finset.sum_range_succ, EReal.coe_add]
    refine congrArg _ ((ptVal_lt m d ⟨n, hN⟩).trans ?_)
    rw [(coords_0 ⟨n, hN⟩).1]
    refine (tcVal_real _ _ (fun p v => xr (X0 m d) (128 * n + p.val) v) fun p v => ?_).trans ?_
    · rw [blkX_apply, coe_xr hX]
    · refine congrArg _ (Finset.sum_congr rfl fun p _ => ?_)
      rw [blkT_apply]
      rfl

end Cert.Proof.Run

end
-- ==== Proof.RealSc.lean ====
/-
The SparseCore call's value over the reals: the sixteen sums of a tile.
-/
module

public import proofs.«01_k».proof.Proof.RealTc
public import proofs.«01_k».proof.Proof.Body

@[expose] public section

noncomputable section

namespace Cert.Proof.Run

open Cert.KernelIdeal Cert.KernelIdeal.Gen Cert.Proof.Shape
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.TcCoe

variable (X : FVec Ideal S4096x32000 .f32) (T₀ : IVec S4096 32)

/-- What row `r` adds to lane `l` of its tile's sixteen sums: the target's entry, if the target counts and is `l` modulo 16. -/
def laneC (r : ℕ) (l : Fin 16) : ℝ :=
  if wd T₀ r ≠ 0#32 ∧ (wd T₀ r).toNat % 16 = l.val then xr X r ⟨(wd T₀ r).toNat % 32000, Nat.mod_lt _ (by decide)⟩ else 0

/-- A word contributes just where it is not zero. -/
theorem nz_iff (t : BitVec 32) : nz t = 1#1 ↔ t ≠ 0#32 := by
  show BitVec.ofBool ((BitVec.ofBool (t != 0#32)).setWidth 32 != 0#32) = 1#1 ↔ _
  by_cases h : t = 0#32
  · rw [h]; decide
  · rw [show (t != 0#32) = true from bne_iff_ne.2 h]
    exact ⟨fun _ => h, fun _ => by decide⟩

/-- One word: it adds its entry to one lane, unless it is the padding word. -/
theorem stepV_real (pg : FVec Ideal S16x8x128 .f32) {u : ℕ} (hu : u < 16) {t : BitVec 32} (ht : t.toNat < 32000) (acc : FVec Ideal S16 .f32) (x : ℝ) (a : Fin 16 → ℝ)
    (hacc : ∀ l, acc (ix1 l) = ((a l : ℝ) : EReal))
    (hpg : pg (ix3 (⟨u, hu⟩ : Fin 16) (⟨u % 8, Nat.mod_lt _ (by decide)⟩ : Fin 8) (⟨t.toNat % 128, Nat.mod_lt _ (by decide)⟩ : Fin 128)) = ((x : ℝ) : EReal)) (l : Fin 16) :
    stepV (F := Ideal) pg u t acc (ix1 l) = ((a l + (if t ≠ 0#32 ∧ t.toNat % 16 = l.val then x else 0) : ℝ) : EReal) := by
  unfold stepV
  by_cases h0 : t = 0#32
  · rw [dif_neg fun w => (nz_iff t).1 w.1 h0, if_neg fun w => w.1 h0, add_zero, hacc]
  rw [dif_pos ⟨(nz_iff t).2 h0, tileOff_inb hu ht⟩]
  unfold addV
  show acc (ix1 l) + Scalar.select (BitVec.ofBool (iota .scVector S16 32 [0] iota_S16_d0_w32_scVector (ix1 l) == (t &&& 15#32))) (shapeCast S16 _ _ (ix1 l)) (Ideal.ofBits .f32 0x00000000#32) = _
  rw [hacc, Ideal.ofBits_zero_f32, EReal.coe_add]
  refine congrArg _ ?_
  have hi : iota .scVector S16 32 [0] iota_S16_d0_w32_scVector (ix1 l) = BitVec.ofNat 32 l.val :=
    iota_single_apply .scVector S16 32 0 iota_S16_d0_w32_scVector (ix1 l)
  have hb : (BitVec.ofNat 32 l.val = t &&& 15#32) ↔ t.toNat % 16 = l.val := by
    have hl := l.isLt
    rw [← BitVec.toNat_inj, BitVec.toNat_and, BitVec.toNat_ofNat, Nat.mod_eq_of_lt (by omega)]
    show l.val = t.toNat &&& (2 ^ 4 - 1) ↔ _
    rw [Nat.and_two_pow_sub_one_eq_mod]
    exact eq_comm
  rw [hi]
  by_cases hl : t.toNat % 16 = l.val
  · rw [if_pos ⟨h0, hl⟩, show (BitVec.ofNat 32 l.val == (t &&& 15#32)) = true from beq_iff_eq.2 (hb.2 hl), ← hpg]
    rw [show ∀ a b : EReal, Scalar.select (BitVec.ofBool true) a b = a from fun _ _ => rfl]
    rw [shapeCast_apply _ _ _ (ix3 (0 : Fin 1) (0 : Fin 1) l) (by rw [Shape.rowMajor_val_three, Shape.rowMajor_val_one]; simp)]
    refine congrArg pg (funext fun b => Fin.ext ?_)
    match b with
    | 0 => rfl
    | 1 => rfl
    | 2 =>
      show tileOff u t 2 + 1 * l.val = t.toNat % 128
      rw [tileOff_two ht]; omega
  · rw [if_neg fun w => hl w.2, show (BitVec.ofNat 32 l.val == (t &&& 15#32)) = false from beq_eq_false_iff_ne.2 fun w => hl (hb.1 w)]
    rfl

/-- The words from the `u`-th, `n` of them, of sixteen rows that begin at `R`. -/
theorem stepsV_real (pg : FVec Ideal S16x8x128 .f32) (tgt : IVec S16 32) (R : ℕ) (ht : ∀ r, (wd T₀ r).toNat < 32000)
    (hw : ∀ u (hu : u < 16), word tgt u hu = wd T₀ (R + u))
    (hpg : ∀ u (hu : u < 16), pg (ix3 (⟨u, hu⟩ : Fin 16) (⟨u % 8, Nat.mod_lt _ (by decide)⟩ : Fin 8) (⟨(wd T₀ (R + u)).toNat % 128, Nat.mod_lt _ (by decide)⟩ : Fin 128))
      = ((xr X (R + u) ⟨(wd T₀ (R + u)).toNat % 32000, Nat.mod_lt _ (by decide)⟩ : ℝ) : EReal)) :
    ∀ (n u : ℕ) (hn : u + n ≤ 16) (acc : FVec Ideal S16 .f32) (a : Fin 16 → ℝ), (∀ l, acc (ix1 l) = ((a l : ℝ) : EReal)) →
      ∀ l, stepsV (F := Ideal) pg tgt n u hn acc (ix1 l) = ((a l + ∑ k ∈ Finset.range n, laneC X T₀ (R + (u + k)) l : ℝ) : EReal)
  | 0, _, _, acc, a, hacc, l => by
    rw [Finset.sum_range_zero, add_zero]; exact hacc l
  | n + 1, u, hn, acc, a, hacc, l => by
    refine (stepsV_real pg tgt R ht hw hpg n (u + 1) (by omega) _ (fun l => a l + laneC X T₀ (R + u) l) (fun l => ?_) l).trans ?_
    · rw [hw u (by omega)]
      exact stepV_real pg (by omega) (ht _) acc _ a hacc (hpg u (by omega)) l
    · rw [Finset.sum_range_succ', add_assoc, add_zero, add_comm (laneC _ _ _ _)]
      refine congrArg _ (congrArg (a l + ·) (congrArg (· + _) (Finset.sum_congr rfl fun k _ => ?_)))
      rw [show u + 1 + k = u + (k + 1) by omega]

/-- A tile's `j`-th word is the target of its `j`-th row. -/
theorem tileW_wd (i : grid1.Coords) (j : Fin 128) : tileW i Ideal T₀ (ix1 j) = wd T₀ (128 * (wid i).val + j.val) := by
  have hw := (wid i).isLt
  refine (tileW_apply (F := Ideal) i T₀ (ix1 j)).trans (congrArg T₀ (funext fun a => Fin.ext ?_))
  match a with
  | 0 => exact (Nat.mod_eq_of_lt (show 128 * (wid i).val + j.val < 4096 by omega)).symm

/-- The sixteen sums of a tile after its first `n` groups of rows. -/
theorem groupsV_real (hX : AllReal X) (ht : ∀ r, (wd T₀ r).toNat < 32000) (i : grid1.Coords) : ∀ (n : ℕ) (hn : n ≤ 8) (l : Fin 16),
    groupsV (F := Ideal) i X (tileW i Ideal T₀) n hn (ix1 l) = ((∑ q ∈ Finset.range n, ∑ u ∈ Finset.range 16, laneC X T₀ (128 * (wid i).val + (16 * q + u)) l : ℝ) : EReal)
  | 0, _, _ => by
    rw [Finset.sum_range_zero]; exact Ideal.ofBits_zero_f32
  | n + 1, hn, l => by
    have hw : ∀ u (hu : u < 16), word (wordsQ Ideal (tileW i Ideal T₀) n hn) u hu = wd T₀ (128 * (wid i).val + 16 * n + u) := fun u hu => by
      rw [wordsQ_word, tileW_wd, Nat.add_assoc]
    refine (stepsV_real X T₀ _ _ (128 * (wid i).val + 16 * n) ht hw (fun u hu => ?_) 16 0 le_rfl _ _ (groupsV_real hX ht i n (Nat.le_of_succ_le hn)) l).trans ?_
    · have hi := (wid i).isLt
      have htu := ht (128 * (wid i).val + 16 * n + u)
      rw [show ((xr X (128 * (wid i).val + 16 * n + u) ⟨(wd T₀ (128 * (wid i).val + 16 * n + u)).toNat % 32000, Nat.mod_lt _ (by decide)⟩ : ℝ) : EReal) = _ from
        (coe_xr hX ⟨128 * (wid i).val + 16 * n + u, by omega⟩ _).symm]
      refine congrArg X (funext fun b => Fin.ext ?_)
      match b with
      | 0 =>
        show (srcOff i n u _ 0 + u % 8) % 4096 = 128 * (wid i).val + 16 * n + u
        rw [srcOff_zero i hn hu]; omega
      | 1 =>
        show (srcOff i n u (word (colsQ Ideal (tileW i Ideal T₀) n hn) u hu) 1 + (wd T₀ (128 * (wid i).val + 16 * n + u)).toNat % 128) % 32000 = _ % 32000
        rw [srcOff_one i _ n hn u hu (by rw [hw]; exact htu), hw]; omega
    · rw [Finset.sum_range_succ _ n]
      refine congrArg _ (congrArg _ (Finset.sum_congr rfl fun u _ => ?_))
      rw [Nat.zero_add, Nat.add_assoc]

end Cert.Proof.Run

end
-- ==== Proof.RealK.lean ====
/-
The kernel's result over the reals: the sum, over the rows, of what each row adds.
-/
module

public import proofs.«01_k».proof.Proof.RealSc
public import proofs.«01_k».proof.Proof.Main

@[expose] public section

noncomputable section

namespace Cert.Proof.Run

open Cert.KernelIdeal Cert.KernelIdeal.Gen Cert.Proof.Shape
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.TcCoe

/-- A sum over `n` blocks of `k` is one sum. -/
theorem sum_blocks (f : ℕ → ℝ) (n k : ℕ) : ∑ a ∈ Finset.range n, ∑ b ∈ Finset.range k, f (k * a + b) = ∑ r ∈ Finset.range (n * k), f r := by
  induction n with
  | zero => simp
  | succ n ih => rw [Finset.sum_range_succ, ih, Nat.succ_mul, Finset.sum_range_add, Nat.mul_comm k n]

/-- The target of row `r`, as a word of the vocabulary. -/
def tIx (T₀ : IVec S4096 32) (r : ℕ) : Fin 32000 := ⟨(wd T₀ r).toNat % 32000, Nat.mod_lt _ (by decide)⟩

/-- What row `r` adds to the result: nothing where its target is the padding word. -/
def rowK (X : FVec Ideal S4096x32000 .f32) (T₀ : IVec S4096 32) (r : ℕ) : ℝ :=
  mu (wd T₀ r) * (-1 / 319980 * (∑ v, xr X r v) + c1R + 1 / 319980 * xr X r 0 + -287981 / 319980 * xr X r (tIx T₀ r))

/-- The sixteen lanes of a row together hold its target's entry. -/
theorem lanes_sum (X : FVec Ideal S4096x32000 .f32) (T₀ : IVec S4096 32) (r : ℕ) : ∑ l, laneC X T₀ r l = mu (wd T₀ r) * xr X r (tIx T₀ r) := by
  unfold laneC mu
  by_cases h : wd T₀ r = 0#32
  · rw [if_pos h, zero_mul]
    exact Finset.sum_eq_zero fun l _ => if_neg fun w => w.1 h
  · rw [if_neg h, one_mul, Finset.sum_eq_single (⟨(wd T₀ r).toNat % 16, Nat.mod_lt _ (by decide)⟩ : Fin 16)]
    · exact if_pos ⟨h, rfl⟩
    · exact fun l _ hl => if_neg fun w => hl (Fin.ext w.2.symm)
    · exact fun w => absurd (Finset.mem_univ _) w

variable (m : (ℓ : Loc nD τ sig) → Buf (Elt Ideal) ℓ) (d : Dev nD)

/-- An entry of the table of the tiles' sums. -/
theorem outF_real (X : FVec Ideal S4096x32000 .f32) (T₀ : IVec S4096 32) (hX : AllReal X) (ht : ∀ r, (wd T₀ r).toNat < 32000) (w : Fin 32) (l : Fin 16) :
    outF (F := Ideal) X T₀ (ix2 w l) = ((-287981 / 319980 * ∑ p ∈ Finset.range 128, laneC X T₀ (128 * w.val + p) l : ℝ) : EReal) := by
  show (Named.named κ "delta" (φ := .f32) 0xBF666632#32 : Ideal .f32) * (groupsV (F := Ideal) (iOf w) X (tileW (iOf w) Ideal T₀) 8 le_rfl (ix1 l) : Ideal .f32) = _
  rw [groupsV_real X T₀ hX ht, named_delta, ← EReal.coe_mul, wid_iOf, ← sum_blocks (fun p => laneC X T₀ (128 * w.val + p) l) 8 16]

/-- The program's result, over the reals: the sum of what the rows add. -/
theorem result_real (hX : AllReal (X0 m d)) (ht : ∀ r, (wd (T0 m d) r).toNat < 32000) :
    result m d = fun _ => ((∑ r ∈ Finset.range 4096, rowK (X0 m d) (T0 m d) r : ℝ) : EReal) := by
  funext j
  show accAt m d 32 + Ideal.hostReduceAdd reducesTo_S32x16_S_d0_1 (outF (X0 m d) (T0 m d)) (Ideal.ofBits .f32 0x00000000#32) j = _
  rw [Ideal.hostReduceAdd_total _ (fun b => b.elim0), Ideal.ofBits_zero_f32, zero_add, accAt_real m d hX 32 le_rfl, sum_idx2]
  simp only [outF_real _ _ hX ht, coe_sum]
  rw [← EReal.coe_add]
  refine congrArg _ ?_
  have h1 : ∑ k ∈ Finset.range 32, ∑ p : Fin 128, rowTc (X0 m d) (T0 m d) (128 * k + p.val) = ∑ r ∈ Finset.range 4096, rowTc (X0 m d) (T0 m d) r := by
    rw [← sum_blocks _ 32 128]
    exact Finset.sum_congr rfl fun k _ => Fin.sum_univ_eq_sum_range (fun p => rowTc (X0 m d) (T0 m d) (128 * k + p)) 128
  have h2 : ∑ w : Fin 32, ∑ l : Fin 16, -287981 / 319980 * ∑ p ∈ Finset.range 128, laneC (X0 m d) (T0 m d) (128 * w.val + p) l
      = ∑ r ∈ Finset.range 4096, -287981 / 319980 * ∑ l, laneC (X0 m d) (T0 m d) r l := by
    rw [← sum_blocks _ 32 128, ← Fin.sum_univ_eq_sum_range (fun k => ∑ b ∈ Finset.range 128, -287981 / 319980 * ∑ l, laneC (X0 m d) (T0 m d) (128 * k + b) l) 32]
    refine Finset.sum_congr rfl fun w _ => ?_
    rw [← Finset.mul_sum, ← Finset.mul_sum, Finset.sum_comm]
  rw [h1, h2, ← Finset.sum_add_distrib]
  refine Finset.sum_congr rfl fun r _ => ?_
  rw [lanes_sum]
  unfold rowTc rowK
  ring

end Cert.Proof.Run

end
-- ==== Proof.RealRef.lean ====
/-
The reference over the reals: its target distribution, its terms, and its result.
-/
module

public import proofs.«01_k».proof.Proof.Gen.ReferenceIdeal
public import proofs.«01_k».proof.Proof.Gen.ReferenceIdeal.Run
public import proofs.«01_k».proof.Proof.RealTc
public import Idealize.ShloMosaic.Lib.Routing.OpsSet
public import Idealize.ShloMosaic.Lib.IdealHost
public import Idealize.ShloMosaic.Lib.Pipeline.Value

@[expose] public section

noncomputable section

namespace Cert.Proof.Ref

open Cert.ReferenceIdeal Cert.ReferenceIdeal.Gen
open Idealize.ShloMosaic Idealize.ShloMosaic.ValueIdx
open Idealize.ShloMosaic.TcCoe

/-- The pairs of words, a row and its target, at which the reference writes its confidence. -/
def idxs (T : IVec S4096 32) : IVec S4096x2 32 :=
  concatenate S4096x2 1 [⟨S4096x1, (broadcastInDim S4096x1 ![0] bcast_S4096_S4096x1_0 (select (cmpi .slt (iotaInDim S4096 32 0) (broadcastInDim S4096 ![] bcast_S_S4096 (constantI S_ 32 0#32))) (addi (iotaInDim S4096 32 0) (broadcastInDim S4096 ![] bcast_S_S4096 (constantI S_ 32 4096#32))) (iotaInDim S4096 32 0)))⟩, ⟨S4096x1, (broadcastInDim S4096x1 ![0] bcast_S4096_S4096x1_0 (select (cmpi .slt T (broadcastInDim S4096 ![] bcast_S_S4096 (constantI S_ 32 0#32))) (addi T (broadcastInDim S4096 ![] bcast_S_S4096 (constantI S_ 32 32000#32))) T))⟩] concatenates_S4096x1_S4096x1_S4096x2_d1

/-- The reference's smoothed target distribution. -/
def probs (T : IVec S4096 32) (H : FVec Ideal S1x32000 .f32) : FVec Ideal S4096x32000 .f32 :=
  select (broadcastInDim S4096x32000 ![0, 1] bcast_S4096x1_S4096x32000_0_1 (broadcastInDim S4096x1 ![0] bcast_S4096_S4096x1_0 (cmpi .eq T (broadcastInDim S4096 ![] bcast_S_S4096 (constantI S_ 32 0#32))))) (broadcastInDim S4096x32000 ![] bcast_S_S4096x32000 (id (constant S_ .f32 0x00000000#32))) (Host.scatter scatter_S4096x32000_S4096x2_S4096_n_01_01_1 (fun _ b => b) (shapeCast _ (broadcastInDim S4096x1x1x32000 ![0, 1, 2, 3] bcast_S1x1x1x32000_S4096x1x1x32000_0_1_2_3 (shapeCast _ H shapeCasts_S1x32000_S1x1x1x32000)) shapeCasts_S4096x1x1x32000_S4096x32000) (idxs T) (broadcastInDim S4096 ![] bcast_S_S4096 (Host.divf (constant S_ .f32 0x41100000#32) (constant S_ .f32 0x41200000#32))))

/-- The reference's terms `p * (log p - x)`, zero where `p` is. -/
def terms (T : IVec S4096 32) (H : FVec Ideal S1x32000 .f32) (O : FVec Ideal S4096x32000 .f32) : FVec Ideal S4096x32000 .f32 :=
  select (cmpf .ogt (probs T H) (broadcastInDim S4096x32000 ![] bcast_S_S4096x32000 (constant S_ .f32 0x00000000#32))) (mulf (probs T H) (subf (Host.log (select (cmpf .ogt (probs T H) (broadcastInDim S4096x32000 ![] bcast_S_S4096x32000 (constant S_ .f32 0x00000000#32))) (probs T H) (broadcastInDim S4096x32000 ![] bcast_S_S4096x32000 (id (constant S_ .f32 0x3F800000#32))))) O)) (broadcastInDim S4096x32000 ![] bcast_S_S4096x32000 (id (constant S_ .f32 0x00000000#32)))

/-- The reference's result is the sum of its terms. -/
theorem res_eq (m : (ℓ : Loc nD τ sig) → Buf (Elt Ideal) ℓ) (c : Dev nD) :
    Cert.ReferenceIdeal.Value.res_main_v35 m c
      = (fun T H O => Host.reduceAdd (terms T H O) (constant S_ .f32 0x00000000#32) reducesTo_S4096x32000_S_d0_1 h_S_) (shapeCast _ (m ((c.tc : Thread nD τ).loc main_arg1)) shapeCasts_S2x2048_S4096)
          (m ((c.tc : Thread nD τ).loc main_arg2)) (shapeCast _ (m ((c.tc : Thread nD τ).loc main_arg0)) shapeCasts_S2x2048x32000_S4096x32000) := rfl

/-- The row word of pair `k`. -/
theorem idxs_zero (T : IVec S4096 32) (k : Fin 4096) : idxs T (ix2 k 0) = BitVec.ofNat 32 k.val := by
  unfold idxs
  refine (concatenate_pair_apply_left (t := S4096x2) (s₁ := S4096x1) (s₂ := S4096x1) 1 _ _ _ (ix2 k 0) rfl (ix2 k 0) (fun b => by fin_cases b <;> rfl)).trans ?_
  show Scalar.select (IntOp.cmpi .slt (BitVec.ofNat 32 k.val) 0#32) _ (BitVec.ofNat 32 k.val) = _
  exact Routing.wrap_of_lt _ _ (by have := k.isLt; simp only [BitVec.toNat_ofNat]; omega)

/-- The target word of pair `k`. -/
theorem idxs_one (T : IVec S4096 32) (ht : ∀ k, (T (ix1 k)).toNat < 32000) (k : Fin 4096) : idxs T (ix2 k 1) = T (ix1 k) := by
  unfold idxs
  refine (concatenate_pair_apply_right (t := S4096x2) (s₁ := S4096x1) (s₂ := S4096x1) 1 _ _ _ (ix2 k 1) rfl rfl (ix2 k 0) (fun b hb => ?_) rfl).trans ?_
  · fin_cases b
    · rfl
    · exact absurd rfl hb
  have e : ∀ y : IVec S4096 32, broadcastInDim S4096x1 ![0] bcast_S4096_S4096x1_0 y (ix2 k 0) = y (ix1 k) := fun y => congrArg y (by
    funext a; apply Fin.ext; fin_cases a; rfl)
  rw [e]
  show Scalar.select (IntOp.cmpi .slt (T (ix1 k)) 0#32) _ (T (ix1 k)) = _
  exact Routing.wrap_of_lt _ _ (by have := ht k; omega)

/-- The confidence of pair `k` lands at `(r, v)` just where its two words are `r` and `v`. -/
theorem lands (T : IVec S4096 32) (ht : ∀ k, (T (ix1 k)).toNat < 32000) (k r : Fin 4096) (v : Fin 32000) :
    scatter_S4096x32000_S4096x2_S4096_n_01_01_1.resultIdx? (ix1 k) (idxs T) = some (ix2 r v) ↔ k = r ∧ (T (ix1 k)).toNat = v.val := by
  have hw : ∀ a : Fin 2, scatter_S4096x32000_S4096x2_S4096_n_01_01_1.window (ix1 k) a = 0 := fun a => by
    unfold ScatterDims.window
    rw [dif_neg fun h => (of_decide_eq_true (List.mem_filter.1 h).2) (by show a ∈ [(0 : Fin 2), 1]; fin_cases a <;> simp)]
  have hs : ∀ a : Fin 2, scatter_S4096x32000_S4096x2_S4096_n_01_01_1.start (ix1 k) (idxs T) a = (idxs T (ix2 k a)).toInt := fun a => by
    unfold ScatterDims.start
    rw [dif_pos (show a ∈ scatter_S4096x32000_S4096x2_S4096_n_01_01_1.scatterDimsToOperandDims by show a ∈ [(0 : Fin 2), 1]; fin_cases a <;> simp)]
    refine congrArg (fun i => (idxs T i).toInt) ?_
    funext b
    apply Fin.ext
    fin_cases a <;> fin_cases b <;> rfl
  rw [Routing.resultIdx?_ix2, hs, hs, hw, hw, idxs_zero, idxs_one T ht, Fin.ext_iff]
  have h0 : (BitVec.ofNat 32 k.val).toInt = (k.val : ℤ) := by
    rw [BitVec.toInt_eq_toNat_of_lt] <;> simp only [BitVec.toNat_ofNat] <;> have := k.isLt <;> omega
  have h1 : (T (ix1 k)).toInt = ((T (ix1 k)).toNat : ℤ) := BitVec.toInt_eq_toNat_of_lt (by have := ht k; omega)
  rw [h0, h1]
  omega

/-- The template, spread over the rows. -/
theorem tile_apply (H : FVec Ideal S1x32000 .f32) (r : Fin 4096) (v : Fin 32000) :
    shapeCast S4096x32000 (broadcastInDim S4096x1x1x32000 ![0, 1, 2, 3] bcast_S1x1x1x32000_S4096x1x1x32000_0_1_2_3
      (shapeCast S1x1x1x32000 H shapeCasts_S1x32000_S1x1x1x32000)) shapeCasts_S4096x1x1x32000_S4096x32000 (ix2 r v) = H (ix2 0 v) := by
  rw [shapeCast_apply _ _ (ix2 r v) (ix4 r 0 0 v) (by
    rw [Shape.rowMajor_val_four, Shape.rowMajor_val_two]
    show ((r.val * 1 + 0) * 1 + 0) * 32000 + v.val = r.val * 32000 + v.val
    omega)]
  refine (shapeCast_apply H _ _ (ix2 0 v) ?_)
  rw [Shape.rowMajor_val_four, Shape.rowMajor_val_two]
  show 0 * 32000 + v.val = ((0 * 1 + 0) * 1 + 0) * 32000 + v.val
  omega

/-- The real number that the distribution has at word `v` of a row whose target is `t`. -/
def pR (t v : ℕ) : ℝ := if t = 0 then 0 else if t = v then 9 / 10 else if v = 0 then 0 else 1 / 319980

/-- The word 0x41100000 is nine. -/
theorem ofBits_nine : Ideal.ofBits .f32 0x41100000#32 = ((9 : ℝ) : EReal) := by
  simp [Ideal.ofBits, Ideal.ieee]
  rw [← EReal.coe_mul]; norm_num

/-- The word 0x41200000 is ten. -/
theorem ofBits_ten : Ideal.ofBits .f32 0x41200000#32 = ((10 : ℝ) : EReal) := by
  simp [Ideal.ofBits, Ideal.ieee]
  rw [← EReal.coe_mul]; norm_num

/-- The distribution, entry by entry. -/
theorem probs_apply (T : IVec S4096 32) (H : FVec Ideal S1x32000 .f32) (ht : ∀ k, (T (ix1 k)).toNat < 32000)
    (hH : ∀ v : Fin 32000, H (ix2 0 v) = (((if v.val = 0 then 0 else 1 / 319980 : ℝ)) : EReal)) (r : Fin 4096) (v : Fin 32000) :
    probs T H (ix2 r v) = ((pR (T (ix1 r)).toNat v.val : ℝ) : EReal) := by
  have hz : Ideal.ofBits .f32 0x00000000#32 = ((0 : ℝ) : EReal) := Ideal.ofBits_zero_f32
  have e : ∀ y : IVec S4096 1, broadcastInDim S4096x32000 ![0, 1] bcast_S4096x1_S4096x32000_0_1 (broadcastInDim S4096x1 ![0] bcast_S4096_S4096x1_0 y) (ix2 r v)
      = y (ix1 r) := fun y => congrArg y (by funext a; apply Fin.ext; fin_cases a; rfl)
  unfold probs
  rw [select_apply, e]
  show Scalar.select (IntOp.cmpi .eq (T (ix1 r)) 0#32) (Ideal.ofBits .f32 0x00000000#32) _ = _
  unfold pR
  by_cases h0 : T (ix1 r) = 0#32
  · rw [h0, hz]; rfl
  · have hn : (T (ix1 r)).toNat ≠ 0 := fun h => h0 (BitVec.eq_of_toNat_eq h)
    rw [if_neg hn]
    have hc : IntOp.cmpi .eq (T (ix1 r)) 0#32 = 0#1 := by
      show BitVec.ofBool (T (ix1 r) == 0#32) = 0#1
      rw [beq_eq_false_iff_ne.2 h0]; rfl
    rw [hc, ValueIdx.select_zero]
    by_cases h1 : (T (ix1 r)).toNat = v.val
    · rw [if_pos h1]
      refine Routing.scatter_set_hit _ _ _ _ _ _ (fun k _ => ?_) (ix1 r) ((lands T ht r r v).2 ⟨rfl, h1⟩)
      show Ideal.div (Ideal.ofBits .f32 0x41100000#32) (Ideal.ofBits .f32 0x41200000#32) = _
      rw [ofBits_nine, ofBits_ten]
      unfold Ideal.div
      rw [if_neg (by norm_cast), ← EReal.coe_inv, ← EReal.coe_mul]
      rfl
    · rw [if_neg h1, Routing.scatter_set_miss _ _ _ _ _ (fun k hk => ?_), tile_apply, hH]
      have hk' := (lands T ht (k 0) r v).1 ((congrArg (fun t => ScatterDims.resultIdx? _ t (idxs T)) (eq_ix1 k).symm).trans hk)
      exact h1 (hk'.1 ▸ hk'.2)

/-- The real number that the term has for probability `p` and log-probability `x`. -/
def tR (p x : ℝ) : ℝ := if 0 < p then p * (Real.log p - x) else 0

/-- The terms, entry by entry. -/
theorem terms_apply (T : IVec S4096 32) (H : FVec Ideal S1x32000 .f32) (O : FVec Ideal S4096x32000 .f32) (r : Fin 4096) (v : Fin 32000) (p x : ℝ)
    (hp : probs T H (ix2 r v) = (p : EReal)) (hx : O (ix2 r v) = (x : EReal)) : terms T H O (ix2 r v) = ((tR p x : ℝ) : EReal) := by
  have hz : Ideal.ofBits .f32 0x00000000#32 = ((0 : ℝ) : EReal) := Ideal.ofBits_zero_f32
  show Scalar.select (Ideal.cmp .ogt (probs T H (ix2 r v)) (Ideal.ofBits .f32 0x00000000#32))
    (probs T H (ix2 r v) * (Ideal.log (Scalar.select (Ideal.cmp .ogt (probs T H (ix2 r v)) (Ideal.ofBits .f32 0x00000000#32)) (probs T H (ix2 r v)) (Ideal.ofBits .f32 0x3F800000#32))
      - O (ix2 r v))) (Ideal.ofBits .f32 0x00000000#32) = _
  rw [hp, hx, hz]
  unfold tR
  by_cases h : 0 < p
  · have hc : Ideal.cmp .ogt (p : EReal) ((0 : ℝ) : EReal) = 1#1 := by
      show BitVec.ofBool (decide (((0 : ℝ) : EReal) < (p : EReal))) = 1#1
      rw [decide_eq_true (EReal.coe_lt_coe_iff.2 h)]; rfl
    rw [hc, if_pos h]
    show (p : EReal) * ((if p ≤ 0 then ⊥ else ((Real.log p : ℝ) : EReal)) - (x : EReal)) = _
    rw [if_neg (not_le.2 h), ← EReal.coe_sub, ← EReal.coe_mul]
  · have hc : Ideal.cmp .ogt (p : EReal) ((0 : ℝ) : EReal) = 0#1 := by
      show BitVec.ofBool (decide (((0 : ℝ) : EReal) < (p : EReal))) = 0#1
      rw [decide_eq_false (fun h' => h (EReal.coe_lt_coe_iff.1 h'))]; rfl
    rw [hc, if_neg h]
    rfl

/-- The reference's result, over the reals. -/
theorem sum_terms (T : IVec S4096 32) (H : FVec Ideal S1x32000 .f32) (O : FVec Ideal S4096x32000 .f32) (ht : ∀ k, (T (ix1 k)).toNat < 32000)
    (hH : ∀ v : Fin 32000, H (ix2 0 v) = (((if v.val = 0 then 0 else 1 / 319980 : ℝ)) : EReal)) (x : Fin 4096 → Fin 32000 → ℝ)
    (hO : ∀ r v, O (ix2 r v) = (x r v : EReal)) :
    (Host.reduceAdd (terms T H O) (constant S_ .f32 0x00000000#32) reducesTo_S4096x32000_S_d0_1 h_S_ : FVec Ideal S_ .f32) = fun _ => ((∑ r : Fin 4096, ∑ v : Fin 32000, tR (pR (T (ix1 r)).toNat v.val) (x r v) : ℝ) : EReal) := by
  funext j
  refine (Ideal.hostReduceAdd_total _ (fun b => b.elim0) _ _ j).trans ?_
  refine (congrArg (· + _) Ideal.ofBits_zero_f32).trans ?_
  rw [zero_add]
  refine (sum_idx2 (n0 := 4096) (n1 := 32000) _).trans ?_
  have e : ∀ (r : Fin 4096), ∑ v : Fin 32000, terms T H O (ix2 r v) = ((∑ v : Fin 32000, tR (pR (T (ix1 r)).toNat v.val) (x r v) : ℝ) : EReal) := fun r => by
    rw [← Cert.Proof.Run.coe_sum]
    exact Finset.sum_congr rfl fun v _ => terms_apply T H O r v _ _ (probs_apply T H ht hH r v) (hO r v)
  rw [← Cert.Proof.Run.coe_sum]
  exact Finset.sum_congr rfl fun r _ => e r

/-- One row of the reference, in closed form: nothing where the target is the padding word. -/
theorem row_sum (t : Fin 32000) (x : Fin 32000 → ℝ) :
    ∑ v : Fin 32000, tR (pR t.val v.val) (x v)
      = if t.val = 0 then 0 else -1 / 319980 * (∑ v, x v) + Cert.Proof.Run.c1R + 1 / 319980 * x 0 + -287981 / 319980 * x t := by
  by_cases h0 : t.val = 0
  · rw [if_pos h0]
    exact Finset.sum_eq_zero fun v _ => by rw [pR, if_pos h0, tR, if_neg (lt_irrefl _)]
  · rw [if_neg h0]
    have e : ∀ v : Fin 32000, tR (pR t.val v.val) (x v) = 1 / 319980 * (Real.log (1 / 319980) - x v)
        + (if v = t then 9 / 10 * (Real.log (9 / 10) - x v) - 1 / 319980 * (Real.log (1 / 319980) - x v) else 0)
        - (if v = 0 then 1 / 319980 * (Real.log (1 / 319980) - x v) else 0) := fun v => by
      unfold pR
      rw [if_neg h0]
      by_cases h1 : v = t
      · have h2 : v ≠ 0 := fun h => h0 (by rw [← h1, h]; rfl)
        rw [if_pos (by rw [h1]), if_pos h1, if_neg h2, tR, if_pos (by norm_num)]
        ring
      · have h1' : t.val ≠ v.val := fun h => h1 (Fin.ext h.symm)
        rw [if_neg h1', if_neg h1]
        by_cases h2 : v = 0
        · rw [if_pos (by rw [h2]; rfl), if_pos h2, tR, if_neg (lt_irrefl _)]
          ring
        · have h2' : v.val ≠ 0 := fun h => h2 (Fin.ext h)
          rw [if_neg h2', if_neg h2, tR, if_pos (by norm_num)]
          ring
    rw [Finset.sum_congr rfl fun v _ => e v, Finset.sum_sub_distrib, Finset.sum_add_distrib, Finset.sum_ite_eq' Finset.univ t, Finset.sum_ite_eq' Finset.univ 0,
      if_pos (Finset.mem_univ _), if_pos (Finset.mem_univ _), ← Finset.mul_sum, Finset.sum_sub_distrib, Finset.sum_const, Finset.card_univ, Fintype.card_fin]
    have hl : Real.log (129140163 / 106660000000000) = Real.log (1 / 319980) + 9 * Real.log (9 / 10) := by
      rw [show (129140163 / 106660000000000 : ℝ) = 1 / 319980 * (9 / 10) ^ 9 by norm_num, Real.log_mul (by norm_num) (by norm_num), Real.log_pow]
      norm_num
    unfold Cert.Proof.Run.c1R
    rw [hl, nsmul_eq_mul]
    push_cast
    ring

/-- The reference's result from what its arguments hold. -/
theorem res_real (m : (ℓ : Loc nD τ sig) → Buf (Elt Ideal) ℓ) (c : Dev nD)
    (T : IVec S4096 32) (H : FVec Ideal S1x32000 .f32) (O : FVec Ideal S4096x32000 .f32)
    (eT : shapeCast S4096 (m ((c.tc : Thread nD τ).loc main_arg1) : IVec S2x2048 32) shapeCasts_S2x2048_S4096 = T)
    (eH : (m ((c.tc : Thread nD τ).loc main_arg2) : FVec Ideal S1x32000 .f32) = H)
    (eO : shapeCast S4096x32000 (m ((c.tc : Thread nD τ).loc main_arg0) : FVec Ideal S2x2048x32000 .f32) shapeCasts_S2x2048x32000_S4096x32000 = O)
    (ht : ∀ k, (T (ix1 k)).toNat < 32000)
    (hH : ∀ v : Fin 32000, H (ix2 0 v) = (((if v.val = 0 then 0 else 1 / 319980 : ℝ)) : EReal)) (x : Fin 4096 → Fin 32000 → ℝ)
    (hO : ∀ r v, O (ix2 r v) = (x r v : EReal)) :
    Cert.ReferenceIdeal.Value.res_main_v35 m c
      = fun _ => ((∑ r : Fin 4096, ∑ v : Fin 32000, tR (pR (T (ix1 r)).toNat v.val) (x r v) : ℝ) : EReal) := by
  subst eT eH eO
  exact (res_eq m c).trans (sum_terms _ _ _ ht hH x hO)

end Cert.Proof.Ref

end
-- ==== Proof.Algebraic.lean ====
/-
The idealized kernel and the reference have the same result.
-/
module

public import proofs.«01_k».proof.Proof.RealK
public import proofs.«01_k».proof.Proof.RealRef
public import proofs.«01_k».proof.Proof.Template

@[expose] public section

noncomputable section

namespace Cert.Proof.Run

open Cert.KernelIdeal Cert.KernelIdeal.Gen Cert.Proof.Shape
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.TcCoe

/-! ## What the template predicate says -/

/-- The word 0x7F800000 is infinity. -/
theorem ofBits_inf : Ideal.ofBits .f32 0x7F800000#32 = ⊤ := by
  simp [Ideal.ofBits, Ideal.ieee]

/-- The word 0x489C3D80 is 319980. -/
theorem ofBits_inv_smooth : Ideal.ofBits .f32 0x489C3D80#32 = ((319980 : ℝ) : EReal) := by
  simp [Ideal.ofBits, Ideal.ieee]
  rw [← EReal.coe_mul]; norm_num

/-- A value whose absolute value is below infinity is a real. -/
theorem real_of_abs (x : EReal) (h : Ideal.cmp .olt (max x (-x)) (Ideal.ofBits .f32 0x7F800000#32) = 1#1) : x ≠ ⊤ ∧ x ≠ ⊥ := by
  rw [ofBits_inf] at h
  have h' : max x (-x) < ⊤ := of_decide_eq_true ((ofBool_eq_one _).1 h)
  exact ⟨fun e => by rw [e] at h'; simp at h', fun e => by rw [e] at h'; simp at h'⟩

/-- A value whose product with 319980 is one is the reciprocal of 319980. -/
theorem smooth_of_mul (x : EReal) (h : Ideal.cmp .oeq (x * Ideal.ofBits .f32 0x489C3D80#32) (Ideal.ofBits .f32 0x3F800000#32) = 1#1) :
    x = ((1 / 319980 : ℝ) : EReal) := by
  rw [ofBits_inv_smooth, Ideal.ofBits_one_f32] at h
  have h' : x * ((319980 : ℝ) : EReal) = 1 := of_decide_eq_true ((ofBool_eq_one _).1 h)
  induction x using EReal.rec with
  | bot => rw [EReal.bot_mul_coe_of_pos (by norm_num)] at h'; exact absurd h' (by decide)
  | top => rw [EReal.top_mul_coe_of_pos (by norm_num)] at h'; exact absurd h' (by decide)
  | coe y =>
    rw [← EReal.coe_mul] at h'
    have := EReal.coe_eq_coe_iff.1 (h'.trans EReal.coe_one.symm)
    rw [EReal.coe_eq_coe_iff]
    linarith

/-- The log-probabilities are reals. -/
theorem allReal_of_template (m : (ℓ : Loc nD τ sig) → Buf (Elt Ideal) ℓ) (d : Dev nD)
    (h : (Cert.Pre_template.fn (F := Ideal) (m (a0Loc d)) (m (a1Loc d)) (m (a2Loc d))).2.1 = fun _ => 1#1) : AllReal (X0 m d) := by
  have e : ∀ A : FVec Ideal S2x2048x32000 .f32, (Cert.Pre_template.fn (F := Ideal) A (m (a1Loc d)) (m (a2Loc d))).2.1 = (fun _ => 1#1) → ∀ k, A k ≠ ⊤ ∧ A k ≠ ⊥ :=
    fun _ hA k => real_of_abs _ (congrFun hA k)
  exact fun i => e _ h _

/-- The smoothing template holds zero at the padding word and `1 / 319980` elsewhere. -/
theorem template_apply (H : FVec Ideal S1x32000 .f32) (A : FVec Ideal S2x2048x32000 .f32) (B : IVec S2x2048 32)
    (h : (Cert.Pre_template.fn (F := Ideal) A B H).2.2 = fun _ => 1#1) (v : Fin 32000) :
    H (ix2 0 v) = (((if v.val = 0 then 0 else 1 / 319980 : ℝ)) : EReal) := by
  have e : Scalar.select (IntOp.cmpi .eq (BitVec.ofNat 32 v.val) 0#32)
      (Ideal.cmp .oeq (H (ix2 0 v)) (Ideal.ofBits .f32 0x00000000#32))
      (Ideal.cmp .oeq (H (ix2 0 v) * Ideal.ofBits .f32 0x489C3D80#32) (Ideal.ofBits .f32 0x3F800000#32)) = 1#1 := congrFun h (ix2 0 v)
  by_cases hv : v.val = 0
  · rw [hv] at e
    rw [if_pos hv]
    have e' : Ideal.cmp .oeq (H (ix2 0 v)) (Ideal.ofBits .f32 0x00000000#32) = 1#1 := e
    rw [Ideal.ofBits_zero_f32] at e'
    exact of_decide_eq_true ((ofBool_eq_one _).1 e')
  · have hb : (BitVec.ofNat 32 v.val == 0#32) = false := beq_eq_false_iff_ne.2 fun h0 => hv (by
      have := congrArg BitVec.toNat h0
      have hl := v.isLt
      simp only [BitVec.toNat_ofNat] at this
      omega)
    have hc : IntOp.cmpi .eq (BitVec.ofNat 32 v.val) 0#32 = 0#1 := by
      show BitVec.ofBool (BitVec.ofNat 32 v.val == 0#32) = 0#1
      rw [hb]; rfl
    rw [hc, ValueIdx.select_zero] at e
    rw [if_neg hv]
    exact smooth_of_mul _ e

/-! ## The two results -/

/-- One row of the reference is what the row adds to the kernel's result. -/
theorem row_eq (X : FVec Ideal S4096x32000 .f32) (T₀ : IVec S4096 32) (ht : ∀ r, (wd T₀ r).toNat < 32000) (r : ℕ) :
    ∑ v : Fin 32000, Ref.tR (Ref.pR (wd T₀ r).toNat v.val) (xr X r v) = rowK X T₀ r := by
  have e : (tIx T₀ r).val = (wd T₀ r).toNat := Nat.mod_eq_of_lt (ht r)
  rw [← e, Ref.row_sum]
  unfold rowK mu
  by_cases h : wd T₀ r = 0#32
  · rw [if_pos (by rw [e, h]; rfl), if_pos h, zero_mul]
  · rw [if_neg (show (tIx T₀ r).val ≠ 0 from fun h' => h (BitVec.eq_of_toNat_eq (e.symm.trans h'))), if_neg h, one_mul]

/-- From arguments that agree and meet the template predicate, the reference's result is the kernel's. -/
theorem result_eq (m : (ℓ : Loc nD τ sig) → Buf (Elt Ideal) ℓ)
    (m' : (ℓ : Loc Cert.ReferenceIdeal.nD Cert.ReferenceIdeal.τ Cert.ReferenceIdeal.sig) → Buf (Elt Ideal) ℓ) (d : Dev nD)
    (hok : PreOK m)
    (h : (Cert.Pre_template.fn (F := Ideal) (m (a0Loc d)) (m (a1Loc d)) (m (a2Loc d))).2.1 = (fun _ => 1#1)
      ∧ (Cert.Pre_template.fn (F := Ideal) (m (a0Loc d)) (m (a1Loc d)) (m (a2Loc d))).2.2 = (fun _ => 1#1))
    (e0 : (m' ((d.tc : Thread Cert.ReferenceIdeal.nD Cert.ReferenceIdeal.τ).loc Cert.ReferenceIdeal.main_arg0) : FVec Ideal S2x2048x32000 .f32) = m (a0Loc d))
    (e1 : (m' ((d.tc : Thread Cert.ReferenceIdeal.nD Cert.ReferenceIdeal.τ).loc Cert.ReferenceIdeal.main_arg1) : IVec S2x2048 32) = m (a1Loc d))
    (e2 : (m' ((d.tc : Thread Cert.ReferenceIdeal.nD Cert.ReferenceIdeal.τ).loc Cert.ReferenceIdeal.main_arg2) : FVec Ideal S1x32000 .f32) = m (a2Loc d)) :
    Cert.ReferenceIdeal.Value.res_main_v35 m' d = result m d := by
  have hX := allReal_of_template m d h.1
  have ht : ∀ r, (wd (T0 m d) r).toNat < 32000 := fun r => hok.lt m d _
  refine (Ref.res_real m' d (T0 m d) (m (a2Loc d)) (X0 m d) (congrArg (fun y => shapeCast S4096 y shapeCasts_S2x2048_S4096) e1) e2
    (congrArg (fun y => shapeCast S4096x32000 y shapeCasts_S2x2048x32000_S4096x32000) e0) (fun k => hok.lt m d _) (template_apply _ _ _ h.2)
    (fun r v => xr (X0 m d) r.val v) (fun r v => coe_xr hX r v)).trans ?_
  rw [result_real m d hX ht]
  funext j
  refine congrArg (fun y : ℝ => (y : EReal)) ?_
  rw [← Fin.sum_univ_eq_sum_range (fun r => rowK (X0 m d) (T0 m d) r) 4096]
  refine Finset.sum_congr rfl fun r _ => ?_
  rw [← row_eq _ _ ht]
  have e : T0 m d (ix1 r) = wd (T0 m d) r.val := congrArg (fun q => T0 m d (ix1 q)) (Fin.ext (Nat.mod_eq_of_lt r.isLt).symm)
  rw [e]

/-- The idealized kernel and the reference, from arguments that agree and meet the template predicate, both run to their ends with the
    same result, their arguments unchanged. -/
theorem algebraic : Cert.algebraic_KernelIdeal_ReferenceIdeal_pre_template := fun m g m' g' hpre heq => by
  have hok : PreOK m := ok_of_template m fun d => (hpre d).1
  refine ⟨fun c => result m c, ?_, ?_⟩
  · exact (θ_run (Cert.KernelIdeal.defs (F := Ideal)) _ _).mono (fun _ h c => ⟨(h.1 c).2, (h.1 c).1⟩) (run_main (F := Ideal) m g hok)
  · refine (θ_run (Cert.ReferenceIdeal.defs (F := Ideal)) _ _).mono (fun r h c => ⟨(h c).1.trans ?_, (h c).2⟩) (Cert.ReferenceIdeal.Value.run (F := Ideal) m' g')
    exact result_eq m m' c hok (hpre c).2 (heq c).1 (heq c).2.1 (heq c).2.2

end Cert.Proof.Run

end
-- ==== Proof.lean ====
/-
The certificate's claims, assembled: the frames of the kernel, of the idealized kernel and of the reference, the correspondence
of the printed and the idealized kernel, and the equality of the idealized kernel's and the reference's results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Transfer
public import proofs.«01_k».proof.Proof.Template
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The certificate's claims. -/
theorem claim : Cert.Claim :=
  ⟨Cert.Kernel.Gen.facts, Cert.KernelIdeal.Gen.facts, Cert.ReferenceIdeal.Gen.facts, Run.inRangeFacts, Run.templateFacts,
    Run.frame_kernel, Run.frame_ideal, Run.frame_ideal_template, Run.frame_reference, Run.frame_reference_template,
    ⟨IdealRules.named_const.statement Cert.KernelIdeal.κ "neg_smooth" .f32 _ _ rfl, IdealRules.named_const.statement Cert.KernelIdeal.κ "smooth" .f32 _ _ rfl,
      IdealRules.named_const.statement Cert.KernelIdeal.κ "c1" .f32 _ _ rfl, IdealRules.named_const.statement Cert.KernelIdeal.κ "delta" .f32 _ _ rfl⟩,
    Run.algebraic⟩

end Cert.Proof

end
